-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v71) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_2)) (v3 : (c : Dev Cert.Kernel5Ideal.nD) → Buf (Elt Ideal) ((c.tc : Thread Cert.Kernel5Ideal.nD Cert.Kernel5Ideal.τ).loc Cert.Kernel5Ideal.main_v10_3)) (v4 : (c : Dev Cert.Kernel5Ideal.nD) → Buf (Elt Ideal) ((c.tc : Thread Cert.Kernel5Ideal.nD Cert.Kernel5Ideal.τ).loc Cert.Kernel5Ideal.main_v10_4)) (v5 : (c : Dev Cert.Kernel5Ideal.nD) → Buf (Elt Ideal) ((c.tc : Thread Cert.Kernel5Ideal.nD Cert.Kernel5Ideal.τ).loc Cert.Kernel5Ideal.main_v10_5)) (v6 : (c : Dev Cert.Kernel5Ideal.nD) → Buf (Elt Ideal) ((c.tc : Thread Cert.Kernel5Ideal.nD Cert.Kernel5Ideal.τ).loc Cert.Kernel5Ideal.main_v10_6)) (v7 : (c : Dev Cert.Kernel5Ideal.nD) → Buf (Elt Ideal) ((c.tc : Thread Cert.Kernel5Ideal.nD Cert.Kernel5Ideal.τ).loc Cert.Kernel5Ideal.main_v10_7)) (v8 : (c : Dev Cert.Kernel5Ideal.nD) → Buf (Elt Ideal) ((c.tc : Thread Cert.Kernel5Ideal.nD Cert.Kernel5Ideal.τ).loc Cert.Kernel5Ideal.main_v10_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_2) = v2 c
          ∧ r.2.mem ((c.tc : Thread Cert.Kernel5Ideal.nD Cert.Kernel5Ideal.τ).loc Cert.Kernel5Ideal.main_v10_3) = v3 c
          ∧ r.2.mem ((c.tc : Thread Cert.Kernel5Ideal.nD Cert.Kernel5Ideal.τ).loc Cert.Kernel5Ideal.main_v10_4) = v4 c
          ∧ r.2.mem ((c.tc : Thread Cert.Kernel5Ideal.nD Cert.Kernel5Ideal.τ).loc Cert.Kernel5Ideal.main_v10_5) = v5 c
          ∧ r.2.mem ((c.tc : Thread Cert.Kernel5Ideal.nD Cert.Kernel5Ideal.τ).loc Cert.Kernel5Ideal.main_v10_6) = v6 c
          ∧ r.2.mem ((c.tc : Thread Cert.Kernel5Ideal.nD Cert.Kernel5Ideal.τ).loc Cert.Kernel5Ideal.main_v10_7) = v7 c
          ∧ r.2.mem ((c.tc : Thread Cert.Kernel5Ideal.nD Cert.Kernel5Ideal.τ).loc Cert.Kernel5Ideal.main_v10_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_v39) = v2 c
          ∧ r.2.mem ((c.tc : Thread Cert.Reference5Ideal.nD Cert.Reference5Ideal.τ).loc Cert.Reference5Ideal.main_v53) = v3 c
          ∧ r.2.mem ((c.tc : Thread Cert.Reference5Ideal.nD Cert.Reference5Ideal.τ).loc Cert.Reference5Ideal.main_v54) = v4 c
          ∧ r.2.mem ((c.tc : Thread Cert.Reference5Ideal.nD Cert.Reference5Ideal.τ).loc Cert.Reference5Ideal.main_v55) = v5 c
          ∧ r.2.mem ((c.tc : Thread Cert.Reference5Ideal.nD Cert.Reference5Ideal.τ).loc Cert.Reference5Ideal.main_v42) = v6 c
          ∧ r.2.mem ((c.tc : Thread Cert.Reference5Ideal.nD Cert.Reference5Ideal.τ).loc Cert.Reference5Ideal.main_v43) = v7 c
          ∧ r.2.mem ((c.tc : Thread Cert.Reference5Ideal.nD Cert.Reference5Ideal.τ).loc Cert.Reference5Ideal.main_v57) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)) (v2 : (c : Dev Cert.Kernel6Ideal.nD) → Buf (Elt Ideal) ((c.tc : Thread Cert.Kernel6Ideal.nD Cert.Kernel6Ideal.τ).loc Cert.Kernel6Ideal.main_v10_2)) (v3 : (c : Dev Cert.Kernel6Ideal.nD) → Buf (Elt Ideal) ((c.tc : Thread Cert.Kernel6Ideal.nD Cert.Kernel6Ideal.τ).loc Cert.Kernel6Ideal.main_v10_3)) (v4 : (c : Dev Cert.Kernel6Ideal.nD) → Buf (Elt Ideal) ((c.tc : Thread Cert.Kernel6Ideal.nD Cert.Kernel6Ideal.τ).loc Cert.Kernel6Ideal.main_v10_4)) (v5 : (c : Dev Cert.Kernel6Ideal.nD) → Buf (Elt Ideal) ((c.tc : Thread Cert.Kernel6Ideal.nD Cert.Kernel6Ideal.τ).loc Cert.Kernel6Ideal.main_v10_5)) (v6 : (c : Dev Cert.Kernel6Ideal.nD) → Buf (Elt Ideal) ((c.tc : Thread Cert.Kernel6Ideal.nD Cert.Kernel6Ideal.τ).loc Cert.Kernel6Ideal.main_v10_6)) (v7 : (c : Dev Cert.Kernel6Ideal.nD) → Buf (Elt Ideal) ((c.tc : Thread Cert.Kernel6Ideal.nD Cert.Kernel6Ideal.τ).loc Cert.Kernel6Ideal.main_v10_7)) (v8 : (c : Dev Cert.Kernel6Ideal.nD) → Buf (Elt Ideal) ((c.tc : Thread Cert.Kernel6Ideal.nD Cert.Kernel6Ideal.τ).loc Cert.Kernel6Ideal.main_v10_8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_v10_3) = v3 c
          ∧ r.2.mem ((c.tc : Thread Cert.Kernel6Ideal.nD Cert.Kernel6Ideal.τ).loc Cert.Kernel6Ideal.main_v10_4) = v4 c
          ∧ r.2.mem ((c.tc : Thread Cert.Kernel6Ideal.nD Cert.Kernel6Ideal.τ).loc Cert.Kernel6Ideal.main_v10_5) = v5 c
          ∧ r.2.mem ((c.tc : Thread Cert.Kernel6Ideal.nD Cert.Kernel6Ideal.τ).loc Cert.Kernel6Ideal.main_v10_6) = v6 c
          ∧ r.2.mem ((c.tc : Thread Cert.Kernel6Ideal.nD Cert.Kernel6Ideal.τ).loc Cert.Kernel6Ideal.main_v10_7) = v7 c
          ∧ r.2.mem ((c.tc : Thread Cert.Kernel6Ideal.nD Cert.Kernel6Ideal.τ).loc Cert.Kernel6Ideal.main_v10_8) = v8 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v50) = v0 c
          ∧ r.2.mem ((c.tc : Thread Cert.Reference6Ideal.nD Cert.Reference6Ideal.τ).loc Cert.Reference6Ideal.main_v38) = v1 c
          ∧ r.2.mem ((c.tc : Thread Cert.Reference6Ideal.nD Cert.Reference6Ideal.τ).loc Cert.Reference6Ideal.main_v39) = v2 c
          ∧ r.2.mem ((c.tc : Thread Cert.Reference6Ideal.nD Cert.Reference6Ideal.τ).loc Cert.Reference6Ideal.main_v53) = v3 c
          ∧ r.2.mem ((c.tc : Thread Cert.Reference6Ideal.nD Cert.Reference6Ideal.τ).loc Cert.Reference6Ideal.main_v54) = v4 c
          ∧ r.2.mem ((c.tc : Thread Cert.Reference6Ideal.nD Cert.Reference6Ideal.τ).loc Cert.Reference6Ideal.main_v55) = v5 c
          ∧ r.2.mem ((c.tc : Thread Cert.Reference6Ideal.nD Cert.Reference6Ideal.τ).loc Cert.Reference6Ideal.main_v56) = v6 c
          ∧ r.2.mem ((c.tc : Thread Cert.Reference6Ideal.nD Cert.Reference6Ideal.τ).loc Cert.Reference6Ideal.main_v57) = v7 c
          ∧ r.2.mem ((c.tc : Thread Cert.Reference6Ideal.nD Cert.Reference6Ideal.τ).loc Cert.Reference6Ideal.main_v58) = v8 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_scores.lean ====
abbrev S8x64x8x128 : Shape := ⟨4, ![8, 64, 8, 128]⟩
abbrev S8x4096x8x128 : Shape := ⟨4, ![8, 4096, 8, 128]⟩
abbrev S8x4160x8 : Shape := ⟨3, ![8, 4160, 8]⟩
abbrev S_ : Shape := ⟨0, ![]⟩

class Facts : Prop where
  bcast_S_S8x64x8x128 : S_.BroadcastsInDim S8x64x8x128 (![] : Fin 0 → Fin S8x64x8x128.rank)
  bcast_S_S8x4096x8x128 : S_.BroadcastsInDim S8x4096x8x128 (![] : Fin 0 → Fin S8x4096x8x128.rank)
  bcast_S_S8x4160x8 : S_.BroadcastsInDim S8x4160x8 (![] : Fin 0 → Fin S8x4160x8.rank)

variable [Facts]

def fn {F : FTy → Type} [FloatOps F] (main_arg0 : FVec F S8x64x8x128 .f32) (main_arg1 : FVec F S8x4096x8x128 .f32) (main_arg2 : FVec F S8x4096x8x128 .f32) (main_arg3 : FVec F S8x64x8x128 .f32) (main_arg4 : FVec F S8x64x8x128 .f32) (main_arg5 : FVec F S8x4160x8 .f32) : IVec S8x64x8x128 1 × IVec S8x4096x8x128 1 × IVec S8x64x8x128 1 × IVec S8x4160x8 1 :=
  let main_v0 : FVec F S8x64x8x128 .f32 := Host.absf main_arg0
  let main_cst : FVec F S_ .f32 := constant S_ .f32 0x7F800000#32
  let main_v1 : FVec F S8x64x8x128 .f32 := broadcastInDim S8x64x8x128 ![] bcast_S_S8x64x8x128 main_cst
  let main_v2 : IVec S8x64x8x128 1 := cmpf .olt main_v0 main_v1
  let main_v3 : FVec F S8x4096x8x128 .f32 := Host.absf main_arg1
  let main_cst_0 : FVec F S_ .f32 := constant S_ .f32 0x7F800000#32
  let main_v4 : FVec F S8x4096x8x128 .f32 := broadcastInDim S8x4096x8x128 ![] bcast_S_S8x4096x8x128 main_cst_0
  let main_v5 : IVec S8x4096x8x128 1 := cmpf .olt main_v3 main_v4
  let main_v6 : FVec F S8x64x8x128 .f32 := Host.absf main_arg3
  let main_cst_1 : FVec F S_ .f32 := constant S_ .f32 0x7F800000#32
  let main_v7 : FVec F S8x64x8x128 .f32 := broadcastInDim S8x64x8x128 ![] bcast_S_S8x64x8x128 main_cst_1
  let main_v8 : IVec S8x64x8x128 1 := cmpf .olt main_v6 main_v7
  let main_v9 : FVec F S8x4160x8 .f32 := Host.absf main_arg5
  let main_cst_2 : FVec F S_ .f32 := constant S_ .f32 0x7F800000#32
  let main_v10 : FVec F S8x4160x8 .f32 := broadcastInDim S8x4160x8 ![] bcast_S_S8x4160x8 main_cst_2
  let main_v11 : IVec S8x4160x8 1 := cmpf .olt main_v9 main_v10
  (main_v2, main_v5, main_v8, main_v11)
-- ==== Kernel.lean ====
abbrev S8x64x8x128 : Shape := ⟨4, ![8, 64, 8, 128]⟩
abbrev S8x4096x8x128 : Shape := ⟨4, ![8, 4096, 8, 128]⟩
abbrev S8x4160x8 : Shape := ⟨3, ![8, 4160, 8]⟩
abbrev S_ : Shape := ⟨0, ![]⟩
abbrev S8x8x4160 : Shape := ⟨3, ![8, 8, 4160]⟩
abbrev S8x8x64 : Shape := ⟨3, ![8, 8, 64]⟩
abbrev S8x64x1024 : Shape := ⟨3, ![8, 64, 1024]⟩
abbrev S8x32768x128 : Shape := ⟨3, ![8, 32768, 128]⟩
abbrev S8x8x4096 : Shape := ⟨3, ![8, 8, 4096]⟩
abbrev S8x64x8 : Shape := ⟨3, ![8, 64, 8]⟩
abbrev S8x8x2x2048 : Shape := ⟨4, ![8, 8, 2, 2048]⟩
abbrev S8x2x8x2048 : Shape := ⟨4, ![8, 2, 8, 2048]⟩
abbrev S1x64x1024 : Shape := ⟨3, ![1, 64, 1024]⟩
abbrev S1x16384x128 : Shape := ⟨3, ![1, 16384, 128]⟩
abbrev S1x1x8x2048 : Shape := ⟨4, ![1, 1, 8, 2048]⟩
abbrev S1x8x64 : Shape := ⟨3, ![1, 8, 64]⟩
abbrev S1x64x8 : Shape := ⟨3, ![1, 64, 8]⟩
abbrev S8x64x128 : Shape := ⟨3, ![8, 64, 128]⟩
abbrev S1x64x128 : Shape := ⟨3, ![1, 64, 128]⟩
abbrev S64x128 : Shape := ⟨2, ![64, 128]⟩
abbrev S1x2048x128 : Shape := ⟨3, ![1, 2048, 128]⟩
abbrev S2048x128 : Shape := ⟨2, ![2048, 128]⟩
abbrev S64x2048 : Shape := ⟨2, ![64, 2048]⟩
abbrev S1x64x1 : Shape := ⟨3, ![1, 64, 1]⟩
abbrev S64x1 : Shape := ⟨2, ![64, 1]⟩
abbrev S1x1x1x2048 : Shape := ⟨4, ![1, 1, 1, 2048]⟩
abbrev S1x2048 : Shape := ⟨2, ![1, 2048]⟩
abbrev S64 : Shape := ⟨1, ![64]⟩
abbrev S64x64 : Shape := ⟨2, ![64, 64]⟩
abbrev S1x1x64 : Shape := ⟨3, ![1, 1, 64]⟩
abbrev S1x64 : Shape := ⟨2, ![1, 64]⟩

abbrev nBuf : Space → Nat
  | .hbm => 32
  | .vmem => 21
  | .smem => 0
  | _ => 0

abbrev bufTy : (tb : Table) → Fin (tcTables nBuf tb) → BufTy
  | .hbm, ⟨0, _⟩ => ⟨S8x64x8x128, .f32⟩
  | .hbm, ⟨1, _⟩ => ⟨S8x4096x8x128, .f32⟩
  | .hbm, ⟨2, _⟩ => ⟨S8x4096x8x128, .f32⟩
  | .hbm, ⟨3, _⟩ => ⟨S8x64x8x128, .f32⟩
  | .hbm, ⟨4, _⟩ => ⟨S8x64x8x128, .f32⟩
  | .hbm, ⟨5, _⟩ => ⟨S8x4160x8, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x4160x8, .f32⟩
  | .hbm, ⟨10, _⟩ => ⟨S8x4160x8, .f32⟩
  | .hbm, ⟨11, _⟩ => ⟨S8x8x4160, .f32⟩
  | .hbm, ⟨12, _⟩ => ⟨S8x8x64, .f32⟩
  | .hbm, ⟨13, _⟩ => ⟨S8x64x1024, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x64x1024, .f32⟩
  | .hbm, ⟨21, _⟩ => ⟨S8x64x1024, .f32⟩
  | .hbm, ⟨22, _⟩ => ⟨S8x64x1024, .bf16⟩
  | .hbm, ⟨23, _⟩ => ⟨S8x32768x128, .f32⟩
  | .hbm, ⟨24, _⟩ => ⟨S8x32768x128, .f32⟩
  | .hbm, ⟨25, _⟩ => ⟨S8x64x1024, .f32⟩
  | .hbm, ⟨26, _⟩ => ⟨S8x64x1024, .f32⟩
  | .hbm, ⟨27, _⟩ => ⟨S8x8x4096, .f32⟩
  | .hbm, ⟨28, _⟩ => ⟨S8x64x8, .f32⟩
  | .hbm, ⟨29, _⟩ => ⟨S8x8x2x2048, .f32⟩
  | .hbm, ⟨30, _⟩ => ⟨S8x2x8x2048, .f32⟩
  | .hbm, ⟨31, _⟩ => ⟨S8x64x1024, .bf16⟩
  | .local _ .vmem, ⟨0, _⟩ => ⟨S1x64x1024, .bf16⟩
  | .local _ .vmem, ⟨1, _⟩ => ⟨S1x64x1024, .bf16⟩
  | .local _ .vmem, ⟨2, _⟩ => ⟨S1x16384x128, .f32⟩
  | .local _ .vmem, ⟨3, _⟩ => ⟨S1x16384x128, .f32⟩
  | .local _ .vmem, ⟨4, _⟩ => ⟨S1x16384x128, .f32⟩
  | .local _ .vmem, ⟨5, _⟩ => ⟨S1x16384x128, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x1x8x2048, .f32⟩
  | .local _ .vmem, ⟨11, _⟩ => ⟨S1x1x8x2048, .f32⟩
  | .local _ .vmem, ⟨12, _⟩ => ⟨S1x8x64, .f32⟩
  | .local _ .vmem, ⟨13, _⟩ => ⟨S1x8x64, .f32⟩
  | .local _ .vmem, ⟨14, _⟩ => ⟨S1x64x8, .f32⟩
  | .local _ .vmem, ⟨15, _⟩ => ⟨S1x64x8, .f32⟩
  | .local _ .vmem, ⟨16, _⟩ => ⟨S1x64x1024, .bf16⟩
  | .local _ .vmem, ⟨17, _⟩ => ⟨S1x64x1024, .bf16⟩
  | .local _ .vmem, ⟨18, _⟩ => ⟨S8x64x128, .f32⟩
  | .local _ .vmem, ⟨19, _⟩ => ⟨S8x64x128, .f32⟩
  | .local _ .vmem, ⟨20, _⟩ => ⟨S8x64x128, .f32⟩
  | _, _ => ⟨S8x64x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v435 : BitVec 1 := Scalar.cmpi .eq arg1 c1_i32
  let v436 : BitVec 32 := Scalar.extui v435
  let c0_i32_289 : BitVec 32 := 0#32
  let v437 : BitVec 1 := Scalar.cmpi .ne v436 c0_i32_289
  v437

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x64x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8x64x8x128 : Shape := ⟨4, ![8, 64, 8, 128]⟩
abbrev S8x4096x8x128 : Shape := ⟨4, ![8, 4096, 8, 128]⟩
abbrev S8x4160x8 : Shape := ⟨3, ![8, 4160, 8]⟩
abbrev S8x4160x8x128 : Shape := ⟨4, ![8, 4160, 8, 128]⟩
abbrev S4160 : Shape := ⟨1, ![4160]⟩
abbrev S8x64x8 : Shape := ⟨3, ![8, 64, 8]⟩
abbrev S64 : Shape := ⟨1, ![64]⟩
abbrev S8x8x64x4160 : Shape := ⟨4, ![8, 8, 64, 4160]⟩
abbrev S_ : Shape := ⟨0, ![]⟩
abbrev S8x8x64 : Shape := ⟨3, ![8, 8, 64]⟩
abbrev S8x8x64x1 : Shape := ⟨4, ![8, 8, 64, 1]⟩
abbrev S8x8x4160 : Shape := ⟨3, ![8, 8, 4160]⟩
abbrev S8x8x1x4160 : Shape := ⟨4, ![8, 8, 1, 4160]⟩
abbrev S1x4160 : Shape := ⟨2, ![1, 4160]⟩
abbrev S64x1 : Shape := ⟨2, ![64, 1]⟩
abbrev S64x4160 : Shape := ⟨2, ![64, 4160]⟩
abbrev S8x8x128x64 : Shape := ⟨4, ![8, 8, 128, 64]⟩
abbrev S8x64x1024 : Shape := ⟨3, ![8, 64, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x64x8x128, .f32⟩
  | .hbm, ⟨1, _⟩ => ⟨S8x4096x8x128, .f32⟩
  | .hbm, ⟨2, _⟩ => ⟨S8x4096x8x128, .f32⟩
  | .hbm, ⟨3, _⟩ => ⟨S8x64x8x128, .f32⟩
  | .hbm, ⟨4, _⟩ => ⟨S8x64x8x128, .f32⟩
  | .hbm, ⟨5, _⟩ => ⟨S8x4160x8, .f32⟩
  | .hbm, ⟨6, _⟩ => ⟨S8x4160x8x128, .f32⟩
  | .hbm, ⟨7, _⟩ => ⟨S8x4160x8x128, .f32⟩
  | .hbm, ⟨8, _⟩ => ⟨S4160, .i32⟩
  | .hbm, ⟨9, _⟩ => ⟨S8x64x8, .f32⟩
  | .hbm, ⟨10, _⟩ => ⟨S64, .i32⟩
  | .hbm, ⟨11, _⟩ => ⟨S8x8x64x4160, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x8x64x4160, .f32⟩
  | .hbm, ⟨16, _⟩ => ⟨S8x8x64x4160, .f32⟩
  | .hbm, ⟨17, _⟩ => ⟨S8x8x64, .f32⟩
  | .hbm, ⟨18, _⟩ => ⟨S8x8x64x1, .f32⟩
  | .hbm, ⟨19, _⟩ => ⟨S8x8x64x4160, .f32⟩
  | .hbm, ⟨20, _⟩ => ⟨S8x8x64x4160, .f32⟩
  | .hbm, ⟨21, _⟩ => ⟨S8x8x4160, .f32⟩
  | .hbm, ⟨22, _⟩ => ⟨S8x8x1x4160, .f32⟩
  | .hbm, ⟨23, _⟩ => ⟨S8x8x64x4160, .f32⟩
  | .hbm, ⟨24, _⟩ => ⟨S8x8x64x4160, .f32⟩
  | .hbm, ⟨25, _⟩ => ⟨S1x4160, .i32⟩
  | .hbm, ⟨26, _⟩ => ⟨S64x1, .i32⟩
  | .hbm, ⟨27, _⟩ => ⟨S64x4160, .i32⟩
  | .hbm, ⟨28, _⟩ => ⟨S64x4160, .i32⟩
  | .hbm, ⟨29, _⟩ => ⟨S64x4160, .i1⟩
  | .hbm, ⟨30, _⟩ => ⟨S_, .f32⟩
  | .hbm, ⟨31, _⟩ => ⟨S_, .f32⟩
  | .hbm, ⟨32, _⟩ => ⟨S8x8x64x4160, .i1⟩
  | .hbm, ⟨33, _⟩ => ⟨S8x8x64x4160, .f32⟩
  | .hbm, ⟨34, _⟩ => ⟨S8x8x64x4160, .f32⟩
  | .hbm, ⟨35, _⟩ => ⟨S_, .f32⟩
  | .hbm, ⟨36, _⟩ => ⟨S8x8x64, .f32⟩
  | .hbm, ⟨37, _⟩ => ⟨S_, .f32⟩
  | .hbm, ⟨38, _⟩ => ⟨S8x8x64, .f32⟩
  | .hbm, ⟨39, _⟩ => ⟨S8x8x64, .f32⟩
  | .hbm, ⟨40, _⟩ => ⟨S8x8x64x1, .f32⟩
  | .hbm, ⟨41, _⟩ => ⟨S8x8x64x4160, .f32⟩
  | .hbm, ⟨42, _⟩ => ⟨S8x8x64x4160, .f32⟩
  | .hbm, ⟨43, _⟩ => ⟨S8x8x64x4160, .f32⟩
  | .hbm, ⟨44, _⟩ => ⟨S_, .f32⟩
  | .hbm, ⟨45, _⟩ => ⟨S8x8x64, .f32⟩
  | .hbm, ⟨46, _⟩ => ⟨S8x8x64x1, .f32⟩
  | .hbm, ⟨47, _⟩ => ⟨S8x8x64x4160, .f32⟩
  | .hbm, ⟨48, _⟩ => ⟨S8x8x64x4160, .f32⟩
  | .hbm, ⟨49, _⟩ => ⟨S8x8x128x64, .f32⟩
  | .hbm, ⟨50, _⟩ => ⟨S8x64x8x128, .f32⟩
  | .hbm, ⟨51, _⟩ => ⟨S8x64x1024, .f32⟩
  | .hbm, ⟨52, _⟩ => ⟨S8x64x1024, .bf16⟩
  | _, _ => ⟨S8x64x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel2.lean ====
abbrev S8x4096x2048 : Shape := ⟨3, ![8, 4096, 2048]⟩
abbrev S8x12288 : Shape := ⟨2, ![8, 12288]⟩
abbrev S2048x8192 : Shape := ⟨2, ![2048, 8192]⟩
abbrev S8192 : Shape := ⟨1, ![8192]⟩
abbrev S8192x2048 : Shape := ⟨2, ![8192, 2048]⟩
abbrev S2048 : Shape := ⟨1, ![2048]⟩
abbrev S8x6x2048 : Shape := ⟨3, ![8, 6, 2048]⟩
abbrev S1x8192 : Shape := ⟨2, ![1, 8192]⟩
abbrev S1x2048 : Shape := ⟨2, ![1, 2048]⟩
abbrev S1x1024x2048 : Shape := ⟨3, ![1, 1024, 2048]⟩
abbrev S1x6x2048 : Shape := ⟨3, ![1, 6, 2048]⟩
abbrev S2048x1024 : Shape := ⟨2, ![2048, 1024]⟩
abbrev S1x1024 : Shape := ⟨2, ![1, 1024]⟩
abbrev S1024x2048 : Shape := ⟨2, ![1024, 2048]⟩
abbrev S1x256x2048 : Shape := ⟨3, ![1, 256, 2048]⟩
abbrev S1x256 : Shape := ⟨2, ![1, 256]⟩
abbrev S1x256x1 : Shape := ⟨3, ![1, 256, 1]⟩
abbrev S1x1x2048 : Shape := ⟨3, ![1, 1, 2048]⟩
abbrev S256x2048 : Shape := ⟨2, ![256, 2048]⟩
abbrev S256x1024 : Shape := ⟨2, ![256, 1024]⟩
abbrev S1024x1024 : Shape := ⟨2, ![1024, 1024]⟩

abbrev nBuf : Space → Nat
  | .hbm => 14
  | .vmem => 15
  | .smem => 0
  | _ => 0

abbrev bufTy : (tb : Table) → Fin (tcTables nBuf tb) → BufTy
  | .hbm, ⟨0, _⟩ => ⟨S8x4096x2048, .f32⟩
  | .hbm, ⟨1, _⟩ => ⟨S8x12288, .f32⟩
  | .hbm, ⟨2, _⟩ => ⟨S2048x8192, .f32⟩
  | .hbm, ⟨3, _⟩ => ⟨S8192, .f32⟩
  | .hbm, ⟨4, _⟩ => ⟨S8192x2048, .f32⟩
  | .hbm, ⟨5, _⟩ => ⟨S2048, .f32⟩
  | .hbm, ⟨6, _⟩ => ⟨S2048, .f32⟩
  | .hbm, ⟨7, _⟩ => ⟨S8x6x2048, .f32⟩
  | .hbm, ⟨8, _⟩ => ⟨S2048x8192, .bf16⟩
  | .hbm, ⟨9, _⟩ => ⟨S8192x2048, .bf16⟩
  | .hbm, ⟨10, _⟩ => ⟨S1x8192, .f32⟩
  | .hbm, ⟨11, _⟩ => ⟨S1x2048, .f32⟩
  | .hbm, ⟨12, _⟩ => ⟨S1x2048, .f32⟩
  | .hbm, ⟨13, _⟩ => ⟨S8x4096x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S2048x1024, .bf16⟩
  | .local _ .vmem, ⟨5, _⟩ => ⟨S2048x1024, .bf16⟩
  | .local _ .vmem, ⟨6, _⟩ => ⟨S1x1024, .f32⟩
  | .local _ .vmem, ⟨7, _⟩ => ⟨S1x1024, .f32⟩
  | .local _ .vmem, ⟨8, _⟩ => ⟨S1024x2048, .bf16⟩
  | .local _ .vmem, ⟨9, _⟩ => ⟨S1024x2048, .bf16⟩
  | .local _ .vmem, ⟨10, _⟩ => ⟨S1x2048, .f32⟩
  | .local _ .vmem, ⟨11, _⟩ => ⟨S1x2048, .f32⟩
  | .local _ .vmem, ⟨12, _⟩ => ⟨S1x1024x2048, .f32⟩
  | .local _ .vmem, ⟨13, _⟩ => ⟨S1x1024x2048, .f32⟩
  | .local _ .vmem, ⟨14, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 4, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c7_i32 : BitVec 32 := 7#32
  let v4 : BitVec 1 := Scalar.cmpi .slt arg2 c7_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Kernel2Ideal.lean ====
abbrev S8x4096x2048 : Shape := ⟨3, ![8, 4096, 2048]⟩
abbrev S8x12288 : Shape := ⟨2, ![8, 12288]⟩
abbrev S2048x8192 : Shape := ⟨2, ![2048, 8192]⟩
abbrev S8192 : Shape := ⟨1, ![8192]⟩
abbrev S8192x2048 : Shape := ⟨2, ![8192, 2048]⟩
abbrev S2048 : Shape := ⟨1, ![2048]⟩
abbrev S8x6x2048 : Shape := ⟨3, ![8, 6, 2048]⟩
abbrev S1x8192 : Shape := ⟨2, ![1, 8192]⟩
abbrev S1x2048 : Shape := ⟨2, ![1, 2048]⟩
abbrev S1x1024x2048 : Shape := ⟨3, ![1, 1024, 2048]⟩
abbrev S1x6x2048 : Shape := ⟨3, ![1, 6, 2048]⟩
abbrev S2048x1024 : Shape := ⟨2, ![2048, 1024]⟩
abbrev S1x1024 : Shape := ⟨2, ![1, 1024]⟩
abbrev S1024x2048 : Shape := ⟨2, ![1024, 2048]⟩
abbrev S1x256x2048 : Shape := ⟨3, ![1, 256, 2048]⟩
abbrev S1x256 : Shape := ⟨2, ![1, 256]⟩
abbrev S1x256x1 : Shape := ⟨3, ![1, 256, 1]⟩
abbrev S1x1x2048 : Shape := ⟨3, ![1, 1, 2048]⟩
abbrev S256x2048 : Shape := ⟨2, ![256, 2048]⟩
abbrev S256x1024 : Shape := ⟨2, ![256, 1024]⟩
abbrev S1024x1024 : Shape := ⟨2, ![1024, 1024]⟩

abbrev nBuf : Space → Nat
  | .hbm => 14
  | .vmem => 15
  | .smem => 0
  | _ => 0

abbrev bufTy : (tb : Table) → Fin (tcTables nBuf tb) → BufTy
  | .hbm, ⟨0, _⟩ => ⟨S8x4096x2048, .f32⟩
  | .hbm, ⟨1, _⟩ => ⟨S8x12288, .f32⟩
  | .hbm, ⟨2, _⟩ => ⟨S2048x8192, .f32⟩
  | .hbm, ⟨3, _⟩ => ⟨S8192, .f32⟩
  | .hbm, ⟨4, _⟩ => ⟨S8192x2048, .f32⟩
  | .hbm, ⟨5, _⟩ => ⟨S2048, .f32⟩
  | .hbm, ⟨6, _⟩ => ⟨S2048, .f32⟩
  | .hbm, ⟨7, _⟩ => ⟨S8x6x2048, .f32⟩
  | .hbm, ⟨8, _⟩ => ⟨S2048x8192, .bf16⟩
  | .hbm, ⟨9, _⟩ => ⟨S8192x2048, .bf16⟩
  | .hbm, ⟨10, _⟩ => ⟨S1x8192, .f32⟩
  | .hbm, ⟨11, _⟩ => ⟨S1x2048, .f32⟩
  | .hbm, ⟨12, _⟩ => ⟨S1x2048, .f32⟩
  | .hbm, ⟨13, _⟩ => ⟨S8x4096x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S2048x1024, .bf16⟩
  | .local _ .vmem, ⟨5, _⟩ => ⟨S2048x1024, .bf16⟩
  | .local _ .vmem, ⟨6, _⟩ => ⟨S1x1024, .f32⟩
  | .local _ .vmem, ⟨7, _⟩ => ⟨S1x1024, .f32⟩
  | .local _ .vmem, ⟨8, _⟩ => ⟨S1024x2048, .bf16⟩
  | .local _ .vmem, ⟨9, _⟩ => ⟨S1024x2048, .bf16⟩
  | .local _ .vmem, ⟨10, _⟩ => ⟨S1x2048, .f32⟩
  | .local _ .vmem, ⟨11, _⟩ => ⟨S1x2048, .f32⟩
  | .local _ .vmem, ⟨12, _⟩ => ⟨S1x1024x2048, .f32⟩
  | .local _ .vmem, ⟨13, _⟩ => ⟨S1x1024x2048, .f32⟩
  | .local _ .vmem, ⟨14, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 4, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c7_i32 : BitVec 32 := 7#32
  let v4 : BitVec 1 := Scalar.cmpi .slt arg2 c7_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference2Ideal.lean ====
abbrev S8x4096x2048 : Shape := ⟨3, ![8, 4096, 2048]⟩
abbrev S8x12288 : Shape := ⟨2, ![8, 12288]⟩
abbrev S2048x8192 : Shape := ⟨2, ![2048, 8192]⟩
abbrev S8192 : Shape := ⟨1, ![8192]⟩
abbrev S8192x2048 : Shape := ⟨2, ![8192, 2048]⟩
abbrev S2048 : Shape := ⟨1, ![2048]⟩
abbrev S8x2048 : Shape := ⟨2, ![8, 2048]⟩
abbrev S8x1x2048 : Shape := ⟨3, ![8, 1, 2048]⟩
abbrev S_ : Shape := ⟨0, ![]⟩
abbrev S8x4096 : Shape := ⟨2, ![8, 4096]⟩
abbrev S8x4096x1 : Shape := ⟨3, ![8, 4096, 1]⟩
abbrev S8x4096x8192 : Shape := ⟨3, ![8, 4096, 8192]⟩
abbrev S1x1x8192 : Shape := ⟨3, ![1, 1, 8192]⟩
abbrev S1x1x2048 : Shape := ⟨3, ![1, 1, 2048]⟩

abbrev nBuf : Space → Nat
  | .hbm => 93
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x12288, .f32⟩
  | .hbm, ⟨2, _⟩ => ⟨S2048x8192, .f32⟩
  | .hbm, ⟨3, _⟩ => ⟨S8192, .f32⟩
  | .hbm, ⟨4, _⟩ => ⟨S8192x2048, .f32⟩
  | .hbm, ⟨5, _⟩ => ⟨S2048, .f32⟩
  | .hbm, ⟨6, _⟩ => ⟨S2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x1x2048, .f32⟩
  | .hbm, ⟨14, _⟩ => ⟨S8x1x2048, .f32⟩
  | .hbm, ⟨15, _⟩ => ⟨S8x1x2048, .f32⟩
  | .hbm, ⟨16, _⟩ => ⟨S8x1x2048, .f32⟩
  | .hbm, ⟨17, _⟩ => ⟨S8x1x2048, .f32⟩
  | .hbm, ⟨18, _⟩ => ⟨S8x1x2048, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x2048, .f32⟩
  | .hbm, ⟨26, _⟩ => ⟨S8x4096x2048, .f32⟩
  | .hbm, ⟨27, _⟩ => ⟨S8x4096x2048, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S8x4096x2048, .f32⟩
  | .hbm, ⟨35, _⟩ => ⟨S8x4096x2048, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S8x4096x1, .f32⟩
  | .hbm, ⟨40, _⟩ => ⟨S8x4096x2048, .f32⟩
  | .hbm, ⟨41, _⟩ => ⟨S8x4096x2048, .f32⟩
  | .hbm, ⟨42, _⟩ => ⟨S_, .f32⟩
  | .hbm, ⟨43, _⟩ => ⟨S8x1x2048, .f32⟩
  | .hbm, ⟨44, _⟩ => ⟨S8x1x2048, .f32⟩
  | .hbm, ⟨45, _⟩ => ⟨S8x4096x2048, .f32⟩
  | .hbm, ⟨46, _⟩ => ⟨S8x4096x2048, .f32⟩
  | .hbm, ⟨47, _⟩ => ⟨S8x4096x2048, .f32⟩
  | .hbm, ⟨48, _⟩ => ⟨S8x4096x2048, .f32⟩
  | .hbm, ⟨49, _⟩ => ⟨S8x4096x8192, .f32⟩
  | .hbm, ⟨50, _⟩ => ⟨S1x1x8192, .f32⟩
  | .hbm, ⟨51, _⟩ => ⟨S8x4096x8192, .f32⟩
  | .hbm, ⟨52, _⟩ => ⟨S8x4096x8192, .f32⟩
  | .hbm, ⟨53, _⟩ => ⟨S_, .f32⟩
  | .hbm, ⟨54, _⟩ => ⟨S8x4096x8192, .f32⟩
  | .hbm, ⟨55, _⟩ => ⟨S8x4096x8192, .f32⟩
  | .hbm, ⟨56, _⟩ => ⟨S8x4096x8192, .f32⟩
  | .hbm, ⟨57, _⟩ => ⟨S_, .f32⟩
  | .hbm, ⟨58, _⟩ => ⟨S8x4096x2048, .f32⟩
  | .hbm, ⟨59, _⟩ => ⟨S8x4096x2048, .f32⟩
  | .hbm, ⟨60, _⟩ => ⟨S8x4096x2048, .f32⟩
  | .hbm, ⟨61, _⟩ => ⟨S8x4096x2048, .f32⟩
  | .hbm, ⟨62, _⟩ => ⟨S8x4096x2048, .f32⟩
  | .hbm, ⟨63, _⟩ => ⟨S8x4096x2048, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S8x4096x2048, .f32⟩
  | .hbm, ⟨71, _⟩ => ⟨S8x4096x2048, .f32⟩
  | .hbm, ⟨72, _⟩ => ⟨S8x4096x2048, .f32⟩
  | .hbm, ⟨73, _⟩ => ⟨S_, .f32⟩
  | .hbm, ⟨74, _⟩ => ⟨S8x4096, .f32⟩
  | .hbm, ⟨75, _⟩ => ⟨S8x4096x1, .f32⟩
  | .hbm, ⟨76, _⟩ => ⟨S_, .f32⟩
  | .hbm, ⟨77, _⟩ => ⟨S8x4096x1, .f32⟩
  | .hbm, ⟨78, _⟩ => ⟨S8x4096x1, .f32⟩
  | .hbm, ⟨79, _⟩ => ⟨S8x4096x2048, .f32⟩
  | .hbm, ⟨80, _⟩ => ⟨S8x4096x2048, .f32⟩
  | .hbm, ⟨81, _⟩ => ⟨S_, .f32⟩
  | .hbm, ⟨82, _⟩ => ⟨S8x4096x1, .f32⟩
  | .hbm, ⟨83, _⟩ => ⟨S8x4096x1, .f32⟩
  | .hbm, ⟨84, _⟩ => ⟨S8x4096x1, .f32⟩
  | .hbm, ⟨85, _⟩ => ⟨S8x4096x2048, .f32⟩
  | .hbm, ⟨86, _⟩ => ⟨S8x4096x2048, .f32⟩
  | .hbm, ⟨87, _⟩ => ⟨S1x1x2048, .f32⟩
  | .hbm, ⟨88, _⟩ => ⟨S8x4096x2048, .f32⟩
  | .hbm, ⟨89, _⟩ => ⟨S8x4096x2048, .f32⟩
  | .hbm, ⟨90, _⟩ => ⟨S1x1x2048, .f32⟩
  | .hbm, ⟨91, _⟩ => ⟨S8x4096x2048, .f32⟩
  | .hbm, ⟨92, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call0_cst : Ref sig .tc := ⟨.hbm, 53, rfl⟩
abbrev main_call0_v0 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_10 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x2048 : Shape := ⟨3, ![8, 4096, 2048]⟩
abbrev S8x12288 : Shape := ⟨2, ![8, 12288]⟩
abbrev S2048x2048 : Shape := ⟨2, ![2048, 2048]⟩
abbrev S2048 : Shape := ⟨1, ![2048]⟩
abbrev S8x6x2048 : Shape := ⟨3, ![8, 6, 2048]⟩
abbrev S1x2048 : Shape := ⟨2, ![1, 2048]⟩
abbrev S1x1024x1024 : Shape := ⟨3, ![1, 1024, 1024]⟩
abbrev S1x1024x2048 : Shape := ⟨3, ![1, 1024, 2048]⟩
abbrev S1x6x2048 : Shape := ⟨3, ![1, 6, 2048]⟩
abbrev S1x256x2048 : Shape := ⟨3, ![1, 256, 2048]⟩
abbrev S1x256x1024 : Shape := ⟨3, ![1, 256, 1024]⟩
abbrev S256x1024 : Shape := ⟨2, ![256, 1024]⟩
abbrev S1024x2048 : Shape := ⟨2, ![1024, 2048]⟩
abbrev S256x2048 : Shape := ⟨2, ![256, 2048]⟩
abbrev S1x1x2048 : Shape := ⟨3, ![1, 1, 2048]⟩
abbrev S1x256 : Shape := ⟨2, ![1, 256]⟩
abbrev S1x256x1 : Shape := ⟨3, ![1, 256, 1]⟩

abbrev nBuf : Space → Nat
  | .hbm => 14
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x2048, .f32⟩
  | .hbm, ⟨3, _⟩ => ⟨S8x12288, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S8x4096x1024, .bf16⟩
  | .hbm, ⟨8, _⟩ => ⟨S8x4096x1024, .bf16⟩
  | .hbm, ⟨9, _⟩ => ⟨S8x6x2048, .f32⟩
  | .hbm, ⟨10, _⟩ => ⟨S2048x2048, .bf16⟩
  | .hbm, ⟨11, _⟩ => ⟨S1x2048, .f32⟩
  | .hbm, ⟨12, _⟩ => ⟨S1x2048, .f32⟩
  | .hbm, ⟨13, _⟩ => ⟨S8x4096x2048, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x2048, .f32⟩
  | .local _ .vmem, ⟨5, _⟩ => ⟨S1x1024x2048, .f32⟩
  | .local _ .vmem, ⟨6, _⟩ => ⟨S1x6x2048, .f32⟩
  | .local _ .vmem, ⟨7, _⟩ => ⟨S1x6x2048, .f32⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S1x1024x2048, .f32⟩
  | .local _ .vmem, ⟨12, _⟩ => ⟨S1x1024x2048, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8x4096x1024 : Shape := ⟨3, ![8, 4096, 1024]⟩
abbrev S8x4096x2048 : Shape := ⟨3, ![8, 4096, 2048]⟩
abbrev S8x12288 : Shape := ⟨2, ![8, 12288]⟩
abbrev S2048x2048 : Shape := ⟨2, ![2048, 2048]⟩
abbrev S2048 : Shape := ⟨1, ![2048]⟩
abbrev S8x2048 : Shape := ⟨2, ![8, 2048]⟩
abbrev S8x1x2048 : Shape := ⟨3, ![8, 1, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x2048, .f32⟩
  | .hbm, ⟨3, _⟩ => ⟨S8x12288, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x1x2048, .f32⟩
  | .hbm, ⟨14, _⟩ => ⟨S8x1x2048, .f32⟩
  | .hbm, ⟨15, _⟩ => ⟨S8x1x2048, .f32⟩
  | .hbm, ⟨16, _⟩ => ⟨S8x1x2048, .f32⟩
  | .hbm, ⟨17, _⟩ => ⟨S8x1x2048, .f32⟩
  | .hbm, ⟨18, _⟩ => ⟨S8x1x2048, .f32⟩
  | .hbm, ⟨19, _⟩ => ⟨S8x4096x2048, .f32⟩
  | .hbm, ⟨20, _⟩ => ⟨S_, .f32⟩
  | .hbm, ⟨21, _⟩ => ⟨S8x4096x2048, .f32⟩
  | .hbm, ⟨22, _⟩ => ⟨S8x4096x2048, .f32⟩
  | .hbm, ⟨23, _⟩ => ⟨S8x4096x2048, .f32⟩
  | .hbm, ⟨24, _⟩ => ⟨S8x4096x2048, .f32⟩
  | .hbm, ⟨25, _⟩ => ⟨S8x4096x2048, .f32⟩
  | .hbm, ⟨26, _⟩ => ⟨S8x4096x2048, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S8x4096x2048, .f32⟩
  | .hbm, ⟨34, _⟩ => ⟨S8x4096x2048, .f32⟩
  | .hbm, ⟨35, _⟩ => ⟨S8x4096x2048, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x2048, .f32⟩
  | .hbm, ⟨43, _⟩ => ⟨S8x4096x2048, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S8x4096x1, .f32⟩
  | .hbm, ⟨48, _⟩ => ⟨S8x4096x2048, .f32⟩
  | .hbm, ⟨49, _⟩ => ⟨S8x4096x2048, .f32⟩
  | .hbm, ⟨50, _⟩ => ⟨S1x1x2048, .f32⟩
  | .hbm, ⟨51, _⟩ => ⟨S8x4096x2048, .f32⟩
  | .hbm, ⟨52, _⟩ => ⟨S8x4096x2048, .f32⟩
  | .hbm, ⟨53, _⟩ => ⟨S1x1x2048, .f32⟩
  | .hbm, ⟨54, _⟩ => ⟨S8x4096x2048, .f32⟩
  | .hbm, ⟨55, _⟩ => ⟨S8x4096x2048, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel4.lean ====
abbrev S8x64x2048 : Shape := ⟨3, ![8, 64, 2048]⟩
abbrev S8x12288 : Shape := ⟨2, ![8, 12288]⟩
abbrev S2048x8192 : Shape := ⟨2, ![2048, 8192]⟩
abbrev S8192 : Shape := ⟨1, ![8192]⟩
abbrev S8192x2048 : Shape := ⟨2, ![8192, 2048]⟩
abbrev S2048 : Shape := ⟨1, ![2048]⟩
abbrev S8x6x2048 : Shape := ⟨3, ![8, 6, 2048]⟩
abbrev S1x8192 : Shape := ⟨2, ![1, 8192]⟩
abbrev S1x2048 : Shape := ⟨2, ![1, 2048]⟩
abbrev S2048x1024 : Shape := ⟨2, ![2048, 1024]⟩
abbrev S1x1024 : Shape := ⟨2, ![1, 1024]⟩
abbrev S1024x2048 : Shape := ⟨2, ![1024, 2048]⟩
abbrev S512x2048 : Shape := ⟨2, ![512, 2048]⟩
abbrev S4x64x2048 : Shape := ⟨3, ![4, 64, 2048]⟩
abbrev S4x64 : Shape := ⟨2, ![4, 64]⟩
abbrev S4x64x1 : Shape := ⟨3, ![4, 64, 1]⟩
abbrev S4x1x2048 : Shape := ⟨3, ![4, 1, 2048]⟩
abbrev S256x2048 : Shape := ⟨2, ![256, 2048]⟩
abbrev S256x1024 : Shape := ⟨2, ![256, 1024]⟩
abbrev S512x1024 : Shape := ⟨2, ![512, 1024]⟩
abbrev S1x1x2048 : Shape := ⟨3, ![1, 1, 2048]⟩

abbrev nBuf : Space → Nat
  | .hbm => 14
  | .vmem => 12
  | .smem => 0
  | _ => 0

abbrev bufTy : (tb : Table) → Fin (tcTables nBuf tb) → BufTy
  | .hbm, ⟨0, _⟩ => ⟨S8x64x2048, .f32⟩
  | .hbm, ⟨1, _⟩ => ⟨S8x12288, .f32⟩
  | .hbm, ⟨2, _⟩ => ⟨S2048x8192, .f32⟩
  | .hbm, ⟨3, _⟩ => ⟨S8192, .f32⟩
  | .hbm, ⟨4, _⟩ => ⟨S8192x2048, .f32⟩
  | .hbm, ⟨5, _⟩ => ⟨S2048, .f32⟩
  | .hbm, ⟨6, _⟩ => ⟨S2048, .f32⟩
  | .hbm, ⟨7, _⟩ => ⟨S8x6x2048, .f32⟩
  | .hbm, ⟨8, _⟩ => ⟨S2048x8192, .bf16⟩
  | .hbm, ⟨9, _⟩ => ⟨S8192x2048, .bf16⟩
  | .hbm, ⟨10, _⟩ => ⟨S1x8192, .f32⟩
  | .hbm, ⟨11, _⟩ => ⟨S1x2048, .f32⟩
  | .hbm, ⟨12, _⟩ => ⟨S1x2048, .f32⟩
  | .hbm, ⟨13, _⟩ => ⟨S8x64x2048, .f32⟩
  | .local _ .vmem, ⟨0, _⟩ => ⟨S8x64x2048, .f32⟩
  | .local _ .vmem, ⟨1, _⟩ => ⟨S8x6x2048, .f32⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1x2048, .f32⟩
  | .local _ .vmem, ⟨10, _⟩ => ⟨S8x64x2048, .f32⟩
  | .local _ .vmem, ⟨11, _⟩ => ⟨S512x2048, .bf16⟩
  | _, _ => ⟨S8x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c7_i32 : BitVec 32 := 7#32
  let v4 : BitVec 1 := Scalar.cmpi .slt arg2 c7_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S8x64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 1 → Memref sig .tc .vmem S8x6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S8x64x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, false]
-- ==== Reference4Ideal.lean ====
abbrev S8x64x2048 : Shape := ⟨3, ![8, 64, 2048]⟩
abbrev S8x12288 : Shape := ⟨2, ![8, 12288]⟩
abbrev S2048x8192 : Shape := ⟨2, ![2048, 8192]⟩
abbrev S8192 : Shape := ⟨1, ![8192]⟩
abbrev S8192x2048 : Shape := ⟨2, ![8192, 2048]⟩
abbrev S2048 : Shape := ⟨1, ![2048]⟩
abbrev S8x2048 : Shape := ⟨2, ![8, 2048]⟩
abbrev S8x1x2048 : Shape := ⟨3, ![8, 1, 2048]⟩
abbrev S_ : Shape := ⟨0, ![]⟩
abbrev S8x64 : Shape := ⟨2, ![8, 64]⟩
abbrev S8x64x1 : Shape := ⟨3, ![8, 64, 1]⟩
abbrev S8x64x8192 : Shape := ⟨3, ![8, 64, 8192]⟩
abbrev S1x1x8192 : Shape := ⟨3, ![1, 1, 8192]⟩
abbrev S1x1x2048 : Shape := ⟨3, ![1, 1, 2048]⟩

abbrev nBuf : Space → Nat
  | .hbm => 93
  | .vmem => 0
  | .smem => 0
  | _ => 0

abbrev bufTy : (tb : Table) → Fin (tcTables nBuf tb) → BufTy
  | .hbm, ⟨0, _⟩ => ⟨S8x64x2048, .f32⟩
  | .hbm, ⟨1, _⟩ => ⟨S8x12288, .f32⟩
  | .hbm, ⟨2, _⟩ => ⟨S2048x8192, .f32⟩
  | .hbm, ⟨3, _⟩ => ⟨S8192, .f32⟩
  | .hbm, ⟨4, _⟩ => ⟨S8192x2048, .f32⟩
  | .hbm, ⟨5, _⟩ => ⟨S2048, .f32⟩
  | .hbm, ⟨6, _⟩ => ⟨S2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x1x2048, .f32⟩
  | .hbm, ⟨14, _⟩ => ⟨S8x1x2048, .f32⟩
  | .hbm, ⟨15, _⟩ => ⟨S8x1x2048, .f32⟩
  | .hbm, ⟨16, _⟩ => ⟨S8x1x2048, .f32⟩
  | .hbm, ⟨17, _⟩ => ⟨S8x1x2048, .f32⟩
  | .hbm, ⟨18, _⟩ => ⟨S8x1x2048, .f32⟩
  | .hbm, ⟨19, _⟩ => ⟨S_, .f32⟩
  | .hbm, ⟨20, _⟩ => ⟨S8x64, .f32⟩
  | .hbm, ⟨21, _⟩ => ⟨S8x64x1, .f32⟩
  | .hbm, ⟨22, _⟩ => ⟨S_, .f32⟩
  | .hbm, ⟨23, _⟩ => ⟨S8x64x1, .f32⟩
  | .hbm, ⟨24, _⟩ => ⟨S8x64x1, .f32⟩
  | .hbm, ⟨25, _⟩ => ⟨S8x64x2048, .f32⟩
  | .hbm, ⟨26, _⟩ => ⟨S8x64x2048, .f32⟩
  | .hbm, ⟨27, _⟩ => ⟨S8x64x2048, .f32⟩
  | .hbm, ⟨28, _⟩ => ⟨S_, .f32⟩
  | .hbm, ⟨29, _⟩ => ⟨S8x64, .f32⟩
  | .hbm, ⟨30, _⟩ => ⟨S8x64x1, .f32⟩
  | .hbm, ⟨31, _⟩ => ⟨S_, .f32⟩
  | .hbm, ⟨32, _⟩ => ⟨S8x64x1, .f32⟩
  | .hbm, ⟨33, _⟩ => ⟨S8x64x1, .f32⟩
  | .hbm, ⟨34, _⟩ => ⟨S8x64x2048, .f32⟩
  | .hbm, ⟨35, _⟩ => ⟨S8x64x2048, .f32⟩
  | .hbm, ⟨36, _⟩ => ⟨S_, .f32⟩
  | .hbm, ⟨37, _⟩ => ⟨S8x64x1, .f32⟩
  | .hbm, ⟨38, _⟩ => ⟨S8x64x1, .f32⟩
  | .hbm, ⟨39, _⟩ => ⟨S8x64x1, .f32⟩
  | .hbm, ⟨40, _⟩ => ⟨S8x64x2048, .f32⟩
  | .hbm, ⟨41, _⟩ => ⟨S8x64x2048, .f32⟩
  | .hbm, ⟨42, _⟩ => ⟨S_, .f32⟩
  | .hbm, ⟨43, _⟩ => ⟨S8x1x2048, .f32⟩
  | .hbm, ⟨44, _⟩ => ⟨S8x1x2048, .f32⟩
  | .hbm, ⟨45, _⟩ => ⟨S8x64x2048, .f32⟩
  | .hbm, ⟨46, _⟩ => ⟨S8x64x2048, .f32⟩
  | .hbm, ⟨47, _⟩ => ⟨S8x64x2048, .f32⟩
  | .hbm, ⟨48, _⟩ => ⟨S8x64x2048, .f32⟩
  | .hbm, ⟨49, _⟩ => ⟨S8x64x8192, .f32⟩
  | .hbm, ⟨50, _⟩ => ⟨S1x1x8192, .f32⟩
  | .hbm, ⟨51, _⟩ => ⟨S8x64x8192, .f32⟩
  | .hbm, ⟨52, _⟩ => ⟨S8x64x8192, .f32⟩
  | .hbm, ⟨53, _⟩ => ⟨S_, .f32⟩
  | .hbm, ⟨54, _⟩ => ⟨S8x64x8192, .f32⟩
  | .hbm, ⟨55, _⟩ => ⟨S8x64x8192, .f32⟩
  | .hbm, ⟨56, _⟩ => ⟨S8x64x8192, .f32⟩
  | .hbm, ⟨57, _⟩ => ⟨S_, .f32⟩
  | .hbm, ⟨58, _⟩ => ⟨S8x64x2048, .f32⟩
  | .hbm, ⟨59, _⟩ => ⟨S8x64x2048, .f32⟩
  | .hbm, ⟨60, _⟩ => ⟨S8x64x2048, .f32⟩
  | .hbm, ⟨61, _⟩ => ⟨S8x64x2048, .f32⟩
  | .hbm, ⟨62, _⟩ => ⟨S8x64x2048, .f32⟩
  | .hbm, ⟨63, _⟩ => ⟨S8x64x2048, .f32⟩
  | .hbm, ⟨64, _⟩ => ⟨S_, .f32⟩
  | .hbm, ⟨65, _⟩ => ⟨S8x64, .f32⟩
  | .hbm, ⟨66, _⟩ => ⟨S8x64x1, .f32⟩
  | .hbm, ⟨67, _⟩ => ⟨S_, .f32⟩
  | .hbm, ⟨68, _⟩ => ⟨S8x64x1, .f32⟩
  | .hbm, ⟨69, _⟩ => ⟨S8x64x1, .f32⟩
  | .hbm, ⟨70, _⟩ => ⟨S8x64x2048, .f32⟩
  | .hbm, ⟨71, _⟩ => ⟨S8x64x2048, .f32⟩
  | .hbm, ⟨72, _⟩ => ⟨S8x64x2048, .f32⟩
  | .hbm, ⟨73, _⟩ => ⟨S_, .f32⟩
  | .hbm, ⟨74, _⟩ => ⟨S8x64, .f32⟩
  | .hbm, ⟨75, _⟩ => ⟨S8x64x1, .f32⟩
  | .hbm, ⟨76, _⟩ => ⟨S_, .f32⟩
  | .hbm, ⟨77, _⟩ => ⟨S8x64x1, .f32⟩
  | .hbm, ⟨78, _⟩ => ⟨S8x64x1, .f32⟩
  | .hbm, ⟨79, _⟩ => ⟨S8x64x2048, .f32⟩
  | .hbm, ⟨80, _⟩ => ⟨S8x64x2048, .f32⟩
  | .hbm, ⟨81, _⟩ => ⟨S_, .f32⟩
  | .hbm, ⟨82, _⟩ => ⟨S8x64x1, .f32⟩
  | .hbm, ⟨83, _⟩ => ⟨S8x64x1, .f32⟩
  | .hbm, ⟨84, _⟩ => ⟨S8x64x1, .f32⟩
  | .hbm, ⟨85, _⟩ => ⟨S8x64x2048, .f32⟩
  | .hbm, ⟨86, _⟩ => ⟨S8x64x2048, .f32⟩
  | .hbm, ⟨87, _⟩ => ⟨S1x1x2048, .f32⟩
  | .hbm, ⟨88, _⟩ => ⟨S8x64x2048, .f32⟩
  | .hbm, ⟨89, _⟩ => ⟨S8x64x2048, .f32⟩
  | .hbm, ⟨90, _⟩ => ⟨S1x1x2048, .f32⟩
  | .hbm, ⟨91, _⟩ => ⟨S8x64x2048, .f32⟩
  | .hbm, ⟨92, _⟩ => ⟨S8x64x2048, .f32⟩
  | _, _ => ⟨S8x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call0_cst : Ref sig .tc := ⟨.hbm, 53, rfl⟩
abbrev main_call0_v0 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_10 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== Kernel5.lean ====
abbrev S8x64x2048 : Shape := ⟨3, ![8, 64, 2048]⟩
abbrev S8x12288 : Shape := ⟨2, ![8, 12288]⟩
abbrev S2048x6152 : Shape := ⟨2, ![2048, 6152]⟩
abbrev S8 : Shape := ⟨1, ![8]⟩
abbrev S2048x3072 : Shape := ⟨2, ![2048, 3072]⟩
abbrev S2048x8 : Shape := ⟨2, ![2048, 8]⟩
abbrev S8x2048 : Shape := ⟨2, ![8, 2048]⟩
abbrev S_ : Shape := ⟨0, ![]⟩
abbrev S16x2048 : Shape := ⟨2, ![16, 2048]⟩
abbrev S8x6x2048 : Shape := ⟨3, ![8, 6, 2048]⟩
abbrev S8x1 : Shape := ⟨2, ![8, 1]⟩
abbrev S8x64x1024 : Shape := ⟨3, ![8, 64, 1024]⟩
abbrev S1x8x512 : Shape := ⟨3, ![1, 8, 512]⟩
abbrev S2048x512 : Shape := ⟨2, ![2048, 512]⟩
abbrev S8x64x512 : Shape := ⟨3, ![8, 64, 512]⟩
abbrev S512x2048 : Shape := ⟨2, ![512, 2048]⟩
abbrev S4x64x2048 : Shape := ⟨3, ![4, 64, 2048]⟩
abbrev S4x64 : Shape := ⟨2, ![4, 64]⟩
abbrev S4x64x1 : Shape := ⟨3, ![4, 64, 1]⟩
abbrev S4x1x2048 : Shape := ⟨3, ![4, 1, 2048]⟩
abbrev S256x2048 : Shape := ⟨2, ![256, 2048]⟩
abbrev S256x512 : Shape := ⟨2, ![256, 512]⟩
abbrev S4x64x512 : Shape := ⟨3, ![4, 64, 512]⟩
abbrev S16x512 : Shape := ⟨2, ![16, 512]⟩
abbrev S8x512 : Shape := ⟨2, ![8, 512]⟩
abbrev S512x512 : Shape := ⟨2, ![512, 512]⟩

abbrev nBuf : Space → Nat
  | .hbm => 25
  | .vmem => 26
  | .smem => 0
  | _ => 0

abbrev bufTy : (tb : Table) → Fin (tcTables nBuf tb) → BufTy
  | .hbm, ⟨0, _⟩ => ⟨S8x64x2048, .f32⟩
  | .hbm, ⟨1, _⟩ => ⟨S8x12288, .f32⟩
  | .hbm, ⟨2, _⟩ => ⟨S2048x6152, .f32⟩
  | .hbm, ⟨3, _⟩ => ⟨S8, .f32⟩
  | .hbm, ⟨4, _⟩ => ⟨S2048x3072, .f32⟩
  | .hbm, ⟨5, _⟩ => ⟨S2048x3072, .bf16⟩
  | .hbm, ⟨6, _⟩ => ⟨S2048x3072, .f32⟩
  | .hbm, ⟨7, _⟩ => ⟨S2048x3072, .bf16⟩
  | .hbm, ⟨8, _⟩ => ⟨S2048x8, .f32⟩
  | .hbm, ⟨9, _⟩ => ⟨S8x2048, .f32⟩
  | .hbm, ⟨10, _⟩ => ⟨S_, .i32⟩
  | .hbm, ⟨11, _⟩ => ⟨S_, .f32⟩
  | .hbm, ⟨12, _⟩ => ⟨S16x2048, .f32⟩
  | .hbm, ⟨13, _⟩ => ⟨S16x2048, .bf16⟩
  | .hbm, ⟨14, _⟩ => ⟨S8x6x2048, .f32⟩
  | .hbm, ⟨15, _⟩ => ⟨S8x1, .f32⟩
  | .hbm, ⟨16, _⟩ => ⟨S8x64x1024, .bf16⟩
  | .hbm, ⟨17, _⟩ => ⟨S8x64x1024, .f32⟩
  | .hbm, ⟨18, _⟩ => ⟨S8x64x1024, .f32⟩
  | .hbm, ⟨19, _⟩ => ⟨S8x64x1024, .bf16⟩
  | .hbm, ⟨20, _⟩ => ⟨S8x64x1024, .bf16⟩
  | .hbm, ⟨21, _⟩ => ⟨S8x64x1024, .bf16⟩
  | .hbm, ⟨22, _⟩ => ⟨S8x64x1024, .f32⟩
  | .hbm, ⟨23, _⟩ => ⟨S8x64x1024, .f32⟩
  | .hbm, ⟨24, _⟩ => ⟨S1x8x512, .f32⟩
  | .local _ .vmem, ⟨0, _⟩ => ⟨S8x64x2048, .f32⟩
  | .local _ .vmem, ⟨1, _⟩ => ⟨S8x6x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S16x2048, .bf16⟩
  | .local _ .vmem, ⟨7, _⟩ => ⟨S8x1, .f32⟩
  | .local _ .vmem, ⟨8, _⟩ => ⟨S8x64x512, .bf16⟩
  | .local _ .vmem, ⟨9, _⟩ => ⟨S8x64x512, .bf16⟩
  | .local _ .vmem, ⟨10, _⟩ => ⟨S8x64x512, .f32⟩
  | .local _ .vmem, ⟨11, _⟩ => ⟨S8x64x512, .f32⟩
  | .local _ .vmem, ⟨12, _⟩ => ⟨S8x64x512, .f32⟩
  | .local _ .vmem, ⟨13, _⟩ => ⟨S8x64x512, .f32⟩
  | .local _ .vmem, ⟨14, _⟩ => ⟨S8x64x512, .bf16⟩
  | .local _ .vmem, ⟨15, _⟩ => ⟨S8x64x512, .bf16⟩
  | .local _ .vmem, ⟨16, _⟩ => ⟨S8x64x512, .bf16⟩
  | .local _ .vmem, ⟨17, _⟩ => ⟨S8x64x512, .bf16⟩
  | .local _ .vmem, ⟨18, _⟩ => ⟨S8x64x512, .bf16⟩
  | .local _ .vmem, ⟨19, _⟩ => ⟨S8x64x512, .bf16⟩
  | .local _ .vmem, ⟨20, _⟩ => ⟨S8x64x512, .f32⟩
  | .local _ .vmem, ⟨21, _⟩ => ⟨S8x64x512, .f32⟩
  | .local _ .vmem, ⟨22, _⟩ => ⟨S8x64x512, .f32⟩
  | .local _ .vmem, ⟨23, _⟩ => ⟨S8x64x512, .f32⟩
  | .local _ .vmem, ⟨24, _⟩ => ⟨S1x8x512, .f32⟩
  | .local _ .vmem, ⟨25, _⟩ => ⟨S512x2048, .bf16⟩
  | _, _ => ⟨S8x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev main_v10_5 : Ref sig .tc := ⟨.hbm, 21, rfl⟩
abbrev main_v10_6 : Ref sig .tc := ⟨.hbm, 22, rfl⟩
abbrev main_v10_7 : Ref sig .tc := ⟨.hbm, 23, rfl⟩
abbrev main_v10_8 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_scratch0 : Ref sig .tc := ⟨.vmem, 25, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨3, ![1, 1, 12], ![false, false, false]⟩

def k0_cond1 (i : grid0.Coords) : BitVec 1 :=
  let arg2 : BitVec 32 := BitVec.ofNat 32 (i 2).val
  let c0_i32_0 : BitVec 32 := 0#32
  let v1 : BitVec 1 := Scalar.cmpi .eq arg2 c0_i32_0
  let v2 : BitVec 32 := Scalar.extui v1
  let c0_i32_1 : BitVec 32 := 0#32
  let v3 : BitVec 1 := Scalar.cmpi .ne v2 c0_i32_1
  v3

def k0_cond2 (i : grid0.Coords) : BitVec 1 :=
  let arg2 : BitVec 32 := BitVec.ofNat 32 (i 2).val
  let c0_i32_2 : BitVec 32 := 0#32
  let v5 : BitVec 1 := Scalar.cmpi .sgt arg2 c0_i32_2
  let v6 : BitVec 32 := Scalar.extui v5
  let c0_i32_3 : BitVec 32 := 0#32
  let v7 : BitVec 1 := Scalar.cmpi .slt arg2 c0_i32_3
  let v8 : BitVec 32 := Scalar.extui v7
  let v9 : BitVec 32 := Scalar.subi v6 v8
  let c2_i32 : BitVec 32 := 2#32
  let c0_i32_4 : BitVec 32 := 0#32
  let v10 : BitVec 1 := Scalar.cmpi .sgt c2_i32 c0_i32_4
  let v11 : BitVec 32 := Scalar.extui v10
  let c0_i32_5 : BitVec 32 := 0#32
  let v12 : BitVec 1 := Scalar.cmpi .slt c2_i32 c0_i32_5
  let v13 : BitVec 32 := Scalar.extui v12
  let v14 : BitVec 32 := Scalar.subi v11 v13
  let v15 : BitVec 1 := Scalar.cmpi .ne v9 v14
  let v16 : BitVec 32 := Scalar.remsi arg2 c2_i32
  let c0_i32_6 : BitVec 32 := 0#32
  let v17 : BitVec 1 := Scalar.cmpi .ne v16 c0_i32_6
  let v18 : BitVec 1 := Scalar.andi v15 v17
  let v4 : BitVec 32 := Scalar.divsi arg2 c2_i32
  let c1_i32 : BitVec 32 := 1#32
  let v19 : BitVec 32 := Scalar.subi v4 c1_i32
  let v20 : BitVec 32 := Scalar.select v18 v19 v4
  let c0_i32_7 : BitVec 32 := 0#32
  let v21 : BitVec 1 := Scalar.cmpi .eq v20 c0_i32_7
  let c0_i32_8 : BitVec 32 := 0#32
  let v22 : BitVec 1 := Scalar.cmpi .sgt arg2 c0_i32_8
  let v23 : BitVec 1 := Scalar.andi v21 v22
  let v24 : BitVec 32 := Scalar.extui v23
  let c0_i32_9 : BitVec 32 := 0#32
  let v25 : BitVec 1 := Scalar.cmpi .ne v24 c0_i32_9
  v25

def k0_cond3 (i : grid0.Coords) : BitVec 1 :=
  let arg2 : BitVec 32 := BitVec.ofNat 32 (i 2).val
  let c0_i32_11 : BitVec 32 := 0#32
  let v27 : BitVec 1 := Scalar.cmpi .sgt arg2 c0_i32_11
  let v28 : BitVec 32 := Scalar.extui v27
  let c0_i32_12 : BitVec 32 := 0#32
  let v29 : BitVec 1 := Scalar.cmpi .slt arg2 c0_i32_12
  let v30 : BitVec 32 := Scalar.extui v29
  let v31 : BitVec 32 := Scalar.subi v28 v30
  let c2_i32_10 : BitVec 32 := 2#32
  let c0_i32_13 : BitVec 32 := 0#32
  let v32 : BitVec 1 := Scalar.cmpi .sgt c2_i32_10 c0_i32_13
  let v33 : BitVec 32 := Scalar.extui v32
  let c0_i32_14 : BitVec 32 := 0#32
  let v34 : BitVec 1 := Scalar.cmpi .slt c2_i32_10 c0_i32_14
  let v35 : BitVec 32 := Scalar.extui v34
  let v36 : BitVec 32 := Scalar.subi v33 v35
  let v37 : BitVec 1 := Scalar.cmpi .ne v31 v36
  let v38 : BitVec 32 := Scalar.remsi arg2 c2_i32_10
  let c0_i32_15 : BitVec 32 := 0#32
  let v39 : BitVec 1 := Scalar.cmpi .ne v38 c0_i32_15
  let v40 : BitVec 1 := Scalar.andi v37 v39
  let v26 : BitVec 32 := Scalar.divsi arg2 c2_i32_10
  let c1_i32_16 : BitVec 32 := 1#32
  let v41 : BitVec 32 := Scalar.subi v26 c1_i32_16
  let v42 : BitVec 32 := Scalar.select v40 v41 v26
  let c1_i32_17 : BitVec 32 := 1#32
  let v43 : BitVec 1 := Scalar.cmpi .eq v42 c1_i32_17
  let c0_i32_18 : BitVec 32 := 0#32
  let v44 : BitVec 1 := Scalar.cmpi .sgt arg2 c0_i32_18
  let v45 : BitVec 1 := Scalar.andi v43 v44
  let v46 : BitVec 32 := Scalar.extui v45
  let c0_i32_19 : BitVec 32 := 0#32
  let v47 : BitVec 1 := Scalar.cmpi .ne v46 c0_i32_19
  v47

def k0_cond4 (i : grid0.Coords) : BitVec 1 :=
  let arg2 : BitVec 32 := BitVec.ofNat 32 (i 2).val
  let c0_i32_21 : BitVec 32 := 0#32
  let v49 : BitVec 1 := Scalar.cmpi .sgt arg2 c0_i32_21
  let v50 : BitVec 32 := Scalar.extui v49
  let c0_i32_22 : BitVec 32 := 0#32
  let v51 : BitVec 1 := Scalar.cmpi .slt arg2 c0_i32_22
  let v52 : BitVec 32 := Scalar.extui v51
  let v53 : BitVec 32 := Scalar.subi v50 v52
  let c2_i32_20 : BitVec 32 := 2#32
  let c0_i32_23 : BitVec 32 := 0#32
  let v54 : BitVec 1 := Scalar.cmpi .sgt c2_i32_20 c0_i32_23
  let v55 : BitVec 32 := Scalar.extui v54
  let c0_i32_24 : BitVec 32 := 0#32
  let v56 : BitVec 1 := Scalar.cmpi .slt c2_i32_20 c0_i32_24
  let v57 : BitVec 32 := Scalar.extui v56
  let v58 : BitVec 32 := Scalar.subi v55 v57
  let v59 : BitVec 1 := Scalar.cmpi .ne v53 v58
  let v60 : BitVec 32 := Scalar.remsi arg2 c2_i32_20
  let c0_i32_25 : BitVec 32 := 0#32
  let v61 : BitVec 1 := Scalar.cmpi .ne v60 c0_i32_25
  let v62 : BitVec 1 := Scalar.andi v59 v61
  let v48 : BitVec 32 := Scalar.divsi arg2 c2_i32_20
  let c1_i32_26 : BitVec 32 := 1#32
  let v63 : BitVec 32 := Scalar.subi v48 c1_i32_26
  let v64 : BitVec 32 := Scalar.select v62 v63 v48
  let c2_i32_27 : BitVec 32 := 2#32
  let v65 : BitVec 1 := Scalar.cmpi .eq v64 c2_i32_27
  let c0_i32_28 : BitVec 32 := 0#32
  let v66 : BitVec 1 := Scalar.cmpi .sgt arg2 c0_i32_28
  let v67 : BitVec 1 := Scalar.andi v65 v66
  let v68 : BitVec 32 := Scalar.extui v67
  let c0_i32_29 : BitVec 32 := 0#32
  let v69 : BitVec 1 := Scalar.cmpi .ne v68 c0_i32_29
  v69

def k0_cond5 (i : grid0.Coords) : BitVec 1 :=
  let arg2 : BitVec 32 := BitVec.ofNat 32 (i 2).val
  let c0_i32_31 : BitVec 32 := 0#32
  let v71 : BitVec 1 := Scalar.cmpi .sgt arg2 c0_i32_31
  let v72 : BitVec 32 := Scalar.extui v71
  let c0_i32_32 : BitVec 32 := 0#32
  let v73 : BitVec 1 := Scalar.cmpi .slt arg2 c0_i32_32
  let v74 : BitVec 32 := Scalar.extui v73
  let v75 : BitVec 32 := Scalar.subi v72 v74
  let c2_i32_30 : BitVec 32 := 2#32
  let c0_i32_33 : BitVec 32 := 0#32
  let v76 : BitVec 1 := Scalar.cmpi .sgt c2_i32_30 c0_i32_33
  let v77 : BitVec 32 := Scalar.extui v76
  let c0_i32_34 : BitVec 32 := 0#32
  let v78 : BitVec 1 := Scalar.cmpi .slt c2_i32_30 c0_i32_34
  let v79 : BitVec 32 := Scalar.extui v78
  let v80 : BitVec 32 := Scalar.subi v77 v79
  let v81 : BitVec 1 := Scalar.cmpi .ne v75 v80
  let v82 : BitVec 32 := Scalar.remsi arg2 c2_i32_30
  let c0_i32_35 : BitVec 32 := 0#32
  let v83 : BitVec 1 := Scalar.cmpi .ne v82 c0_i32_35
  let v84 : BitVec 1 := Scalar.andi v81 v83
  let v70 : BitVec 32 := Scalar.divsi arg2 c2_i32_30
  let c1_i32_36 : BitVec 32 := 1#32
  let v85 : BitVec 32 := Scalar.subi v70 c1_i32_36
  let v86 : BitVec 32 := Scalar.select v84 v85 v70
  let c3_i32 : BitVec 32 := 3#32
  let v87 : BitVec 1 := Scalar.cmpi .eq v86 c3_i32
  let c0_i32_37 : BitVec 32 := 0#32
  let v88 : BitVec 1 := Scalar.cmpi .sgt arg2 c0_i32_37
  let v89 : BitVec 1 := Scalar.andi v87 v88
  let v90 : BitVec 32 := Scalar.extui v89
  let c0_i32_38 : BitVec 32 := 0#32
  let v91 : BitVec 1 := Scalar.cmpi .ne v90 c0_i32_38
  v91

def k0_cond6 (i : grid0.Coords) : BitVec 1 :=
  let arg2 : BitVec 32 := BitVec.ofNat 32 (i 2).val
  let c0_i32_40 : BitVec 32 := 0#32
  let v93 : BitVec 1 := Scalar.cmpi .sgt arg2 c0_i32_40
  let v94 : BitVec 32 := Scalar.extui v93
  let c0_i32_41 : BitVec 32 := 0#32
  let v95 : BitVec 1 := Scalar.cmpi .slt arg2 c0_i32_41
  let v96 : BitVec 32 := Scalar.extui v95
  let v97 : BitVec 32 := Scalar.subi v94 v96
  let c2_i32_39 : BitVec 32 := 2#32
  let c0_i32_42 : BitVec 32 := 0#32
  let v98 : BitVec 1 := Scalar.cmpi .sgt c2_i32_39 c0_i32_42
  let v99 : BitVec 32 := Scalar.extui v98
  let c0_i32_43 : BitVec 32 := 0#32
  let v100 : BitVec 1 := Scalar.cmpi .slt c2_i32_39 c0_i32_43
  let v101 : BitVec 32 := Scalar.extui v100
  let v102 : BitVec 32 := Scalar.subi v99 v101
  let v103 : BitVec 1 := Scalar.cmpi .ne v97 v102
  let v104 : BitVec 32 := Scalar.remsi arg2 c2_i32_39
  let c0_i32_44 : BitVec 32 := 0#32
  let v105 : BitVec 1 := Scalar.cmpi .ne v104 c0_i32_44
  let v106 : BitVec 1 := Scalar.andi v103 v105
  let v92 : BitVec 32 := Scalar.divsi arg2 c2_i32_39
  let c1_i32_45 : BitVec 32 := 1#32
  let v107 : BitVec 32 := Scalar.subi v92 c1_i32_45
  let v108 : BitVec 32 := Scalar.select v106 v107 v92
  let c4_i32 : BitVec 32 := 4#32
  let v109 : BitVec 1 := Scalar.cmpi .eq v108 c4_i32
  let c0_i32_46 : BitVec 32 := 0#32
  let v110 : BitVec 1 := Scalar.cmpi .sgt arg2 c0_i32_46
  let v111 : BitVec 1 := Scalar.andi v109 v110
  let v112 : BitVec 32 := Scalar.extui v111
  let c0_i32_47 : BitVec 32 := 0#32
  let v113 : BitVec 1 := Scalar.cmpi .ne v112 c0_i32_47
  v113

def k0_cond8 (i : grid0.Coords) : BitVec 1 :=
  let arg2 : BitVec 32 := BitVec.ofNat 32 (i 2).val
  let c0_i32_49 : BitVec 32 := 0#32
  let v115 : BitVec 1 := Scalar.cmpi .sgt arg2 c0_i32_49
  let v116 : BitVec 32 := Scalar.extui v115
  let c0_i32_50 : BitVec 32 := 0#32
  let v117 : BitVec 1 := Scalar.cmpi .slt arg2 c0_i32_50
  let v118 : BitVec 32 := Scalar.extui v117
  let v119 : BitVec 32 := Scalar.subi v116 v118
  let c2_i32_48 : BitVec 32 := 2#32
  let c0_i32_51 : BitVec 32 := 0#32
  let v120 : BitVec 1 := Scalar.cmpi .sgt c2_i32_48 c0_i32_51
  let v121 : BitVec 32 := Scalar.extui v120
  let c0_i32_52 : BitVec 32 := 0#32
  let v122 : BitVec 1 := Scalar.cmpi .slt c2_i32_48 c0_i32_52
  let v123 : BitVec 32 := Scalar.extui v122
  let v124 : BitVec 32 := Scalar.subi v121 v123
  let v125 : BitVec 1 := Scalar.cmpi .ne v119 v124
  let v126 : BitVec 32 := Scalar.remsi arg2 c2_i32_48
  let c0_i32_53 : BitVec 32 := 0#32
  let v127 : BitVec 1 := Scalar.cmpi .ne v126 c0_i32_53
  let v128 : BitVec 1 := Scalar.andi v125 v127
  let v114 : BitVec 32 := Scalar.divsi arg2 c2_i32_48
  let c1_i32_54 : BitVec 32 := 1#32
  let v129 : BitVec 32 := Scalar.subi v114 c1_i32_54
  let v130 : BitVec 32 := Scalar.select v128 v129 v114
  let c5_i32 : BitVec 32 := 5#32
  let v131 : BitVec 1 := Scalar.cmpi .eq v130 c5_i32
  let c0_i32_55 : BitVec 32 := 0#32
  let v132 : BitVec 1 := Scalar.cmpi .sgt arg2 c0_i32_55
  let v133 : BitVec 1 := Scalar.andi v131 v132
  let v134 : BitVec 32 := Scalar.extui v133
  let c0_i32_56 : BitVec 32 := 0#32
  let v135 : BitVec 1 := Scalar.cmpi .ne v134 c0_i32_56
  v135

def k0_cond7 (i : grid0.Coords) : BitVec 1 :=
  let arg1 : BitVec 32 := BitVec.ofNat 32 (i 1).val
  let c0_i32 : BitVec 32 := 0#32
  let v0 : BitVec 1 := Scalar.cmpi .eq arg1 c0_i32
  let v143 : BitVec 32 := Scalar.extui v0
  let c0_i32_63 : BitVec 32 := 0#32
  let v144 : BitVec 1 := Scalar.cmpi .ne v143 c0_i32_63
  v144

def k0_cond9 (i : grid0.Coords) : BitVec 1 :=
  let arg1 : BitVec 32 := BitVec.ofNat 32 (i 1).val
  let c0_i32 : BitVec 32 := 0#32
  let v0 : BitVec 1 := Scalar.cmpi .eq arg1 c0_i32
  let v143 : BitVec 32 := Scalar.extui v0
  let c0_i32_63 : BitVec 32 := 0#32
  let v144 : BitVec 1 := Scalar.cmpi .ne v143 c0_i32_63
  v144

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.minsi arg2 c5_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, arg1.toNat, v2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.subi arg2 c10_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c8_i32 : BitVec 32 := 8#32
  let v1 : BitVec 32 := Scalar.subi arg2 c8_i32
  let c0_i32_0 : BitVec 32 := 0#32
  let c1_i32 : BitVec 32 := 1#32
  let v2 : BitVec 32 := Scalar.maxsi c0_i32_0 v1
  let v3 : BitVec 32 := Scalar.minsi c1_i32 v2
  let c0_i32_1 : BitVec 32 := 0#32
  let v4 : BitVec 32 := Scalar.select v0 v3 c0_i32_1
  let c0_i32_2 : BitVec 32 := 0#32
  let c0_i32_3 : BitVec 32 := 0#32
  ![arg0.toNat, c0_i32_2.toNat, v4.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c10_i32 : BitVec 32 := 10#32
  let v1 : BitVec 32 := Scalar.subi arg2 c10_i32
  let c0_i32_0 : BitVec 32 := 0#32
  let c1_i32 : BitVec 32 := 1#32
  let v2 : BitVec 32 := Scalar.maxsi c0_i32_0 v1
  let v3 : BitVec 32 := Scalar.minsi c1_i32 v2
  let c0_i32_1 : BitVec 32 := 0#32
  let v4 : BitVec 32 := Scalar.select v0 v3 c0_i32_1
  let c0_i32_2 : BitVec 32 := 0#32
  let c0_i32_3 : BitVec 32 := 0#32
  ![arg0.toNat, c0_i32_2.toNat, v4.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 1 → Memref sig .tc .vmem S8x64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 1 → Memref sig .tc .vmem S8x6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S16x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S8x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S8x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S8x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S8x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S8x64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S8x64x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S8x64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S8x64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 1 → Memref sig .tc .vmem S1x8x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true, false]
-- ==== Kernel5Ideal.lean ====
abbrev S8x64x2048 : Shape := ⟨3, ![8, 64, 2048]⟩
abbrev S8x12288 : Shape := ⟨2, ![8, 12288]⟩
abbrev S2048x6152 : Shape := ⟨2, ![2048, 6152]⟩
abbrev S8 : Shape := ⟨1, ![8]⟩
abbrev S2048x3072 : Shape := ⟨2, ![2048, 3072]⟩
abbrev S2048x8 : Shape := ⟨2, ![2048, 8]⟩
abbrev S8x2048 : Shape := ⟨2, ![8, 2048]⟩
abbrev S_ : Shape := ⟨0, ![]⟩
abbrev S16x2048 : Shape := ⟨2, ![16, 2048]⟩
abbrev S8x6x2048 : Shape := ⟨3, ![8, 6, 2048]⟩
abbrev S8x1 : Shape := ⟨2, ![8, 1]⟩
abbrev S8x64x1024 : Shape := ⟨3, ![8, 64, 1024]⟩
abbrev S1x8x512 : Shape := ⟨3, ![1, 8, 512]⟩
abbrev S2048x512 : Shape := ⟨2, ![2048, 512]⟩
abbrev S8x64x512 : Shape := ⟨3, ![8, 64, 512]⟩
abbrev S512x2048 : Shape := ⟨2, ![512, 2048]⟩
abbrev S4x64x2048 : Shape := ⟨3, ![4, 64, 2048]⟩
abbrev S4x64 : Shape := ⟨2, ![4, 64]⟩
abbrev S4x64x1 : Shape := ⟨3, ![4, 64, 1]⟩
abbrev S4x1x2048 : Shape := ⟨3, ![4, 1, 2048]⟩
abbrev S256x2048 : Shape := ⟨2, ![256, 2048]⟩
abbrev S256x512 : Shape := ⟨2, ![256, 512]⟩
abbrev S4x64x512 : Shape := ⟨3, ![4, 64, 512]⟩
abbrev S16x512 : Shape := ⟨2, ![16, 512]⟩
abbrev S8x512 : Shape := ⟨2, ![8, 512]⟩
abbrev S512x512 : Shape := ⟨2, ![512, 512]⟩

abbrev nBuf : Space → Nat
  | .hbm => 25
  | .vmem => 26
  | .smem => 0
  | _ => 0

abbrev bufTy : (tb : Table) → Fin (tcTables nBuf tb) → BufTy
  | .hbm, ⟨0, _⟩ => ⟨S8x64x2048, .f32⟩
  | .hbm, ⟨1, _⟩ => ⟨S8x12288, .f32⟩
  | .hbm, ⟨2, _⟩ => ⟨S2048x6152, .f32⟩
  | .hbm, ⟨3, _⟩ => ⟨S8, .f32⟩
  | .hbm, ⟨4, _⟩ => ⟨S2048x3072, .f32⟩
  | .hbm, ⟨5, _⟩ => ⟨S2048x3072, .bf16⟩
  | .hbm, ⟨6, _⟩ => ⟨S2048x3072, .f32⟩
  | .hbm, ⟨7, _⟩ => ⟨S2048x3072, .bf16⟩
  | .hbm, ⟨8, _⟩ => ⟨S2048x8, .f32⟩
  | .hbm, ⟨9, _⟩ => ⟨S8x2048, .f32⟩
  | .hbm, ⟨10, _⟩ => ⟨S_, .i32⟩
  | .hbm, ⟨11, _⟩ => ⟨S_, .f32⟩
  | .hbm, ⟨12, _⟩ => ⟨S16x2048, .f32⟩
  | .hbm, ⟨13, _⟩ => ⟨S16x2048, .bf16⟩
  | .hbm, ⟨14, _⟩ => ⟨S8x6x2048, .f32⟩
  | .hbm, ⟨15, _⟩ => ⟨S8x1, .f32⟩
  | .hbm, ⟨16, _⟩ => ⟨S8x64x1024, .bf16⟩
  | .hbm, ⟨17, _⟩ => ⟨S8x64x1024, .f32⟩
  | .hbm, ⟨18, _⟩ => ⟨S8x64x1024, .f32⟩
  | .hbm, ⟨19, _⟩ => ⟨S8x64x1024, .bf16⟩
  | .hbm, ⟨20, _⟩ => ⟨S8x64x1024, .bf16⟩
  | .hbm, ⟨21, _⟩ => ⟨S8x64x1024, .bf16⟩
  | .hbm, ⟨22, _⟩ => ⟨S8x64x1024, .f32⟩
  | .hbm, ⟨23, _⟩ => ⟨S8x64x1024, .f32⟩
  | .hbm, ⟨24, _⟩ => ⟨S1x8x512, .f32⟩
  | .local _ .vmem, ⟨0, _⟩ => ⟨S8x64x2048, .f32⟩
  | .local _ .vmem, ⟨1, _⟩ => ⟨S8x6x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S16x2048, .bf16⟩
  | .local _ .vmem, ⟨7, _⟩ => ⟨S8x1, .f32⟩
  | .local _ .vmem, ⟨8, _⟩ => ⟨S8x64x512, .bf16⟩
  | .local _ .vmem, ⟨9, _⟩ => ⟨S8x64x512, .bf16⟩
  | .local _ .vmem, ⟨10, _⟩ => ⟨S8x64x512, .f32⟩
  | .local _ .vmem, ⟨11, _⟩ => ⟨S8x64x512, .f32⟩
  | .local _ .vmem, ⟨12, _⟩ => ⟨S8x64x512, .f32⟩
  | .local _ .vmem, ⟨13, _⟩ => ⟨S8x64x512, .f32⟩
  | .local _ .vmem, ⟨14, _⟩ => ⟨S8x64x512, .bf16⟩
  | .local _ .vmem, ⟨15, _⟩ => ⟨S8x64x512, .bf16⟩
  | .local _ .vmem, ⟨16, _⟩ => ⟨S8x64x512, .bf16⟩
  | .local _ .vmem, ⟨17, _⟩ => ⟨S8x64x512, .bf16⟩
  | .local _ .vmem, ⟨18, _⟩ => ⟨S8x64x512, .bf16⟩
  | .local _ .vmem, ⟨19, _⟩ => ⟨S8x64x512, .bf16⟩
  | .local _ .vmem, ⟨20, _⟩ => ⟨S8x64x512, .f32⟩
  | .local _ .vmem, ⟨21, _⟩ => ⟨S8x64x512, .f32⟩
  | .local _ .vmem, ⟨22, _⟩ => ⟨S8x64x512, .f32⟩
  | .local _ .vmem, ⟨23, _⟩ => ⟨S8x64x512, .f32⟩
  | .local _ .vmem, ⟨24, _⟩ => ⟨S1x8x512, .f32⟩
  | .local _ .vmem, ⟨25, _⟩ => ⟨S512x2048, .bf16⟩
  | _, _ => ⟨S8x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev main_v10_5 : Ref sig .tc := ⟨.hbm, 21, rfl⟩
abbrev main_v10_6 : Ref sig .tc := ⟨.hbm, 22, rfl⟩
abbrev main_v10_7 : Ref sig .tc := ⟨.hbm, 23, rfl⟩
abbrev main_v10_8 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_scratch0 : Ref sig .tc := ⟨.vmem, 25, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨3, ![1, 1, 12], ![false, false, false]⟩

def k0_cond1 (i : grid0.Coords) : BitVec 1 :=
  let arg2 : BitVec 32 := BitVec.ofNat 32 (i 2).val
  let c0_i32_0 : BitVec 32 := 0#32
  let v1 : BitVec 1 := Scalar.cmpi .eq arg2 c0_i32_0
  let v2 : BitVec 32 := Scalar.extui v1
  let c0_i32_1 : BitVec 32 := 0#32
  let v3 : BitVec 1 := Scalar.cmpi .ne v2 c0_i32_1
  v3

def k0_cond2 (i : grid0.Coords) : BitVec 1 :=
  let arg2 : BitVec 32 := BitVec.ofNat 32 (i 2).val
  let c0_i32_2 : BitVec 32 := 0#32
  let v5 : BitVec 1 := Scalar.cmpi .sgt arg2 c0_i32_2
  let v6 : BitVec 32 := Scalar.extui v5
  let c0_i32_3 : BitVec 32 := 0#32
  let v7 : BitVec 1 := Scalar.cmpi .slt arg2 c0_i32_3
  let v8 : BitVec 32 := Scalar.extui v7
  let v9 : BitVec 32 := Scalar.subi v6 v8
  let c2_i32 : BitVec 32 := 2#32
  let c0_i32_4 : BitVec 32 := 0#32
  let v10 : BitVec 1 := Scalar.cmpi .sgt c2_i32 c0_i32_4
  let v11 : BitVec 32 := Scalar.extui v10
  let c0_i32_5 : BitVec 32 := 0#32
  let v12 : BitVec 1 := Scalar.cmpi .slt c2_i32 c0_i32_5
  let v13 : BitVec 32 := Scalar.extui v12
  let v14 : BitVec 32 := Scalar.subi v11 v13
  let v15 : BitVec 1 := Scalar.cmpi .ne v9 v14
  let v16 : BitVec 32 := Scalar.remsi arg2 c2_i32
  let c0_i32_6 : BitVec 32 := 0#32
  let v17 : BitVec 1 := Scalar.cmpi .ne v16 c0_i32_6
  let v18 : BitVec 1 := Scalar.andi v15 v17
  let v4 : BitVec 32 := Scalar.divsi arg2 c2_i32
  let c1_i32 : BitVec 32 := 1#32
  let v19 : BitVec 32 := Scalar.subi v4 c1_i32
  let v20 : BitVec 32 := Scalar.select v18 v19 v4
  let c0_i32_7 : BitVec 32 := 0#32
  let v21 : BitVec 1 := Scalar.cmpi .eq v20 c0_i32_7
  let c0_i32_8 : BitVec 32 := 0#32
  let v22 : BitVec 1 := Scalar.cmpi .sgt arg2 c0_i32_8
  let v23 : BitVec 1 := Scalar.andi v21 v22
  let v24 : BitVec 32 := Scalar.extui v23
  let c0_i32_9 : BitVec 32 := 0#32
  let v25 : BitVec 1 := Scalar.cmpi .ne v24 c0_i32_9
  v25

def k0_cond3 (i : grid0.Coords) : BitVec 1 :=
  let arg2 : BitVec 32 := BitVec.ofNat 32 (i 2).val
  let c0_i32_11 : BitVec 32 := 0#32
  let v27 : BitVec 1 := Scalar.cmpi .sgt arg2 c0_i32_11
  let v28 : BitVec 32 := Scalar.extui v27
  let c0_i32_12 : BitVec 32 := 0#32
  let v29 : BitVec 1 := Scalar.cmpi .slt arg2 c0_i32_12
  let v30 : BitVec 32 := Scalar.extui v29
  let v31 : BitVec 32 := Scalar.subi v28 v30
  let c2_i32_10 : BitVec 32 := 2#32
  let c0_i32_13 : BitVec 32 := 0#32
  let v32 : BitVec 1 := Scalar.cmpi .sgt c2_i32_10 c0_i32_13
  let v33 : BitVec 32 := Scalar.extui v32
  let c0_i32_14 : BitVec 32 := 0#32
  let v34 : BitVec 1 := Scalar.cmpi .slt c2_i32_10 c0_i32_14
  let v35 : BitVec 32 := Scalar.extui v34
  let v36 : BitVec 32 := Scalar.subi v33 v35
  let v37 : BitVec 1 := Scalar.cmpi .ne v31 v36
  let v38 : BitVec 32 := Scalar.remsi arg2 c2_i32_10
  let c0_i32_15 : BitVec 32 := 0#32
  let v39 : BitVec 1 := Scalar.cmpi .ne v38 c0_i32_15
  let v40 : BitVec 1 := Scalar.andi v37 v39
  let v26 : BitVec 32 := Scalar.divsi arg2 c2_i32_10
  let c1_i32_16 : BitVec 32 := 1#32
  let v41 : BitVec 32 := Scalar.subi v26 c1_i32_16
  let v42 : BitVec 32 := Scalar.select v40 v41 v26
  let c1_i32_17 : BitVec 32 := 1#32
  let v43 : BitVec 1 := Scalar.cmpi .eq v42 c1_i32_17
  let c0_i32_18 : BitVec 32 := 0#32
  let v44 : BitVec 1 := Scalar.cmpi .sgt arg2 c0_i32_18
  let v45 : BitVec 1 := Scalar.andi v43 v44
  let v46 : BitVec 32 := Scalar.extui v45
  let c0_i32_19 : BitVec 32 := 0#32
  let v47 : BitVec 1 := Scalar.cmpi .ne v46 c0_i32_19
  v47

def k0_cond4 (i : grid0.Coords) : BitVec 1 :=
  let arg2 : BitVec 32 := BitVec.ofNat 32 (i 2).val
  let c0_i32_21 : BitVec 32 := 0#32
  let v49 : BitVec 1 := Scalar.cmpi .sgt arg2 c0_i32_21
  let v50 : BitVec 32 := Scalar.extui v49
  let c0_i32_22 : BitVec 32 := 0#32
  let v51 : BitVec 1 := Scalar.cmpi .slt arg2 c0_i32_22
  let v52 : BitVec 32 := Scalar.extui v51
  let v53 : BitVec 32 := Scalar.subi v50 v52
  let c2_i32_20 : BitVec 32 := 2#32
  let c0_i32_23 : BitVec 32 := 0#32
  let v54 : BitVec 1 := Scalar.cmpi .sgt c2_i32_20 c0_i32_23
  let v55 : BitVec 32 := Scalar.extui v54
  let c0_i32_24 : BitVec 32 := 0#32
  let v56 : BitVec 1 := Scalar.cmpi .slt c2_i32_20 c0_i32_24
  let v57 : BitVec 32 := Scalar.extui v56
  let v58 : BitVec 32 := Scalar.subi v55 v57
  let v59 : BitVec 1 := Scalar.cmpi .ne v53 v58
  let v60 : BitVec 32 := Scalar.remsi arg2 c2_i32_20
  let c0_i32_25 : BitVec 32 := 0#32
  let v61 : BitVec 1 := Scalar.cmpi .ne v60 c0_i32_25
  let v62 : BitVec 1 := Scalar.andi v59 v61
  let v48 : BitVec 32 := Scalar.divsi arg2 c2_i32_20
  let c1_i32_26 : BitVec 32 := 1#32
  let v63 : BitVec 32 := Scalar.subi v48 c1_i32_26
  let v64 : BitVec 32 := Scalar.select v62 v63 v48
  let c2_i32_27 : BitVec 32 := 2#32
  let v65 : BitVec 1 := Scalar.cmpi .eq v64 c2_i32_27
  let c0_i32_28 : BitVec 32 := 0#32
  let v66 : BitVec 1 := Scalar.cmpi .sgt arg2 c0_i32_28
  let v67 : BitVec 1 := Scalar.andi v65 v66
  let v68 : BitVec 32 := Scalar.extui v67
  let c0_i32_29 : BitVec 32 := 0#32
  let v69 : BitVec 1 := Scalar.cmpi .ne v68 c0_i32_29
  v69

def k0_cond5 (i : grid0.Coords) : BitVec 1 :=
  let arg2 : BitVec 32 := BitVec.ofNat 32 (i 2).val
  let c0_i32_31 : BitVec 32 := 0#32
  let v71 : BitVec 1 := Scalar.cmpi .sgt arg2 c0_i32_31
  let v72 : BitVec 32 := Scalar.extui v71
  let c0_i32_32 : BitVec 32 := 0#32
  let v73 : BitVec 1 := Scalar.cmpi .slt arg2 c0_i32_32
  let v74 : BitVec 32 := Scalar.extui v73
  let v75 : BitVec 32 := Scalar.subi v72 v74
  let c2_i32_30 : BitVec 32 := 2#32
  let c0_i32_33 : BitVec 32 := 0#32
  let v76 : BitVec 1 := Scalar.cmpi .sgt c2_i32_30 c0_i32_33
  let v77 : BitVec 32 := Scalar.extui v76
  let c0_i32_34 : BitVec 32 := 0#32
  let v78 : BitVec 1 := Scalar.cmpi .slt c2_i32_30 c0_i32_34
  let v79 : BitVec 32 := Scalar.extui v78
  let v80 : BitVec 32 := Scalar.subi v77 v79
  let v81 : BitVec 1 := Scalar.cmpi .ne v75 v80
  let v82 : BitVec 32 := Scalar.remsi arg2 c2_i32_30
  let c0_i32_35 : BitVec 32 := 0#32
  let v83 : BitVec 1 := Scalar.cmpi .ne v82 c0_i32_35
  let v84 : BitVec 1 := Scalar.andi v81 v83
  let v70 : BitVec 32 := Scalar.divsi arg2 c2_i32_30
  let c1_i32_36 : BitVec 32 := 1#32
  let v85 : BitVec 32 := Scalar.subi v70 c1_i32_36
  let v86 : BitVec 32 := Scalar.select v84 v85 v70
  let c3_i32 : BitVec 32 := 3#32
  let v87 : BitVec 1 := Scalar.cmpi .eq v86 c3_i32
  let c0_i32_37 : BitVec 32 := 0#32
  let v88 : BitVec 1 := Scalar.cmpi .sgt arg2 c0_i32_37
  let v89 : BitVec 1 := Scalar.andi v87 v88
  let v90 : BitVec 32 := Scalar.extui v89
  let c0_i32_38 : BitVec 32 := 0#32
  let v91 : BitVec 1 := Scalar.cmpi .ne v90 c0_i32_38
  v91

def k0_cond6 (i : grid0.Coords) : BitVec 1 :=
  let arg2 : BitVec 32 := BitVec.ofNat 32 (i 2).val
  let c0_i32_40 : BitVec 32 := 0#32
  let v93 : BitVec 1 := Scalar.cmpi .sgt arg2 c0_i32_40
  let v94 : BitVec 32 := Scalar.extui v93
  let c0_i32_41 : BitVec 32 := 0#32
  let v95 : BitVec 1 := Scalar.cmpi .slt arg2 c0_i32_41
  let v96 : BitVec 32 := Scalar.extui v95
  let v97 : BitVec 32 := Scalar.subi v94 v96
  let c2_i32_39 : BitVec 32 := 2#32
  let c0_i32_42 : BitVec 32 := 0#32
  let v98 : BitVec 1 := Scalar.cmpi .sgt c2_i32_39 c0_i32_42
  let v99 : BitVec 32 := Scalar.extui v98
  let c0_i32_43 : BitVec 32 := 0#32
  let v100 : BitVec 1 := Scalar.cmpi .slt c2_i32_39 c0_i32_43
  let v101 : BitVec 32 := Scalar.extui v100
  let v102 : BitVec 32 := Scalar.subi v99 v101
  let v103 : BitVec 1 := Scalar.cmpi .ne v97 v102
  let v104 : BitVec 32 := Scalar.remsi arg2 c2_i32_39
  let c0_i32_44 : BitVec 32 := 0#32
  let v105 : BitVec 1 := Scalar.cmpi .ne v104 c0_i32_44
  let v106 : BitVec 1 := Scalar.andi v103 v105
  let v92 : BitVec 32 := Scalar.divsi arg2 c2_i32_39
  let c1_i32_45 : BitVec 32 := 1#32
  let v107 : BitVec 32 := Scalar.subi v92 c1_i32_45
  let v108 : BitVec 32 := Scalar.select v106 v107 v92
  let c4_i32 : BitVec 32 := 4#32
  let v109 : BitVec 1 := Scalar.cmpi .eq v108 c4_i32
  let c0_i32_46 : BitVec 32 := 0#32
  let v110 : BitVec 1 := Scalar.cmpi .sgt arg2 c0_i32_46
  let v111 : BitVec 1 := Scalar.andi v109 v110
  let v112 : BitVec 32 := Scalar.extui v111
  let c0_i32_47 : BitVec 32 := 0#32
  let v113 : BitVec 1 := Scalar.cmpi .ne v112 c0_i32_47
  v113

def k0_cond8 (i : grid0.Coords) : BitVec 1 :=
  let arg2 : BitVec 32 := BitVec.ofNat 32 (i 2).val
  let c0_i32_49 : BitVec 32 := 0#32
  let v115 : BitVec 1 := Scalar.cmpi .sgt arg2 c0_i32_49
  let v116 : BitVec 32 := Scalar.extui v115
  let c0_i32_50 : BitVec 32 := 0#32
  let v117 : BitVec 1 := Scalar.cmpi .slt arg2 c0_i32_50
  let v118 : BitVec 32 := Scalar.extui v117
  let v119 : BitVec 32 := Scalar.subi v116 v118
  let c2_i32_48 : BitVec 32 := 2#32
  let c0_i32_51 : BitVec 32 := 0#32
  let v120 : BitVec 1 := Scalar.cmpi .sgt c2_i32_48 c0_i32_51
  let v121 : BitVec 32 := Scalar.extui v120
  let c0_i32_52 : BitVec 32 := 0#32
  let v122 : BitVec 1 := Scalar.cmpi .slt c2_i32_48 c0_i32_52
  let v123 : BitVec 32 := Scalar.extui v122
  let v124 : BitVec 32 := Scalar.subi v121 v123
  let v125 : BitVec 1 := Scalar.cmpi .ne v119 v124
  let v126 : BitVec 32 := Scalar.remsi arg2 c2_i32_48
  let c0_i32_53 : BitVec 32 := 0#32
  let v127 : BitVec 1 := Scalar.cmpi .ne v126 c0_i32_53
  let v128 : BitVec 1 := Scalar.andi v125 v127
  let v114 : BitVec 32 := Scalar.divsi arg2 c2_i32_48
  let c1_i32_54 : BitVec 32 := 1#32
  let v129 : BitVec 32 := Scalar.subi v114 c1_i32_54
  let v130 : BitVec 32 := Scalar.select v128 v129 v114
  let c5_i32 : BitVec 32 := 5#32
  let v131 : BitVec 1 := Scalar.cmpi .eq v130 c5_i32
  let c0_i32_55 : BitVec 32 := 0#32
  let v132 : BitVec 1 := Scalar.cmpi .sgt arg2 c0_i32_55
  let v133 : BitVec 1 := Scalar.andi v131 v132
  let v134 : BitVec 32 := Scalar.extui v133
  let c0_i32_56 : BitVec 32 := 0#32
  let v135 : BitVec 1 := Scalar.cmpi .ne v134 c0_i32_56
  v135

def k0_cond7 (i : grid0.Coords) : BitVec 1 :=
  let arg1 : BitVec 32 := BitVec.ofNat 32 (i 1).val
  let c0_i32 : BitVec 32 := 0#32
  let v0 : BitVec 1 := Scalar.cmpi .eq arg1 c0_i32
  let v143 : BitVec 32 := Scalar.extui v0
  let c0_i32_63 : BitVec 32 := 0#32
  let v144 : BitVec 1 := Scalar.cmpi .ne v143 c0_i32_63
  v144

def k0_cond9 (i : grid0.Coords) : BitVec 1 :=
  let arg1 : BitVec 32 := BitVec.ofNat 32 (i 1).val
  let c0_i32 : BitVec 32 := 0#32
  let v0 : BitVec 1 := Scalar.cmpi .eq arg1 c0_i32
  let v143 : BitVec 32 := Scalar.extui v0
  let c0_i32_63 : BitVec 32 := 0#32
  let v144 : BitVec 1 := Scalar.cmpi .ne v143 c0_i32_63
  v144

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.minsi arg2 c5_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, arg1.toNat, v2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.subi arg2 c10_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c8_i32 : BitVec 32 := 8#32
  let v1 : BitVec 32 := Scalar.subi arg2 c8_i32
  let c0_i32_0 : BitVec 32 := 0#32
  let c1_i32 : BitVec 32 := 1#32
  let v2 : BitVec 32 := Scalar.maxsi c0_i32_0 v1
  let v3 : BitVec 32 := Scalar.minsi c1_i32 v2
  let c0_i32_1 : BitVec 32 := 0#32
  let v4 : BitVec 32 := Scalar.select v0 v3 c0_i32_1
  let c0_i32_2 : BitVec 32 := 0#32
  let c0_i32_3 : BitVec 32 := 0#32
  ![arg0.toNat, c0_i32_2.toNat, v4.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c10_i32 : BitVec 32 := 10#32
  let v1 : BitVec 32 := Scalar.subi arg2 c10_i32
  let c0_i32_0 : BitVec 32 := 0#32
  let c1_i32 : BitVec 32 := 1#32
  let v2 : BitVec 32 := Scalar.maxsi c0_i32_0 v1
  let v3 : BitVec 32 := Scalar.minsi c1_i32 v2
  let c0_i32_1 : BitVec 32 := 0#32
  let v4 : BitVec 32 := Scalar.select v0 v3 c0_i32_1
  let c0_i32_2 : BitVec 32 := 0#32
  let c0_i32_3 : BitVec 32 := 0#32
  ![arg0.toNat, c0_i32_2.toNat, v4.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 1 → Memref sig .tc .vmem S8x64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 1 → Memref sig .tc .vmem S8x6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S16x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S8x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S8x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S8x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S8x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S8x64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S8x64x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S8x64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S8x64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 1 → Memref sig .tc .vmem S1x8x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true, false]
-- ==== Reference5Ideal.lean ====
abbrev S8x64x2048 : Shape := ⟨3, ![8, 64, 2048]⟩
abbrev S8x12288 : Shape := ⟨2, ![8, 12288]⟩
abbrev S2048x6152 : Shape := ⟨2, ![2048, 6152]⟩
abbrev S8 : Shape := ⟨1, ![8]⟩
abbrev S8x2048 : Shape := ⟨2, ![8, 2048]⟩
abbrev S8x1x2048 : Shape := ⟨3, ![8, 1, 2048]⟩
abbrev S_ : Shape := ⟨0, ![]⟩
abbrev S8x64 : Shape := ⟨2, ![8, 64]⟩
abbrev S8x64x1 : Shape := ⟨3, ![8, 64, 1]⟩
abbrev S8x64x6152 : Shape := ⟨3, ![8, 64, 6152]⟩
abbrev S8x64x1024 : Shape := ⟨3, ![8, 64, 1024]⟩
abbrev S8x64x8 : Shape := ⟨3, ![8, 64, 8]⟩
abbrev S1x1x8 : Shape := ⟨3, ![1, 1, 8]⟩
abbrev S8x8x64 : Shape := ⟨3, ![8, 8, 64]⟩
abbrev S1x8x512 : Shape := ⟨3, ![1, 8, 512]⟩

abbrev nBuf : Space → Nat
  | .hbm => 85
  | .vmem => 0
  | .smem => 0
  | _ => 0

abbrev bufTy : (tb : Table) → Fin (tcTables nBuf tb) → BufTy
  | .hbm, ⟨0, _⟩ => ⟨S8x64x2048, .f32⟩
  | .hbm, ⟨1, _⟩ => ⟨S8x12288, .f32⟩
  | .hbm, ⟨2, _⟩ => ⟨S2048x6152, .f32⟩
  | .hbm, ⟨3, _⟩ => ⟨S8, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S8x1x2048, .f32⟩
  | .hbm, ⟨11, _⟩ => ⟨S8x1x2048, .f32⟩
  | .hbm, ⟨12, _⟩ => ⟨S8x1x2048, .f32⟩
  | .hbm, ⟨13, _⟩ => ⟨S8x1x2048, .f32⟩
  | .hbm, ⟨14, _⟩ => ⟨S8x1x2048, .f32⟩
  | .hbm, ⟨15, _⟩ => ⟨S8x1x2048, .f32⟩
  | .hbm, ⟨16, _⟩ => ⟨S_, .f32⟩
  | .hbm, ⟨17, _⟩ => ⟨S8x64, .f32⟩
  | .hbm, ⟨18, _⟩ => ⟨S8x64x1, .f32⟩
  | .hbm, ⟨19, _⟩ => ⟨S_, .f32⟩
  | .hbm, ⟨20, _⟩ => ⟨S8x64x1, .f32⟩
  | .hbm, ⟨21, _⟩ => ⟨S8x64x1, .f32⟩
  | .hbm, ⟨22, _⟩ => ⟨S8x64x2048, .f32⟩
  | .hbm, ⟨23, _⟩ => ⟨S8x64x2048, .f32⟩
  | .hbm, ⟨24, _⟩ => ⟨S8x64x2048, .f32⟩
  | .hbm, ⟨25, _⟩ => ⟨S_, .f32⟩
  | .hbm, ⟨26, _⟩ => ⟨S8x64, .f32⟩
  | .hbm, ⟨27, _⟩ => ⟨S8x64x1, .f32⟩
  | .hbm, ⟨28, _⟩ => ⟨S_, .f32⟩
  | .hbm, ⟨29, _⟩ => ⟨S8x64x1, .f32⟩
  | .hbm, ⟨30, _⟩ => ⟨S8x64x1, .f32⟩
  | .hbm, ⟨31, _⟩ => ⟨S8x64x2048, .f32⟩
  | .hbm, ⟨32, _⟩ => ⟨S8x64x2048, .f32⟩
  | .hbm, ⟨33, _⟩ => ⟨S_, .f32⟩
  | .hbm, ⟨34, _⟩ => ⟨S8x64x1, .f32⟩
  | .hbm, ⟨35, _⟩ => ⟨S8x64x1, .f32⟩
  | .hbm, ⟨36, _⟩ => ⟨S8x64x1, .f32⟩
  | .hbm, ⟨37, _⟩ => ⟨S8x64x2048, .f32⟩
  | .hbm, ⟨38, _⟩ => ⟨S8x64x2048, .f32⟩
  | .hbm, ⟨39, _⟩ => ⟨S_, .f32⟩
  | .hbm, ⟨40, _⟩ => ⟨S8x1x2048, .f32⟩
  | .hbm, ⟨41, _⟩ => ⟨S8x1x2048, .f32⟩
  | .hbm, ⟨42, _⟩ => ⟨S8x64x2048, .f32⟩
  | .hbm, ⟨43, _⟩ => ⟨S8x64x2048, .f32⟩
  | .hbm, ⟨44, _⟩ => ⟨S8x64x2048, .f32⟩
  | .hbm, ⟨45, _⟩ => ⟨S8x64x2048, .f32⟩
  | .hbm, ⟨46, _⟩ => ⟨S8x64x6152, .f32⟩
  | .hbm, ⟨47, _⟩ => ⟨S8x64x1024, .f32⟩
  | .hbm, ⟨48, _⟩ => ⟨S8x64x1024, .f32⟩
  | .hbm, ⟨49, _⟩ => ⟨S8x64x1024, .f32⟩
  | .hbm, ⟨50, _⟩ => ⟨S8x64x8, .f32⟩
  | .hbm, ⟨51, _⟩ => ⟨S8x64x1024, .f32⟩
  | .hbm, ⟨52, _⟩ => ⟨S8x64x1024, .f32⟩
  | .hbm, ⟨53, _⟩ => ⟨S8x64x1024, .f32⟩
  | .hbm, ⟨54, _⟩ => ⟨S1x1x8, .f32⟩
  | .hbm, ⟨55, _⟩ => ⟨S8x64x8, .f32⟩
  | .hbm, ⟨56, _⟩ => ⟨S8x64x8, .f32⟩
  | .hbm, ⟨57, _⟩ => ⟨S8x64x8, .f32⟩
  | .hbm, ⟨58, _⟩ => ⟨S_, .f32⟩
  | .hbm, ⟨59, _⟩ => ⟨S8x64x8, .f32⟩
  | .hbm, ⟨60, _⟩ => ⟨S8x64x8, .f32⟩
  | .hbm, ⟨61, _⟩ => ⟨S8x64x8, .f32⟩
  | .hbm, ⟨62, _⟩ => ⟨S8x64x8, .f32⟩
  | .hbm, ⟨63, _⟩ => ⟨S8x64x8, .i1⟩
  | .hbm, ⟨64, _⟩ => ⟨S8x64x8, .f32⟩
  | .hbm, ⟨65, _⟩ => ⟨S8x64x8, .f32⟩
  | .hbm, ⟨66, _⟩ => ⟨S8x64x8, .f32⟩
  | .hbm, ⟨67, _⟩ => ⟨S8x64x8, .f32⟩
  | .hbm, ⟨68, _⟩ => ⟨S8x64x8, .f32⟩
  | .hbm, ⟨69, _⟩ => ⟨S8x64x8, .f32⟩
  | .hbm, ⟨70, _⟩ => ⟨S8x64x8, .f32⟩
  | .hbm, ⟨71, _⟩ => ⟨S8x64x8, .f32⟩
  | .hbm, ⟨72, _⟩ => ⟨S8x64x8, .f32⟩
  | .hbm, ⟨73, _⟩ => ⟨S_, .f32⟩
  | .hbm, ⟨74, _⟩ => ⟨S8x64x1024, .f32⟩
  | .hbm, ⟨75, _⟩ => ⟨S8x64x1024, .f32⟩
  | .hbm, ⟨76, _⟩ => ⟨S8x64x1024, .bf16⟩
  | .hbm, ⟨77, _⟩ => ⟨S_, .f32⟩
  | .hbm, ⟨78, _⟩ => ⟨S8x64x1024, .f32⟩
  | .hbm, ⟨79, _⟩ => ⟨S8x64x1024, .f32⟩
  | .hbm, ⟨80, _⟩ => ⟨S8x64x1024, .bf16⟩
  | .hbm, ⟨81, _⟩ => ⟨S8x64x1024, .bf16⟩
  | .hbm, ⟨82, _⟩ => ⟨S8x64x1024, .bf16⟩
  | .hbm, ⟨83, _⟩ => ⟨S8x8x64, .f32⟩
  | .hbm, ⟨84, _⟩ => ⟨S1x8x512, .f32⟩
  | _, _ => ⟨S8x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_call0_v0 : Ref sig .tc := ⟨.hbm, 57, rfl⟩
abbrev main_call0_call0_cst : Ref sig .tc := ⟨.hbm, 58, rfl⟩
abbrev main_call0_call0_v0 : Ref sig .tc := ⟨.hbm, 59, rfl⟩
abbrev main_call0_call0_v1 : Ref sig .tc := ⟨.hbm, 60, rfl⟩
abbrev main_call0_call0_v2 : Ref sig .tc := ⟨.hbm, 61, rfl⟩
abbrev main_call0_call0_v3 : Ref sig .tc := ⟨.hbm, 62, rfl⟩
abbrev main_call0_call0_v4 : Ref sig .tc := ⟨.hbm, 63, rfl⟩
abbrev main_call0_call0_v5 : Ref sig .tc := ⟨.hbm, 64, rfl⟩
abbrev main_call0_call0_v6 : Ref sig .tc := ⟨.hbm, 65, rfl⟩
abbrev main_call0_call0_v7 : Ref sig .tc := ⟨.hbm, 66, rfl⟩
abbrev main_call0_call0_v8 : Ref sig .tc := ⟨.hbm, 67, rfl⟩
abbrev main_call0_call0_v9 : Ref sig .tc := ⟨.hbm, 68, rfl⟩
abbrev main_call0_call0_v10 : Ref sig .tc := ⟨.hbm, 69, rfl⟩
abbrev main_call0_call0_v11 : Ref sig .tc := ⟨.hbm, 70, rfl⟩
abbrev main_call0_v1 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_6 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩

abbrev nD : Nat := 1
abbrev τ : Topo := Topo.v7x

variable {F : FTy → Type} [FloatOps F]
-- ==== Kernel6.lean ====
abbrev S8x4096x2048 : Shape := ⟨3, ![8, 4096, 2048]⟩
abbrev S8x12288 : Shape := ⟨2, ![8, 12288]⟩
abbrev S2048x6152 : Shape := ⟨2, ![2048, 6152]⟩
abbrev S8 : Shape := ⟨1, ![8]⟩
abbrev S2048x3072 : Shape := ⟨2, ![2048, 3072]⟩
abbrev S2048x8 : Shape := ⟨2, ![2048, 8]⟩
abbrev S8x2048 : Shape := ⟨2, ![8, 2048]⟩
abbrev S_ : Shape := ⟨0, ![]⟩
abbrev S16x2048 : Shape := ⟨2, ![16, 2048]⟩
abbrev S8x6x2048 : Shape := ⟨3, ![8, 6, 2048]⟩
abbrev S8x1 : Shape := ⟨2, ![8, 1]⟩
abbrev S8x4096x1024 : Shape := ⟨3, ![8, 4096, 1024]⟩
abbrev S8x512x1024 : Shape := ⟨3, ![8, 512, 1024]⟩
abbrev S8x8x4096 : Shape := ⟨3, ![8, 8, 4096]⟩
abbrev S1x1024x2048 : Shape := ⟨3, ![1, 1024, 2048]⟩
abbrev S1x6x2048 : Shape := ⟨3, ![1, 6, 2048]⟩
abbrev S2048x512 : Shape := ⟨2, ![2048, 512]⟩
abbrev S1x1024x512 : Shape := ⟨3, ![1, 1024, 512]⟩
abbrev S1x512x512 : Shape := ⟨3, ![1, 512, 512]⟩
abbrev S1x8x1024 : Shape := ⟨3, ![1, 8, 1024]⟩
abbrev S1024x2048 : Shape := ⟨2, ![1024, 2048]⟩
abbrev S1x256x2048 : Shape := ⟨3, ![1, 256, 2048]⟩
abbrev S1x256 : Shape := ⟨2, ![1, 256]⟩
abbrev S1x256x1 : Shape := ⟨3, ![1, 256, 1]⟩
abbrev S1x1x2048 : Shape := ⟨3, ![1, 1, 2048]⟩
abbrev S256x2048 : Shape := ⟨2, ![256, 2048]⟩
abbrev S256x512 : Shape := ⟨2, ![256, 512]⟩
abbrev S1x256x512 : Shape := ⟨3, ![1, 256, 512]⟩
abbrev S16x1024 : Shape := ⟨2, ![16, 1024]⟩
abbrev S8x1024 : Shape := ⟨2, ![8, 1024]⟩
abbrev S1024x512 : Shape := ⟨2, ![1024, 512]⟩

abbrev nBuf : Space → Nat
  | .hbm => 25
  | .vmem => 29
  | .smem => 0
  | _ => 0

abbrev bufTy : (tb : Table) → Fin (tcTables nBuf tb) → BufTy
  | .hbm, ⟨0, _⟩ => ⟨S8x4096x2048, .f32⟩
  | .hbm, ⟨1, _⟩ => ⟨S8x12288, .f32⟩
  | .hbm, ⟨2, _⟩ => ⟨S2048x6152, .f32⟩
  | .hbm, ⟨3, _⟩ => ⟨S8, .f32⟩
  | .hbm, ⟨4, _⟩ => ⟨S2048x3072, .f32⟩
  | .hbm, ⟨5, _⟩ => ⟨S2048x3072, .bf16⟩
  | .hbm, ⟨6, _⟩ => ⟨S2048x3072, .f32⟩
  | .hbm, ⟨7, _⟩ => ⟨S2048x3072, .bf16⟩
  | .hbm, ⟨8, _⟩ => ⟨S2048x8, .f32⟩
  | .hbm, ⟨9, _⟩ => ⟨S8x2048, .f32⟩
  | .hbm, ⟨10, _⟩ => ⟨S_, .i32⟩
  | .hbm, ⟨11, _⟩ => ⟨S_, .f32⟩
  | .hbm, ⟨12, _⟩ => ⟨S16x2048, .f32⟩
  | .hbm, ⟨13, _⟩ => ⟨S16x2048, .bf16⟩
  | .hbm, ⟨14, _⟩ => ⟨S8x6x2048, .f32⟩
  | .hbm, ⟨15, _⟩ => ⟨S8x1, .f32⟩
  | .hbm, ⟨16, _⟩ => ⟨S8x4096x1024, .bf16⟩
  | .hbm, ⟨17, _⟩ => ⟨S8x4096x1024, .f32⟩
  | .hbm, ⟨18, _⟩ => ⟨S8x4096x1024, .f32⟩
  | .hbm, ⟨19, _⟩ => ⟨S8x4096x1024, .bf16⟩
  | .hbm, ⟨20, _⟩ => ⟨S8x4096x1024, .bf16⟩
  | .hbm, ⟨21, _⟩ => ⟨S8x4096x1024, .bf16⟩
  | .hbm, ⟨22, _⟩ => ⟨S8x512x1024, .f32⟩
  | .hbm, ⟨23, _⟩ => ⟨S8x512x1024, .f32⟩
  | .hbm, ⟨24, _⟩ => ⟨S8x8x4096, .f32⟩
  | .local _ .vmem, ⟨0, _⟩ => ⟨S1x1024x2048, .f32⟩
  | .local _ .vmem, ⟨1, _⟩ => ⟨S1x1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S16x2048, .bf16⟩
  | .local _ .vmem, ⟨9, _⟩ => ⟨S8x1, .f32⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .f32⟩
  | .local _ .vmem, ⟨13, _⟩ => ⟨S1x1024x512, .f32⟩
  | .local _ .vmem, ⟨14, _⟩ => ⟨S1x1024x512, .f32⟩
  | .local _ .vmem, ⟨15, _⟩ => ⟨S1x1024x512, .f32⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x8x1024, .f32⟩
  | .local _ .vmem, ⟨27, _⟩ => ⟨S1x8x1024, .f32⟩
  | .local _ .vmem, ⟨28, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev main_v10_5 : Ref sig .tc := ⟨.hbm, 21, rfl⟩
abbrev main_v10_6 : Ref sig .tc := ⟨.hbm, 22, rfl⟩
abbrev main_v10_7 : Ref sig .tc := ⟨.hbm, 23, rfl⟩
abbrev main_v10_8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨3, ![8, 4, 12], ![false, false, false]⟩

def k0_cond1 (i : grid0.Coords) : BitVec 1 :=
  let arg2 : BitVec 32 := BitVec.ofNat 32 (i 2).val
  let c0_i32 : BitVec 32 := 0#32
  let v1 : BitVec 1 := Scalar.cmpi .eq arg2 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg2 : BitVec 32 := BitVec.ofNat 32 (i 2).val
  let c0_i32_1 : BitVec 32 := 0#32
  let v5 : BitVec 1 := Scalar.cmpi .sgt arg2 c0_i32_1
  let v6 : BitVec 32 := Scalar.extui v5
  let c0_i32_2 : BitVec 32 := 0#32
  let v7 : BitVec 1 := Scalar.cmpi .slt arg2 c0_i32_2
  let v8 : BitVec 32 := Scalar.extui v7
  let v9 : BitVec 32 := Scalar.subi v6 v8
  let c2_i32 : BitVec 32 := 2#32
  let c0_i32_3 : BitVec 32 := 0#32
  let v10 : BitVec 1 := Scalar.cmpi .sgt c2_i32 c0_i32_3
  let v11 : BitVec 32 := Scalar.extui v10
  let c0_i32_4 : BitVec 32 := 0#32
  let v12 : BitVec 1 := Scalar.cmpi .slt c2_i32 c0_i32_4
  let v13 : BitVec 32 := Scalar.extui v12
  let v14 : BitVec 32 := Scalar.subi v11 v13
  let v15 : BitVec 1 := Scalar.cmpi .ne v9 v14
  let v16 : BitVec 32 := Scalar.remsi arg2 c2_i32
  let c0_i32_5 : BitVec 32 := 0#32
  let v17 : BitVec 1 := Scalar.cmpi .ne v16 c0_i32_5
  let v18 : BitVec 1 := Scalar.andi v15 v17
  let v4 : BitVec 32 := Scalar.divsi arg2 c2_i32
  let c1_i32 : BitVec 32 := 1#32
  let v19 : BitVec 32 := Scalar.subi v4 c1_i32
  let v20 : BitVec 32 := Scalar.select v18 v19 v4
  let c0_i32_6 : BitVec 32 := 0#32
  let v21 : BitVec 1 := Scalar.cmpi .eq v20 c0_i32_6
  let c0_i32_7 : BitVec 32 := 0#32
  let v22 : BitVec 1 := Scalar.cmpi .sgt arg2 c0_i32_7
  let v23 : BitVec 1 := Scalar.andi v21 v22
  let v24 : BitVec 32 := Scalar.extui v23
  let c0_i32_8 : BitVec 32 := 0#32
  let v25 : BitVec 1 := Scalar.cmpi .ne v24 c0_i32_8
  v25

def k0_cond3 (i : grid0.Coords) : BitVec 1 :=
  let arg2 : BitVec 32 := BitVec.ofNat 32 (i 2).val
  let c0_i32_10 : BitVec 32 := 0#32
  let v27 : BitVec 1 := Scalar.cmpi .sgt arg2 c0_i32_10
  let v28 : BitVec 32 := Scalar.extui v27
  let c0_i32_11 : BitVec 32 := 0#32
  let v29 : BitVec 1 := Scalar.cmpi .slt arg2 c0_i32_11
  let v30 : BitVec 32 := Scalar.extui v29
  let v31 : BitVec 32 := Scalar.subi v28 v30
  let c2_i32_9 : BitVec 32 := 2#32
  let c0_i32_12 : BitVec 32 := 0#32
  let v32 : BitVec 1 := Scalar.cmpi .sgt c2_i32_9 c0_i32_12
  let v33 : BitVec 32 := Scalar.extui v32
  let c0_i32_13 : BitVec 32 := 0#32
  let v34 : BitVec 1 := Scalar.cmpi .slt c2_i32_9 c0_i32_13
  let v35 : BitVec 32 := Scalar.extui v34
  let v36 : BitVec 32 := Scalar.subi v33 v35
  let v37 : BitVec 1 := Scalar.cmpi .ne v31 v36
  let v38 : BitVec 32 := Scalar.remsi arg2 c2_i32_9
  let c0_i32_14 : BitVec 32 := 0#32
  let v39 : BitVec 1 := Scalar.cmpi .ne v38 c0_i32_14
  let v40 : BitVec 1 := Scalar.andi v37 v39
  let v26 : BitVec 32 := Scalar.divsi arg2 c2_i32_9
  let c1_i32_15 : BitVec 32 := 1#32
  let v41 : BitVec 32 := Scalar.subi v26 c1_i32_15
  let v42 : BitVec 32 := Scalar.select v40 v41 v26
  let c1_i32_16 : BitVec 32 := 1#32
  let v43 : BitVec 1 := Scalar.cmpi .eq v42 c1_i32_16
  let c0_i32_17 : BitVec 32 := 0#32
  let v44 : BitVec 1 := Scalar.cmpi .sgt arg2 c0_i32_17
  let v45 : BitVec 1 := Scalar.andi v43 v44
  let v46 : BitVec 32 := Scalar.extui v45
  let c0_i32_18 : BitVec 32 := 0#32
  let v47 : BitVec 1 := Scalar.cmpi .ne v46 c0_i32_18
  v47

def k0_cond4 (i : grid0.Coords) : BitVec 1 :=
  let arg2 : BitVec 32 := BitVec.ofNat 32 (i 2).val
  let c0_i32_20 : BitVec 32 := 0#32
  let v49 : BitVec 1 := Scalar.cmpi .sgt arg2 c0_i32_20
  let v50 : BitVec 32 := Scalar.extui v49
  let c0_i32_21 : BitVec 32 := 0#32
  let v51 : BitVec 1 := Scalar.cmpi .slt arg2 c0_i32_21
  let v52 : BitVec 32 := Scalar.extui v51
  let v53 : BitVec 32 := Scalar.subi v50 v52
  let c2_i32_19 : BitVec 32 := 2#32
  let c0_i32_22 : BitVec 32 := 0#32
  let v54 : BitVec 1 := Scalar.cmpi .sgt c2_i32_19 c0_i32_22
  let v55 : BitVec 32 := Scalar.extui v54
  let c0_i32_23 : BitVec 32 := 0#32
  let v56 : BitVec 1 := Scalar.cmpi .slt c2_i32_19 c0_i32_23
  let v57 : BitVec 32 := Scalar.extui v56
  let v58 : BitVec 32 := Scalar.subi v55 v57
  let v59 : BitVec 1 := Scalar.cmpi .ne v53 v58
  let v60 : BitVec 32 := Scalar.remsi arg2 c2_i32_19
  let c0_i32_24 : BitVec 32 := 0#32
  let v61 : BitVec 1 := Scalar.cmpi .ne v60 c0_i32_24
  let v62 : BitVec 1 := Scalar.andi v59 v61
  let v48 : BitVec 32 := Scalar.divsi arg2 c2_i32_19
  let c1_i32_25 : BitVec 32 := 1#32
  let v63 : BitVec 32 := Scalar.subi v48 c1_i32_25
  let v64 : BitVec 32 := Scalar.select v62 v63 v48
  let c2_i32_26 : BitVec 32 := 2#32
  let v65 : BitVec 1 := Scalar.cmpi .eq v64 c2_i32_26
  let c0_i32_27 : BitVec 32 := 0#32
  let v66 : BitVec 1 := Scalar.cmpi .sgt arg2 c0_i32_27
  let v67 : BitVec 1 := Scalar.andi v65 v66
  let v68 : BitVec 32 := Scalar.extui v67
  let c0_i32_28 : BitVec 32 := 0#32
  let v69 : BitVec 1 := Scalar.cmpi .ne v68 c0_i32_28
  v69

def k0_cond5 (i : grid0.Coords) : BitVec 1 :=
  let arg2 : BitVec 32 := BitVec.ofNat 32 (i 2).val
  let c0_i32_30 : BitVec 32 := 0#32
  let v71 : BitVec 1 := Scalar.cmpi .sgt arg2 c0_i32_30
  let v72 : BitVec 32 := Scalar.extui v71
  let c0_i32_31 : BitVec 32 := 0#32
  let v73 : BitVec 1 := Scalar.cmpi .slt arg2 c0_i32_31
  let v74 : BitVec 32 := Scalar.extui v73
  let v75 : BitVec 32 := Scalar.subi v72 v74
  let c2_i32_29 : BitVec 32 := 2#32
  let c0_i32_32 : BitVec 32 := 0#32
  let v76 : BitVec 1 := Scalar.cmpi .sgt c2_i32_29 c0_i32_32
  let v77 : BitVec 32 := Scalar.extui v76
  let c0_i32_33 : BitVec 32 := 0#32
  let v78 : BitVec 1 := Scalar.cmpi .slt c2_i32_29 c0_i32_33
  let v79 : BitVec 32 := Scalar.extui v78
  let v80 : BitVec 32 := Scalar.subi v77 v79
  let v81 : BitVec 1 := Scalar.cmpi .ne v75 v80
  let v82 : BitVec 32 := Scalar.remsi arg2 c2_i32_29
  let c0_i32_34 : BitVec 32 := 0#32
  let v83 : BitVec 1 := Scalar.cmpi .ne v82 c0_i32_34
  let v84 : BitVec 1 := Scalar.andi v81 v83
  let v70 : BitVec 32 := Scalar.divsi arg2 c2_i32_29
  let c1_i32_35 : BitVec 32 := 1#32
  let v85 : BitVec 32 := Scalar.subi v70 c1_i32_35
  let v86 : BitVec 32 := Scalar.select v84 v85 v70
  let c3_i32_36 : BitVec 32 := 3#32
  let v87 : BitVec 1 := Scalar.cmpi .eq v86 c3_i32_36
  let c0_i32_37 : BitVec 32 := 0#32
  let v88 : BitVec 1 := Scalar.cmpi .sgt arg2 c0_i32_37
  let v89 : BitVec 1 := Scalar.andi v87 v88
  let v90 : BitVec 32 := Scalar.extui v89
  let c0_i32_38 : BitVec 32 := 0#32
  let v91 : BitVec 1 := Scalar.cmpi .ne v90 c0_i32_38
  v91

def k0_cond6 (i : grid0.Coords) : BitVec 1 :=
  let arg2 : BitVec 32 := BitVec.ofNat 32 (i 2).val
  let c0_i32_40 : BitVec 32 := 0#32
  let v93 : BitVec 1 := Scalar.cmpi .sgt arg2 c0_i32_40
  let v94 : BitVec 32 := Scalar.extui v93
  let c0_i32_41 : BitVec 32 := 0#32
  let v95 : BitVec 1 := Scalar.cmpi .slt arg2 c0_i32_41
  let v96 : BitVec 32 := Scalar.extui v95
  let v97 : BitVec 32 := Scalar.subi v94 v96
  let c2_i32_39 : BitVec 32 := 2#32
  let c0_i32_42 : BitVec 32 := 0#32
  let v98 : BitVec 1 := Scalar.cmpi .sgt c2_i32_39 c0_i32_42
  let v99 : BitVec 32 := Scalar.extui v98
  let c0_i32_43 : BitVec 32 := 0#32
  let v100 : BitVec 1 := Scalar.cmpi .slt c2_i32_39 c0_i32_43
  let v101 : BitVec 32 := Scalar.extui v100
  let v102 : BitVec 32 := Scalar.subi v99 v101
  let v103 : BitVec 1 := Scalar.cmpi .ne v97 v102
  let v104 : BitVec 32 := Scalar.remsi arg2 c2_i32_39
  let c0_i32_44 : BitVec 32 := 0#32
  let v105 : BitVec 1 := Scalar.cmpi .ne v104 c0_i32_44
  let v106 : BitVec 1 := Scalar.andi v103 v105
  let v92 : BitVec 32 := Scalar.divsi arg2 c2_i32_39
  let c1_i32_45 : BitVec 32 := 1#32
  let v107 : BitVec 32 := Scalar.subi v92 c1_i32_45
  let v108 : BitVec 32 := Scalar.select v106 v107 v92
  let c4_i32 : BitVec 32 := 4#32
  let v109 : BitVec 1 := Scalar.cmpi .eq v108 c4_i32
  let c0_i32_46 : BitVec 32 := 0#32
  let v110 : BitVec 1 := Scalar.cmpi .sgt arg2 c0_i32_46
  let v111 : BitVec 1 := Scalar.andi v109 v110
  let v112 : BitVec 32 := Scalar.extui v111
  let c0_i32_47 : BitVec 32 := 0#32
  let v113 : BitVec 1 := Scalar.cmpi .ne v112 c0_i32_47
  v113

def k0_cond8 (i : grid0.Coords) : BitVec 1 :=
  let arg2 : BitVec 32 := BitVec.ofNat 32 (i 2).val
  let c0_i32_49 : BitVec 32 := 0#32
  let v115 : BitVec 1 := Scalar.cmpi .sgt arg2 c0_i32_49
  let v116 : BitVec 32 := Scalar.extui v115
  let c0_i32_50 : BitVec 32 := 0#32
  let v117 : BitVec 1 := Scalar.cmpi .slt arg2 c0_i32_50
  let v118 : BitVec 32 := Scalar.extui v117
  let v119 : BitVec 32 := Scalar.subi v116 v118
  let c2_i32_48 : BitVec 32 := 2#32
  let c0_i32_51 : BitVec 32 := 0#32
  let v120 : BitVec 1 := Scalar.cmpi .sgt c2_i32_48 c0_i32_51
  let v121 : BitVec 32 := Scalar.extui v120
  let c0_i32_52 : BitVec 32 := 0#32
  let v122 : BitVec 1 := Scalar.cmpi .slt c2_i32_48 c0_i32_52
  let v123 : BitVec 32 := Scalar.extui v122
  let v124 : BitVec 32 := Scalar.subi v121 v123
  let v125 : BitVec 1 := Scalar.cmpi .ne v119 v124
  let v126 : BitVec 32 := Scalar.remsi arg2 c2_i32_48
  let c0_i32_53 : BitVec 32 := 0#32
  let v127 : BitVec 1 := Scalar.cmpi .ne v126 c0_i32_53
  let v128 : BitVec 1 := Scalar.andi v125 v127
  let v114 : BitVec 32 := Scalar.divsi arg2 c2_i32_48
  let c1_i32_54 : BitVec 32 := 1#32
  let v129 : BitVec 32 := Scalar.subi v114 c1_i32_54
  let v130 : BitVec 32 := Scalar.select v128 v129 v114
  let c5_i32 : BitVec 32 := 5#32
  let v131 : BitVec 1 := Scalar.cmpi .eq v130 c5_i32
  let c0_i32_55 : BitVec 32 := 0#32
  let v132 : BitVec 1 := Scalar.cmpi .sgt arg2 c0_i32_55
  let v133 : BitVec 1 := Scalar.andi v131 v132
  let v134 : BitVec 32 := Scalar.extui v133
  let c0_i32_56 : BitVec 32 := 0#32
  let v135 : BitVec 1 := Scalar.cmpi .ne v134 c0_i32_56
  v135

def k0_cond7 (i : grid0.Coords) : BitVec 1 :=
  let arg1 : BitVec 32 := BitVec.ofNat 32 (i 1).val
  let c3_i32 : BitVec 32 := 3#32
  let v0 : BitVec 1 := Scalar.cmpi .eq arg1 c3_i32
  let v143 : BitVec 32 := Scalar.extui v0
  let c0_i32_63 : BitVec 32 := 0#32
  let v144 : BitVec 1 := Scalar.cmpi .ne v143 c0_i32_63
  v144

def k0_cond9 (i : grid0.Coords) : BitVec 1 :=
  let arg1 : BitVec 32 := BitVec.ofNat 32 (i 1).val
  let c3_i32 : BitVec 32 := 3#32
  let v0 : BitVec 1 := Scalar.cmpi .eq arg1 c3_i32
  let v143 : BitVec 32 := Scalar.extui v0
  let c0_i32_63 : BitVec 32 := 0#32
  let v144 : BitVec 1 := Scalar.cmpi .ne v143 c0_i32_63
  v144

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.minsi arg2 c5_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, arg1.toNat, v2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.subi arg2 c10_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .eq arg1 c3_i32
  let c8_i32 : BitVec 32 := 8#32
  let v1 : BitVec 32 := Scalar.subi arg2 c8_i32
  let c0_i32 : BitVec 32 := 0#32
  let c1_i32 : BitVec 32 := 1#32
  let v2 : BitVec 32 := Scalar.maxsi c0_i32 v1
  let v3 : BitVec 32 := Scalar.minsi c1_i32 v2
  let c0_i32_0 : BitVec 32 := 0#32
  let v4 : BitVec 32 := Scalar.select v0 v3 c0_i32_0
  let c0_i32_1 : BitVec 32 := 0#32
  let c0_i32_2 : BitVec 32 := 0#32
  ![arg0.toNat, c0_i32_1.toNat, v4.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .eq arg1 c3_i32
  let c10_i32 : BitVec 32 := 10#32
  let v1 : BitVec 32 := Scalar.subi arg2 c10_i32
  let c0_i32 : BitVec 32 := 0#32
  let c1_i32 : BitVec 32 := 1#32
  let v2 : BitVec 32 := Scalar.maxsi c0_i32 v1
  let v3 : BitVec 32 := Scalar.minsi c1_i32 v2
  let c0_i32_0 : BitVec 32 := 0#32
  let v4 : BitVec 32 := Scalar.select v0 v3 c0_i32_0
  let c0_i32_1 : BitVec 32 := 0#32
  let c0_i32_2 : BitVec 32 := 0#32
  ![arg0.toNat, c0_i32_1.toNat, v4.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S16x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]
-- ==== Reference6Ideal.lean ====
abbrev S8x4096x2048 : Shape := ⟨3, ![8, 4096, 2048]⟩
abbrev S8x12288 : Shape := ⟨2, ![8, 12288]⟩
abbrev S2048x6152 : Shape := ⟨2, ![2048, 6152]⟩
abbrev S8 : Shape := ⟨1, ![8]⟩
abbrev S8x2048 : Shape := ⟨2, ![8, 2048]⟩
abbrev S8x1x2048 : Shape := ⟨3, ![8, 1, 2048]⟩
abbrev S_ : Shape := ⟨0, ![]⟩
abbrev S8x4096 : Shape := ⟨2, ![8, 4096]⟩
abbrev S8x4096x1 : Shape := ⟨3, ![8, 4096, 1]⟩
abbrev S8x4096x6152 : Shape := ⟨3, ![8, 4096, 6152]⟩
abbrev S8x4096x1024 : Shape := ⟨3, ![8, 4096, 1024]⟩
abbrev S8x4096x8 : Shape := ⟨3, ![8, 4096, 8]⟩
abbrev S1x1x8 : Shape := ⟨3, ![1, 1, 8]⟩
abbrev S8x512x1024 : Shape := ⟨3, ![8, 512, 1024]⟩
abbrev S8x8x4096 : Shape := ⟨3, ![8, 8, 4096]⟩

abbrev nBuf : Space → Nat
  | .hbm => 86
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x12288, .f32⟩
  | .hbm, ⟨2, _⟩ => ⟨S2048x6152, .f32⟩
  | .hbm, ⟨3, _⟩ => ⟨S8, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S8x1x2048, .f32⟩
  | .hbm, ⟨11, _⟩ => ⟨S8x1x2048, .f32⟩
  | .hbm, ⟨12, _⟩ => ⟨S8x1x2048, .f32⟩
  | .hbm, ⟨13, _⟩ => ⟨S8x1x2048, .f32⟩
  | .hbm, ⟨14, _⟩ => ⟨S8x1x2048, .f32⟩
  | .hbm, ⟨15, _⟩ => ⟨S8x1x2048, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x2048, .f32⟩
  | .hbm, ⟨23, _⟩ => ⟨S8x4096x2048, .f32⟩
  | .hbm, ⟨24, _⟩ => ⟨S8x4096x2048, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x2048, .f32⟩
  | .hbm, ⟨32, _⟩ => ⟨S8x4096x2048, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x1, .f32⟩
  | .hbm, ⟨37, _⟩ => ⟨S8x4096x2048, .f32⟩
  | .hbm, ⟨38, _⟩ => ⟨S8x4096x2048, .f32⟩
  | .hbm, ⟨39, _⟩ => ⟨S_, .f32⟩
  | .hbm, ⟨40, _⟩ => ⟨S8x1x2048, .f32⟩
  | .hbm, ⟨41, _⟩ => ⟨S8x1x2048, .f32⟩
  | .hbm, ⟨42, _⟩ => ⟨S8x4096x2048, .f32⟩
  | .hbm, ⟨43, _⟩ => ⟨S8x4096x2048, .f32⟩
  | .hbm, ⟨44, _⟩ => ⟨S8x4096x2048, .f32⟩
  | .hbm, ⟨45, _⟩ => ⟨S8x4096x2048, .f32⟩
  | .hbm, ⟨46, _⟩ => ⟨S8x4096x6152, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x4096x8, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S1x1x8, .f32⟩
  | .hbm, ⟨55, _⟩ => ⟨S8x4096x8, .f32⟩
  | .hbm, ⟨56, _⟩ => ⟨S8x4096x8, .f32⟩
  | .hbm, ⟨57, _⟩ => ⟨S8x4096x8, .f32⟩
  | .hbm, ⟨58, _⟩ => ⟨S_, .f32⟩
  | .hbm, ⟨59, _⟩ => ⟨S8x4096x8, .f32⟩
  | .hbm, ⟨60, _⟩ => ⟨S8x4096x8, .f32⟩
  | .hbm, ⟨61, _⟩ => ⟨S8x4096x8, .f32⟩
  | .hbm, ⟨62, _⟩ => ⟨S8x4096x8, .f32⟩
  | .hbm, ⟨63, _⟩ => ⟨S8x4096x8, .i1⟩
  | .hbm, ⟨64, _⟩ => ⟨S8x4096x8, .f32⟩
  | .hbm, ⟨65, _⟩ => ⟨S8x4096x8, .f32⟩
  | .hbm, ⟨66, _⟩ => ⟨S8x4096x8, .f32⟩
  | .hbm, ⟨67, _⟩ => ⟨S8x4096x8, .f32⟩
  | .hbm, ⟨68, _⟩ => ⟨S8x4096x8, .f32⟩
  | .hbm, ⟨69, _⟩ => ⟨S8x4096x8, .f32⟩
  | .hbm, ⟨70, _⟩ => ⟨S8x4096x8, .f32⟩
  | .hbm, ⟨71, _⟩ => ⟨S8x4096x8, .f32⟩
  | .hbm, ⟨72, _⟩ => ⟨S8x4096x8, .f32⟩
  | .hbm, ⟨73, _⟩ => ⟨S_, .f32⟩
  | .hbm, ⟨74, _⟩ => ⟨S8x4096x1024, .f32⟩
  | .hbm, ⟨75, _⟩ => ⟨S8x4096x1024, .f32⟩
  | .hbm, ⟨76, _⟩ => ⟨S8x4096x1024, .bf16⟩
  | .hbm, ⟨77, _⟩ => ⟨S_, .f32⟩
  | .hbm, ⟨78, _⟩ => ⟨S8x4096x1024, .f32⟩
  | .hbm, ⟨79, _⟩ => ⟨S8x4096x1024, .f32⟩
  | .hbm, ⟨80, _⟩ => ⟨S8x4096x1024, .bf16⟩
  | .hbm, ⟨81, _⟩ => ⟨S8x4096x1024, .bf16⟩
  | .hbm, ⟨82, _⟩ => ⟨S8x4096x1024, .bf16⟩
  | .hbm, ⟨83, _⟩ => ⟨S8x512x1024, .f32⟩
  | .hbm, ⟨84, _⟩ => ⟨S8x512x1024, .f32⟩
  | .hbm, ⟨85, _⟩ => ⟨S8x8x4096, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_call0_v0 : Ref sig .tc := ⟨.hbm, 57, rfl⟩
abbrev main_call0_call0_cst : Ref sig .tc := ⟨.hbm, 58, rfl⟩
abbrev main_call0_call0_v0 : Ref sig .tc := ⟨.hbm, 59, rfl⟩
abbrev main_call0_call0_v1 : Ref sig .tc := ⟨.hbm, 60, rfl⟩
abbrev main_call0_call0_v2 : Ref sig .tc := ⟨.hbm, 61, rfl⟩
abbrev main_call0_call0_v3 : Ref sig .tc := ⟨.hbm, 62, rfl⟩
abbrev main_call0_call0_v4 : Ref sig .tc := ⟨.hbm, 63, rfl⟩
abbrev main_call0_call0_v5 : Ref sig .tc := ⟨.hbm, 64, rfl⟩
abbrev main_call0_call0_v6 : Ref sig .tc := ⟨.hbm, 65, rfl⟩
abbrev main_call0_call0_v7 : Ref sig .tc := ⟨.hbm, 66, rfl⟩
abbrev main_call0_call0_v8 : Ref sig .tc := ⟨.hbm, 67, rfl⟩
abbrev main_call0_call0_v9 : Ref sig .tc := ⟨.hbm, 68, rfl⟩
abbrev main_call0_call0_v10 : Ref sig .tc := ⟨.hbm, 69, rfl⟩
abbrev main_call0_call0_v11 : Ref sig .tc := ⟨.hbm, 70, rfl⟩
abbrev main_call0_v1 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_6 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩

abbrev nD : Nat := 1
abbrev τ : Topo := Topo.v7x

variable {F : FTy → Type} [FloatOps F]
-- ==== Proof.Norm.lean ====
module

public import Idealize.ShloMosaic.Lib.Pipeline.ValueKit

@[expose] public section

noncomputable section

namespace Cert.Layer

open Idealize.ShloMosaic

/-- The mean of a row of 2048 numbers. -/
def mean (z : Fin 2048 → EReal) : EReal := Ideal.div (∑ k, z k) (Ideal.ofBits FTy.f32 1157627904#32)

/-- The variance of a row of 2048 numbers. -/
def variance (z : Fin 2048 → EReal) : EReal :=
  Ideal.div (∑ k, (z k - mean z) * (z k - mean z)) (Ideal.ofBits FTy.f32 1157627904#32)

/-- Element `d` of the layer norm of a row: the row less its mean, over its deviation, without the affine part. -/
def lnorm (z : Fin 2048 → EReal) (d : Fin 2048) : EReal :=
  (z d - mean z) * Ideal.rsqrt (variance z + Ideal.ofBits FTy.f32 925353388#32)

/-- The residual sum `alpha * x + gate * y`. -/
def resid (x gate y : EReal) : EReal := Ideal.ofBits FTy.f32 1066940400#32 * x + gate * y

/-- Element `d` of the modulated layer norm of a row, `norm z * (1 + scale) + shift`. -/
def modRow (z sc sh : Fin 2048 → EReal) (d : Fin 2048) : EReal := lnorm z d * (1 + sc d) + sh d

/-- One hidden unit: the square of the positive part of its pre-activation. -/
def hid (u w : Fin 2048 → EReal) (b : EReal) : EReal :=
  max ((∑ d, u d * w d) + b) 0 * max ((∑ d, u d * w d) + b) 0

end Cert.Layer

end
-- ==== Proof.Fox.Block.lean ====
module

public import proofs.«01_k».proof.Proof.Gen.KernelIdeal.Value
public import proofs.«01_k».proof.Proof.Norm
public import Idealize.ShloMosaic.Lib.Pipeline.ReadBack

@[expose] public section

set_option maxRecDepth 16384

noncomputable section

namespace Cert.KernelIdeal.Fox

open Cert.KernelIdeal Cert.KernelIdeal.Gen Idealize.ShloMosaic Idealize.ShloMosaic.TcCoe Idealize.SL.Sem
open Idealize.ShloMosaic.Pipeline (Dat)

/-- The mask's name means minus infinity. -/
theorem mask : (Named.named κ "mask" (0xF149F2CA#32 : BitVec 32) : Ideal .f32) = (⊥ : EReal) := IdealRules.named_const.ideal_named_scalar _ _ _ _ rfl

/-- The pattern of the reduction's start is minus infinity. -/
theorem low : Ideal.ofBits .f32 (0xFF800000#32) = ⊥ := by
  simp [Ideal.ofBits, Ideal.ieee]

/-- A strided load of every eighth row of a cached block. -/
theorem strided {sp : Space} (M : Memref sig .tc sp S1x16384x128 .f32) (h : M.IsWhole) (X : S1x16384x128.Idx → EReal) (n : ℕ) (hn : n < 8)
    (inb) : (M.view.readAt (Elt Ideal) { off := ![0, n, 0], size := ![1, 2048, 128], stride := ![1, 8, 1], inb := inb } (h.unread X) : S1x2048x128.Idx → EReal)
      = fun x => X (ix3 0 ⟨8 * (x 1).val + n, by have := (x 1).isLt; change _ < 2048 at this; omega⟩ (x 2)) := by
  funext x
  rw [View.readAt_apply, h.read_unread]
  congr 1
  funext a
  apply Fin.ext
  match a with
  | 0 => exact (by have := (x 0).isLt; change _ < 1 at this; change 0 + 1 * (x 0).val = 0; omega)
  | 1 => exact (by change n + 8 * (x 1).val = 8 * (x 1).val + n; omega)
  | 2 => exact (by change 0 + 1 * (x 2).val = (x 2).val; omega)

section Update
variable {n : ℕ} (b l0 a0 : EReal) (s v : Fin n → EReal)
/-- The greatest of a bound and of a row of scores. -/
def top : EReal := max b (Finset.univ.fold max ⊥ s)
/-- The denominator after a row of scores. -/
def den : EReal := Ideal.exp2 (b - top b s) * l0 + ∑ k, Ideal.exp2 (s k - top b s)
/-- The numerator after a row of scores and of values. -/
def num : EReal := Ideal.exp2 (b - top b s) * a0 + ∑ k, Ideal.exp2 (s k - top b s) * v k
end Update

section Blocks
variable (X0 : Vec Ideal S1x64x1024 .bf16) (X1 X2 : Vec Ideal S1x16384x128 .f32) (X3 X4 : Vec Ideal S1x64x1024 .f32) (X5 : Vec Ideal S1x1x8x2048 .f32)
  (X6 : Vec Ideal S1x8x64 .f32) (X7 : Vec Ideal S1x64x8 .f32) (h : Fin 8) (r : Fin 64) (d : Fin 128)
/-- Lane `d` of head `h`. -/
def lane : Fin 1024 := ⟨128 * h.val + d.val, by omega⟩
/-- Head `h`'s row of position `k` in a cached block. -/
def slot (k : Fin 2048) : Fin 16384 := ⟨8 * k.val + h.val, by omega⟩
/-- The score of row `r` of head `h` against the cached position `k` of a block. -/
def sc (k : Fin 2048) : EReal :=
  (∑ d : Fin 128, X0 (ix3 0 r (lane h d)) * X1 (ix3 0 (slot h k) d)) + X7 (ix3 0 r h) - X5 (ix4 0 0 h k)
/-- The score of row `r` of head `h` against the new position `k`, as the words compare. -/
def sw (k : Fin 64) : EReal :=
  Scalar.select (IntOp.cmpi CmpIPredicate.sle (BitVec.ofNat 32 k.val) (BitVec.ofNat 32 r.val))
    ((∑ d : Fin 128, X0 (ix3 0 r (lane h d)) * X3 (ix3 0 k (lane h d))) + X7 (ix3 0 r h) - X6 (ix3 0 h k)) (⊥ : EReal)
end Blocks

/-- Earlier stores do not show where a later one covers. -/
theorem earlier {S : Shape} {e : EltTy} {Val : EltTy → Type} [∀ e, Nonempty (Val e)] (L' : List (View.Piece Val S e)) (y : S.Idx) :
    ∀ L : List (View.Piece Val S e), (∃ p ∈ L, y ∈ p.1.set) → View.canon (L ++ L') y = View.canon L y
  | [], h => by obtain ⟨p, hp, _⟩ := h; cases hp
  | p :: L, h => by
    by_cases hm : y ∈ p.1.set
    · obtain ⟨x, rfl⟩ := p.1.exists_idx_of_mem hm
      exact (View.canon_cons_emb p.1 p.2 (L ++ L') x).trans (View.canon_cons_emb p.1 p.2 L x).symm
    · obtain ⟨q, hq, hy⟩ := h
      rw [List.cons_append, View.canon_cons_of_not_mem _ _ hm, View.canon_cons_of_not_mem _ _ hm]
      refine earlier L' y L ⟨q, ?_, hy⟩
      rcases List.mem_cons.mp hq with rfl | hq
      · exact absurd hy hm
      · exact hq

variable (m : (ℓ : Loc nD τ sig) → Buf (Elt Ideal) ℓ)
set_option maxHeartbeats 4000000 in
/-- The running maximum after the first chunk of the cache. -/
theorem A0  (c : Dev nD) (t : Fin cfg0.N) (h0 : t.val % 2 = 0) (y : S8x64x128.Idx) : ((outsAt0 m c t.val t.isLt).2.1 y : EReal)
    = top ⊥ (sc (iblk m c 0 t) (iblk m c 1 t) (iblk m c 5 t) (iblk m c 7 t) (y 0) (y 1)) := by
  rw [outsAt0_A m c t h0 (by omega)]
  generalize iblk m c 0 t = X0, iblk m c 1 t = X1, iblk m c 2 t = X2, iblk m c 3 t = X3, iblk m c 4 t = X4, iblk m c 5 t = X5, iblk m c 6 t = X6, iblk m c 7 t = X7
  frame_open
  simp (disch := first | rfl | decide) only [↓View.readCov_cons_toLoadRect, ↓View.readCov_skip, ↓View.readCov_fill]
  frame_out
  refine (earlier [_] y [_, _, _, _, _, _, _, _] (View.cover_of_tiled_head _ _ _ (by rfl) _)).trans ?_
  canon_tiles x h
  all_goals
    idx_vars y
    idx_vars x
    obtain rfl : x0 = 0 := Subsingleton.elim _ _
    have e0 := Fin.ext (b := ⟨_, by decide⟩) h0
    have e1 : y1 = x1 := Fin.ext h1
    have e2 : y2 = x2 := Fin.ext h2
    subst e1 e2
    rw [e0]
    simp (disch := decide) only [strided]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, sc, lane, slot, top, den, num]
    simp only [mask, low]
    try rfl

set_option maxHeartbeats 4000000 in
/-- The running denominator after the first chunk of the cache. -/
theorem A1  (c : Dev nD) (t : Fin cfg0.N) (h0 : t.val % 2 = 0) (y : S8x64x128.Idx) : ((outsAt0 m c t.val t.isLt).2.2.1 y : EReal)
    = den ⊥ 0 (sc (iblk m c 0 t) (iblk m c 1 t) (iblk m c 5 t) (iblk m c 7 t) (y 0) (y 1)) := by
  rw [outsAt0_A m c t h0 (by omega)]
  generalize iblk m c 0 t = X0, iblk m c 1 t = X1, iblk m c 2 t = X2, iblk m c 3 t = X3, iblk m c 4 t = X4, iblk m c 5 t = X5, iblk m c 6 t = X6, iblk m c 7 t = X7
  frame_open
  simp (disch := first | rfl | decide) only [↓View.readCov_cons_toLoadRect, ↓View.readCov_skip, ↓View.readCov_fill]
  frame_out
  refine (earlier [_] y [_, _, _, _, _, _, _, _] (View.cover_of_tiled_head _ _ _ (by rfl) _)).trans ?_
  canon_tiles x h
  all_goals
    idx_vars y
    idx_vars x
    obtain rfl : x0 = 0 := Subsingleton.elim _ _
    have e0 := Fin.ext (b := ⟨_, by decide⟩) h0
    have e1 : y1 = x1 := Fin.ext h1
    have e2 : y2 = x2 := Fin.ext h2
    subst e1 e2
    rw [e0]
    simp (disch := decide) only [strided]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, sc, lane, slot, top, den, num]
    simp only [mask, low]
    try rfl

set_option maxHeartbeats 4000000 in
/-- The running numerator after the first chunk of the cache. -/
theorem A2  (c : Dev nD) (t : Fin cfg0.N) (h0 : t.val % 2 = 0) (y : S8x64x128.Idx) : ((outsAt0 m c t.val t.isLt).2.2.2 y : EReal)
    = num ⊥ 0 (sc (iblk m c 0 t) (iblk m c 1 t) (iblk m c 5 t) (iblk m c 7 t) (y 0) (y 1)) (fun k => (iblk m c 2 t : S1x16384x128.Idx → EReal) (ix3 0 (slot (y 0) k) (y 2))) := by
  rw [outsAt0_A m c t h0 (by omega)]
  generalize iblk m c 0 t = X0, iblk m c 1 t = X1, iblk m c 2 t = X2, iblk m c 3 t = X3, iblk m c 4 t = X4, iblk m c 5 t = X5, iblk m c 6 t = X6, iblk m c 7 t = X7
  frame_open
  simp (disch := first | rfl | decide) only [↓View.readCov_cons_toLoadRect, ↓View.readCov_skip, ↓View.readCov_fill]
  frame_out
  refine (earlier [_] y [_, _, _, _, _, _, _, _] (View.cover_of_tiled_head _ _ _ (by rfl) _)).trans ?_
  canon_tiles x h
  all_goals
    idx_vars y
    idx_vars x
    obtain rfl : x0 = 0 := Subsingleton.elim _ _
    have e0 := Fin.ext (b := ⟨_, by decide⟩) h0
    have e1 : y1 = x1 := Fin.ext h1
    have e2 : y2 = x2 := Fin.ext h2
    subst e1 e2
    rw [e0]
    simp (disch := decide) only [strided]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, sc, lane, slot, top, den, num]
    simp only [mask, low]
    try rfl

set_option maxHeartbeats 4000000 in
/-- The block's result, from the state that the point before left. -/
theorem B (c : Dev nD) (t : Fin cfg0.N) (hb : t.val % 2 = 1) (y : S1x64x1024.Idx) (h : Fin 8) (r : Fin 64) (d : Fin 128)
    (e1 : (y 1).val = r.val) (e2 : (y 2).val = 128 * h.val + d.val) : ((outsAt0 m c t.val t.isLt).1 y : EReal)
    = Ideal.div
        (num (top ((outsAt0 m c (t.val - 1) (Nat.lt_of_le_of_lt (Nat.sub_le _ _) t.isLt)).2.1 (ix3 h r 0)) (sc (iblk m c 0 t) (iblk m c 1 t) (iblk m c 5 t) (iblk m c 7 t) h r))
          (num ((outsAt0 m c (t.val - 1) (Nat.lt_of_le_of_lt (Nat.sub_le _ _) t.isLt)).2.1 (ix3 h r 0)) ((outsAt0 m c (t.val - 1) (Nat.lt_of_le_of_lt (Nat.sub_le _ _) t.isLt)).2.2.2 (ix3 h r d))
            (sc (iblk m c 0 t) (iblk m c 1 t) (iblk m c 5 t) (iblk m c 7 t) h r) (fun k => (iblk m c 2 t : S1x16384x128.Idx → EReal) (ix3 0 (slot h k) d)))
          (sw (iblk m c 0 t) (iblk m c 3 t) (iblk m c 6 t) (iblk m c 7 t) h r) (fun k => (iblk m c 4 t : S1x64x1024.Idx → EReal) (ix3 0 k (lane h d))))
        (den (top ((outsAt0 m c (t.val - 1) (Nat.lt_of_le_of_lt (Nat.sub_le _ _) t.isLt)).2.1 (ix3 h r 0)) (sc (iblk m c 0 t) (iblk m c 1 t) (iblk m c 5 t) (iblk m c 7 t) h r))
          (den ((outsAt0 m c (t.val - 1) (Nat.lt_of_le_of_lt (Nat.sub_le _ _) t.isLt)).2.1 (ix3 h r 0)) ((outsAt0 m c (t.val - 1) (Nat.lt_of_le_of_lt (Nat.sub_le _ _) t.isLt)).2.2.1 (ix3 h r d))
            (sc (iblk m c 0 t) (iblk m c 1 t) (iblk m c 5 t) (iblk m c 7 t) h r))
          (sw (iblk m c 0 t) (iblk m c 3 t) (iblk m c 6 t) (iblk m c 7 t) h r)) := by
  rw [outsAt0_B m c t (by omega) hb]
  generalize iblk m c 0 t = X0, iblk m c 1 t = X1, iblk m c 2 t = X2, iblk m c 3 t = X3, iblk m c 4 t = X4, iblk m c 5 t = X5, iblk m c 6 t = X6, iblk m c 7 t = X7
  generalize outsAt0 m c (t.val - 1) _ = S
  frame_open
  simp (disch := first | rfl | decide) only [↓View.readCov_cons_toLoadRect, ↓View.readCov_skip, ↓View.readCov_fill]
  frame_out
  canon_tiles x h'
  obtain ⟨S0, S1, S2, S3⟩ := S
  all_goals
    idx_vars x
    obtain rfl : x0 = 0 := Subsingleton.elim _ _
    have e1' : x1 = r := Fin.ext (by omega)
    have e2' : x2 = d := Fin.ext (by omega)
    first
      | (have hh : h = 7 := (by apply Fin.ext; omega); subst hh)
      | (have hh : h = 6 := (by apply Fin.ext; omega); subst hh)
      | (have hh : h = 5 := (by apply Fin.ext; omega); subst hh)
      | (have hh : h = 4 := (by apply Fin.ext; omega); subst hh)
      | (have hh : h = 3 := (by apply Fin.ext; omega); subst hh)
      | (have hh : h = 2 := (by apply Fin.ext; omega); subst hh)
      | (have hh : h = 1 := (by apply Fin.ext; omega); subst hh)
      | (have hh : h = 0 := (by apply Fin.ext; omega); subst hh)
    subst e1' e2'
    clear e1 e2 h'1 h'2 h'0
    simp (disch := decide) only [strided]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, sc, sw, lane, slot, top, den, num, read_unread_whole]
    simp only [mask, low]
    try rfl

end Cert.KernelIdeal.Fox

end
-- ==== Proof.Fox.Win.lean ====
module

public import proofs.«01_k».proof.Proof.Fox.Block
public import Idealize.ShloMosaic.Lib.Pipeline.ReadBack

@[expose] public section

set_option maxRecDepth 16384

noncomputable section

namespace Cert.KernelIdeal.Fox

open Cert.KernelIdeal Cert.KernelIdeal.Gen Idealize.ShloMosaic Idealize.ShloMosaic.TcCoe Idealize.SL.Sem
open Idealize.ShloMosaic.Pipeline (Dat)

/-- The batch of a grid point. -/
def bat (t : ℕ) : Fin 8 := ⟨t / 2 % 8, by omega⟩

/-- The cache position of a chunk's position. -/
def pos (c : ℕ) (k : Fin 2048) : Fin 4096 := ⟨c % 2 * 2048 + k.val, by omega⟩

variable (m : (ℓ : Loc nD τ sig) → Buf (Elt Ideal) ℓ)

/-- The queries of device `c`. -/
abbrev Q (c : Dev nD) : S8x64x8x128.Idx → EReal := m ((c.tc : Thread nD τ).loc main_arg0)
/-- The cached keys. -/
abbrev KC (c : Dev nD) : S8x4096x8x128.Idx → EReal := m ((c.tc : Thread nD τ).loc main_arg1)
/-- The cached values. -/
abbrev VC (c : Dev nD) : S8x4096x8x128.Idx → EReal := m ((c.tc : Thread nD τ).loc main_arg2)
/-- The new keys. -/
abbrev KN (c : Dev nD) : S8x64x8x128.Idx → EReal := m ((c.tc : Thread nD τ).loc main_arg3)
/-- The new values. -/
abbrev VN (c : Dev nD) : S8x64x8x128.Idx → EReal := m ((c.tc : Thread nD τ).loc main_arg4)
/-- The cumulated log gates. -/
abbrev FG (c : Dev nD) : S8x4160x8.Idx → EReal := m ((c.tc : Thread nD τ).loc main_arg5)

/-- The blocks' indices at a grid point. -/
theorem idx : ∀ t : Fin cfg0.N, win0_0.index t = ![t.val / 2, 0, 0] ∧ win0_1.index t = ![t.val / 2, t.val % 2, 0]
    ∧ win0_2.index t = ![t.val / 2, t.val % 2, 0] ∧ win0_3.index t = ![t.val / 2, 0, 0] ∧ win0_4.index t = ![t.val / 2, 0, 0]
    ∧ win0_5.index t = ![t.val / 2, t.val % 2, 0, 0] ∧ win0_6.index t = ![t.val / 2, 0, 0] ∧ win0_7.index t = ![t.val / 2, 0, 0]
    ∧ win0_8.index t = ![t.val / 2, 0, 0] ∧ t.val / 2 < 8 :=
  (by decide +kernel : ∀ t : Fin grid0.N, _)

/-- The base-two logarithm's unit. -/
def lg : EReal := Ideal.log (Ideal.ofBits .f32 0x40000000#32)

/-- The scores' divisor. -/
def dv : EReal := Ideal.sqrt (Ideal.ofBits .f32 0x43000000#32) * lg

/-- The block of the queries, at an index. -/
theorem w0 (c : Dev nD) (t : Fin cfg0.N) (r : Fin 64) (h : Fin 8) (d : Fin 128) : (iblk m c 0 t (ix3 0 r (lane h d)) : EReal) = Ideal.div (Q m c (ix4 (bat t.val) r h d)) dv := by
  have := (idx t).2.2.2.2.2.2.2.2.2
  simp only [bat, lane, dv, lg]
  blk_simp [iblk, idx t]; entry_read; pointwise; refine congrArg (Ideal.div · _) ?_; blk_ext [idx t]

/-- The block of the cached keys, at an index. -/
theorem w1 (c : Dev nD) (t : Fin cfg0.N) (h : Fin 8) (k : Fin 2048) (d : Fin 128) : (iblk m c 1 t (ix3 0 (slot h k) d) : EReal) = KC m c (ix4 (bat t.val) (pos t.val k) h d) := by
  have := (idx t).2.2.2.2.2.2.2.2.2
  simp only [bat, slot, pos]
  blk_simp [iblk, idx t]; entry_read; pointwise; blk_ext [idx t]

/-- The block of the cached values, at an index. -/
theorem w2 (c : Dev nD) (t : Fin cfg0.N) (h : Fin 8) (k : Fin 2048) (d : Fin 128) : (iblk m c 2 t (ix3 0 (slot h k) d) : EReal) = VC m c (ix4 (bat t.val) (pos t.val k) h d) := by
  have := (idx t).2.2.2.2.2.2.2.2.2
  simp only [bat, slot, pos]
  blk_simp [iblk, idx t]; entry_read; pointwise; blk_ext [idx t]

/-- The block of the new keys, at an index. -/
theorem w3 (c : Dev nD) (t : Fin cfg0.N) (k : Fin 64) (h : Fin 8) (d : Fin 128) : (iblk m c 3 t (ix3 0 k (lane h d)) : EReal) = KN m c (ix4 (bat t.val) k h d) := by
  have := (idx t).2.2.2.2.2.2.2.2.2
  simp only [bat, lane]
  blk_simp [iblk, idx t]; entry_read; pointwise; blk_ext [idx t]

/-- The block of the new values, at an index. -/
theorem w4 (c : Dev nD) (t : Fin cfg0.N) (k : Fin 64) (h : Fin 8) (d : Fin 128) : (iblk m c 4 t (ix3 0 k (lane h d)) : EReal) = VN m c (ix4 (bat t.val) k h d) := by
  have := (idx t).2.2.2.2.2.2.2.2.2
  simp only [bat, lane]
  blk_simp [iblk, idx t]; entry_read; pointwise; blk_ext [idx t]

/-- The block of the cached gates, at an index. -/
theorem w5 (c : Dev nD) (t : Fin cfg0.N) (h : Fin 8) (k : Fin 2048) : (iblk m c 5 t (ix4 0 0 h k) : EReal) = Ideal.div (FG m c (ix3 (bat t.val) ⟨(pos t.val k).val, by omega⟩ h)) lg := by
  have := (idx t).2.2.2.2.2.2.2.2.2
  simp only [bat, pos, lg]
  blk_simp [iblk, idx t]; entry_read; pointwise; refine congrArg (Ideal.div · _) ?_; blk_ext [idx t]

/-- The block of the new positions' gates, at an index. -/
theorem w6 (c : Dev nD) (t : Fin cfg0.N) (h : Fin 8) (k : Fin 64) : (iblk m c 6 t (ix3 0 h k) : EReal) = Ideal.div (FG m c (ix3 (bat t.val) ⟨4096 + k.val, by omega⟩ h)) lg := by
  have := (idx t).2.2.2.2.2.2.2.2.2
  simp only [bat, lg]
  blk_simp [iblk, idx t]; entry_read; pointwise; refine congrArg (Ideal.div · _) ?_; blk_ext [idx t]

/-- The block of the rows' gates, at an index. -/
theorem w7 (c : Dev nD) (t : Fin cfg0.N) (r : Fin 64) (h : Fin 8) : (iblk m c 7 t (ix3 0 r h) : EReal) = Ideal.div (FG m c (ix3 (bat t.val) ⟨4096 + r.val, by omega⟩ h)) lg := by
  have := (idx t).2.2.2.2.2.2.2.2.2
  simp only [bat, lg]
  blk_simp [iblk, idx t]; entry_read; pointwise; refine congrArg (Ideal.div · _) ?_; blk_ext [idx t]

/-- Where the output block lies in the result. -/
theorem w8 (t : Fin cfg0.N) (y : S1x64x1024.Idx) : (((cfg0.win 8).blk t).view.emb y : S8x64x1024.Idx) = ix3 (bat t.val) (y 1) (y 2) := by
  have := (idx t).2.2.2.2.2.2.2.2.2
  simp only [bat]
  blk_ext [idx t]

end Cert.KernelIdeal.Fox

end
-- ==== Proof.Fox.Soft.lean ====
module

public import proofs.«01_k».proof.Proof.Fox.Block

@[expose] public section

set_option maxRecDepth 16384

noncomputable section

namespace Cert.KernelIdeal.Fox

open Cert.KernelIdeal Cert.KernelIdeal.Gen Idealize.ShloMosaic Idealize.ShloMosaic.TcCoe Idealize.SL.Sem
open Idealize.ShloMosaic.Pipeline (Dat)

/-- The weight of a score that is below plus infinity. -/
def pw (s : EReal) : ℝ := (Ideal.exp s).toReal

/-- The natural logarithm of two. -/
abbrev L2 : EReal := ((Real.log 2 : ℝ) : EReal)

/-- The logarithm of two is positive. -/
theorem log2_pos : 0 < Real.log 2 := Real.log_pos (by norm_num)

/-- The exponential is nowhere negative. -/
theorem pw_nonneg (s : EReal) : 0 ≤ pw s := by
  induction s with
  | bot => simp [pw]
  | top => simp [pw]
  | coe r => simp [pw, Real.exp_nonneg]

/-- The exponential of a real number is positive. -/
theorem pw_pos (r : ℝ) : 0 < pw (r : EReal) := by simp [pw, Real.exp_pos]

/-- The exponential of a score less a real bound. -/
theorem exp_sub {s : EReal} (hs : s ≠ ⊤) (r : ℝ) : Ideal.exp (s - (r : EReal)) = ((pw s * Real.exp (-r) : ℝ) : EReal) := by
  induction s with
  | bot => simp [pw]
  | top => exact absurd rfl hs
  | coe x => rw [← EReal.coe_sub, Ideal.exp_coe, pw, Ideal.exp_coe, EReal.toReal_coe, ← Real.exp_add, sub_eq_add_neg]

/-- The same at base two, the score being divided by the logarithm of two. -/
theorem exp2_sub {s : EReal} (hs : s ≠ ⊤) (r : ℝ) :
    Ideal.exp2 (Ideal.div s L2 - (r : EReal)) = ((pw s * (2 : ℝ) ^ (-r) : ℝ) : EReal) := by
  have hl := log2_pos
  rw [L2, Ideal.div_coe hl.ne']
  induction s with
  | bot =>
    rw [EReal.bot_mul_coe_of_pos (by positivity)]
    simp [pw]
  | top => exact absurd rfl hs
  | coe x =>
    rw [← EReal.coe_mul, ← EReal.coe_sub, Ideal.exp2_coe, pw, Ideal.exp_coe, EReal.toReal_coe]
    congr 1
    show (2 : ℝ) ^ (x * (1 / Real.log 2) - r) = _
    rw [sub_eq_add_neg, Real.rpow_add (by norm_num), Real.rpow_def_of_pos (by norm_num) (x * (1 / Real.log 2))]
    congr 2
    field_simp

/-- A nonnegative real factor goes into a sum. -/
theorem mul_sum {n : ℕ} {g : ℝ} (hg : 0 ≤ g) (f : Fin n → EReal) : (g : EReal) * ∑ k, f k = ∑ k, (g : EReal) * f k := by
  induction n with
  | zero => simp
  | succ n ih =>
    rw [Fin.sum_univ_succ, Fin.sum_univ_succ, EReal.left_distrib_of_nonneg_of_ne_top (by exact_mod_cast hg) (EReal.coe_ne_top g), ih]

/-- A sum of real numbers, read as extended ones. -/
theorem coe_sum {n : ℕ} (f : Fin n → ℝ) : ((∑ k, f k : ℝ) : EReal) = ∑ k, ((f k : ℝ) : EReal) := by
  induction n with
  | zero => simp
  | succ n ih => rw [Fin.sum_univ_succ, Fin.sum_univ_succ, EReal.coe_add, ih]

/-- The weighted sum of values. -/
def wsum {n : ℕ} (s v : Fin n → EReal) : EReal := ∑ k, (pw (s k) : EReal) * v k

/-- The update of a numerator, with the weights' common factor in front. -/
theorem num_eq {n : ℕ} (b a : EReal) (s v : Fin n → EReal) (hs : ∀ k, s k ≠ ⊤) (M : ℝ) (hM : top b (fun k => Ideal.div (s k) L2) = M) :
    num b a (fun k => Ideal.div (s k) L2) v = Ideal.exp2 (b - M) * a + (((2 : ℝ) ^ (-M) : ℝ) : EReal) * wsum s v := by
  rw [num, hM, wsum, mul_sum (by positivity)]
  congr 1
  refine Finset.sum_congr rfl fun k _ => ?_
  rw [exp2_sub (hs k), EReal.coe_mul, mul_comm (pw (s k) : EReal), mul_assoc]

/-- Two updates compose. -/
theorem num_step {n : ℕ} (M0 : ℝ) (A : EReal) (s v : Fin n → EReal) (hs : ∀ k, s k ≠ ⊤) (M : ℝ) (hM : top M0 (fun k => Ideal.div (s k) L2) = M) :
    num M0 ((((2 : ℝ) ^ (-M0) : ℝ) : EReal) * A) (fun k => Ideal.div (s k) L2) v = (((2 : ℝ) ^ (-M) : ℝ) : EReal) * (A + wsum s v) := by
  rw [num_eq _ _ _ _ hs M hM, EReal.left_distrib_of_nonneg_of_ne_top (by exact_mod_cast (by positivity : (0 : ℝ) ≤ (2 : ℝ) ^ (-M))) (EReal.coe_ne_top _),
    ← EReal.coe_sub, Ideal.exp2_coe, ← mul_assoc, ← EReal.coe_mul]
  congr 3
  show (2 : ℝ) ^ (M0 - M) * _ = _
  rw [← Real.rpow_add (by norm_num)]
  congr 1
  ring

/-- The denominator is the numerator against ones. -/
theorem den_eq_num {n : ℕ} (b l : EReal) (s : Fin n → EReal) : den b l s = num b l s fun _ => 1 := by simp [den, num]

/-- The greatest of a real bound, or of a row with a real score, is real. -/
theorem top_real {n : ℕ} (b : EReal) (s : Fin n → EReal) (hb : b ≠ ⊤) (hs : ∀ k, s k ≠ ⊤) (h : b ≠ ⊥ ∨ ∃ k, s k ≠ ⊥) : ∃ M : ℝ, top b s = M := by
  have h1 : top b s ≠ ⊤ := by
    refine (max_lt (lt_top_iff_ne_top.mpr hb) ?_).ne
    rw [Finset.fold_max_lt]
    exact ⟨bot_lt_top, fun k _ => lt_top_iff_ne_top.mpr (hs k)⟩
  have h2 : top b s ≠ ⊥ := by
    refine (bot_lt_iff_ne_bot.mp ?_)
    rcases h with h | ⟨k, hk⟩
    · exact lt_of_lt_of_le (bot_lt_iff_ne_bot.mpr h) (le_max_left _ _)
    · refine lt_of_lt_of_le (bot_lt_iff_ne_bot.mpr hk) (le_trans ?_ (le_max_right _ _))
      rw [Finset.le_fold_max]
      exact Or.inr ⟨k, Finset.mem_univ k, le_rfl⟩
  exact ⟨(top b s).toReal, (EReal.coe_toReal h1 h2).symm⟩

/-- A number that is not plus infinity stays so under the division by `log 2`. -/
theorem div_ne_top {s : EReal} (hs : s ≠ ⊤) : Ideal.div s L2 ≠ ⊤ := by
  have hl := log2_pos
  rw [L2, Ideal.div_coe hl.ne']
  induction s with
  | bot => rw [EReal.bot_mul_coe_of_pos (by positivity)]; exact bot_ne_top
  | top => exact absurd rfl hs
  | coe x => rw [← EReal.coe_mul]; exact EReal.coe_ne_top _

/-- A sum over the cached and the new positions, chunk by chunk. -/
theorem split3 {A : Type} [AddCommMonoid A] (f : Fin 4160 → A) :
    ∑ k, f k = ∑ k : Fin 2048, f ⟨k.val, by omega⟩ + ∑ k : Fin 2048, f ⟨2048 + k.val, by omega⟩ + ∑ k : Fin 64, f ⟨4096 + k.val, by omega⟩ :=
  (Fin.sum_univ_add (a := 4096) (b := 64) f).trans (congrArg (· + _) (Fin.sum_univ_add (a := 2048) (b := 2048) fun k => f (Fin.castAdd 64 k)))

/-- The three chunks' scores. -/
abbrev c0 {A : Type} (s : Fin 4160 → A) (k : Fin 2048) : A := s ⟨k.val, by omega⟩
/-- The second chunk. -/
abbrev c1 {A : Type} (s : Fin 4160 → A) (k : Fin 2048) : A := s ⟨2048 + k.val, by omega⟩
/-- The new positions. -/
abbrev c2 {A : Type} (s : Fin 4160 → A) (k : Fin 64) : A := s ⟨4096 + k.val, by omega⟩
/-- The scores at base two. -/
abbrev b2 {n : ℕ} (s : Fin n → EReal) (k : Fin n) : EReal := Ideal.div (s k) L2

/-- The online softmax over the two chunks and the new positions is the softmax over all of them. -/
theorem online (s v : Fin 4160 → EReal) (hs : ∀ k, s k ≠ ⊤) (x : ℝ) (hx : s ⟨0, by omega⟩ = x) :
    Ideal.div
      (num (top (top ⊥ (b2 (c0 s))) (b2 (c1 s))) (num (top ⊥ (b2 (c0 s))) (num ⊥ 0 (b2 (c0 s)) (c0 v)) (b2 (c1 s)) (c1 v)) (b2 (c2 s)) (c2 v))
      (den (top (top ⊥ (b2 (c0 s))) (b2 (c1 s))) (den (top ⊥ (b2 (c0 s))) (den ⊥ 0 (b2 (c0 s))) (b2 (c1 s))) (b2 (c2 s)))
    = ∑ k, v k * Ideal.div (Ideal.exp (s k - top ⊥ s)) (∑ j, Ideal.exp (s j - top ⊥ s)) := by
  have hl := log2_pos
  have hs0 : ∀ k, c0 s k ≠ ⊤ := fun k => hs _
  have hs1 : ∀ k, c1 s k ≠ ⊤ := fun k => hs _
  have hs2 : ∀ k, c2 s k ≠ ⊤ := fun k => hs _
  have hx0 : s ⟨0, by omega⟩ ≠ ⊥ := by rw [hx]; exact EReal.coe_ne_bot x
  have hb0 : b2 (c0 s) ⟨0, by omega⟩ ≠ ⊥ := by
    show Ideal.div (s ⟨0, by omega⟩) L2 ≠ ⊥
    rw [hx, L2, Ideal.div_coe hl.ne', ← EReal.coe_mul]
    exact EReal.coe_ne_bot _
  obtain ⟨M0, h0⟩ := top_real ⊥ (b2 (c0 s)) bot_ne_top (fun k => div_ne_top (hs0 k)) (Or.inr ⟨_, hb0⟩)
  obtain ⟨M1, h1⟩ := top_real M0 (b2 (c1 s)) (EReal.coe_ne_top _) (fun k => div_ne_top (hs1 k)) (Or.inl (EReal.coe_ne_bot _))
  obtain ⟨M2, h2⟩ := top_real M1 (b2 (c2 s)) (EReal.coe_ne_top _) (fun k => div_ne_top (hs2 k)) (Or.inl (EReal.coe_ne_bot _))
  obtain ⟨M, h⟩ := top_real ⊥ s bot_ne_top hs (Or.inr ⟨_, hx0⟩)
  have acc : ∀ v : Fin 4160 → EReal,
      num M1 (num M0 (num ⊥ 0 (b2 (c0 s)) (c0 v)) (b2 (c1 s)) (c1 v)) (b2 (c2 s)) (c2 v) = (((2 : ℝ) ^ (-M2) : ℝ) : EReal) * wsum s v := by
    intro v
    have e0 : num ⊥ 0 (b2 (c0 s)) (c0 v) = (((2 : ℝ) ^ (-M0) : ℝ) : EReal) * wsum (c0 s) (c0 v) := by
      rw [num_eq _ _ _ _ hs0 M0 h0, mul_zero, zero_add]
    rw [e0, num_step _ _ _ _ hs1 M1 h1, num_step _ _ _ _ hs2 M2 h2]
    exact congrArg _ (split3 fun k => (pw (s k) : EReal) * v k).symm
  have e1 : wsum s (fun _ => 1) = ((∑ k, pw (s k) : ℝ) : EReal) := by simp only [wsum, mul_one, coe_sum]
  have hP : 0 < ∑ k, pw (s k) := by
    have hp : 0 < pw (s ⟨0, by omega⟩) := hx ▸ pw_pos x
    exact Finset.sum_pos' (fun k _ => pw_nonneg _) ⟨_, Finset.mem_univ _, hp⟩
  have hden := acc fun _ => 1
  simp only [← den_eq_num] at hden
  rw [h0, h1, acc v, hden, e1, h]
  generalize hPP : (∑ k, pw (s k)) = P at hP
  have hE : ∑ j, Ideal.exp (s j - (M : EReal)) = ((P * Real.exp (-M) : ℝ) : EReal) := by
    rw [← hPP, Finset.sum_mul, coe_sum]
    exact Finset.sum_congr rfl fun k _ => exp_sub (hs k) M
  rw [hE, ← EReal.coe_mul, Ideal.div_coe (by positivity), mul_comm _ (wsum s v), mul_assoc, ← EReal.coe_mul, mul_comm, wsum, mul_sum (by positivity)]
  apply Finset.sum_congr rfl
  intro k _
  rw [exp_sub (hs k), Ideal.div_coe (by positivity), ← EReal.coe_mul, mul_comm (v k)]
  refine (mul_assoc _ _ _).symm.trans ?_
  rw [← EReal.coe_mul]
  refine congrArg (fun z : ℝ => (z : EReal) * v k) ?_
  have := (Real.exp_pos (-M)).ne'
  have := (Real.rpow_pos_of_pos (by norm_num : (0 : ℝ) < 2) (-M2)).ne'
  field_simp

end Cert.KernelIdeal.Fox

end
-- ==== Proof.Fox.Point.lean ====
module

public import proofs.«01_k».proof.Proof.Fox.Win
public import proofs.«01_k».proof.Proof.Fox.Soft

@[expose] public section

set_option maxRecDepth 16384

noncomputable section

namespace Cert.KernelIdeal.Fox

open Cert.KernelIdeal Cert.KernelIdeal.Gen Idealize.ShloMosaic Idealize.ShloMosaic.TcCoe Idealize.SL.Sem
open Idealize.ShloMosaic.Pipeline (Dat)

/-- Every number of an array is real. -/
def Real' {S : Shape} (x : S.Idx → EReal) : Prop := ∀ i, ∃ r : ℝ, x i = r

/-- A score, unmasked: the scaled product of a query and a key, and the difference of the gates. -/
def raw (q k : Fin 128 → EReal) (f g : EReal) : EReal := Ideal.div (∑ x, q x * k x) (Ideal.sqrt (Ideal.ofBits .f32 0x43000000#32)) + f - g

/-- The choice by the words' comparison is the choice by the numbers'. -/
theorem sel_le {a b : ℕ} (ha : a < 2 ^ 31) (hb : b < 2 ^ 31) (x y : EReal) :
    Scalar.select (IntOp.cmpi CmpIPredicate.sle (BitVec.ofNat 32 a) (BitVec.ofNat 32 b)) x y = if a ≤ b then x else y := by
  exact if_congr (WordCmp.cmpi_sle_ofNat_eq_one_iff (w := 32) ha hb) rfl rfl

section Args
variable (a0 : S8x64x8x128.Idx → EReal) (a1 a2 : S8x4096x8x128.Idx → EReal) (a3 a4 : S8x64x8x128.Idx → EReal) (a5 : S8x4160x8.Idx → EReal)
    (b h : Fin 8) (r : Fin 64) (d : Fin 128)

/-- The score of row `r` of head `h` against position `k`: the cached positions, and the new ones up to the row's own. -/
def score (k : Fin 4160) : EReal :=
  if hk : k.val < 4096 then raw (fun x => a0 (ix4 b r h x)) (fun x => a1 (ix4 b ⟨k.val, hk⟩ h x)) (a5 (ix3 b ⟨4096 + r.val, by omega⟩ h)) (a5 (ix3 b k h))
  else if k.val ≤ 4096 + r.val then
    raw (fun x => a0 (ix4 b r h x)) (fun x => a3 (ix4 b ⟨k.val - 4096, by omega⟩ h x)) (a5 (ix3 b ⟨4096 + r.val, by omega⟩ h)) (a5 (ix3 b k h))
  else ⊥

/-- The value at position `k`. -/
def valu (k : Fin 4160) : EReal :=
  if hk : k.val < 4096 then a2 (ix4 b ⟨k.val, hk⟩ h d) else a4 (ix4 b ⟨k.val - 4096, by omega⟩ h d)

/-- The softmax of scores, against values. -/
def attend (s v : Fin 4160 → EReal) : EReal := ∑ k, v k * Ideal.div (Ideal.exp (s k - top ⊥ s)) (∑ j, Ideal.exp (s j - top ⊥ s))

/-- The result at index `i`, from the arguments. -/
def out (i : S8x64x1024.Idx) : EReal :=
  attend (score a0 a1 a3 a5 (i 0) ⟨(i 2).val / 128, by have := (i 2).isLt; simp at this; omega⟩ (i 1))
    (valu a2 a4 (i 0) ⟨(i 2).val / 128, by have := (i 2).isLt; simp at this; omega⟩ ⟨(i 2).val % 128, by omega⟩)

/-- The score at a cached position. -/
theorem score_c (k : Fin 4096) : score a0 a1 a3 a5 b h r ⟨k.val, by omega⟩
    = raw (fun x => a0 (ix4 b r h x)) (fun x => a1 (ix4 b k h x)) (a5 (ix3 b ⟨4096 + r.val, by omega⟩ h)) (a5 (ix3 b ⟨k.val, by omega⟩ h)) := by
  unfold score
  exact dif_pos k.isLt

/-- The score at a new position. -/
theorem score_n (k : Fin 64) : score a0 a1 a3 a5 b h r ⟨4096 + k.val, by omega⟩
    = if k.val ≤ r.val then raw (fun x => a0 (ix4 b r h x)) (fun x => a3 (ix4 b k h x)) (a5 (ix3 b ⟨4096 + r.val, by omega⟩ h)) (a5 (ix3 b ⟨4096 + k.val, by omega⟩ h)) else ⊥ := by
  unfold score
  have e : (⟨4096 + k.val - 4096, by omega⟩ : Fin 64) = k := Fin.ext (by simp)
  rw [dif_neg (by simp)]
  simp only [e, Nat.add_le_add_iff_left]

/-- The value at a cached position. -/
theorem valu_c (k : Fin 4096) : valu a2 a4 b h d ⟨k.val, by omega⟩ = a2 (ix4 b k h d) := by
  unfold valu
  exact dif_pos k.isLt

/-- The value at a new position. -/
theorem valu_n (k : Fin 64) : valu a2 a4 b h d ⟨4096 + k.val, by omega⟩ = a4 (ix4 b k h d) := by
  unfold valu
  have e : (⟨4096 + k.val - 4096, by omega⟩ : Fin 64) = k := Fin.ext (by simp)
  rw [dif_neg (by simp)]
  simp only [e]

end Args

/-- Real arguments give a real score, and the kernel's scaling divides it by the logarithm of two. -/
theorem raw_real (q k : Fin 128 → EReal) (f g : EReal) (hq : ∀ x, ∃ r : ℝ, q x = r) (hk : ∀ x, ∃ r : ℝ, k x = r) (hf : ∃ r : ℝ, f = r) (hg : ∃ r : ℝ, g = r) :
    (∃ r : ℝ, raw q k f g = r) ∧ (∑ x, Ideal.div (q x) dv * k x) + Ideal.div f lg - Ideal.div g lg = Ideal.div (raw q k f g) L2 := by
  choose q' hq' using hq
  choose k' hk' using hk
  obtain ⟨f, rfl⟩ := hf
  obtain ⟨g, rfl⟩ := hg
  obtain rfl : q = fun x => (q' x : EReal) := funext hq'
  obtain rfl : k = fun x => (k' x : EReal) := funext hk'
  have hl := log2_pos
  have e2 : Ideal.ofBits .f32 0x40000000#32 = ((2 : ℝ) : EReal) := by simp [Ideal.ofBits, Ideal.ieee, -EReal.coe_mul]; norm_num
  have e128 : Ideal.ofBits .f32 0x43000000#32 = ((128 : ℝ) : EReal) := by simp [Ideal.ofBits, Ideal.ieee, -EReal.coe_mul]; norm_num
  have el : lg = ((Real.log 2 : ℝ) : EReal) := by rw [lg, e2, Ideal.log_coe, if_neg (by norm_num)]
  have es : Ideal.sqrt (Ideal.ofBits .f32 0x43000000#32) = ((Real.sqrt 128 : ℝ) : EReal) := by rw [e128, Ideal.sqrt_coe, if_neg (by norm_num)]
  have hs : 0 < Real.sqrt 128 := Real.sqrt_pos.mpr (by norm_num)
  have er : raw (fun x => (q' x : EReal)) (fun x => (k' x : EReal)) f g = (((∑ x, q' x * k' x) / Real.sqrt 128 + f - g : ℝ) : EReal) := by
    rw [raw, es, Ideal.div_coe hs.ne']
    simp only [← EReal.coe_mul, ← coe_sum, ← EReal.coe_add, ← EReal.coe_sub]
    congr 1
    ring
  refine ⟨⟨_, er⟩, ?_⟩
  rw [er, dv, es, el, ← EReal.coe_mul]
  simp only [Ideal.div_coe hl.ne', Ideal.div_coe (mul_pos hs hl).ne', ← EReal.coe_mul, ← coe_sum, ← EReal.coe_add, ← EReal.coe_sub]
  congr 1
  have e : ∑ x, q' x * (1 / (Real.sqrt 128 * Real.log 2)) * k' x = (∑ x, q' x * k' x) * (1 / (Real.sqrt 128 * Real.log 2)) := by
    rw [Finset.sum_mul]
    exact Finset.sum_congr rfl fun x _ => by ring
  rw [e]
  field_simp

variable (m : (ℓ : Loc nD τ sig) → Buf (Elt Ideal) ℓ)

/-- The score at device `c`'s arguments. -/
abbrev S (c : Dev nD) (b h : Fin 8) (r : Fin 64) : Fin 4160 → EReal := score (Q m c) (KC m c) (KN m c) (FG m c) b h r
/-- The value at device `c`'s arguments. -/
abbrev V' (c : Dev nD) (b h : Fin 8) (d : Fin 128) : Fin 4160 → EReal := valu (VC m c) (VN m c) b h d

/-- The output block is written back at the odd points. -/
theorem flush_mod : ∀ t : Fin cfg0.N, (cfg0.win 8).flush t = true → t.val % 2 = 1 :=
  (by decide +kernel : ∀ t : Fin grid0.N, (cfg0.win 8).flush t = true → t.val % 2 = 1)

section Steps
variable (c : Dev nD) (hQ : Real' (Q m c)) (hC : Real' (KC m c)) (hN : Real' (KN m c)) (hF : Real' (FG m c))
include hQ hC hN hF

/-- The block's score against a cached position is the score at that position, at base two. -/
theorem sc_eq (t : Fin cfg0.N) (h : Fin 8) (r : Fin 64) (k : Fin 2048) :
    sc (iblk m c 0 t) (iblk m c 1 t) (iblk m c 5 t) (iblk m c 7 t) h r k = Ideal.div (S m c (bat t.val) h r ⟨(pos t.val k).val, by omega⟩) L2 := by
  have e0 := w0 m c t r h
  have e1 := w1 m c t h k
  have e5 := w5 m c t h k
  have e7 := w7 m c t r h
  rw [S, score_c]
  refine Eq.trans ?_ (raw_real _ _ _ _ (fun x => hQ _) (fun x => hC _) (hF _) (hF _)).2
  simp only [sc, e0, e1, e5, e7]

/-- The block's score against a new position is the score at that position, at base two. -/
theorem sw_eq (t : Fin cfg0.N) (h : Fin 8) (r : Fin 64) (k : Fin 64) :
    sw (iblk m c 0 t) (iblk m c 3 t) (iblk m c 6 t) (iblk m c 7 t) h r k = Ideal.div (S m c (bat t.val) h r ⟨4096 + k.val, by omega⟩) L2 := by
  have e0 := w0 m c t r h
  have e3 := w3 m c t k h
  have e6 := w6 m c t h k
  have e7 := w7 m c t r h
  rw [S, score_n, sw, sel_le (by omega) (by omega)]
  split
  · refine Eq.trans ?_ (raw_real _ _ _ _ (fun x => hQ _) (fun x => hN _) (hF _) (hF _)).2
    simp only [e0, e3, e6, e7]
  · have hl := log2_pos
    rw [L2, Ideal.div_coe hl.ne', EReal.bot_mul_coe_of_pos (by positivity)]

/-- No score is plus infinity. -/
theorem score_ne_top (b h : Fin 8) (r : Fin 64) (k : Fin 4160) : S m c b h r k ≠ ⊤ := by
  unfold S score
  split
  · obtain ⟨x, hx⟩ := (raw_real _ _ _ _ (fun x => hQ (ix4 b r h x)) (fun x => hC (ix4 b ⟨k.val, by assumption⟩ h x)) (hF (ix3 b ⟨4096 + r.val, by omega⟩ h)) (hF (ix3 b k h))).1
    rw [hx]
    exact EReal.coe_ne_top _
  · split
    · obtain ⟨x, hx⟩ := (raw_real _ _ _ _ (fun x => hQ (ix4 b r h x)) (fun x => hN (ix4 b ⟨k.val - 4096, by omega⟩ h x)) (hF (ix3 b ⟨4096 + r.val, by omega⟩ h)) (hF (ix3 b k h))).1
      rw [hx]
      exact EReal.coe_ne_top _
    · exact bot_ne_top

/-- The score at the first position is real. -/
theorem score_first (b h : Fin 8) (r : Fin 64) : ∃ x : ℝ, S m c b h r ⟨0, by omega⟩ = x := by
  obtain ⟨x, hx⟩ := (raw_real _ _ _ _ (fun x => hQ (ix4 b r h x)) (fun x => hC (ix4 b 0 h x)) (hF (ix3 b ⟨4096 + r.val, by omega⟩ h)) (hF (ix3 b 0 h))).1
  exact ⟨x, (score_c _ _ _ _ b h r 0).trans hx⟩

/-- The result of a batch, at the point that writes it. -/
theorem point (t : Fin cfg0.N) (hb : t.val % 2 = 1) (y : S1x64x1024.Idx) (h : Fin 8) (r : Fin 64) (d : Fin 128)
    (e1 : (y 1).val = r.val) (e2 : (y 2).val = 128 * h.val + d.val) :
    ((outsAt0 m c t.val t.isLt).1 y : EReal) = attend (S m c (bat t.val) h r) (V' m c (bat t.val) h d) := by
  obtain ⟨x, hx⟩ := score_first m c hQ hC hN hF (bat t.val) h r
  refine (B m c t hb y h r d e1 e2).trans ?_
  refine Eq.trans ?_ (online (S m c (bat t.val) h r) (V' m c (bat t.val) h d) (score_ne_top m c hQ hC hN hF (bat t.val) h r) x hx)
  have ht : t.val - 1 < cfg0.N := Nat.lt_of_le_of_lt (Nat.sub_le _ _) t.isLt
  have eb : bat (t.val - 1) = bat t.val := Fin.ext (by simp only [bat]; omega)
  have hp : (t.val - 1) % 2 = 0 := by omega
  have f0 : sc (iblk m c 0 ⟨t.val - 1, ht⟩) (iblk m c 1 ⟨t.val - 1, ht⟩) (iblk m c 5 ⟨t.val - 1, ht⟩) (iblk m c 7 ⟨t.val - 1, ht⟩) h r
      = b2 (c0 (S m c (bat t.val) h r)) := by
    funext k
    rw [sc_eq m c hQ hC hN hF, eb]
    exact congrArg (fun z => Ideal.div (S m c (bat t.val) h r z) L2) (Fin.ext (by simp only [pos]; omega))
  have f1 : sc (iblk m c 0 t) (iblk m c 1 t) (iblk m c 5 t) (iblk m c 7 t) h r = b2 (c1 (S m c (bat t.val) h r)) := by
    funext k
    rw [sc_eq m c hQ hC hN hF]
    exact congrArg (fun z => Ideal.div (S m c (bat t.val) h r z) L2) (Fin.ext (by simp only [pos]; omega))
  have f2 : sw (iblk m c 0 t) (iblk m c 3 t) (iblk m c 6 t) (iblk m c 7 t) h r = b2 (c2 (S m c (bat t.val) h r)) := by
    funext k
    rw [sw_eq m c hQ hC hN hF]
  have g0 : (fun k : Fin 2048 => (iblk m c 2 ⟨t.val - 1, ht⟩ : S1x16384x128.Idx → EReal) (ix3 0 (slot h k) d)) = c0 (V' m c (bat t.val) h d) := by
    funext k
    rw [w2, eb, V', ← valu_c (VC m c) (VN m c)]
    exact congrArg (valu (VC m c) (VN m c) (bat t.val) h d) (Fin.ext (by simp only [pos]; omega))
  have g1 : (fun k : Fin 2048 => (iblk m c 2 t : S1x16384x128.Idx → EReal) (ix3 0 (slot h k) d)) = c1 (V' m c (bat t.val) h d) := by
    funext k
    rw [w2, V', ← valu_c (VC m c) (VN m c)]
    exact congrArg (valu (VC m c) (VN m c) (bat t.val) h d) (Fin.ext (by simp only [pos]; omega))
  have g2 : (fun k : Fin 64 => (iblk m c 4 t : S1x64x1024.Idx → EReal) (ix3 0 k (lane h d))) = c2 (V' m c (bat t.val) h d) := by
    funext k
    rw [w4, V']
    exact (valu_n (VC m c) (VN m c) (bat t.val) h d k).symm
  have s0 := A0 m c ⟨t.val - 1, ht⟩ hp (ix3 h r 0)
  have s1 := A1 m c ⟨t.val - 1, ht⟩ hp (ix3 h r d)
  have s2 := A2 m c ⟨t.val - 1, ht⟩ hp (ix3 h r d)
  simp only [ix3_0, ix3_1, ix3_2] at s0 s1 s2
  rw [f0] at s0 s1 s2
  rw [g0] at s2
  rw [f1, f2, g1, g2, s0, s1, s2]

/-- The kernel's result array, as a function of its arguments. -/
def res (m : (ℓ : Loc nD τ sig) → Buf (Elt Ideal) ℓ) (c : Dev nD) : S8x64x1024.Idx → EReal := out (Q m c) (KC m c) (VC m c) (KN m c) (VN m c) (FG m c)

/-- The block that is written back is the result's block. -/
theorem last (t : Fin cfg0.N) (hb : t.val % 2 = 1) (y : S1x64x1024.Idx) :
    (outsAt0 m c t.val t.isLt).1 y = res m c (((cfg0.win 8).blk t).view.emb y) := by
  rw [w8 t y]
  idx_vars y
  exact point m c hQ hC hN hF t hb _ _ y1 _ rfl (Nat.div_add_mod y2.val 128).symm

/-- The kernel's result array. -/
theorem final : (dats m 0 c).arrAt 8 cfg0.N = res m c :=
  (dats m 0 c).arrAt_eq_of_covers 8 _ (by decide +kernel) fun t hf y => by
    blk_simp; rw [after0_8]; exact last m c hQ hC hN hF t (flush_mod t hf) y

end Steps

end Cert.KernelIdeal.Fox

end
-- ==== Proof.Fox.Ref.lean ====
module

public import proofs.«01_k».proof.Proof.Gen.ReferenceIdeal.Read
public import proofs.«01_k».proof.Proof.Norm
public import proofs.«01_k».proof.Proof.Fox.Point
public import Idealize.ShloMosaic.Lib.Pipeline.ReadBack

@[expose] public section

set_option maxRecDepth 16384

noncomputable section

namespace Cert.ReferenceIdeal.Fox

open Cert.ReferenceIdeal Cert.ReferenceIdeal.Gen Idealize.ShloMosaic Idealize.ShloMosaic.TcCoe Idealize.SL.Sem
open Cert.ReferenceIdeal.Read
open Cert.KernelIdeal.Fox (sel_le low score score_c score_n valu valu_c valu_n attend out top)

/-- The reference's score against a cached position. -/
theorem scoreC (x0 : (⟨S8x64x8x128, .f32⟩ : BufTy).Contents (Elt Ideal)) (x1 x2 : (⟨S8x4096x8x128, .f32⟩ : BufTy).Contents (Elt Ideal)) (x3 x4 : (⟨S8x64x8x128, .f32⟩ : BufTy).Contents (Elt Ideal)) (x5 : (⟨S8x4160x8, .f32⟩ : BufTy).Contents (Elt Ideal)) (b h : Fin 8) (r : Fin 64) (k : Fin 4096) :
    (val_main_v23 (F := Ideal) x0 x1 x3 x5 (ix4 b h r ⟨k.val, by omega⟩) : EReal)
      = Scalar.select (IntOp.cmpi CmpIPredicate.sle (BitVec.ofNat 32 k.val) (BitVec.ofNat 32 (4096 + r.val)))
      (Ideal.div (∑ x : Fin 128, x0 (ix4 b r h x) * x1 (ix4 b k h x)) (Ideal.sqrt (Ideal.ofBits .f32 0x43000000#32)) +
          x5 (ix3 b ⟨4096 + r.val, by omega⟩ h) - x5 (ix3 b ⟨k.val, by omega⟩ h)) (Ideal.ofBits .f32 0xFF800000#32) := by
  pointwise [val_main_v0, val_main_v1, val_main_v2, val_main_v3, val_main_v4, val_main_v5, val_main_cst, val_main_v6, val_main_v7, val_main_v8, val_main_v9, val_main_v10, val_main_v11, val_main_v12, val_main_v13, val_main_v14, val_main_v15, val_main_v16, val_main_v17, val_main_v18, val_main_v19, val_main_v20, val_main_v21, val_main_v22, val_main_cst_0, val_main_call0_v0, val_main_call0_v1, val_main_call0_v2, val_main_v23]
  rfl

/-- The reference's score against a new position. -/
theorem scoreN (x0 : (⟨S8x64x8x128, .f32⟩ : BufTy).Contents (Elt Ideal)) (x1 x2 : (⟨S8x4096x8x128, .f32⟩ : BufTy).Contents (Elt Ideal)) (x3 x4 : (⟨S8x64x8x128, .f32⟩ : BufTy).Contents (Elt Ideal)) (x5 : (⟨S8x4160x8, .f32⟩ : BufTy).Contents (Elt Ideal)) (b h : Fin 8) (r : Fin 64) (k : Fin 64) :
    (val_main_v23 (F := Ideal) x0 x1 x3 x5 (ix4 b h r ⟨4096 + k.val, by omega⟩) : EReal)
      = Scalar.select (IntOp.cmpi CmpIPredicate.sle (BitVec.ofNat 32 (4096 + k.val)) (BitVec.ofNat 32 (4096 + r.val)))
      (Ideal.div (∑ x : Fin 128, x0 (ix4 b r h x) * x3 (ix4 b k h x)) (Ideal.sqrt (Ideal.ofBits .f32 0x43000000#32)) +
          x5 (ix3 b ⟨4096 + r.val, by omega⟩ h) - x5 (ix3 b ⟨4096 + k.val, by omega⟩ h)) (Ideal.ofBits .f32 0xFF800000#32) := by
  pointwise [val_main_v0, val_main_v1, val_main_v2, val_main_v3, val_main_v4, val_main_v5, val_main_cst, val_main_v6, val_main_v7, val_main_v8, val_main_v9, val_main_v10, val_main_v11, val_main_v12, val_main_v13, val_main_v14, val_main_v15, val_main_v16, val_main_v17, val_main_v18, val_main_v19, val_main_v20, val_main_v21, val_main_v22, val_main_cst_0, val_main_call0_v0, val_main_call0_v1, val_main_call0_v2, val_main_v23]
  rfl

/-- The reference's cached value. -/
theorem valC (x0 : (⟨S8x64x8x128, .f32⟩ : BufTy).Contents (Elt Ideal)) (x1 x2 : (⟨S8x4096x8x128, .f32⟩ : BufTy).Contents (Elt Ideal)) (x3 x4 : (⟨S8x64x8x128, .f32⟩ : BufTy).Contents (Elt Ideal)) (x5 : (⟨S8x4160x8, .f32⟩ : BufTy).Contents (Elt Ideal)) (b h : Fin 8) (k : Fin 4096) (d : Fin 128) :
    (val_main_v1 (F := Ideal) x2 x4 (ix4 b ⟨k.val, by omega⟩ h d) : EReal) = x2 (ix4 b k h d) := by
  pointwise [val_main_v1]

/-- The reference's new value. -/
theorem valN (x0 : (⟨S8x64x8x128, .f32⟩ : BufTy).Contents (Elt Ideal)) (x1 x2 : (⟨S8x4096x8x128, .f32⟩ : BufTy).Contents (Elt Ideal)) (x3 x4 : (⟨S8x64x8x128, .f32⟩ : BufTy).Contents (Elt Ideal)) (x5 : (⟨S8x4160x8, .f32⟩ : BufTy).Contents (Elt Ideal)) (b h : Fin 8) (k : Fin 64) (d : Fin 128) :
    (val_main_v1 (F := Ideal) x2 x4 (ix4 b ⟨4096 + k.val, by omega⟩ h d) : EReal) = x4 (ix4 b k h d) := by
  pointwise [val_main_v1]

/-- The reference's row maximum. -/
theorem t24 (x0 : (⟨S8x64x8x128, .f32⟩ : BufTy).Contents (Elt Ideal)) (x1 : (⟨S8x4096x8x128, .f32⟩ : BufTy).Contents (Elt Ideal)) (x3 : (⟨S8x64x8x128, .f32⟩ : BufTy).Contents (Elt Ideal)) (x5 : (⟨S8x4160x8, .f32⟩ : BufTy).Contents (Elt Ideal)) (b h : Fin 8) (r : Fin 64) :
    (val_main_v24 (F := Ideal) x0 x1 x3 x5 (ix3 b h r) : EReal)
      = Finset.univ.fold max (Ideal.ofBits .f32 0xFF800000#32) fun k : Fin 4160 => (val_main_v23 (F := Ideal) x0 x1 x3 x5 (ix4 b h r k) : EReal) := by
  unfold val_main_v24
  generalize val_main_v23 (F := Ideal) x0 x1 x3 x5 = X
  pointwise [val_main_cst_1]

/-- The reference's weight, before its division. -/
theorem t30 (x0 : (⟨S8x64x8x128, .f32⟩ : BufTy).Contents (Elt Ideal)) (x1 : (⟨S8x4096x8x128, .f32⟩ : BufTy).Contents (Elt Ideal)) (x3 : (⟨S8x64x8x128, .f32⟩ : BufTy).Contents (Elt Ideal)) (x5 : (⟨S8x4160x8, .f32⟩ : BufTy).Contents (Elt Ideal)) (b h : Fin 8) (r : Fin 64) (k : Fin 4160) :
    (val_main_v30 (F := Ideal) x0 x1 x3 x5 (ix4 b h r k) : EReal)
      = Ideal.exp (val_main_v23 (F := Ideal) x0 x1 x3 x5 (ix4 b h r k) - max (Ideal.ofBits .f32 0xFF800000#32) (val_main_v24 (F := Ideal) x0 x1 x3 x5 (ix3 b h r))) := by
  have e : idx_main_v27 (idx_main_v28 (ix4 b h r k)) = ix3 b h r := by
    funext a; match a with | ⟨0, _⟩ => rfl | ⟨1, _⟩ => rfl | ⟨2, _⟩ => rfl
  rw [val_main_v30_apply, val_main_v29_apply, val_main_v28_apply, val_main_v27_apply, val_main_v26_apply, val_main_v25_apply, val_main_cst_2_apply, e]
  generalize val_main_v23 (F := Ideal) x0 x1 x3 x5 (ix4 b h r k) = X, val_main_v24 (F := Ideal) x0 x1 x3 x5 (ix3 b h r) = Y
  simp only [Ideal.hostUnary_exp_def, Ideal.subf_def, Ideal.maximumf_def, Ideal.ofBits_def]

/-- The reference's denominator. -/
theorem t31 (x0 : (⟨S8x64x8x128, .f32⟩ : BufTy).Contents (Elt Ideal)) (x1 : (⟨S8x4096x8x128, .f32⟩ : BufTy).Contents (Elt Ideal)) (x3 : (⟨S8x64x8x128, .f32⟩ : BufTy).Contents (Elt Ideal)) (x5 : (⟨S8x4160x8, .f32⟩ : BufTy).Contents (Elt Ideal)) (b h : Fin 8) (r : Fin 64) :
    (val_main_v31 (F := Ideal) x0 x1 x3 x5 (ix3 b h r) : EReal) = ∑ k : Fin 4160, (val_main_v30 (F := Ideal) x0 x1 x3 x5 (ix4 b h r k) : EReal) := by
  unfold val_main_v31
  generalize val_main_v30 (F := Ideal) x0 x1 x3 x5 = X
  pointwise [val_main_cst_3]

/-- The reference's weight. -/
theorem t34 (x0 : (⟨S8x64x8x128, .f32⟩ : BufTy).Contents (Elt Ideal)) (x1 : (⟨S8x4096x8x128, .f32⟩ : BufTy).Contents (Elt Ideal)) (x3 : (⟨S8x64x8x128, .f32⟩ : BufTy).Contents (Elt Ideal)) (x5 : (⟨S8x4160x8, .f32⟩ : BufTy).Contents (Elt Ideal)) (b h : Fin 8) (r : Fin 64) (k : Fin 4160) :
    (val_main_v34 (F := Ideal) x0 x1 x3 x5 (ix4 b h r k) : EReal)
      = Ideal.div (val_main_v30 (F := Ideal) x0 x1 x3 x5 (ix4 b h r k)) (val_main_v31 (F := Ideal) x0 x1 x3 x5 (ix3 b h r)) := by
  pointwise [val_main_v32, val_main_v33, val_main_v34]

/-- The reference's weighted sum of values. -/
theorem t38 (x0 : (⟨S8x64x8x128, .f32⟩ : BufTy).Contents (Elt Ideal)) (x1 x2 : (⟨S8x4096x8x128, .f32⟩ : BufTy).Contents (Elt Ideal)) (x3 x4 : (⟨S8x64x8x128, .f32⟩ : BufTy).Contents (Elt Ideal)) (x5 : (⟨S8x4160x8, .f32⟩ : BufTy).Contents (Elt Ideal)) (b : Fin 8) (r : Fin 64) (e : Fin 1024) :
    (val_main_v38 (F := Ideal) x0 x1 x2 x3 x4 x5 (ix3 b r e) : EReal)
      = ∑ k : Fin 4160, (val_main_v1 (F := Ideal) x2 x4 (ix4 b k ⟨e.val / 128, by omega⟩ ⟨e.val % 128, by omega⟩) : EReal)
          * val_main_v34 (F := Ideal) x0 x1 x3 x5 (ix4 b ⟨e.val / 128, by omega⟩ r k) := by
  pointwise [val_main_v35, val_main_v36, val_main_v37, val_main_v38]

/-- The reference's score is the score of the position. -/
theorem score_eq (x0 : (⟨S8x64x8x128, .f32⟩ : BufTy).Contents (Elt Ideal)) (x1 : (⟨S8x4096x8x128, .f32⟩ : BufTy).Contents (Elt Ideal)) (x3 : (⟨S8x64x8x128, .f32⟩ : BufTy).Contents (Elt Ideal)) (x5 : (⟨S8x4160x8, .f32⟩ : BufTy).Contents (Elt Ideal)) (b h : Fin 8) (r : Fin 64) (k : Fin 4160) :
    (val_main_v23 (F := Ideal) x0 x1 x3 x5 (ix4 b h r k) : EReal) = score x0 x1 x3 x5 b h r k := by
  by_cases hk : k.val < 4096
  · have e := scoreC x0 x1 x1 x3 x3 x5 b h r ⟨k.val, hk⟩
    rw [sel_le (by omega) (by omega), if_pos (by omega)] at e
    exact e.trans (score_c x0 x1 x3 x5 b h r ⟨k.val, hk⟩).symm
  · obtain ⟨j, hj⟩ : ∃ j : Fin 64, k.val = 4096 + j.val := ⟨⟨k.val - 4096, by omega⟩, by simp only; omega⟩
    obtain rfl : k = ⟨_, Nat.add_lt_add_left j.isLt 4096⟩ := Fin.ext hj
    have e := scoreN x0 x1 x1 x3 x3 x5 b h r j
    rw [sel_le (by omega) (by omega), low] at e
    simp only [Nat.add_le_add_iff_left] at e
    exact e.trans (score_n x0 x1 x3 x5 b h r j).symm

/-- The reference's value is the value of the position. -/
theorem valu_eq (x2 : (⟨S8x4096x8x128, .f32⟩ : BufTy).Contents (Elt Ideal)) (x4 : (⟨S8x64x8x128, .f32⟩ : BufTy).Contents (Elt Ideal)) (b h : Fin 8) (d : Fin 128) (k : Fin 4160) :
    (val_main_v1 (F := Ideal) x2 x4 (ix4 b k h d) : EReal) = valu x2 x4 b h d k := by
  by_cases hk : k.val < 4096
  · exact (valC x4 x2 x2 x4 x4 (fun _ => 0) b h ⟨k.val, hk⟩ d).trans (valu_c x2 x4 b h d ⟨k.val, hk⟩).symm
  · obtain ⟨j, hj⟩ : ∃ j : Fin 64, k.val = 4096 + j.val := ⟨⟨k.val - 4096, by omega⟩, by simp only; omega⟩
    obtain rfl : k = ⟨_, Nat.add_lt_add_left j.isLt 4096⟩ := Fin.ext hj
    exact (valN x4 x2 x2 x4 x4 (fun _ => 0) b h j d).trans (valu_n x2 x4 b h d j).symm

/-- The reference's result array. -/
theorem ref (x0 : (⟨S8x64x8x128, .f32⟩ : BufTy).Contents (Elt Ideal)) (x1 x2 : (⟨S8x4096x8x128, .f32⟩ : BufTy).Contents (Elt Ideal)) (x3 x4 : (⟨S8x64x8x128, .f32⟩ : BufTy).Contents (Elt Ideal)) (x5 : (⟨S8x4160x8, .f32⟩ : BufTy).Contents (Elt Ideal)) :
    val_main_v38 (F := Ideal) x0 x1 x2 x3 x4 x5 = out x0 x1 x2 x3 x4 x5 := by
  funext y
  obtain ⟨b, r, e, rfl⟩ : ∃ (b : Fin 8) (r : Fin 64) (e : Fin 1024), y = ix3 b r e := ⟨y 0, y 1, y 2, by funext a; match a with | 0 => rfl | 1 => rfl | 2 => rfl⟩
  refine (t38 x0 x1 x2 x3 x4 x5 b r e).trans ?_
  change _ = attend (score x0 x1 x3 x5 b ⟨e.val / 128, by omega⟩ r) (valu x2 x4 b ⟨e.val / 128, by omega⟩ ⟨e.val % 128, by omega⟩)
  generalize (⟨e.val / 128, by omega⟩ : Fin 8) = h, (⟨e.val % 128, by omega⟩ : Fin 128) = d
  have e24 : (val_main_v24 (F := Ideal) x0 x1 x3 x5 (ix3 b h r) : EReal) = Finset.univ.fold max ⊥ (score x0 x1 x3 x5 b h r) := by
    rw [t24, low]
    exact congrArg (Finset.fold max ⊥ · Finset.univ) (funext fun k => score_eq x0 x1 x3 x5 b h r k)
  have e30 : ∀ k, (val_main_v30 (F := Ideal) x0 x1 x3 x5 (ix4 b h r k) : EReal)
      = Ideal.exp (score x0 x1 x3 x5 b h r k - top ⊥ (score x0 x1 x3 x5 b h r)) := fun k => by
    rw [t30, score_eq, e24, low, top]
  unfold attend
  refine Finset.sum_congr rfl fun k _ => ?_
  rw [valu_eq, t34, t31, e30]
  simp only [e30]

end Cert.ReferenceIdeal.Fox

end
-- ==== Proof.Fox.Pre.lean ====
module

public import proofs.«01_k».proof.Defs
public import proofs.«01_k».proof.Proof.Gen.Kernel3
public import proofs.«01_k».proof.Proof.Gen.Reference3Ideal
public import proofs.«01_k».proof.Proof.Fox.Point

@[expose] public section

noncomputable section

namespace Cert.Proof

open Idealize.ShloMosaic Idealize.SL.Sem Idealize.ShloMosaic.TcCoe

/-- A number whose absolute value is below plus infinity is real. -/
theorem real_of_lt (x : EReal) (h : Ideal.cmp CmpFPredicate.olt (max x (-x)) (Ideal.ofBits .f32 0x7F800000#32) = 1#1) : ∃ r : ℝ, x = r := by
  have e : Ideal.ofBits .f32 0x7F800000#32 = ⊤ := by simp [Ideal.ofBits, Ideal.ieee]
  rw [e] at h
  induction x with
  | bot => simp [Ideal.cmp] at h
  | top => simp [Ideal.cmp] at h
  | coe r => exact ⟨r, rfl⟩

/-- The precondition says that the queries, the keys and the gates are real. -/
theorem real_args (a0 : Cert.KernelIdeal.S8x64x8x128.Idx → EReal) (a1 a2 : Cert.KernelIdeal.S8x4096x8x128.Idx → EReal)
    (a3 a4 : Cert.KernelIdeal.S8x64x8x128.Idx → EReal) (a5 : Cert.KernelIdeal.S8x4160x8.Idx → EReal) [Cert.Pre_finite_scores.Facts]
    (h : (Cert.Pre_finite_scores.fn (F := Ideal) a0 a1 a2 a3 a4 a5).1 = (fun _ => 1#1)
      ∧ (Cert.Pre_finite_scores.fn (F := Ideal) a0 a1 a2 a3 a4 a5).2.1 = (fun _ => 1#1)
      ∧ (Cert.Pre_finite_scores.fn (F := Ideal) a0 a1 a2 a3 a4 a5).2.2.1 = (fun _ => 1#1)
      ∧ (Cert.Pre_finite_scores.fn (F := Ideal) a0 a1 a2 a3 a4 a5).2.2.2 = (fun _ => 1#1)) :
    Cert.KernelIdeal.Fox.Real' a0 ∧ Cert.KernelIdeal.Fox.Real' a1 ∧ Cert.KernelIdeal.Fox.Real' a3 ∧ Cert.KernelIdeal.Fox.Real' a5 := by
  obtain ⟨h0, h1, h3, h5⟩ := h
  exact ⟨fun i => real_of_lt _ (congrFun h0 i), fun i => real_of_lt _ (congrFun h1 i), fun i => real_of_lt _ (congrFun h3 i), fun i => real_of_lt _ (congrFun h5 i)⟩

end Cert.Proof

end
-- ==== Proof.Fox.Claim.lean ====
module

public import proofs.«01_k».proof.Defs
public import proofs.«01_k».proof.Proof.Gen.Kernel
public import proofs.«01_k».proof.Proof.Gen.Pre_finite_scores
public import proofs.«01_k».proof.Proof.Gen.ReferenceIdeal
public import proofs.«01_k».proof.Proof.Fox.Ref
public import proofs.«01_k».proof.Proof.Fox.Pre

@[expose] public section

noncomputable section

namespace Cert.Proof

open Idealize.ShloMosaic Idealize.SL.Sem Idealize.ShloMosaic.TcCoe

/-- The sample attention computes its reference's result, on real queries, keys and gates. -/
theorem algebraic : @Cert.algebraic_KernelIdeal_ReferenceIdeal_pre_finite_scores Cert.KernelIdeal.Gen.facts Cert.ReferenceIdeal.Gen.facts Cert.Pre_finite_scores.Gen.facts := by
  intro m g m' g' hpre args
  refine ⟨fun c => Cert.KernelIdeal.Fox.res m c, ?_, ?_⟩
  · run_from Cert.KernelIdeal.Gen.run_main m g
    obtain ⟨hQ, hC, hN, hF⟩ := @real_args _ _ _ _ _ _ Cert.Pre_finite_scores.Gen.facts (hpre c)
    exact Cert.KernelIdeal.Fox.final m c hQ hC hN hF
  · run_from Cert.ReferenceIdeal.Value.run m' g'
    rw [Cert.ReferenceIdeal.Read.val_main_v38_eq, Cert.ReferenceIdeal.Fox.ref]
    obtain ⟨e0, e1, e2, e3, e4, e5⟩ := args c
    simp only [Cert.KernelIdeal.Fox.res, Cert.KernelIdeal.Fox.Q, Cert.KernelIdeal.Fox.KC, Cert.KernelIdeal.Fox.VC, Cert.KernelIdeal.Fox.KN, Cert.KernelIdeal.Fox.VN, Cert.KernelIdeal.Fox.FG, e0, e1, e2, e3, e4, e5]

end Cert.Proof

end
-- ==== Proof.Mlp.Point.lean ====
module

public import proofs.«01_k».proof.Proof.Gen.Kernel2Ideal.Value
public import proofs.«01_k».proof.Proof.Norm
public import Idealize.ShloMosaic.Lib.Pipeline.ReadBack

@[expose] public section

set_option maxRecDepth 16384

noncomputable section

namespace Cert.Kernel2Ideal.Mlp

open Cert.Kernel2Ideal Cert.Kernel2Ideal.Gen Idealize.ShloMosaic Idealize.ShloMosaic.TcCoe Idealize.SL.Sem
open Idealize.ShloMosaic.Pipeline (Dat)
open Cert.Layer

section Blocks
variable (X0 : Vec Ideal S1x1024x2048 .f32) (X1 : Vec Ideal S1x6x2048 .f32) (X2 : Vec Ideal S2048x1024 .bf16) (X3 : Vec Ideal S1x1024 .f32)
  (X4 : Vec Ideal S1024x2048 .bf16) (r : Fin 1024)

/-- Row `r` of the modulated norm of a block. -/
def bu (d : Fin 2048) : EReal := modRow (fun d => X0 (ix3 0 r d)) (fun d => X1 (ix3 0 4 d)) (fun d => X1 (ix3 0 3 d)) d

/-- Row `r` of the product of one hidden tile with its down weights. -/
def bp (u : Fin 2048 → EReal) (d : Fin 2048) : EReal := ∑ k : Fin 1024, hid u (fun e => X2 (ix2 e k)) (X3 (ix2 0 k)) * X4 (ix2 k d)
end Blocks

variable (m : (ℓ : Loc nD τ sig) → Buf (Elt Ideal) ℓ)

set_option maxHeartbeats 4000000 in
/-- The first hidden tile's product, at a point of the first case. -/
theorem A1 (c : Dev nD) (t : Fin cfg0.N) (h0 : t.val % 8 = 0) (y : S1x1024x2048.Idx) : (outsAt0 m c t.val t.isLt).1 y
    = bp (iblk m c 2 t) (iblk m c 3 t) (iblk m c 4 t) (bu (iblk m c 0 t) (iblk m c 1 t) (y 1)) (y 2) := by
  rw [outsAt0_A m c t h0 (by omega) (by omega)]
  generalize iblk m c 0 t = X0, iblk m c 1 t = X1, iblk m c 2 t = X2, iblk m c 3 t = X3, iblk m c 4 t = X4
  frame_out
  canon_tiles x h
  case piece0 =>
    have e1 : y 1 = ⟨768 + (x 1).val, by omega⟩ := Fin.ext h1
    have e2 : y 2 = x 2 := Fin.ext h2
    rw [e1, e2]
    idx_vars x
    obtain rfl : x0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, bp, bu, hid, modRow, lnorm, mean, variance]
  case piece1 =>
    have e1 : y 1 = ⟨512 + (x 1).val, by omega⟩ := Fin.ext h1
    have e2 : y 2 = x 2 := Fin.ext h2
    rw [e1, e2]
    idx_vars x
    obtain rfl : x0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, bp, bu, hid, modRow, lnorm, mean, variance]
  case piece2 =>
    have e1 : y 1 = ⟨256 + (x 1).val, by omega⟩ := Fin.ext h1
    have e2 : y 2 = x 2 := Fin.ext h2
    rw [e1, e2]
    idx_vars x
    obtain rfl : x0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, bp, bu, hid, modRow, lnorm, mean, variance]
  case piece3 =>
    have e1 : y 1 = ⟨(x 1).val, by omega⟩ := Fin.ext h1
    have e2 : y 2 = x 2 := Fin.ext h2
    rw [e1, e2]
    idx_vars x
    obtain rfl : x0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, bp, bu, hid, modRow, lnorm, mean, variance]

set_option maxHeartbeats 4000000 in
/-- The modulated norm kept in the scratch, at a point of the first case. -/
theorem A2 (c : Dev nD) (t : Fin cfg0.N) (h0 : t.val % 8 = 0) (y : S1024x2048.Idx) : (outsAt0 m c t.val t.isLt).2 y
    = bu (iblk m c 0 t) (iblk m c 1 t) (y 0) (y 1) := by
  rw [outsAt0_A m c t h0 (by omega) (by omega)]
  generalize iblk m c 0 t = X0, iblk m c 1 t = X1, iblk m c 2 t = X2, iblk m c 3 t = X3, iblk m c 4 t = X4
  frame_out
  canon_tiles x h
  case piece0 =>
    have e0 : y 0 = ⟨768 + (x 0).val, by omega⟩ := Fin.ext h0
    have e1 : y 1 = x 1 := Fin.ext h1
    rw [e0, e1]
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, bu, modRow, lnorm, mean, variance]
  case piece1 =>
    have e0 : y 0 = ⟨512 + (x 0).val, by omega⟩ := Fin.ext h0
    have e1 : y 1 = x 1 := Fin.ext h1
    rw [e0, e1]
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, bu, modRow, lnorm, mean, variance]
  case piece2 =>
    have e0 : y 0 = ⟨256 + (x 0).val, by omega⟩ := Fin.ext h0
    have e1 : y 1 = x 1 := Fin.ext h1
    rw [e0, e1]
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, bu, modRow, lnorm, mean, variance]
  case piece3 =>
    have e0 : y 0 = ⟨(x 0).val, by omega⟩ := Fin.ext h0
    have e1 : y 1 = x 1 := Fin.ext h1
    rw [e0, e1]
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, bu, modRow, lnorm, mean, variance]

set_option maxHeartbeats 4000000 in
/-- A middle hidden tile's product is added to what the point before left. -/
theorem B1 (c : Dev nD) (t : Fin cfg0.N) (h0 : 1 ≤ t.val % 8 ∧ t.val % 8 ≤ 6) (y : S1x1024x2048.Idx) : (outsAt0 m c t.val t.isLt).1 y
    = (outsAt0 m c (t.val - 1) (by omega)).1 y + bp (iblk m c 2 t) (iblk m c 3 t) (iblk m c 4 t) (fun e => (outsAt0 m c (t.val - 1) (by omega)).2 (ix2 (y 1) e)) (y 2) := by
  rw [outsAt0_B m c t (by omega) h0 (by omega)]
  generalize outsAt0 m c (t.val - 1) _ = S
  generalize iblk m c 0 t = X0, iblk m c 1 t = X1, iblk m c 2 t = X2, iblk m c 3 t = X3, iblk m c 4 t = X4
  frame_out
  obtain ⟨S1, S2⟩ := S
  idx_vars y
  obtain rfl : y0 = 0 := Subsingleton.elim _ _
  pointwise [read_unread_whole, k0_pay2, bp, hid]

/-- A middle point leaves the scratch. -/
theorem B2 (c : Dev nD) (t : Fin cfg0.N) (h0 : 1 ≤ t.val % 8 ∧ t.val % 8 ≤ 6) : (outsAt0 m c t.val t.isLt).2
    = (outsAt0 m c (t.val - 1) (by omega)).2 := by
  rw [outsAt0_B m c t (by omega) h0 (by omega)]
  rfl

set_option maxHeartbeats 4000000 in
/-- The last point's store. -/
theorem C1 (c : Dev nD) (t : Fin cfg0.N) (h0 : t.val % 8 = 7) (y : S1x1024x2048.Idx) : (outsAt0 m c t.val t.isLt).1 y
    = lnorm (fun d => resid (iblk m c 0 t (ix3 0 (y 1) d)) (iblk m c 1 t (ix3 0 5 d)) ((outsAt0 m c (t.val - 1) (by omega)).1 (ix3 0 (y 1) d)
        + bp (iblk m c 2 t) (iblk m c 3 t) (iblk m c 4 t) (fun e => (outsAt0 m c (t.val - 1) (by omega)).2 (ix2 (y 1) e)) d)) (y 2)
      * iblk m c 5 t (ix2 0 (y 2)) + iblk m c 6 t (ix2 0 (y 2)) := by
  rw [outsAt0_C m c t (by omega) (by omega) h0]
  generalize outsAt0 m c (t.val - 1) _ = S
  generalize iblk m c 0 t = X0, iblk m c 1 t = X1, iblk m c 2 t = X2, iblk m c 3 t = X3, iblk m c 4 t = X4, iblk m c 5 t = X5, iblk m c 6 t = X6
  frame_out
  obtain ⟨S1, S2⟩ := S
  canon_tiles x h
  case piece0 =>
    have e1 : y 1 = ⟨768 + (x 1).val, by omega⟩ := Fin.ext h1
    have e2 : y 2 = x 2 := Fin.ext h2
    rw [e1, e2]
    idx_vars x
    obtain rfl : x0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, read_unread_whole, bp, hid, resid, lnorm, mean, variance]
  case piece1 =>
    have e1 : y 1 = ⟨512 + (x 1).val, by omega⟩ := Fin.ext h1
    have e2 : y 2 = x 2 := Fin.ext h2
    rw [e1, e2]
    idx_vars x
    obtain rfl : x0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, read_unread_whole, bp, hid, resid, lnorm, mean, variance]
  case piece2 =>
    have e1 : y 1 = ⟨256 + (x 1).val, by omega⟩ := Fin.ext h1
    have e2 : y 2 = x 2 := Fin.ext h2
    rw [e1, e2]
    idx_vars x
    obtain rfl : x0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, read_unread_whole, bp, hid, resid, lnorm, mean, variance]
  case piece3 =>
    have e1 : y 1 = ⟨(x 1).val, by omega⟩ := Fin.ext h1
    have e2 : y 2 = x 2 := Fin.ext h2
    rw [e1, e2]
    idx_vars x
    obtain rfl : x0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, read_unread_whole, bp, hid, resid, lnorm, mean, variance]

end Cert.Kernel2Ideal.Mlp

end
-- ==== Proof.Mlp.Final.lean ====
module

public import proofs.«01_k».proof.Proof.Mlp.Point

@[expose] public section

set_option maxRecDepth 16384

noncomputable section

namespace Cert.Kernel2Ideal.Mlp

open Cert.Kernel2Ideal Cert.Kernel2Ideal.Gen Idealize.ShloMosaic Idealize.ShloMosaic.TcCoe Idealize.SL.Sem
open Idealize.ShloMosaic.Pipeline (Dat)
open Cert.Layer

/-- Position `k` of hidden tile `f`. -/
def tile (f : ℕ) (k : Fin 1024) : Fin 8192 := ⟨f % 8 * 1024 + k.val, by omega⟩

/-- The batch of a grid point. -/
def bat (t : ℕ) : Fin 8 := ⟨t / 32 % 8, by omega⟩

/-- The array's row of a block's row. -/
def rw' (t : ℕ) (r : Fin 1024) : Fin 4096 := ⟨t / 8 % 4 * 1024 + r.val, by omega⟩

section Args
variable (a0 : S8x4096x2048.Idx → EReal) (a1 : S8x12288.Idx → EReal) (a2 : S2048x8192.Idx → EReal) (a3 : S8192.Idx → EReal)
    (a4 : S8192x2048.Idx → EReal) (a5 a6 : S2048.Idx → EReal)

/-- The modulated norm of one row of the input. -/
def urow (b : Fin 8) (s : Fin 4096) : Fin 2048 → EReal :=
  modRow (fun d => a0 (ix3 b s d)) (fun d => a1 (ix2 b ⟨8192 + d.val, by omega⟩)) (fun d => a1 (ix2 b ⟨6144 + d.val, by omega⟩))

/-- One summand of the second product: hidden unit `l` times its down weight. -/
def term (b : Fin 8) (s : Fin 4096) (d : Fin 2048) (l : Fin 8192) : EReal :=
  hid (urow a0 a1 b s) (fun e => a2 (ix2 e l)) (a3 (ix1 l)) * a4 (ix2 l d)

/-- The result at index `i`, from the arguments. -/
def out (i : S8x4096x2048.Idx) : EReal :=
  lnorm (fun d => resid (a0 (ix3 (i 0) (i 1) d)) (a1 (ix2 (i 0) ⟨10240 + d.val, by omega⟩)) (∑ l, term a0 a1 a2 a3 a4 (i 0) (i 1) d l)) (i 2)
    * a5 (ix1 (i 2)) + a6 (ix1 (i 2))
end Args

variable (m : (ℓ : Loc nD τ sig) → Buf (Elt Ideal) ℓ)

/-- Argument arrays of device `c`. -/
abbrev A0 (c : Dev nD) : S8x4096x2048.Idx → EReal := m ((c.tc : Thread nD τ).loc main_arg0)
/-- The modulation. -/
abbrev A1' (c : Dev nD) : S8x12288.Idx → EReal := m ((c.tc : Thread nD τ).loc main_arg1)
/-- The up weights. -/
abbrev A2' (c : Dev nD) : S2048x8192.Idx → EReal := m ((c.tc : Thread nD τ).loc main_arg2)
/-- The up biases. -/
abbrev A3 (c : Dev nD) : S8192.Idx → EReal := m ((c.tc : Thread nD τ).loc main_arg3)
/-- The down weights. -/
abbrev A4 (c : Dev nD) : S8192x2048.Idx → EReal := m ((c.tc : Thread nD τ).loc main_arg4)
/-- The norm's gain. -/
abbrev A5 (c : Dev nD) : S2048.Idx → EReal := m ((c.tc : Thread nD τ).loc main_arg5)
/-- The norm's shift. -/
abbrev A6 (c : Dev nD) : S2048.Idx → EReal := m ((c.tc : Thread nD τ).loc main_arg6)

/-- The blocks' indices at a grid point. -/
theorem idx : ∀ t : Fin cfg0.N, win0_0.index t = ![t.val / 32, t.val / 8 % 4, 0] ∧ win0_1.index t = ![t.val / 32, 0, 0]
    ∧ win0_2.index t = ![0, t.val % 8] ∧ win0_3.index t = ![0, t.val % 8] ∧ win0_4.index t = ![t.val % 8, 0]
    ∧ win0_5.index t = ![0, 0] ∧ win0_6.index t = ![0, 0] ∧ win0_7.index t = ![t.val / 32, t.val / 8 % 4, 0] ∧ t.val / 32 < 8 :=
  (by decide +kernel : ∀ t : Fin grid0.N, _)

theorem w0 (c : Dev nD) (t : Fin cfg0.N) (r : Fin 1024) (d : Fin 2048) : (iblk m c 0 t (ix3 0 r d) : EReal) = A0 m c (ix3 (bat t.val) (rw' t.val r) d) := by
  have := (idx t).2.2.2.2.2.2.2.2
  simp only [bat, rw']
  blk_point [iblk, V, idx t]

theorem w1 (c : Dev nD) (t : Fin cfg0.N) (e : Fin 6) (d : Fin 2048) : (iblk m c 1 t (ix3 0 e d) : EReal) = A1' m c (ix2 (bat t.val) ⟨e.val * 2048 + d.val, by omega⟩) := by
  have := (idx t).2.2.2.2.2.2.2.2
  simp only [bat]
  blk_simp [iblk, idx t]; entry_read; pointwise; blk_ext [idx t]

theorem w2 (c : Dev nD) (t : Fin cfg0.N) (d : Fin 2048) (k : Fin 1024) : (iblk m c 2 t (ix2 d k) : EReal) = A2' m c (ix2 d (tile t.val k)) := by
  simp only [tile]
  blk_point [iblk, V, idx t]

theorem w3 (c : Dev nD) (t : Fin cfg0.N) (k : Fin 1024) : (iblk m c 3 t (ix2 0 k) : EReal) = A3 m c (ix1 (tile t.val k)) := by
  simp only [tile]
  blk_simp [iblk, idx t]; entry_read; pointwise; blk_ext [idx t]

theorem w4 (c : Dev nD) (t : Fin cfg0.N) (k : Fin 1024) (d : Fin 2048) : (iblk m c 4 t (ix2 k d) : EReal) = A4 m c (ix2 (tile t.val k) d) := by
  simp only [tile]
  blk_point [iblk, V, idx t]

theorem w5 (c : Dev nD) (t : Fin cfg0.N) (d : Fin 2048) : (iblk m c 5 t (ix2 0 d) : EReal) = A5 m c (ix1 d) := by
  blk_simp [iblk, idx t]; entry_read; pointwise; blk_ext [idx t]

theorem w6 (c : Dev nD) (t : Fin cfg0.N) (d : Fin 2048) : (iblk m c 6 t (ix2 0 d) : EReal) = A6 m c (ix1 d) := by
  blk_simp [iblk, idx t]; entry_read; pointwise; blk_ext [idx t]

theorem w7 (t : Fin cfg0.N) (y : S1x1024x2048.Idx) : (((cfg0.win 7).blk t).view.emb y : S8x4096x2048.Idx) = ix3 (bat t.val) (rw' t.val (y 1)) (y 2) := by
  have := (idx t).2.2.2.2.2.2.2.2
  simp only [bat, rw']
  blk_ext [idx t]

/-- The summand at device `c`'s arguments. -/
abbrev T (c : Dev nD) (b : Fin 8) (s : Fin 4096) (d : Fin 2048) (l : Fin 8192) : EReal := term (A0 m c) (A1' m c) (A2' m c) (A3 m c) (A4 m c) b s d l

theorem bu_eq (c : Dev nD) (t : Fin cfg0.N) (r : Fin 1024) :
    bu (iblk m c 0 t) (iblk m c 1 t) r = urow (A0 m c) (A1' m c) (bat t.val) (rw' t.val r) := by
  funext d
  have e4 : ∀ d : Fin 2048, (iblk m c 1 t (ix3 0 4 d) : EReal) = A1' m c (ix2 (bat t.val) ⟨8192 + d.val, by omega⟩) := fun d => w1 m c t 4 d
  have e3 : ∀ d : Fin 2048, (iblk m c 1 t (ix3 0 3 d) : EReal) = A1' m c (ix2 (bat t.val) ⟨6144 + d.val, by omega⟩) := fun d => w1 m c t 3 d
  have e0 := w0 m c t r
  simp only [bu, urow, e0, e3, e4]

theorem bp_eq (c : Dev nD) (t : Fin cfg0.N) (u : Fin 2048 → EReal) (r : Fin 1024) (d : Fin 2048)
    (hu : u = urow (A0 m c) (A1' m c) (bat t.val) (rw' t.val r)) :
    bp (iblk m c 2 t) (iblk m c 3 t) (iblk m c 4 t) u d = ∑ k, T m c (bat t.val) (rw' t.val r) d (tile t.val k) := by
  subst hu
  have e2 := w2 m c t
  have e3 := w3 m c t
  have e4 := w4 m c t
  simp only [bp, T, term, e2, e3, e4]

theorem tile_mod (f : ℕ) (k : Fin 1024) : tile (f % 8) k = tile f k := by simp [tile]

/-- What the points before the last of a run leave: the sum over the hidden tiles so far, and the modulated norm. -/
theorem inv (c : Dev nD) : ∀ (n : ℕ) (hn : n < cfg0.N), n % 8 ≤ 6 →
    (∀ (r : Fin 1024) (d : Fin 2048), ((outsAt0 m c n hn).1 (ix3 0 r d) : EReal) = ∑ f ∈ Finset.range (n % 8 + 1), ∑ k, T m c (bat n) (rw' n r) d (tile f k))
    ∧ ∀ (r : Fin 1024) (d : Fin 2048), ((outsAt0 m c n hn).2 (ix2 r d) : EReal) = urow (A0 m c) (A1' m c) (bat n) (rw' n r) d := by
  intro n
  induction n with
  | zero =>
    intro hn _
    refine ⟨fun r d => ?_, fun r d => ?_⟩
    · refine (A1 m c ⟨0, hn⟩ rfl (ix3 0 r d)).trans ((bp_eq m c ⟨0, hn⟩ _ r d (bu_eq m c _ _)).trans ?_)
      simp
    · exact (A2 m c ⟨0, hn⟩ rfl (ix2 r d)).trans (congrFun (bu_eq m c ⟨0, hn⟩ r) d)
  | succ n ih =>
    intro hn h6
    by_cases h0 : (n + 1) % 8 = 0
    · refine ⟨fun r d => ?_, fun r d => ?_⟩
      · refine (A1 m c ⟨n + 1, hn⟩ h0 (ix3 0 r d)).trans ((bp_eq m c ⟨n + 1, hn⟩ _ r d (bu_eq m c _ _)).trans ?_)
        simp only [h0, Finset.sum_range_one, zero_add]
        refine Finset.sum_congr rfl fun k _ => ?_
        rw [← tile_mod (n + 1), h0]
      · exact (A2 m c ⟨n + 1, hn⟩ h0 (ix2 r d)).trans (congrFun (bu_eq m c ⟨n + 1, hn⟩ r) d)
    · obtain ⟨i1, i2⟩ := ih (Nat.lt_of_succ_lt hn) (by omega)
      have hb : bat n = bat (n + 1) := Fin.ext (by simp only [bat]; omega)
      have hr : ∀ r, rw' n r = rw' (n + 1) r := fun r => Fin.ext (by simp only [rw']; omega)
      have hq : (n + 1) % 8 = n % 8 + 1 := by omega
      simp only [hb, hr] at i1 i2
      have h1 : 1 ≤ (n + 1) % 8 := by omega
      refine ⟨fun r d => ?_, fun r d => ?_⟩
      · refine (B1 m c ⟨n + 1, hn⟩ ⟨h1, h6⟩ (ix3 0 r d)).trans ?_
        rw [Finset.sum_range_succ]
        refine congrArg₂ (· + ·) ((i1 r d).trans (by rw [hq])) ?_
        refine (bp_eq m c ⟨n + 1, hn⟩ _ r d (funext fun e => i2 r e)).trans ?_
        simp only [tile_mod]
      · exact (congrFun (B2 m c ⟨n + 1, hn⟩ ⟨h1, h6⟩) (ix2 r d)).trans (i2 r d)

/-- `out` at device `c`'s arguments. -/
abbrev res (c : Dev nD) : S8x4096x2048.Idx → EReal := out (A0 m c) (A1' m c) (A2' m c) (A3 m c) (A4 m c) (A5 m c) (A6 m c)

/-- The eight tiles' sums are the sum over all hidden units. -/
theorem tiles (f : Fin 8192 → EReal) : (∑ n ∈ Finset.range 8, ∑ k, f (tile n k)) = ∑ l, f l := by
  rw [Finset.sum_range]
  refine Fin.sum_mul_add_congr fun s k hl => congrArg f (Fin.ext ?_)
  simp only [tile]; omega

/-- What the last point of a run leaves in its staging buffer. -/
theorem last (c : Dev nD) (t : Fin cfg0.N) (h0 : t.val % 8 = 7) (r : Fin 1024) (d : Fin 2048) :
    ((outsAt0 m c t.val t.isLt).1 (ix3 0 r d) : EReal) = res m c (ix3 (bat t.val) (rw' t.val r) d) := by
  have hp : t.val - 1 < cfg0.N := by omega
  obtain ⟨i1, i2⟩ := inv m c (t.val - 1) hp (by omega)
  have hb : bat (t.val - 1) = bat t.val := Fin.ext (by simp only [bat]; omega)
  have hr : ∀ r, rw' (t.val - 1) r = rw' t.val r := fun r => Fin.ext (by simp only [rw']; omega)
  have hq : (t.val - 1) % 8 + 1 = 7 := by omega
  simp only [hb, hr, hq] at i1 i2
  have e1 : ∀ d : Fin 2048, (iblk m c 1 t (ix3 0 5 d) : EReal) = A1' m c (ix2 (bat t.val) ⟨10240 + d.val, by omega⟩) := fun d => w1 m c t 5 d
  have es : ∀ d : Fin 2048, ((outsAt0 m c (t.val - 1) hp).1 (ix3 0 r d) : EReal)
      + bp (iblk m c 2 t) (iblk m c 3 t) (iblk m c 4 t) (fun e => (outsAt0 m c (t.val - 1) hp).2 (ix2 r e)) d
      = ∑ l, T m c (bat t.val) (rw' t.val r) d l := fun d => by
    rw [← tiles, Finset.sum_range_succ]
    refine congrArg₂ (· + ·) (i1 r d) ((bp_eq m c t _ r d (funext fun e => i2 r e)).trans ?_)
    refine Finset.sum_congr rfl fun k _ => ?_
    rw [← tile_mod t.val, h0]
  refine (C1 m c t h0 (ix3 0 r d)).trans ?_
  refine congrArg₂ (· + ·) (congrArg₂ (· * ·) (congrArg (fun z => lnorm z d) (funext fun d => ?_)) (w5 m c t d)) (w6 m c t d)
  exact congr (congr (congrArg resid (w0 m c t r d)) (e1 d)) (es d)

theorem flush_mod : ∀ t : Fin cfg0.N, (cfg0.win 7).flush t = true → t.val % 8 = 7 :=
  (by decide +kernel : ∀ t : Fin grid0.N, (cfg0.win 7).flush t = true → t.val % 8 = 7)

theorem last' (c : Dev nD) (t : Fin cfg0.N) (h0 : t.val % 8 = 7) (y : S1x1024x2048.Idx) :
    (outsAt0 m c t.val t.isLt).1 y = res m c (((cfg0.win 7).blk t).view.emb y) := by
  rw [w7 t y]
  idx_vars y
  obtain rfl : y0 = 0 := Subsingleton.elim _ _
  exact last m c t h0 y1 y2

/-- The kernel's result array. -/
theorem final (c : Dev nD) : (dats m 0 c).arrAt 7 cfg0.N = res m c :=
  (dats m 0 c).arrAt_eq_of_covers 7 _ (by decide +kernel) fun t hf y => by
    blk_simp; rw [after0_7]; exact last' m c t (flush_mod t hf) y

end Cert.Kernel2Ideal.Mlp

end
-- ==== Proof.Mlp.Ref.lean ====
module

public import proofs.«01_k».proof.Proof.Gen.Reference2Ideal.Read
public import proofs.«01_k».proof.Proof.Mlp.Final

@[expose] public section

set_option maxRecDepth 16384

noncomputable section

namespace Cert.Reference2Ideal.Mlp

open Cert.Reference2Ideal Cert.Reference2Ideal.Gen Cert.Reference2Ideal.Read Idealize.ShloMosaic Idealize.ShloMosaic.TcCoe Idealize.SL.Sem
open Cert.Layer

/-- The reference's result is the kernel's, as a function of the arguments. -/
theorem ref (x0 : (⟨S8x4096x2048, .f32⟩ : BufTy).Contents (Elt Ideal)) (x1 : (⟨S8x12288, .f32⟩ : BufTy).Contents (Elt Ideal))
    (x2 : (⟨S2048x8192, .f32⟩ : BufTy).Contents (Elt Ideal)) (x3 : (⟨S8192, .f32⟩ : BufTy).Contents (Elt Ideal))
    (x4 : (⟨S8192x2048, .f32⟩ : BufTy).Contents (Elt Ideal)) (x5 x6 : (⟨S2048, .f32⟩ : BufTy).Contents (Elt Ideal)) :
    val_main_v71 x0 x1 x2 x3 x4 x5 x6 = Cert.Kernel2Ideal.Mlp.out x0 x1 x2 x3 x4 x5 x6 := by
  funext i
  idx_vars i
  pointwise [val_main_v0, val_main_v1, val_main_v2, val_main_v3, val_main_v4, val_main_v5, val_main_v6, val_main_v7, val_main_v8, val_main_v9, val_main_v10, val_main_v11, val_main_cst, val_main_v12, val_main_v13, val_main_cst_0, val_main_v14, val_main_v15, val_main_v16, val_main_v17, val_main_v18, val_main_cst_1, val_main_v19, val_main_v20, val_main_cst_2, val_main_v21, val_main_v22, val_main_v23, val_main_v24, val_main_cst_3, val_main_v25, val_main_v26, val_main_v27, val_main_v28, val_main_v29, val_main_cst_4, val_main_v30, val_main_v31, val_main_v32, val_main_v33, val_main_v34, val_main_v35, val_main_v36, val_main_v37, val_main_v38, val_main_v39, val_main_call0_cst, val_main_call0_v0, val_main_v40, val_main_v41, val_main_cst_5, val_main_v42, val_main_v43, val_main_v44, val_main_v45, val_main_v46, val_main_v47, val_main_cst_6, val_main_v48, val_main_v49, val_main_cst_7, val_main_v50, val_main_v51, val_main_v52, val_main_v53, val_main_v54, val_main_cst_8, val_main_v55, val_main_v56, val_main_cst_9, val_main_v57, val_main_v58, val_main_v59, val_main_v60, val_main_cst_10, val_main_v61, val_main_v62, val_main_v63, val_main_v64, val_main_v65, val_main_v66, val_main_v67, val_main_v68, val_main_v69, val_main_v70, val_main_v71,
    Cert.Kernel2Ideal.Mlp.out, Cert.Kernel2Ideal.Mlp.term, Cert.Kernel2Ideal.Mlp.urow, hid, modRow, lnorm, mean, variance, resid]

end Cert.Reference2Ideal.Mlp

end
-- ==== Proof.Mlp.Claim.lean ====
module

public import proofs.«01_k».proof.Defs
public import proofs.«01_k».proof.Proof.Gen.Kernel2
public import proofs.«01_k».proof.Proof.Gen.Reference2Ideal
public import proofs.«01_k».proof.Proof.Mlp.Ref

@[expose] public section

noncomputable section

namespace Cert.Proof

open Idealize.ShloMosaic Idealize.SL.Sem Idealize.ShloMosaic.TcCoe

/-- The feed-forward block computes its reference's result. -/
theorem algebraic2 : @Cert.algebraic_Kernel2Ideal_Reference2Ideal Cert.Kernel2Ideal.Gen.facts Cert.Reference2Ideal.Gen.facts := by
  intro m g m' g' _ args
  refine ⟨fun c => Cert.Kernel2Ideal.Mlp.res m c, ?_, ?_⟩
  · run_from Cert.Kernel2Ideal.Gen.run_main m g
    exact Cert.Kernel2Ideal.Mlp.final m c
  · run_from Cert.Reference2Ideal.Value.run m' g'
    rw [Cert.Reference2Ideal.Read.val_main_v71_eq, Cert.Reference2Ideal.Mlp.ref]
    obtain ⟨e0, e1, e2, e3, e4, e5, e6⟩ := args c
    simp only [Cert.Kernel2Ideal.Mlp.res, Cert.Kernel2Ideal.Mlp.A0, Cert.Kernel2Ideal.Mlp.A1', Cert.Kernel2Ideal.Mlp.A2', Cert.Kernel2Ideal.Mlp.A3, Cert.Kernel2Ideal.Mlp.A4, Cert.Kernel2Ideal.Mlp.A5, Cert.Kernel2Ideal.Mlp.A6, e0, e1, e2, e3, e4, e5, e6]

end Cert.Proof

end
-- ==== Proof.MlpS.Point.lean ====
module

public import proofs.«01_k».proof.Proof.Gen.Kernel4Ideal.Value
public import proofs.«01_k».proof.Proof.Norm
public import Idealize.ShloMosaic.Lib.Pipeline.ReadBack

@[expose] public section

set_option maxRecDepth 16384

noncomputable section

namespace Cert.Kernel4Ideal.Mlp

open Cert.Kernel4Ideal Cert.Kernel4Ideal.Gen Idealize.ShloMosaic Idealize.ShloMosaic.TcCoe Idealize.SL.Sem
open Idealize.ShloMosaic.Pipeline (Dat)
open Cert.Layer

section Blocks
variable (X0 : Vec Ideal S8x64x2048 .f32) (X1 : Vec Ideal S8x6x2048 .f32) (X2 : Vec Ideal S2048x1024 .bf16) (X3 : Vec Ideal S1x1024 .f32)
  (X4 : Vec Ideal S1024x2048 .bf16) (b : Fin 8) (r : Fin 64)

/-- Row `r` of batch `b` of the modulated norm of a block. -/
def bu (d : Fin 2048) : EReal := modRow (fun d => X0 (ix3 b r d)) (fun d => X1 (ix3 b 4 d)) (fun d => X1 (ix3 b 3 d)) d

/-- One row of the product of one hidden tile with its down weights. -/
def bp (u : Fin 2048 → EReal) (d : Fin 2048) : EReal := ∑ k : Fin 1024, hid u (fun e => X2 (ix2 e k)) (X3 (ix2 0 k)) * X4 (ix2 k d)

/-- The scratch's row of row `r` of batch `b`. -/
def flat : Fin 512 := ⟨b.val * 64 + r.val, by omega⟩
end Blocks

variable (m : (ℓ : Loc nD τ sig) → Buf (Elt Ideal) ℓ)

set_option maxHeartbeats 4000000 in
/-- The first hidden tile's product, at the first point. -/
theorem A1 (c : Dev nD) (t : Fin cfg0.N) (h0 : t.val % 8 = 0) (y : S8x64x2048.Idx) : (outsAt0 m c t.val t.isLt).1 y
    = bp (iblk m c 2 t) (iblk m c 3 t) (iblk m c 4 t) (bu (iblk m c 0 t) (iblk m c 1 t) (y 0) (y 1)) (y 2) := by
  rw [outsAt0_A m c t h0 (by omega) (by omega)]
  generalize iblk m c 0 t = X0, iblk m c 1 t = X1, iblk m c 2 t = X2, iblk m c 3 t = X3, iblk m c 4 t = X4, iblk m c 5 t = X5, iblk m c 6 t = X6
  frame_out
  canon_tiles x h
  case piece0 =>
    have e0 : y 0 = ⟨4 + (x 0).val, by omega⟩ := Fin.ext h0
    have e1 : y 1 = x 1 := Fin.ext h1
    have e2 : y 2 = x 2 := Fin.ext h2
    rw [e0, e1, e2]
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, read_unread_whole, flat, bp, bu, hid, modRow, resid, lnorm, mean, variance]
  case piece1 =>
    have e0 : y 0 = ⟨(x 0).val, by omega⟩ := Fin.ext h0
    have e1 : y 1 = x 1 := Fin.ext h1
    have e2 : y 2 = x 2 := Fin.ext h2
    rw [e0, e1, e2]
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, read_unread_whole, flat, bp, bu, hid, modRow, resid, lnorm, mean, variance]

set_option maxHeartbeats 4000000 in
/-- The modulated norm kept in the scratch, at the first point. -/
theorem A2 (c : Dev nD) (t : Fin cfg0.N) (h0 : t.val % 8 = 0) (y : S512x2048.Idx) (b : Fin 8) (r : Fin 64) (e : (y 0).val = b.val * 64 + r.val) : (outsAt0 m c t.val t.isLt).2 y
    = bu (iblk m c 0 t) (iblk m c 1 t) b r (y 1) := by
  rw [outsAt0_A m c t h0 (by omega) (by omega)]
  generalize iblk m c 0 t = X0, iblk m c 1 t = X1, iblk m c 2 t = X2, iblk m c 3 t = X3, iblk m c 4 t = X4, iblk m c 5 t = X5, iblk m c 6 t = X6
  frame_out
  canon_tiles x h
  case piece0 =>
    have hb : 4 + (x 0).val / 64 < 8 := by omega
    have hr : (x 0).val % 64 < 64 := by omega
    have eb : b = ⟨4 + (x 0).val / 64, hb⟩ := Fin.ext (by simp only; omega)
    have er : r = ⟨(x 0).val % 64, hr⟩ := Fin.ext (by simp only; omega)
    have e1 : y 1 = x 1 := Fin.ext h1
    rw [eb, er, e1]
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, read_unread_whole, flat, bp, bu, hid, modRow, resid, lnorm, mean, variance]
  case piece1 =>
    have hb : (x 0).val / 64 < 8 := by omega
    have hr : (x 0).val % 64 < 64 := by omega
    have eb : b = ⟨(x 0).val / 64, hb⟩ := Fin.ext (by simp only; omega)
    have er : r = ⟨(x 0).val % 64, hr⟩ := Fin.ext (by simp only; omega)
    have e1 : y 1 = x 1 := Fin.ext h1
    rw [eb, er, e1]
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, read_unread_whole, flat, bp, bu, hid, modRow, resid, lnorm, mean, variance]

set_option maxHeartbeats 4000000 in
/-- A middle hidden tile's product is added to what the point before left. -/
theorem B1 (c : Dev nD) (t : Fin cfg0.N) (h0 : 1 ≤ t.val % 8 ∧ t.val % 8 ≤ 6) (y : S8x64x2048.Idx) : (outsAt0 m c t.val t.isLt).1 y
    = (outsAt0 m c (t.val - 1) (by omega)).1 y + bp (iblk m c 2 t) (iblk m c 3 t) (iblk m c 4 t) (fun e => (outsAt0 m c (t.val - 1) (by omega)).2 (ix2 (flat (y 0) (y 1)) e)) (y 2) := by
  rw [outsAt0_B m c t (by omega) h0 (by omega)]
  generalize outsAt0 m c (t.val - 1) _ = S
  generalize iblk m c 0 t = X0, iblk m c 1 t = X1, iblk m c 2 t = X2, iblk m c 3 t = X3, iblk m c 4 t = X4, iblk m c 5 t = X5, iblk m c 6 t = X6
  frame_out
  obtain ⟨S1, S2⟩ := S
  idx_vars y
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, read_unread_whole, flat, bp, bu, hid, modRow, resid, lnorm, mean, variance]

/-- A middle point leaves the scratch. -/
theorem B2 (c : Dev nD) (t : Fin cfg0.N) (h0 : 1 ≤ t.val % 8 ∧ t.val % 8 ≤ 6) : (outsAt0 m c t.val t.isLt).2
    = (outsAt0 m c (t.val - 1) (by omega)).2 := by
  rw [outsAt0_B m c t (by omega) h0 (by omega)]
  rfl

set_option maxHeartbeats 4000000 in
/-- The last point's store. -/
theorem C1 (c : Dev nD) (t : Fin cfg0.N) (h0 : t.val % 8 = 7) (y : S8x64x2048.Idx) : (outsAt0 m c t.val t.isLt).1 y
    = lnorm (fun d => resid (iblk m c 0 t (ix3 (y 0) (y 1) d)) (iblk m c 1 t (ix3 (y 0) 5 d)) ((outsAt0 m c (t.val - 1) (by omega)).1 (ix3 (y 0) (y 1) d)
        + bp (iblk m c 2 t) (iblk m c 3 t) (iblk m c 4 t) (fun e => (outsAt0 m c (t.val - 1) (by omega)).2 (ix2 (flat (y 0) (y 1)) e)) d)) (y 2)
      * iblk m c 5 t (ix2 0 (y 2)) + iblk m c 6 t (ix2 0 (y 2)) := by
  rw [outsAt0_C m c t (by omega) (by omega) h0]
  generalize outsAt0 m c (t.val - 1) _ = S
  generalize iblk m c 0 t = X0, iblk m c 1 t = X1, iblk m c 2 t = X2, iblk m c 3 t = X3, iblk m c 4 t = X4, iblk m c 5 t = X5, iblk m c 6 t = X6
  frame_out
  obtain ⟨S1, S2⟩ := S
  canon_tiles x h
  case piece0 =>
    have e0 : y 0 = ⟨4 + (x 0).val, by omega⟩ := Fin.ext h0
    have e1 : y 1 = x 1 := Fin.ext h1
    have e2 : y 2 = x 2 := Fin.ext h2
    rw [e0, e1, e2]
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, read_unread_whole, flat, bp, bu, hid, modRow, resid, lnorm, mean, variance]
    have e : 256 + (x0.val * 64 + x1.val) = (4 + x0.val) * 64 + x1.val := by omega
    simp only [e]
  case piece1 =>
    have e0 : y 0 = ⟨(x 0).val, by omega⟩ := Fin.ext h0
    have e1 : y 1 = x 1 := Fin.ext h1
    have e2 : y 2 = x 2 := Fin.ext h2
    rw [e0, e1, e2]
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, read_unread_whole, flat, bp, bu, hid, modRow, resid, lnorm, mean, variance]

end Cert.Kernel4Ideal.Mlp

end
-- ==== Proof.MlpS.Final.lean ====
module

public import proofs.«01_k».proof.Proof.MlpS.Point

@[expose] public section

set_option maxRecDepth 16384

noncomputable section

namespace Cert.Kernel4Ideal.Mlp

open Cert.Kernel4Ideal Cert.Kernel4Ideal.Gen Idealize.ShloMosaic Idealize.ShloMosaic.TcCoe Idealize.SL.Sem
open Idealize.ShloMosaic.Pipeline (Dat)
open Cert.Layer

/-- Position `k` of hidden tile `f`. -/
def tile (f : ℕ) (k : Fin 1024) : Fin 8192 := ⟨f % 8 * 1024 + k.val, by omega⟩

section Args
variable (a0 : S8x64x2048.Idx → EReal) (a1 : S8x12288.Idx → EReal) (a2 : S2048x8192.Idx → EReal) (a3 : S8192.Idx → EReal)
    (a4 : S8192x2048.Idx → EReal) (a5 a6 : S2048.Idx → EReal)

/-- The modulated norm of one row of the input. -/
def urow (b : Fin 8) (s : Fin 64) : Fin 2048 → EReal :=
  modRow (fun d => a0 (ix3 b s d)) (fun d => a1 (ix2 b ⟨8192 + d.val, by omega⟩)) (fun d => a1 (ix2 b ⟨6144 + d.val, by omega⟩))

/-- One summand of the second product: hidden unit `l` times its down weight. -/
def term (b : Fin 8) (s : Fin 64) (d : Fin 2048) (l : Fin 8192) : EReal :=
  hid (urow a0 a1 b s) (fun e => a2 (ix2 e l)) (a3 (ix1 l)) * a4 (ix2 l d)

/-- The result at index `i`, from the arguments. -/
def out (i : S8x64x2048.Idx) : EReal :=
  lnorm (fun d => resid (a0 (ix3 (i 0) (i 1) d)) (a1 (ix2 (i 0) ⟨10240 + d.val, by omega⟩)) (∑ l, term a0 a1 a2 a3 a4 (i 0) (i 1) d l)) (i 2)
    * a5 (ix1 (i 2)) + a6 (ix1 (i 2))
end Args

variable (m : (ℓ : Loc nD τ sig) → Buf (Elt Ideal) ℓ)

/-- Argument arrays of device `c`. -/
abbrev A0 (c : Dev nD) : S8x64x2048.Idx → EReal := m ((c.tc : Thread nD τ).loc main_arg0)
/-- The modulation. -/
abbrev A1' (c : Dev nD) : S8x12288.Idx → EReal := m ((c.tc : Thread nD τ).loc main_arg1)
/-- The up weights. -/
abbrev A2' (c : Dev nD) : S2048x8192.Idx → EReal := m ((c.tc : Thread nD τ).loc main_arg2)
/-- The up biases. -/
abbrev A3 (c : Dev nD) : S8192.Idx → EReal := m ((c.tc : Thread nD τ).loc main_arg3)
/-- The down weights. -/
abbrev A4 (c : Dev nD) : S8192x2048.Idx → EReal := m ((c.tc : Thread nD τ).loc main_arg4)
/-- The norm's gain. -/
abbrev A5 (c : Dev nD) : S2048.Idx → EReal := m ((c.tc : Thread nD τ).loc main_arg5)
/-- The norm's shift. -/
abbrev A6 (c : Dev nD) : S2048.Idx → EReal := m ((c.tc : Thread nD τ).loc main_arg6)

/-- The blocks' indices at a grid point. -/
theorem idx : ∀ t : Fin cfg0.N, win0_0.index t = ![0, 0, 0] ∧ win0_1.index t = ![0, 0, 0]
    ∧ win0_2.index t = ![0, t.val % 8] ∧ win0_3.index t = ![0, t.val % 8] ∧ win0_4.index t = ![t.val % 8, 0]
    ∧ win0_5.index t = ![0, 0] ∧ win0_6.index t = ![0, 0] ∧ win0_7.index t = ![0, 0, 0] :=
  (by decide +kernel : ∀ t : Fin grid0.N, _)

/-- The block of the input, at an index. -/
theorem w0 (c : Dev nD) (t : Fin cfg0.N) (b : Fin 8) (r : Fin 64) (d : Fin 2048) : (iblk m c 0 t (ix3 b r d) : EReal) = A0 m c (ix3 b r d) := by
  blk_point [iblk, V, idx t]

/-- The block of the modulation, at an index. -/
theorem w1 (c : Dev nD) (t : Fin cfg0.N) (b : Fin 8) (e : Fin 6) (d : Fin 2048) : (iblk m c 1 t (ix3 b e d) : EReal) = A1' m c (ix2 b ⟨e.val * 2048 + d.val, by omega⟩) := by
  blk_simp [iblk, idx t]; entry_read; pointwise; blk_ext [idx t]

/-- The block of the up weights, at an index. -/
theorem w2 (c : Dev nD) (t : Fin cfg0.N) (d : Fin 2048) (k : Fin 1024) : (iblk m c 2 t (ix2 d k) : EReal) = A2' m c (ix2 d (tile t.val k)) := by
  simp only [tile]
  blk_point [iblk, V, idx t]

/-- The block of the up biases, at an index. -/
theorem w3 (c : Dev nD) (t : Fin cfg0.N) (k : Fin 1024) : (iblk m c 3 t (ix2 0 k) : EReal) = A3 m c (ix1 (tile t.val k)) := by
  simp only [tile]
  blk_simp [iblk, idx t]; entry_read; pointwise; blk_ext [idx t]

/-- The block of the down weights, at an index. -/
theorem w4 (c : Dev nD) (t : Fin cfg0.N) (k : Fin 1024) (d : Fin 2048) : (iblk m c 4 t (ix2 k d) : EReal) = A4 m c (ix2 (tile t.val k) d) := by
  simp only [tile]
  blk_point [iblk, V, idx t]

/-- The block of the gain, at an index. -/
theorem w5 (c : Dev nD) (t : Fin cfg0.N) (d : Fin 2048) : (iblk m c 5 t (ix2 0 d) : EReal) = A5 m c (ix1 d) := by
  blk_simp [iblk, idx t]; entry_read; pointwise; blk_ext [idx t]

/-- The block of the shift, at an index. -/
theorem w6 (c : Dev nD) (t : Fin cfg0.N) (d : Fin 2048) : (iblk m c 6 t (ix2 0 d) : EReal) = A6 m c (ix1 d) := by
  blk_simp [iblk, idx t]; entry_read; pointwise; blk_ext [idx t]

/-- Where the output block lies in the result. -/
theorem w7 (t : Fin cfg0.N) (y : S8x64x2048.Idx) : (((cfg0.win 7).blk t).view.emb y : S8x64x2048.Idx) = ix3 (y 0) (y 1) (y 2) := by
  blk_ext [idx t]

/-- The summand at device `c`'s arguments. -/
abbrev T (c : Dev nD) (b : Fin 8) (s : Fin 64) (d : Fin 2048) (l : Fin 8192) : EReal := term (A0 m c) (A1' m c) (A2' m c) (A3 m c) (A4 m c) b s d l

/-- The block's modulated norm is the input's. -/
theorem bu_eq (c : Dev nD) (t : Fin cfg0.N) (b : Fin 8) (r : Fin 64) :
    bu (iblk m c 0 t) (iblk m c 1 t) b r = urow (A0 m c) (A1' m c) b r := by
  funext d
  have e4 : ∀ d : Fin 2048, (iblk m c 1 t (ix3 b 4 d) : EReal) = A1' m c (ix2 b ⟨8192 + d.val, by omega⟩) := fun d => w1 m c t b 4 d
  have e3 : ∀ d : Fin 2048, (iblk m c 1 t (ix3 b 3 d) : EReal) = A1' m c (ix2 b ⟨6144 + d.val, by omega⟩) := fun d => w1 m c t b 3 d
  have e0 := w0 m c t b r
  simp only [bu, urow, e0, e3, e4]

/-- The block's product is a tile of the summands. -/
theorem bp_eq (c : Dev nD) (t : Fin cfg0.N) (u : Fin 2048 → EReal) (b : Fin 8) (r : Fin 64) (d : Fin 2048)
    (hu : u = urow (A0 m c) (A1' m c) b r) :
    bp (iblk m c 2 t) (iblk m c 3 t) (iblk m c 4 t) u d = ∑ k, T m c b r d (tile t.val k) := by
  subst hu
  have e2 := w2 m c t
  have e3 := w3 m c t
  have e4 := w4 m c t
  simp only [bp, T, term, e2, e3, e4]

/-- What the points before the last leave: the sum over the hidden tiles so far, and the modulated norm. -/
theorem inv (c : Dev nD) : ∀ (n : ℕ) (hn : n < cfg0.N), n ≤ 6 →
    (∀ (b : Fin 8) (r : Fin 64) (d : Fin 2048), ((outsAt0 m c n hn).1 (ix3 b r d) : EReal) = ∑ f ∈ Finset.range (n + 1), ∑ k, T m c b r d (tile f k))
    ∧ ∀ (b : Fin 8) (r : Fin 64) (d : Fin 2048), ((outsAt0 m c n hn).2 (ix2 (flat b r) d) : EReal) = urow (A0 m c) (A1' m c) b r d := by
  intro n
  induction n with
  | zero =>
    intro hn _
    refine ⟨fun b r d => ?_, fun b r d => ?_⟩
    · refine (A1 m c ⟨0, hn⟩ rfl (ix3 b r d)).trans ((bp_eq m c ⟨0, hn⟩ _ b r d (bu_eq m c _ _ _)).trans ?_)
      simp
    · exact (A2 m c ⟨0, hn⟩ rfl (ix2 (flat b r) d) b r rfl).trans (congrFun (bu_eq m c ⟨0, hn⟩ b r) d)
  | succ n ih =>
    intro hn h6
    obtain ⟨i1, i2⟩ := ih (Nat.lt_of_succ_lt hn) (by omega)
    have h1 : 1 ≤ (n + 1) % 8 ∧ (n + 1) % 8 ≤ 6 := by omega
    refine ⟨fun b r d => ?_, fun b r d => ?_⟩
    · refine (B1 m c ⟨n + 1, hn⟩ h1 (ix3 b r d)).trans ?_
      rw [Finset.sum_range_succ]
      exact congrArg₂ (· + ·) (i1 b r d) (bp_eq m c ⟨n + 1, hn⟩ _ b r d (funext fun e => i2 b r e))
    · exact (congrFun (B2 m c ⟨n + 1, hn⟩ h1) (ix2 (flat b r) d)).trans (i2 b r d)

/-- `out` at device `c`'s arguments. -/
abbrev res (c : Dev nD) : S8x64x2048.Idx → EReal := out (A0 m c) (A1' m c) (A2' m c) (A3 m c) (A4 m c) (A5 m c) (A6 m c)

/-- The eight tiles' sums are the sum over all hidden units. -/
theorem tiles (f : Fin 8192 → EReal) : (∑ n ∈ Finset.range 8, ∑ k, f (tile n k)) = ∑ l, f l := by
  rw [Finset.sum_range]
  refine Fin.sum_mul_add_congr fun s k hl => congrArg f (Fin.ext ?_)
  simp only [tile]; omega

/-- What the last point leaves in its staging buffer. -/
theorem last (c : Dev nD) (t : Fin cfg0.N) (h0 : t.val = 7) (b : Fin 8) (r : Fin 64) (d : Fin 2048) :
    ((outsAt0 m c t.val t.isLt).1 (ix3 b r d) : EReal) = res m c (ix3 b r d) := by
  have hp : t.val - 1 < cfg0.N := by omega
  obtain ⟨i1, i2⟩ := inv m c (t.val - 1) hp (by omega)
  have hq : t.val - 1 + 1 = 7 := by omega
  simp only [hq] at i1
  have e1 : ∀ d : Fin 2048, (iblk m c 1 t (ix3 b 5 d) : EReal) = A1' m c (ix2 b ⟨10240 + d.val, by omega⟩) := fun d => w1 m c t b 5 d
  have es : ∀ d : Fin 2048, ((outsAt0 m c (t.val - 1) hp).1 (ix3 b r d) : EReal)
      + bp (iblk m c 2 t) (iblk m c 3 t) (iblk m c 4 t) (fun e => (outsAt0 m c (t.val - 1) hp).2 (ix2 (flat b r) e)) d
      = ∑ l, T m c b r d l := fun d => by
    rw [← tiles, Finset.sum_range_succ]
    refine congrArg₂ (· + ·) (i1 b r d) ((bp_eq m c t _ b r d (funext fun e => i2 b r e)).trans ?_)
    rw [h0]
  refine (C1 m c t (by omega) (ix3 b r d)).trans ?_
  refine congrArg₂ (· + ·) (congrArg₂ (· * ·) (congrArg (fun z => lnorm z d) (funext fun d => ?_)) (w5 m c t d)) (w6 m c t d)
  exact congr (congr (congrArg resid (w0 m c t b r d)) (e1 d)) (es d)

/-- The output block is written back at the last point. -/
theorem flush_last : ∀ t : Fin cfg0.N, (cfg0.win 7).flush t = true → t.val = 7 :=
  (by decide +kernel : ∀ t : Fin grid0.N, (cfg0.win 7).flush t = true → t.val = 7)

/-- The block that is written back is the result. -/
theorem last' (c : Dev nD) (t : Fin cfg0.N) (h0 : t.val = 7) (y : S8x64x2048.Idx) :
    (outsAt0 m c t.val t.isLt).1 y = res m c (((cfg0.win 7).blk t).view.emb y) := by
  rw [w7 t y]
  idx_vars y
  exact last m c t h0 y0 y1 y2

/-- The kernel's result array. -/
theorem final (c : Dev nD) : (dats m 0 c).arrAt 7 cfg0.N = res m c :=
  (dats m 0 c).arrAt_eq_of_covers 7 _ (by decide +kernel) fun t hf y => by
    blk_simp; rw [after0_7]; exact last' m c t (flush_last t hf) y

end Cert.Kernel4Ideal.Mlp

end
-- ==== Proof.MlpS.Ref.lean ====
module

public import proofs.«01_k».proof.Proof.Gen.Reference4Ideal.Read
public import proofs.«01_k».proof.Proof.MlpS.Final

@[expose] public section

set_option maxRecDepth 16384

noncomputable section

namespace Cert.Reference4Ideal.Mlp

open Cert.Reference4Ideal Cert.Reference4Ideal.Gen Cert.Reference4Ideal.Read Idealize.ShloMosaic Idealize.ShloMosaic.TcCoe Idealize.SL.Sem
open Cert.Layer

/-- The reference's result is the kernel's, as a function of the arguments. -/
theorem ref (x0 : (⟨S8x64x2048, .f32⟩ : BufTy).Contents (Elt Ideal)) (x1 : (⟨S8x12288, .f32⟩ : BufTy).Contents (Elt Ideal))
    (x2 : (⟨S2048x8192, .f32⟩ : BufTy).Contents (Elt Ideal)) (x3 : (⟨S8192, .f32⟩ : BufTy).Contents (Elt Ideal))
    (x4 : (⟨S8192x2048, .f32⟩ : BufTy).Contents (Elt Ideal)) (x5 x6 : (⟨S2048, .f32⟩ : BufTy).Contents (Elt Ideal)) :
    val_main_v71 x0 x1 x2 x3 x4 x5 x6 = Cert.Kernel4Ideal.Mlp.out x0 x1 x2 x3 x4 x5 x6 := by
  funext i
  idx_vars i
  pointwise [val_main_v0, val_main_v1, val_main_v2, val_main_v3, val_main_v4, val_main_v5, val_main_v6, val_main_v7, val_main_v8, val_main_v9, val_main_v10, val_main_v11, val_main_cst, val_main_v12, val_main_v13, val_main_cst_0, val_main_v14, val_main_v15, val_main_v16, val_main_v17, val_main_v18, val_main_cst_1, val_main_v19, val_main_v20, val_main_cst_2, val_main_v21, val_main_v22, val_main_v23, val_main_v24, val_main_cst_3, val_main_v25, val_main_v26, val_main_v27, val_main_v28, val_main_v29, val_main_cst_4, val_main_v30, val_main_v31, val_main_v32, val_main_v33, val_main_v34, val_main_v35, val_main_v36, val_main_v37, val_main_v38, val_main_v39, val_main_call0_cst, val_main_call0_v0, val_main_v40, val_main_v41, val_main_cst_5, val_main_v42, val_main_v43, val_main_v44, val_main_v45, val_main_v46, val_main_v47, val_main_cst_6, val_main_v48, val_main_v49, val_main_cst_7, val_main_v50, val_main_v51, val_main_v52, val_main_v53, val_main_v54, val_main_cst_8, val_main_v55, val_main_v56, val_main_cst_9, val_main_v57, val_main_v58, val_main_v59, val_main_v60, val_main_cst_10, val_main_v61, val_main_v62, val_main_v63, val_main_v64, val_main_v65, val_main_v66, val_main_v67, val_main_v68, val_main_v69, val_main_v70, val_main_v71,
    Cert.Kernel4Ideal.Mlp.out, Cert.Kernel4Ideal.Mlp.term, Cert.Kernel4Ideal.Mlp.urow, hid, modRow, lnorm, mean, variance, resid]

end Cert.Reference4Ideal.Mlp

end
-- ==== Proof.MlpS.Claim.lean ====
module

public import proofs.«01_k».proof.Defs
public import proofs.«01_k».proof.Proof.Gen.Kernel4
public import proofs.«01_k».proof.Proof.Gen.Reference4Ideal
public import proofs.«01_k».proof.Proof.MlpS.Ref

@[expose] public section

noncomputable section

namespace Cert.Proof

open Idealize.ShloMosaic Idealize.SL.Sem Idealize.ShloMosaic.TcCoe

/-- The feed-forward block on the sample computes its reference's result. -/
theorem algebraic4 : @Cert.algebraic_Kernel4Ideal_Reference4Ideal Cert.Kernel4Ideal.Gen.facts Cert.Reference4Ideal.Gen.facts := by
  intro m g m' g' _ args
  refine ⟨fun c => Cert.Kernel4Ideal.Mlp.res m c, ?_, ?_⟩
  · run_from Cert.Kernel4Ideal.Gen.run_main m g
    exact Cert.Kernel4Ideal.Mlp.final m c
  · run_from Cert.Reference4Ideal.Value.run m' g'
    rw [Cert.Reference4Ideal.Read.val_main_v71_eq, Cert.Reference4Ideal.Mlp.ref]
    obtain ⟨e0, e1, e2, e3, e4, e5, e6⟩ := args c
    simp only [Cert.Kernel4Ideal.Mlp.res, Cert.Kernel4Ideal.Mlp.A0, Cert.Kernel4Ideal.Mlp.A1', Cert.Kernel4Ideal.Mlp.A2', Cert.Kernel4Ideal.Mlp.A3, Cert.Kernel4Ideal.Mlp.A4, Cert.Kernel4Ideal.Mlp.A5, Cert.Kernel4Ideal.Mlp.A6, e0, e1, e2, e3, e4, e5, e6]

end Cert.Proof

end
-- ==== Proof.Out.Point.lean ====
module

public import proofs.«01_k».proof.Proof.Gen.Kernel3Ideal.Value
public import proofs.«01_k».proof.Proof.Norm

@[expose] public section

set_option maxRecDepth 16384

noncomputable section

namespace Cert.Kernel3Ideal.OutProj

open Cert.Kernel3Ideal Cert.Kernel3Ideal.Gen Idealize.ShloMosaic Idealize.ShloMosaic.TcCoe Idealize.SL.Sem
open Idealize.ShloMosaic.Pipeline (Dat)
open Cert.Layer

/-- One row of the residual sum of the output projection: the two halves of the mixed heads times the two halves of the weights. -/
def row (fox band : Fin 1024 → EReal) (w1 w2 : Fin 1024 → Fin 2048 → EReal) (x gate : Fin 2048 → EReal) (d : Fin 2048) : EReal :=
  resid (x d) (gate d) ((∑ k, fox k * w1 k d) + ∑ k, band k * w2 k d)

section Pieces
variable (v0 : Vec Ideal S1x256x2048 .f32) (v1 : Vec Ideal S1x256x1024 .bf16) (v4 : Vec Ideal S1024x2048 .bf16)
    (v7 : Vec Ideal S1x256x1024 .bf16) (v10 : Vec Ideal S1024x2048 .bf16) (v16 : Vec Ideal S1x1x2048 .f32) (g b : Vec Ideal S1x2048 .f32) (y : S1x256x2048.Idx)

/-- What one stored piece of 256 rows holds at index `y`. -/
def piece : EReal :=
  lnorm (row (fun k => v1 (ix3 0 (y 1) k)) (fun k => v7 (ix3 0 (y 1) k)) (fun k d => v4 (ix2 k d)) (fun k d => v10 (ix2 k d))
    (fun d => v0 (ix3 0 (y 1) d)) (fun d => v16 (ix3 0 0 d))) (y 2) * g (ix2 0 (y 2)) + b (ix2 0 (y 2))

/-- The first piece of 256 rows. -/
theorem piece0 : k0_pay5 (k0_pay2 v0 v1 v4 v7 v10 v16) (k0_pay3 v0 v1 v4 v7 v10 v16) (k0_pay4 (F := Ideal)) g b y
    = piece v0 v1 v4 v7 v10 v16 g b y := by
  idx_vars y
  obtain rfl : y0 = 0 := Subsingleton.elim _ _
  pointwise [k0_pay2, k0_pay3, k0_pay4, k0_pay5, piece, lnorm, row, resid, mean, variance]

/-- The second piece. -/
theorem piece1 : k0_pay9 (k0_pay6 v1 v4 v7 v10) (k0_pay7 v0) (k0_pay8 v16) g b y
    = piece v0 v1 v4 v7 v10 v16 g b y := by
  idx_vars y
  obtain rfl : y0 = 0 := Subsingleton.elim _ _
  pointwise [k0_pay6, k0_pay7, k0_pay8, k0_pay9, piece, lnorm, row, resid, mean, variance]

/-- The third piece. -/
theorem piece2 : k0_pay11 v0 (k0_pay10 v1 v4) v7 v10 v16 g b y
    = piece v0 v1 v4 v7 v10 v16 g b y := by
  idx_vars y
  obtain rfl : y0 = 0 := Subsingleton.elim _ _
  pointwise [k0_pay10, k0_pay11, piece, lnorm, row, resid, mean, variance]

/-- The last piece. -/
theorem piece3 : k0_pay1 (k0_pay12 v0 v1 v4 v7 v10 v16) (k0_pay13 v0 v1 v4 v7 v10 v16) (k0_pay14 (F := Ideal)) g b y
    = piece v0 v1 v4 v7 v10 v16 g b y := by
  idx_vars y
  obtain rfl : y0 = 0 := Subsingleton.elim _ _
  pointwise [k0_pay12, k0_pay13, k0_pay14, k0_pay1, piece, lnorm, row, resid, mean, variance]
end Pieces

/-- The blocks' indices at a grid point. -/
theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, 0, 0] ∧ win0_4.index t = ![0, 0]
    ∧ win0_5.index t = ![0, 0] ∧ win0_6.index t = ![0, 0] ∧ win0_7.index t = ![t.val / 4, t.val % 4, 0] ∧ t.val / 4 < 8 :=
  (by decide +kernel : ∀ t : Fin grid0.N, _)

/-- The result at index `i` of its array, from the arguments: the layer norm of row `i 1` of batch `i 0`. -/
def out (a0 a1 : S8x4096x1024.Idx → EReal) (a2 : S8x4096x2048.Idx → EReal) (a3 : S8x12288.Idx → EReal) (a4 : S2048x2048.Idx → EReal)
    (a5 a6 : S2048.Idx → EReal) (i : S8x4096x2048.Idx) : EReal :=
  lnorm (row (fun k => a0 (ix3 (i 0) (i 1) k)) (fun k => a1 (ix3 (i 0) (i 1) k))
      (fun k d => a4 (ix2 ⟨k.val, by omega⟩ d)) (fun k d => a4 (ix2 ⟨1024 + k.val, by omega⟩ d))
      (fun d => a2 (ix3 (i 0) (i 1) d)) (fun d => a3 (ix2 (i 0) ⟨4096 + d.val, by omega⟩))) (i 2) * a5 (ix1 (i 2)) + a6 (ix1 (i 2))

/-- `out` at device `c`'s arguments. -/
abbrev res (m : (ℓ : Loc nD τ sig) → Buf (Elt Ideal) ℓ) (c : Dev nD) : S8x4096x2048.Idx → EReal :=
  out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

variable (m : (ℓ : Loc nD τ sig) → Buf (Elt Ideal) ℓ)

/-- A stored piece is the result at `i` when its operands are the arguments' elements. -/
theorem piece_eq {v0 : Vec Ideal S1x256x2048 .f32} {v1 : Vec Ideal S1x256x1024 .bf16} {v4 : Vec Ideal S1024x2048 .bf16}
    {v7 : Vec Ideal S1x256x1024 .bf16} {v10 : Vec Ideal S1024x2048 .bf16} {v16 : Vec Ideal S1x1x2048 .f32} {g b : Vec Ideal S1x2048 .f32} {y : S1x256x2048.Idx}
    {a0 a1 : S8x4096x1024.Idx → EReal} {a2 : S8x4096x2048.Idx → EReal} {a3 : S8x12288.Idx → EReal} {a4 : S2048x2048.Idx → EReal}
    {a5 a6 : S2048.Idx → EReal} {i : S8x4096x2048.Idx}
    (e0 : ∀ d : Fin 2048, v0 (ix3 0 (y 1) d) = a2 (ix3 (i 0) (i 1) d)) (e1 : ∀ k : Fin 1024, v1 (ix3 0 (y 1) k) = a0 (ix3 (i 0) (i 1) k))
    (e4 : ∀ (k : Fin 1024) (d : Fin 2048), v4 (ix2 k d) = a4 (ix2 ⟨k.val, by omega⟩ d)) (e7 : ∀ k : Fin 1024, v7 (ix3 0 (y 1) k) = a1 (ix3 (i 0) (i 1) k))
    (e10 : ∀ (k : Fin 1024) (d : Fin 2048), v10 (ix2 k d) = a4 (ix2 ⟨1024 + k.val, by omega⟩ d))
    (e16 : ∀ d : Fin 2048, v16 (ix3 0 0 d) = a3 (ix2 (i 0) ⟨4096 + d.val, by omega⟩))
    (eg : g (ix2 0 (y 2)) = a5 (ix1 (i 2))) (eb : b (ix2 0 (y 2)) = a6 (ix1 (i 2))) (e : i 2 = y 2) :
    piece v0 v1 v4 v7 v10 v16 g b y = out a0 a1 a2 a3 a4 a5 a6 i := by
  simp only [piece, out, e0, e1, e4, e7, e10, e16, eg, eb, e]

set_option maxHeartbeats 4000000 in
/-- What grid point `t` leaves in its staging buffer, at every index. -/
theorem point (c : Dev nD) (t : Fin cfg0.N) (x : S1x1024x2048.Idx) :
    out0_7 (iblk m c 0 t) (iblk m c 1 t) (iblk m c 2 t) (iblk m c 3 t) (iblk m c 4 t) (iblk m c 5 t) (iblk m c 6 t) x
      = res m c (((cfg0.win 7).blk t).view.emb x) := by
  unfold out0_7
  canon_tiles x h
  case piece0 =>
    refine (piece3 ..).trans (piece_eq ?_ ?_ ?_ ?_ ?_ ?_ ?_ ?_ ?_)
    · intro d; blk_point [iblk, V, idx t, h0, h1, h2]
    · intro d; blk_point [iblk, V, idx t, h0, h1, h2]
    · intro k d
      pointwise [h0, h1, h2]; blk_simp [iblk, idx t]; entry_read; pointwise; blk_ext [idx t]
    · intro d; blk_point [iblk, V, idx t, h0, h1, h2]
    · intro k d; blk_point [iblk, V, idx t, h0, h1, h2]
    · intro d
      pointwise [h0, h1, h2]; blk_simp [iblk, idx t]; entry_read; pointwise; blk_ext [idx t]
    · pointwise [h0, h1, h2]; blk_simp [iblk, idx t]; entry_read; pointwise; blk_ext [idx t]
    · pointwise [h0, h1, h2]; blk_simp [iblk, idx t]; entry_read; pointwise; blk_ext [idx t]
    · apply Fin.ext; blk_simp [idx t]; exact h2
  case piece1 =>
    refine (piece2 ..).trans (piece_eq ?_ ?_ ?_ ?_ ?_ ?_ ?_ ?_ ?_)
    · intro d; blk_point [iblk, V, idx t, h0, h1, h2]
    · intro d; blk_point [iblk, V, idx t, h0, h1, h2]
    · intro k d
      pointwise [h0, h1, h2]; blk_simp [iblk, idx t]; entry_read; pointwise; blk_ext [idx t]
    · intro d; blk_point [iblk, V, idx t, h0, h1, h2]
    · intro k d; blk_point [iblk, V, idx t, h0, h1, h2]
    · intro d
      pointwise [h0, h1, h2]; blk_simp [iblk, idx t]; entry_read; pointwise; blk_ext [idx t]
    · pointwise [h0, h1, h2]; blk_simp [iblk, idx t]; entry_read; pointwise; blk_ext [idx t]
    · pointwise [h0, h1, h2]; blk_simp [iblk, idx t]; entry_read; pointwise; blk_ext [idx t]
    · apply Fin.ext; blk_simp [idx t]; exact h2
  case piece2 =>
    refine (piece1 ..).trans (piece_eq ?_ ?_ ?_ ?_ ?_ ?_ ?_ ?_ ?_)
    · intro d; blk_point [iblk, V, idx t, h0, h1, h2]
    · intro d; blk_point [iblk, V, idx t, h0, h1, h2]
    · intro k d
      pointwise [h0, h1, h2]; blk_simp [iblk, idx t]; entry_read; pointwise; blk_ext [idx t]
    · intro d; blk_point [iblk, V, idx t, h0, h1, h2]
    · intro k d; blk_point [iblk, V, idx t, h0, h1, h2]
    · intro d
      pointwise [h0, h1, h2]; blk_simp [iblk, idx t]; entry_read; pointwise; blk_ext [idx t]
    · pointwise [h0, h1, h2]; blk_simp [iblk, idx t]; entry_read; pointwise; blk_ext [idx t]
    · pointwise [h0, h1, h2]; blk_simp [iblk, idx t]; entry_read; pointwise; blk_ext [idx t]
    · apply Fin.ext; blk_simp [idx t]; exact h2
  case piece3 =>
    refine (piece0 ..).trans (piece_eq ?_ ?_ ?_ ?_ ?_ ?_ ?_ ?_ ?_)
    · intro d; blk_point [iblk, V, idx t, h0, h1, h2]
    · intro d; blk_point [iblk, V, idx t, h0, h1, h2]
    · intro k d
      pointwise [h0, h1, h2]; blk_simp [iblk, idx t]; entry_read; pointwise; blk_ext [idx t]
    · intro d; blk_point [iblk, V, idx t, h0, h1, h2]
    · intro k d; blk_point [iblk, V, idx t, h0, h1, h2]
    · intro d
      pointwise [h0, h1, h2]; blk_simp [iblk, idx t]; entry_read; pointwise; blk_ext [idx t]
    · pointwise [h0, h1, h2]; blk_simp [iblk, idx t]; entry_read; pointwise; blk_ext [idx t]
    · pointwise [h0, h1, h2]; blk_simp [iblk, idx t]; entry_read; pointwise; blk_ext [idx t]
    · apply Fin.ext; blk_simp [idx t]; exact h2

/-- The kernel's result array. -/
theorem final (c : Dev nD) : (dats m 0 c).arrAt 7 cfg0.N = res m c :=
  (dats m 0 c).arrAt_eq_of_covers 7 _ (by decide +kernel) fun t hf y => by
    blk_simp; rw [after0_7]; exact point m c t y

end Cert.Kernel3Ideal.OutProj

end
-- ==== Proof.Out.Ref.lean ====
module

public import proofs.«01_k».proof.Proof.Gen.Reference3Ideal.Read
public import proofs.«01_k».proof.Proof.Out.Point

@[expose] public section

set_option maxRecDepth 16384

noncomputable section

namespace Cert.Reference3Ideal.OutProj

open Cert.Reference3Ideal Cert.Reference3Ideal.Gen Cert.Reference3Ideal.Read Idealize.ShloMosaic Idealize.ShloMosaic.TcCoe Idealize.SL.Sem
open Cert.Layer

/-- The reference's result is the kernel's, as a function of the arguments. -/
theorem ref (x0 x1 : (⟨S8x4096x1024, .f32⟩ : BufTy).Contents (Elt Ideal)) (x2 : (⟨S8x4096x2048, .f32⟩ : BufTy).Contents (Elt Ideal))
    (x3 : (⟨S8x12288, .f32⟩ : BufTy).Contents (Elt Ideal)) (x4 : (⟨S2048x2048, .f32⟩ : BufTy).Contents (Elt Ideal)) (x5 x6 : (⟨S2048, .f32⟩ : BufTy).Contents (Elt Ideal)) :
    val_main_v42 x0 x1 x2 x3 x4 x5 x6 = Cert.Kernel3Ideal.OutProj.out x0 x1 x2 x3 x4 x5 x6 := by
  funext i
  idx_vars i
  pointwise [val_main_v0, val_main_v1, val_main_v2, val_main_v3, val_main_v4, val_main_v5, val_main_v6, val_main_v7, val_main_v8, val_main_v9, val_main_v10, val_main_v11, val_main_v12, val_main_cst, val_main_v13, val_main_v14, val_main_v15, val_main_v16, val_main_v17, val_main_v18, val_main_cst_0, val_main_v19, val_main_v20, val_main_cst_1, val_main_v21, val_main_v22, val_main_v23, val_main_v24, val_main_v25, val_main_cst_2, val_main_v26, val_main_v27, val_main_cst_3, val_main_v28, val_main_v29, val_main_v30, val_main_v31, val_main_cst_4, val_main_v32, val_main_v33, val_main_v34, val_main_v35, val_main_v36, val_main_v37, val_main_v38, val_main_v39, val_main_v40, val_main_v41, val_main_v42,
    Cert.Kernel3Ideal.OutProj.out, Cert.Kernel3Ideal.OutProj.row, lnorm, mean, variance, resid]

end Cert.Reference3Ideal.OutProj

end
-- ==== Proof.Out.Claim.lean ====
module

public import proofs.«01_k».proof.Defs
public import proofs.«01_k».proof.Proof.Gen.Kernel3
public import proofs.«01_k».proof.Proof.Gen.Reference3Ideal
public import proofs.«01_k».proof.Proof.Out.Ref

@[expose] public section

noncomputable section

namespace Cert.Proof

open Idealize.ShloMosaic Idealize.SL.Sem Idealize.ShloMosaic.TcCoe

/-- The output projection computes its reference's result. -/
theorem algebraic3 : @Cert.algebraic_Kernel3Ideal_Reference3Ideal Cert.Kernel3Ideal.Gen.facts Cert.Reference3Ideal.Gen.facts := by
  intro m g m' g' _ args
  refine ⟨fun c => Cert.Kernel3Ideal.OutProj.res m c, ?_, ?_⟩
  · run_from Cert.Kernel3Ideal.Gen.run_main m g
    exact Cert.Kernel3Ideal.OutProj.final m c
  · run_from Cert.Reference3Ideal.Value.run m' g'
    rw [Cert.Reference3Ideal.Read.val_main_v42_eq, Cert.Reference3Ideal.OutProj.ref]
    obtain ⟨e0, e1, e2, e3, e4, e5, e6⟩ := args c
    simp only [Cert.Kernel3Ideal.OutProj.res, e0, e1, e2, e3, e4, e5, e6]

end Cert.Proof

end
-- ==== Proof.InS.Base.lean ====
/- The conditions of the body, the buffers it works on, and the contents it leaves. -/
module

public import proofs.«01_k».proof.Proof.Gen.Kernel5Ideal.Launch
public import proofs.«01_k».proof.Proof.Gen.Kernel5Ideal.Skeleton
public import proofs.«01_k».proof.Proof.Gen.Kernel5Ideal.Points
public import proofs.«01_k».proof.Proof.Gen.Kernel5Ideal.Frame
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.Pipeline.TableIdle

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's branch conditions -/

/-- The condition of the body's first branch, from the grid coordinates. -/
abbrev cond0_0 (i : grid0.Coords) : Prop := k0_cond1 i = 1#1
/-- It holds at the first point only. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 12 % 1 := Pipeline.Grid.coords_val t 0 (by decide) rfl
    have e1 : (grid0.coords t 1).val = t.val / 12 % 1 := Pipeline.Grid.coords_val t 1 (by decide) rfl
    have e2 : (grid0.coords t 2).val = t.val / 1 % 12 := Pipeline.Grid.coords_val t 2 (by decide) rfl
    simp only [cond0_0, k0_cond1, e0, e1, e2]
    word_cmp
   : ∀ t : Fin grid0.N, cond0_0 (grid0.coords t) ↔ t.val % 12 = 0)

/-- The condition of the body's second branch, from the grid coordinates. -/
abbrev cond0_1 (i : grid0.Coords) : Prop := k0_cond2 i = 1#1
/-- It holds at point 1 only. -/
theorem hcond0_1 : ∀ t : Fin cfg0.N, cond0_1 (grid0.coords t) ↔ t.val % 12 = 1 :=
  (by decide +kernel : ∀ t : Fin grid0.N, cond0_1 (grid0.coords t) ↔ t.val % 12 = 1)

/-- The condition of the body's third branch, from the grid coordinates. -/
abbrev cond0_2 (i : grid0.Coords) : Prop := k0_cond3 i = 1#1
/-- It holds at the points whose coordinates have 2 ≤ i2 and i2 ≤ 3. -/
theorem hcond0_2 : ∀ t : Fin cfg0.N, cond0_2 (grid0.coords t) ↔ (2 ≤ t.val % 12 ∧ t.val % 12 ≤ 3) :=
  (by decide +kernel : ∀ t : Fin grid0.N, cond0_2 (grid0.coords t) ↔ (2 ≤ t.val % 12 ∧ t.val % 12 ≤ 3))

/-- The condition of the body's fourth branch, from the grid coordinates. -/
abbrev cond0_3 (i : grid0.Coords) : Prop := k0_cond4 i = 1#1
/-- It holds at the points whose coordinates have 4 ≤ i2 and i2 ≤ 5. -/
theorem hcond0_3 : ∀ t : Fin cfg0.N, cond0_3 (grid0.coords t) ↔ (4 ≤ t.val % 12 ∧ t.val % 12 ≤ 5) :=
  (by decide +kernel : ∀ t : Fin grid0.N, cond0_3 (grid0.coords t) ↔ (4 ≤ t.val % 12 ∧ t.val % 12 ≤ 5))

/-- The condition of the body's fifth branch, from the grid coordinates. -/
abbrev cond0_4 (i : grid0.Coords) : Prop := k0_cond5 i = 1#1
/-- It holds at the points whose coordinates have 6 ≤ i2 and i2 ≤ 7. -/
theorem hcond0_4 : ∀ t : Fin cfg0.N, cond0_4 (grid0.coords t) ↔ (6 ≤ t.val % 12 ∧ t.val % 12 ≤ 7) :=
  (by decide +kernel : ∀ t : Fin grid0.N, cond0_4 (grid0.coords t) ↔ (6 ≤ t.val % 12 ∧ t.val % 12 ≤ 7))

/-- The condition of the body's sixth branch, from the grid coordinates. -/
abbrev cond0_5 (i : grid0.Coords) : Prop := k0_cond6 i = 1#1
/-- It holds at the points whose coordinates have 8 ≤ i2 and i2 ≤ 9. -/
theorem hcond0_5 : ∀ t : Fin cfg0.N, cond0_5 (grid0.coords t) ↔ (8 ≤ t.val % 12 ∧ t.val % 12 ≤ 9) :=
  (by decide +kernel : ∀ t : Fin grid0.N, cond0_5 (grid0.coords t) ↔ (8 ≤ t.val % 12 ∧ t.val % 12 ≤ 9))

/-- The condition of the body's seventh branch, from the grid coordinates. -/
abbrev cond0_6 (i : grid0.Coords) : Prop := k0_cond8 i = 1#1
/-- It holds at the points from point 10 on. -/
theorem hcond0_6 : ∀ t : Fin cfg0.N, cond0_6 (grid0.coords t) ↔ 10 ≤ t.val :=
  (by decide +kernel : ∀ t : Fin grid0.N, cond0_6 (grid0.coords t) ↔ 10 ≤ t.val)

/-- The condition of the body's eighth branch, from the grid coordinates. -/
abbrev cond0_7 (i : grid0.Coords) : Prop := k0_cond7 i = 1#1
/-- It holds at every point. -/
theorem hcond0_7 : ∀ t : Fin cfg0.N, cond0_7 (grid0.coords t) :=
  (fun t => by
    have ht : t.val < 12 := Nat.lt_of_lt_of_eq t.isLt N_0
    have e0 : (grid0.coords t 0).val = t.val / 12 % 1 := Pipeline.Grid.coords_val t 0 (by decide) rfl
    have e1 : (grid0.coords t 1).val = t.val / 12 % 1 := Pipeline.Grid.coords_val t 1 (by decide) rfl
    have e2 : (grid0.coords t 2).val = t.val / 1 % 12 := Pipeline.Grid.coords_val t 2 (by decide) rfl
    simp only [cond0_7, k0_cond7, e0, e1, e2]
    word_cmp
   : ∀ t : Fin grid0.N, cond0_7 (grid0.coords t))

/-- The condition of the body's ninth branch, from the grid coordinates. -/
abbrev cond0_8 (i : grid0.Coords) : Prop := k0_cond9 i = 1#1
/-- It holds at every point. -/
theorem hcond0_8 : ∀ t : Fin cfg0.N, cond0_8 (grid0.coords t) :=
  (fun t => by
    have ht : t.val < 12 := Nat.lt_of_lt_of_eq t.isLt N_0
    have e0 : (grid0.coords t 0).val = t.val / 12 % 1 := Pipeline.Grid.coords_val t 0 (by decide) rfl
    have e1 : (grid0.coords t 1).val = t.val / 12 % 1 := Pipeline.Grid.coords_val t 1 (by decide) rfl
    have e2 : (grid0.coords t 2).val = t.val / 1 % 12 := Pipeline.Grid.coords_val t 2 (by decide) rfl
    simp only [cond0_8, k0_cond9, e0, e1, e2]
    word_cmp
   : ∀ t : Fin grid0.N, cond0_8 (grid0.coords t))

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S8x64x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x6x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x64x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x64x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x64x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x64x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x64x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x64x512 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x64x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x64x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x8x512 .f32 := win0_14.stage (cfg0.slots t 14)
abbrev hs0_14 (t : Fin cfg0.N) : (ms0_14 t).IsWhole := hstage0_14 ((cfg0.slots t 14).cast nbuf0_14)
/-- The scratch. -/
abbrev scM0_0 : Memref sig .tc .vmem S512x2048 .bf16 := Memref.whole cc0_scratch0

/-- What a grid point is handed and gives back beside the windows: the scratch, at some contents. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

/-! ## What the first point leaves -/

/-- The two stores of the modulated norm into the scratch, last first. -/
def uPieces (x0 : Vec F S8x64x2048 .f32) (x1 : Vec F S8x6x2048 .f32) : List (View.Piece (Elt F) S512x2048 .bf16) :=
  [⟨Rect.unit (s := S512x2048) ![256, 0] S256x2048.size inb_S512x2048_S256x2048_256_0,
      k0_pay9 (View.ld x0 (Rect.unit (s := S8x64x2048) ![4, 0, 0] S4x64x2048.size inb_S8x64x2048_S4x64x2048_4_0_0))
        (View.ld x1 (Rect.unit (s := S8x6x2048) ![4, 1, 0] S4x1x2048.size inb_S8x6x2048_S4x1x2048_4_1_0))
        (View.ld x1 (Rect.unit (s := S8x6x2048) ![4, 0, 0] S4x1x2048.size inb_S8x6x2048_S4x1x2048_4_0_0))⟩,
    ⟨Rect.unit (s := S512x2048) ![0, 0] S256x2048.size inb_S512x2048_S256x2048_0_0,
      k0_pay5 (View.ld x0 (Rect.unit (s := S8x64x2048) ![0, 0, 0] S4x64x2048.size inb_S8x64x2048_S4x64x2048_0_0_0))
        (View.ld x1 (Rect.unit (s := S8x6x2048) ![0, 1, 0] S4x1x2048.size inb_S8x6x2048_S4x1x2048_0_1_0))
        (View.ld x1 (Rect.unit (s := S8x6x2048) ![0, 0, 0] S4x1x2048.size inb_S8x6x2048_S4x1x2048_0_0_0))⟩]

/-- The scratch after the first point. -/
def uAll (x0 : Vec F S8x64x2048 .f32) (x1 : Vec F S8x6x2048 .f32) : Vec F S512x2048 .bf16 := View.canon (uPieces x0 x1)

/-- The two stores of the first query tile, last first. -/
def qPieces (x0 : Vec F S8x64x2048 .f32) (x1 : Vec F S8x6x2048 .f32) (x2 : Vec F S2048x512 .bf16) : List (View.Piece (Elt F) S8x64x512 .bf16) :=
  [⟨Rect.unit (s := S8x64x512) ![4, 0, 0] S4x64x512.size inb_S8x64x512_S4x64x512_4_0_0,
      k0_pay11 (k0_pay8 (View.ld x0 (Rect.unit (s := S8x64x2048) ![4, 0, 0] S4x64x2048.size inb_S8x64x2048_S4x64x2048_4_0_0))
        (View.ld x1 (Rect.unit (s := S8x6x2048) ![4, 1, 0] S4x1x2048.size inb_S8x6x2048_S4x1x2048_4_1_0))
        (View.ld x1 (Rect.unit (s := S8x6x2048) ![4, 0, 0] S4x1x2048.size inb_S8x6x2048_S4x1x2048_4_0_0))) (k0_pay10 x2)⟩,
    ⟨Rect.unit (s := S8x64x512) ![0, 0, 0] S4x64x512.size inb_S8x64x512_S4x64x512_0_0_0,
      k0_pay7 (k0_pay6 (View.ld x0 (Rect.unit (s := S8x64x2048) ![0, 0, 0] S4x64x2048.size inb_S8x64x2048_S4x64x2048_0_0_0))
        (View.ld x1 (Rect.unit (s := S8x6x2048) ![0, 1, 0] S4x1x2048.size inb_S8x6x2048_S4x1x2048_0_1_0))
        (View.ld x1 (Rect.unit (s := S8x6x2048) ![0, 0, 0] S4x1x2048.size inb_S8x6x2048_S4x1x2048_0_0_0)) x2)⟩]

/-- The first query tile. -/
def qFirst (x0 : Vec F S8x64x2048 .f32) (x1 : Vec F S8x6x2048 .f32) (x2 : Vec F S2048x512 .bf16) : Vec F S8x64x512 .bf16 := View.canon (qPieces x0 x1 x2)

end Cert.Kernel5Ideal.In

end
-- ==== Proof.InS.Data.lean ====
/- The proof data: what each buffer holds after each point, and the outputs carried through the points that do not store them. -/
module

public import proofs.«01_k».proof.Proof.InS.Base

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Point `n` of the grid. -/
def pt (n : ℕ) (h : n < 12) : Fin cfg0.N := ⟨n, lt_of_lt_of_eq h (show 12 = cfg0.N from N_0.symm)⟩

abbrev p0 : Fin cfg0.N := pt 0 (by decide)
abbrev p1 : Fin cfg0.N := pt 1 (by decide)

/-- The last point at or before `t` among those from `lo` to `hi` (`lo` before them). -/
def lst (lo hi : ℕ) (h : lo ≤ hi ∧ hi < 12) (t : Fin cfg0.N) : Fin cfg0.N := pt (max lo (min hi t.val)) (by omega)

theorem lst_self (lo hi : ℕ) (h : lo ≤ hi ∧ hi < 12) (t : Fin cfg0.N) (hl : lo ≤ t.val) (hh : t.val ≤ hi) : lst lo hi h t = t :=
  Fin.ext (by show max lo (min hi t.val) = t.val; omega)

theorem lst_pred (lo hi : ℕ) (h : lo ≤ hi ∧ hi < 12) (t t' : Fin cfg0.N) (ht : t'.val = t.val - 1) (hh : hi < t.val) : lst lo hi h t = lst lo hi h t' :=
  Fin.ext (by show max lo (min hi t.val) = max lo (min hi t'.val); omega)

/-- The scratch from the first point on. -/
def uAt (c : Dev nD) : Vec F S512x2048 .bf16 := uAll (iblk m c 0 p0) (iblk m c 1 p0)

/-- The invariant before point `n`: the scratch at anything before the first point, at the modulated norm afterwards. -/
def PhiS (c : Dev nD) : (n : ℕ) → n ≤ cfg0.N → sProp (MT nD τ sig Unit (Elt F) ℕ (UR sig nD τ) ℕ)
  | 0, _ => Pipeline.ΦA spec0 c
  | n + 1, _ => iprop(owns (c : Thread nD τ) scM0_0 fullShare (uAt m c) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM0_0 fullShare (uAt m c) ∗ (∃ r, prngReg c r)) := rfl

theorem PhiS_pos (c : Dev nD) (n : ℕ) (h : n ≤ cfg0.N) (hz : n ≠ 0) :
    PhiS m c n h = iprop(owns (c : Thread nD τ) scM0_0 fullShare (uAt m c) ∗ (∃ r, prngReg c r)) := by
  cases n with
  | zero => exact absurd rfl hz
  | succ n => rfl

/-- The proof data: the arrays as the region finds them, each input's buffer at its block, each output's at its last stored tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (if t.val = 0 then qFirst (iblk m c 0 p0) (iblk m c 1 p0) (iblk m c 2 p0) else k0_pay13 (uAt m c) (iblk m c 2 p1))
    | ⟨7, _⟩ => k0_pay14 (uAt m c) (iblk m c 2 (lst 2 3 (by decide) t))
    | ⟨8, _⟩ => k0_pay15 (uAt m c) (iblk m c 2 (lst 4 5 (by decide) t))
    | ⟨9, _⟩ => k0_pay16 (uAt m c) (iblk m c 3 (lst 6 7 (by decide) t))
    | ⟨10, _⟩ => k0_pay18 (uAt m c) (iblk m c 3 (lst 8 9 (by decide) t))
    | ⟨11, _⟩ => k0_pay2 (uAt m c) (iblk m c 3 (lst 10 11 (by decide) t))
    | ⟨12, _⟩ => k0_pay19 (uAt m c) (iblk m c 3 (lst 8 9 (by decide) t))
    | ⟨13, _⟩ => k0_pay3 (uAt m c) (iblk m c 3 (lst 10 11 (by decide) t))
    | ⟨14, _⟩ => k0_pay12 (iblk m c 4 p0) (uAt m c) (iblk m c 5 p0)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (if t.val = 0 then qFirst (iblk m c 0 p0) (iblk m c 1 p0) (iblk m c 2 p0) else k0_pay13 (uAt m c) (iblk m c 2 p1)) := by dsimp only [dats]
theorem after0_7 (c : Dev nD) (t : Fin cfg0.N) : (dats m 0 c).after 7 t = k0_pay14 (uAt m c) (iblk m c 2 (lst 2 3 (by decide) t)) := by dsimp only [dats]
theorem after0_8 (c : Dev nD) (t : Fin cfg0.N) : (dats m 0 c).after 8 t = k0_pay15 (uAt m c) (iblk m c 2 (lst 4 5 (by decide) t)) := by dsimp only [dats]
theorem after0_9 (c : Dev nD) (t : Fin cfg0.N) : (dats m 0 c).after 9 t = k0_pay16 (uAt m c) (iblk m c 3 (lst 6 7 (by decide) t)) := by dsimp only [dats]
theorem after0_10 (c : Dev nD) (t : Fin cfg0.N) : (dats m 0 c).after 10 t = k0_pay18 (uAt m c) (iblk m c 3 (lst 8 9 (by decide) t)) := by dsimp only [dats]
theorem after0_11 (c : Dev nD) (t : Fin cfg0.N) : (dats m 0 c).after 11 t = k0_pay2 (uAt m c) (iblk m c 3 (lst 10 11 (by decide) t)) := by dsimp only [dats]
theorem after0_12 (c : Dev nD) (t : Fin cfg0.N) : (dats m 0 c).after 12 t = k0_pay19 (uAt m c) (iblk m c 3 (lst 8 9 (by decide) t)) := by dsimp only [dats]
theorem after0_13 (c : Dev nD) (t : Fin cfg0.N) : (dats m 0 c).after 13 t = k0_pay3 (uAt m c) (iblk m c 3 (lst 10 11 (by decide) t)) := by dsimp only [dats]
theorem after0_14 (c : Dev nD) (t : Fin cfg0.N) : (dats m 0 c).after 14 t = k0_pay12 (iblk m c 4 p0) (uAt m c) (iblk m c 5 p0) := by dsimp only [dats]

theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]

/-- When window 6 is idle, written back and fresh. -/
theorem sched_6 : ∀ t : Fin cfg0.N, (cfg0.idle 6 (cfg0.grid.coords t) = true → cfg0.fresh 6 t.val = false → 1 < t.val)
    ∧ (cfg0.idle 6 (cfg0.grid.coords t) = true → (cfg0.win 6).flush t = true → cfg0.fresh 6 t.val = false ∧ t.val ≠ 0)
    ∧ (0 ≤ t.val ∧ t.val ≤ 1 → cfg0.idle 6 (cfg0.grid.coords t) = false)
    ∧ (¬(0 ≤ t.val ∧ t.val ≤ 1) → cfg0.idle 6 (cfg0.grid.coords t) = true) := by
  decide +kernel

theorem carry_6 (c : Dev nD) (t : Fin cfg0.N) (h0 : t.val ≠ 0) (hi : cfg0.idle 6 (cfg0.grid.coords t) = true) (hf : cfg0.fresh 6 t.val = false) :
    (dats m 0 c).after 6 t = (dats m 0 c).after 6 ⟨t.val - 1, by omega⟩ := by
  have h := (sched_6 t).1 hi hf
  rw [after0_6, after0_6, if_neg h0, if_neg (by show ¬(t.val - 1 = 0); omega)]

/-- A point that does not store window 6 leaves its buffer as it finds it. -/
theorem keep_6 (c : Dev nD) (t : Fin cfg0.N) (h : ¬(0 ≤ t.val ∧ t.val ≤ 1)) :
    (iprop(∃ d, owns (c : Thread nD τ) (ms0_6 t) fullShare ((dats m 0 c).before 6 t d)) : sProp (MT nD τ sig Unit (Elt F) ℕ (UR sig nD τ) ℕ)) ⊢ (dats m 0 c).leavesExact 6 t := by
  have hi := (sched_6 t).2.2.2 h
  cases hfl : (cfg0.win 6).flush t
  · rw [Dat.leavesExact_idle _ 6 t hi hfl]
    try exact Idealize.SL.BI.Entails.refl _
  · obtain ⟨hfr, h0⟩ := (sched_6 t).2.1 hi hfl
    have e : ∀ d, (dats m 0 c).before 6 t d = (dats m 0 c).after 6 t := fun d => by
      rw [Dat.before_out_traj _ 6 rfl (fun _ _ => rfl) (carry_6 m c) t.val t rfl d, if_neg (by rw [hfr]; exact Bool.false_ne_true)]
      exact (carry_6 m c t h0 hi hfr).symm
    unfold Dat.leavesExact; rw [hi, hfl]
    simp only [e]
    iintro ⟨%d, H⟩; iexact H

theorem live_6_A (c : Dev nD) : (dats m 0 c).leavesExact 6 p0 = owns (c : Thread nD τ) (ms0_6 p0) fullShare (qFirst (iblk m c 0 p0) (iblk m c 1 p0) (iblk m c 2 p0)) := by
  unfold Dat.leavesExact; rw [(sched_6 p0).2.2.1 ⟨Nat.le_refl 0, Nat.zero_le 1⟩, after0_6, if_pos (show p0.val = 0 from rfl)]

theorem live_6_B (c : Dev nD) : (dats m 0 c).leavesExact 6 p1 = owns (c : Thread nD τ) (ms0_6 p1) fullShare (k0_pay13 (uAt m c) (iblk m c 2 p1)) := by
  unfold Dat.leavesExact; rw [(sched_6 p1).2.2.1 ⟨Nat.zero_le 1, Nat.le_refl 1⟩, after0_6, if_neg (show ¬(p1.val = 0) from Nat.one_ne_zero)]

/-- When window 7 is idle, written back and fresh. -/
theorem sched_7 : ∀ t : Fin cfg0.N, (cfg0.idle 7 (cfg0.grid.coords t) = true → cfg0.fresh 7 t.val = false → 3 < t.val)
    ∧ (cfg0.idle 7 (cfg0.grid.coords t) = true → (cfg0.win 7).flush t = true → cfg0.fresh 7 t.val = false ∧ t.val ≠ 0)
    ∧ (2 ≤ t.val ∧ t.val ≤ 3 → cfg0.idle 7 (cfg0.grid.coords t) = false)
    ∧ (¬(2 ≤ t.val ∧ t.val ≤ 3) → cfg0.idle 7 (cfg0.grid.coords t) = true) := by
  decide +kernel

theorem carry_7 (c : Dev nD) (t : Fin cfg0.N) (h0 : t.val ≠ 0) (hi : cfg0.idle 7 (cfg0.grid.coords t) = true) (hf : cfg0.fresh 7 t.val = false) :
    (dats m 0 c).after 7 t = (dats m 0 c).after 7 ⟨t.val - 1, by omega⟩ := by
  have h := (sched_7 t).1 hi hf
  rw [after0_7, after0_7]
  rw [lst_pred 2 3 _ t ⟨t.val - 1, by omega⟩ rfl h]

/-- A point that does not store window 7 leaves its buffer as it finds it. -/
theorem keep_7 (c : Dev nD) (t : Fin cfg0.N) (h : ¬(2 ≤ t.val ∧ t.val ≤ 3)) :
    (iprop(∃ d, owns (c : Thread nD τ) (ms0_7 t) fullShare ((dats m 0 c).before 7 t d)) : sProp (MT nD τ sig Unit (Elt F) ℕ (UR sig nD τ) ℕ)) ⊢ (dats m 0 c).leavesExact 7 t := by
  have hi := (sched_7 t).2.2.2 h
  cases hfl : (cfg0.win 7).flush t
  · rw [Dat.leavesExact_idle _ 7 t hi hfl]
    try exact Idealize.SL.BI.Entails.refl _
  · obtain ⟨hfr, h0⟩ := (sched_7 t).2.1 hi hfl
    have e : ∀ d, (dats m 0 c).before 7 t d = (dats m 0 c).after 7 t := fun d => by
      rw [Dat.before_out_traj _ 7 rfl (fun _ _ => rfl) (carry_7 m c) t.val t rfl d, if_neg (by rw [hfr]; exact Bool.false_ne_true)]
      exact (carry_7 m c t h0 hi hfr).symm
    unfold Dat.leavesExact; rw [hi, hfl]
    simp only [e]
    iintro ⟨%d, H⟩; iexact H

theorem live_7 (c : Dev nD) (t : Fin cfg0.N) (h : 2 ≤ t.val ∧ t.val ≤ 3) :
    (dats m 0 c).leavesExact 7 t = owns (c : Thread nD τ) (ms0_7 t) fullShare (k0_pay14 (uAt m c) (iblk m c 2 t)) := by
  unfold Dat.leavesExact; rw [(sched_7 t).2.2.1 h, after0_7, lst_self _ _ _ t h.1 h.2]

/-- When window 8 is idle, written back and fresh. -/
theorem sched_8 : ∀ t : Fin cfg0.N, (cfg0.idle 8 (cfg0.grid.coords t) = true → cfg0.fresh 8 t.val = false → 5 < t.val)
    ∧ (cfg0.idle 8 (cfg0.grid.coords t) = true → (cfg0.win 8).flush t = true → cfg0.fresh 8 t.val = false ∧ t.val ≠ 0)
    ∧ (4 ≤ t.val ∧ t.val ≤ 5 → cfg0.idle 8 (cfg0.grid.coords t) = false)
    ∧ (¬(4 ≤ t.val ∧ t.val ≤ 5) → cfg0.idle 8 (cfg0.grid.coords t) = true) := by
  decide +kernel

theorem carry_8 (c : Dev nD) (t : Fin cfg0.N) (h0 : t.val ≠ 0) (hi : cfg0.idle 8 (cfg0.grid.coords t) = true) (hf : cfg0.fresh 8 t.val = false) :
    (dats m 0 c).after 8 t = (dats m 0 c).after 8 ⟨t.val - 1, by omega⟩ := by
  have h := (sched_8 t).1 hi hf
  rw [after0_8, after0_8]
  rw [lst_pred 4 5 _ t ⟨t.val - 1, by omega⟩ rfl h]

/-- A point that does not store window 8 leaves its buffer as it finds it. -/
theorem keep_8 (c : Dev nD) (t : Fin cfg0.N) (h : ¬(4 ≤ t.val ∧ t.val ≤ 5)) :
    (iprop(∃ d, owns (c : Thread nD τ) (ms0_8 t) fullShare ((dats m 0 c).before 8 t d)) : sProp (MT nD τ sig Unit (Elt F) ℕ (UR sig nD τ) ℕ)) ⊢ (dats m 0 c).leavesExact 8 t := by
  have hi := (sched_8 t).2.2.2 h
  cases hfl : (cfg0.win 8).flush t
  · rw [Dat.leavesExact_idle _ 8 t hi hfl]
    try exact Idealize.SL.BI.Entails.refl _
  · obtain ⟨hfr, h0⟩ := (sched_8 t).2.1 hi hfl
    have e : ∀ d, (dats m 0 c).before 8 t d = (dats m 0 c).after 8 t := fun d => by
      rw [Dat.before_out_traj _ 8 rfl (fun _ _ => rfl) (carry_8 m c) t.val t rfl d, if_neg (by rw [hfr]; exact Bool.false_ne_true)]
      exact (carry_8 m c t h0 hi hfr).symm
    unfold Dat.leavesExact; rw [hi, hfl]
    simp only [e]
    iintro ⟨%d, H⟩; iexact H

theorem live_8 (c : Dev nD) (t : Fin cfg0.N) (h : 4 ≤ t.val ∧ t.val ≤ 5) :
    (dats m 0 c).leavesExact 8 t = owns (c : Thread nD τ) (ms0_8 t) fullShare (k0_pay15 (uAt m c) (iblk m c 2 t)) := by
  unfold Dat.leavesExact; rw [(sched_8 t).2.2.1 h, after0_8, lst_self _ _ _ t h.1 h.2]

/-- When window 9 is idle, written back and fresh. -/
theorem sched_9 : ∀ t : Fin cfg0.N, (cfg0.idle 9 (cfg0.grid.coords t) = true → cfg0.fresh 9 t.val = false → 7 < t.val)
    ∧ (cfg0.idle 9 (cfg0.grid.coords t) = true → (cfg0.win 9).flush t = true → cfg0.fresh 9 t.val = false ∧ t.val ≠ 0)
    ∧ (6 ≤ t.val ∧ t.val ≤ 7 → cfg0.idle 9 (cfg0.grid.coords t) = false)
    ∧ (¬(6 ≤ t.val ∧ t.val ≤ 7) → cfg0.idle 9 (cfg0.grid.coords t) = true) := by
  decide +kernel

theorem carry_9 (c : Dev nD) (t : Fin cfg0.N) (h0 : t.val ≠ 0) (hi : cfg0.idle 9 (cfg0.grid.coords t) = true) (hf : cfg0.fresh 9 t.val = false) :
    (dats m 0 c).after 9 t = (dats m 0 c).after 9 ⟨t.val - 1, by omega⟩ := by
  have h := (sched_9 t).1 hi hf
  rw [after0_9, after0_9]
  rw [lst_pred 6 7 _ t ⟨t.val - 1, by omega⟩ rfl h]

/-- A point that does not store window 9 leaves its buffer as it finds it. -/
theorem keep_9 (c : Dev nD) (t : Fin cfg0.N) (h : ¬(6 ≤ t.val ∧ t.val ≤ 7)) :
    (iprop(∃ d, owns (c : Thread nD τ) (ms0_9 t) fullShare ((dats m 0 c).before 9 t d)) : sProp (MT nD τ sig Unit (Elt F) ℕ (UR sig nD τ) ℕ)) ⊢ (dats m 0 c).leavesExact 9 t := by
  have hi := (sched_9 t).2.2.2 h
  cases hfl : (cfg0.win 9).flush t
  · rw [Dat.leavesExact_idle _ 9 t hi hfl]
    try exact Idealize.SL.BI.Entails.refl _
  · obtain ⟨hfr, h0⟩ := (sched_9 t).2.1 hi hfl
    have e : ∀ d, (dats m 0 c).before 9 t d = (dats m 0 c).after 9 t := fun d => by
      rw [Dat.before_out_traj _ 9 rfl (fun _ _ => rfl) (carry_9 m c) t.val t rfl d, if_neg (by rw [hfr]; exact Bool.false_ne_true)]
      exact (carry_9 m c t h0 hi hfr).symm
    unfold Dat.leavesExact; rw [hi, hfl]
    simp only [e]
    iintro ⟨%d, H⟩; iexact H

theorem live_9 (c : Dev nD) (t : Fin cfg0.N) (h : 6 ≤ t.val ∧ t.val ≤ 7) :
    (dats m 0 c).leavesExact 9 t = owns (c : Thread nD τ) (ms0_9 t) fullShare (k0_pay16 (uAt m c) (iblk m c 3 t)) := by
  unfold Dat.leavesExact; rw [(sched_9 t).2.2.1 h, after0_9, lst_self _ _ _ t h.1 h.2]

/-- When window 10 is idle, written back and fresh. -/
theorem sched_10 : ∀ t : Fin cfg0.N, (cfg0.idle 10 (cfg0.grid.coords t) = true → cfg0.fresh 10 t.val = false → 9 < t.val)
    ∧ (cfg0.idle 10 (cfg0.grid.coords t) = true → (cfg0.win 10).flush t = true → cfg0.fresh 10 t.val = false ∧ t.val ≠ 0)
    ∧ (8 ≤ t.val ∧ t.val ≤ 9 → cfg0.idle 10 (cfg0.grid.coords t) = false)
    ∧ (¬(8 ≤ t.val ∧ t.val ≤ 9) → cfg0.idle 10 (cfg0.grid.coords t) = true) := by
  decide +kernel

theorem carry_10 (c : Dev nD) (t : Fin cfg0.N) (h0 : t.val ≠ 0) (hi : cfg0.idle 10 (cfg0.grid.coords t) = true) (hf : cfg0.fresh 10 t.val = false) :
    (dats m 0 c).after 10 t = (dats m 0 c).after 10 ⟨t.val - 1, by omega⟩ := by
  have h := (sched_10 t).1 hi hf
  rw [after0_10, after0_10]
  rw [lst_pred 8 9 _ t ⟨t.val - 1, by omega⟩ rfl h]

/-- A point that does not store window 10 leaves its buffer as it finds it. -/
theorem keep_10 (c : Dev nD) (t : Fin cfg0.N) (h : ¬(8 ≤ t.val ∧ t.val ≤ 9)) :
    (iprop(∃ d, owns (c : Thread nD τ) (ms0_10 t) fullShare ((dats m 0 c).before 10 t d)) : sProp (MT nD τ sig Unit (Elt F) ℕ (UR sig nD τ) ℕ)) ⊢ (dats m 0 c).leavesExact 10 t := by
  have hi := (sched_10 t).2.2.2 h
  cases hfl : (cfg0.win 10).flush t
  · rw [Dat.leavesExact_idle _ 10 t hi hfl]
    try exact Idealize.SL.BI.Entails.refl _
  · obtain ⟨hfr, h0⟩ := (sched_10 t).2.1 hi hfl
    have e : ∀ d, (dats m 0 c).before 10 t d = (dats m 0 c).after 10 t := fun d => by
      rw [Dat.before_out_traj _ 10 rfl (fun _ _ => rfl) (carry_10 m c) t.val t rfl d, if_neg (by rw [hfr]; exact Bool.false_ne_true)]
      exact (carry_10 m c t h0 hi hfr).symm
    unfold Dat.leavesExact; rw [hi, hfl]
    simp only [e]
    iintro ⟨%d, H⟩; iexact H

theorem live_10 (c : Dev nD) (t : Fin cfg0.N) (h : 8 ≤ t.val ∧ t.val ≤ 9) :
    (dats m 0 c).leavesExact 10 t = owns (c : Thread nD τ) (ms0_10 t) fullShare (k0_pay18 (uAt m c) (iblk m c 3 t)) := by
  unfold Dat.leavesExact; rw [(sched_10 t).2.2.1 h, after0_10, lst_self _ _ _ t h.1 h.2]

/-- When window 11 is idle, written back and fresh. -/
theorem sched_11 : ∀ t : Fin cfg0.N, (cfg0.idle 11 (cfg0.grid.coords t) = true → cfg0.fresh 11 t.val = false → 11 < t.val)
    ∧ (cfg0.idle 11 (cfg0.grid.coords t) = true → (cfg0.win 11).flush t = true → cfg0.fresh 11 t.val = false ∧ t.val ≠ 0)
    ∧ (10 ≤ t.val ∧ t.val ≤ 11 → cfg0.idle 11 (cfg0.grid.coords t) = false)
    ∧ (¬(10 ≤ t.val ∧ t.val ≤ 11) → cfg0.idle 11 (cfg0.grid.coords t) = true) := by
  decide +kernel

theorem carry_11 (c : Dev nD) (t : Fin cfg0.N) (h0 : t.val ≠ 0) (hi : cfg0.idle 11 (cfg0.grid.coords t) = true) (hf : cfg0.fresh 11 t.val = false) :
    (dats m 0 c).after 11 t = (dats m 0 c).after 11 ⟨t.val - 1, by omega⟩ := by
  have h := (sched_11 t).1 hi hf
  rw [after0_11, after0_11]
  rw [lst_pred 10 11 _ t ⟨t.val - 1, by omega⟩ rfl h]

/-- A point that does not store window 11 leaves its buffer as it finds it. -/
theorem keep_11 (c : Dev nD) (t : Fin cfg0.N) (h : ¬(10 ≤ t.val ∧ t.val ≤ 11)) :
    (iprop(∃ d, owns (c : Thread nD τ) (ms0_11 t) fullShare ((dats m 0 c).before 11 t d)) : sProp (MT nD τ sig Unit (Elt F) ℕ (UR sig nD τ) ℕ)) ⊢ (dats m 0 c).leavesExact 11 t := by
  have hi := (sched_11 t).2.2.2 h
  cases hfl : (cfg0.win 11).flush t
  · rw [Dat.leavesExact_idle _ 11 t hi hfl]
    try exact Idealize.SL.BI.Entails.refl _
  · obtain ⟨hfr, h0⟩ := (sched_11 t).2.1 hi hfl
    have e : ∀ d, (dats m 0 c).before 11 t d = (dats m 0 c).after 11 t := fun d => by
      rw [Dat.before_out_traj _ 11 rfl (fun _ _ => rfl) (carry_11 m c) t.val t rfl d, if_neg (by rw [hfr]; exact Bool.false_ne_true)]
      exact (carry_11 m c t h0 hi hfr).symm
    unfold Dat.leavesExact; rw [hi, hfl]
    simp only [e]
    iintro ⟨%d, H⟩; iexact H

theorem live_11 (c : Dev nD) (t : Fin cfg0.N) (h : 10 ≤ t.val ∧ t.val ≤ 11) :
    (dats m 0 c).leavesExact 11 t = owns (c : Thread nD τ) (ms0_11 t) fullShare (k0_pay2 (uAt m c) (iblk m c 3 t)) := by
  unfold Dat.leavesExact; rw [(sched_11 t).2.2.1 h, after0_11, lst_self _ _ _ t h.1 h.2]

/-- When window 12 is idle, written back and fresh. -/
theorem sched_12 : ∀ t : Fin cfg0.N, (cfg0.idle 12 (cfg0.grid.coords t) = true → cfg0.fresh 12 t.val = false → 9 < t.val)
    ∧ (cfg0.idle 12 (cfg0.grid.coords t) = true → (cfg0.win 12).flush t = true → cfg0.fresh 12 t.val = false ∧ t.val ≠ 0)
    ∧ (8 ≤ t.val ∧ t.val ≤ 9 → cfg0.idle 12 (cfg0.grid.coords t) = false)
    ∧ (¬(8 ≤ t.val ∧ t.val ≤ 9) → cfg0.idle 12 (cfg0.grid.coords t) = true) := by
  decide +kernel

theorem carry_12 (c : Dev nD) (t : Fin cfg0.N) (h0 : t.val ≠ 0) (hi : cfg0.idle 12 (cfg0.grid.coords t) = true) (hf : cfg0.fresh 12 t.val = false) :
    (dats m 0 c).after 12 t = (dats m 0 c).after 12 ⟨t.val - 1, by omega⟩ := by
  have h := (sched_12 t).1 hi hf
  rw [after0_12, after0_12]
  rw [lst_pred 8 9 _ t ⟨t.val - 1, by omega⟩ rfl h]

/-- A point that does not store window 12 leaves its buffer as it finds it. -/
theorem keep_12 (c : Dev nD) (t : Fin cfg0.N) (h : ¬(8 ≤ t.val ∧ t.val ≤ 9)) :
    (iprop(∃ d, owns (c : Thread nD τ) (ms0_12 t) fullShare ((dats m 0 c).before 12 t d)) : sProp (MT nD τ sig Unit (Elt F) ℕ (UR sig nD τ) ℕ)) ⊢ (dats m 0 c).leavesExact 12 t := by
  have hi := (sched_12 t).2.2.2 h
  cases hfl : (cfg0.win 12).flush t
  · rw [Dat.leavesExact_idle _ 12 t hi hfl]
    try exact Idealize.SL.BI.Entails.refl _
  · obtain ⟨hfr, h0⟩ := (sched_12 t).2.1 hi hfl
    have e : ∀ d, (dats m 0 c).before 12 t d = (dats m 0 c).after 12 t := fun d => by
      rw [Dat.before_out_traj _ 12 rfl (fun _ _ => rfl) (carry_12 m c) t.val t rfl d, if_neg (by rw [hfr]; exact Bool.false_ne_true)]
      exact (carry_12 m c t h0 hi hfr).symm
    unfold Dat.leavesExact; rw [hi, hfl]
    simp only [e]
    iintro ⟨%d, H⟩; iexact H

theorem live_12 (c : Dev nD) (t : Fin cfg0.N) (h : 8 ≤ t.val ∧ t.val ≤ 9) :
    (dats m 0 c).leavesExact 12 t = owns (c : Thread nD τ) (ms0_12 t) fullShare (k0_pay19 (uAt m c) (iblk m c 3 t)) := by
  unfold Dat.leavesExact; rw [(sched_12 t).2.2.1 h, after0_12, lst_self _ _ _ t h.1 h.2]

/-- When window 13 is idle, written back and fresh. -/
theorem sched_13 : ∀ t : Fin cfg0.N, (cfg0.idle 13 (cfg0.grid.coords t) = true → cfg0.fresh 13 t.val = false → 11 < t.val)
    ∧ (cfg0.idle 13 (cfg0.grid.coords t) = true → (cfg0.win 13).flush t = true → cfg0.fresh 13 t.val = false ∧ t.val ≠ 0)
    ∧ (10 ≤ t.val ∧ t.val ≤ 11 → cfg0.idle 13 (cfg0.grid.coords t) = false)
    ∧ (¬(10 ≤ t.val ∧ t.val ≤ 11) → cfg0.idle 13 (cfg0.grid.coords t) = true) := by
  decide +kernel

theorem carry_13 (c : Dev nD) (t : Fin cfg0.N) (h0 : t.val ≠ 0) (hi : cfg0.idle 13 (cfg0.grid.coords t) = true) (hf : cfg0.fresh 13 t.val = false) :
    (dats m 0 c).after 13 t = (dats m 0 c).after 13 ⟨t.val - 1, by omega⟩ := by
  have h := (sched_13 t).1 hi hf
  rw [after0_13, after0_13]
  rw [lst_pred 10 11 _ t ⟨t.val - 1, by omega⟩ rfl h]

/-- A point that does not store window 13 leaves its buffer as it finds it. -/
theorem keep_13 (c : Dev nD) (t : Fin cfg0.N) (h : ¬(10 ≤ t.val ∧ t.val ≤ 11)) :
    (iprop(∃ d, owns (c : Thread nD τ) (ms0_13 t) fullShare ((dats m 0 c).before 13 t d)) : sProp (MT nD τ sig Unit (Elt F) ℕ (UR sig nD τ) ℕ)) ⊢ (dats m 0 c).leavesExact 13 t := by
  have hi := (sched_13 t).2.2.2 h
  cases hfl : (cfg0.win 13).flush t
  · rw [Dat.leavesExact_idle _ 13 t hi hfl]
    try exact Idealize.SL.BI.Entails.refl _
  · obtain ⟨hfr, h0⟩ := (sched_13 t).2.1 hi hfl
    have e : ∀ d, (dats m 0 c).before 13 t d = (dats m 0 c).after 13 t := fun d => by
      rw [Dat.before_out_traj _ 13 rfl (fun _ _ => rfl) (carry_13 m c) t.val t rfl d, if_neg (by rw [hfr]; exact Bool.false_ne_true)]
      exact (carry_13 m c t h0 hi hfr).symm
    unfold Dat.leavesExact; rw [hi, hfl]
    simp only [e]
    iintro ⟨%d, H⟩; iexact H

theorem live_13 (c : Dev nD) (t : Fin cfg0.N) (h : 10 ≤ t.val ∧ t.val ≤ 11) :
    (dats m 0 c).leavesExact 13 t = owns (c : Thread nD τ) (ms0_13 t) fullShare (k0_pay3 (uAt m c) (iblk m c 3 t)) := by
  unfold Dat.leavesExact; rw [(sched_13 t).2.2.1 h, after0_13, lst_self _ _ _ t h.1 h.2]

/-- When window 14 is idle, written back and fresh. -/
theorem sched_14 : ∀ t : Fin cfg0.N, (cfg0.idle 14 (cfg0.grid.coords t) = true → cfg0.fresh 14 t.val = false → 0 < t.val)
    ∧ (cfg0.idle 14 (cfg0.grid.coords t) = true → (cfg0.win 14).flush t = true → cfg0.fresh 14 t.val = false ∧ t.val ≠ 0)
    ∧ (0 ≤ t.val ∧ t.val ≤ 0 → cfg0.idle 14 (cfg0.grid.coords t) = false)
    ∧ (¬(0 ≤ t.val ∧ t.val ≤ 0) → cfg0.idle 14 (cfg0.grid.coords t) = true) := by
  decide +kernel

theorem carry_14 (c : Dev nD) (t : Fin cfg0.N) (h0 : t.val ≠ 0) (hi : cfg0.idle 14 (cfg0.grid.coords t) = true) (hf : cfg0.fresh 14 t.val = false) :
    (dats m 0 c).after 14 t = (dats m 0 c).after 14 ⟨t.val - 1, by omega⟩ := by
  have h := (sched_14 t).1 hi hf
  rw [after0_14, after0_14]

/-- A point that does not store window 14 leaves its buffer as it finds it. -/
theorem keep_14 (c : Dev nD) (t : Fin cfg0.N) (h : ¬(0 ≤ t.val ∧ t.val ≤ 0)) :
    (iprop(∃ d, owns (c : Thread nD τ) (ms0_14 t) fullShare ((dats m 0 c).before 14 t d)) : sProp (MT nD τ sig Unit (Elt F) ℕ (UR sig nD τ) ℕ)) ⊢ (dats m 0 c).leavesExact 14 t := by
  have hi := (sched_14 t).2.2.2 h
  cases hfl : (cfg0.win 14).flush t
  · rw [Dat.leavesExact_idle _ 14 t hi hfl]
    try exact Idealize.SL.BI.Entails.refl _
  · obtain ⟨hfr, h0⟩ := (sched_14 t).2.1 hi hfl
    have e : ∀ d, (dats m 0 c).before 14 t d = (dats m 0 c).after 14 t := fun d => by
      rw [Dat.before_out_traj _ 14 rfl (fun _ _ => rfl) (carry_14 m c) t.val t rfl d, if_neg (by rw [hfr]; exact Bool.false_ne_true)]
      exact (carry_14 m c t h0 hi hfr).symm
    unfold Dat.leavesExact; rw [hi, hfl]
    simp only [e]
    iintro ⟨%d, H⟩; iexact H

theorem live_14 (c : Dev nD) : (dats m 0 c).leavesExact 14 p0 = owns (c : Thread nD τ) (ms0_14 p0) fullShare (k0_pay12 (iblk m c 4 p0) (uAt m c) (iblk m c 5 p0)) := by
  unfold Dat.leavesExact; rw [(sched_14 p0).2.2.1 ⟨Nat.le_refl 0, Nat.le_refl 0⟩, after0_14]

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

end Cert.Kernel5Ideal.In

end
-- ==== Proof.InS.RunA.lean ====
/- The run of the body at the first point. -/
module

public import proofs.«01_k».proof.Proof.InS.Base

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg3 : Memref sig .tc .vmem S8x64x2048 .f32) (harg3 : arg3.IsWhole) (arg4 : Memref sig .tc .vmem S8x6x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S16x2048 .bf16) (harg7 : arg7.IsWhole) (arg8 : Memref sig .tc .vmem S8x1 .f32) (harg8 : arg8.IsWhole) (arg9 : Memref sig .tc .vmem S8x64x512 .bf16) (harg9 : arg9.IsWhole) (arg10 : Memref sig .tc .vmem S8x64x512 .f32) (harg10 : arg10.IsWhole) (arg11 : Memref sig .tc .vmem S8x64x512 .f32) (harg11 : arg11.IsWhole) (arg12 : Memref sig .tc .vmem S8x64x512 .bf16) (harg12 : arg12.IsWhole) (arg13 : Memref sig .tc .vmem S8x64x512 .bf16) (harg13 : arg13.IsWhole) (arg14 : Memref sig .tc .vmem S8x64x512 .bf16) (harg14 : arg14.IsWhole) (arg15 : Memref sig .tc .vmem S8x64x512 .f32) (harg15 : arg15.IsWhole) (arg16 : Memref sig .tc .vmem S8x64x512 .f32) (harg16 : arg16.IsWhole) (arg17 : Memref sig .tc .vmem S1x8x512 .f32) (harg17 : arg17.IsWhole) (arg18 : Memref sig .tc .vmem S512x2048 .bf16) (harg18 : arg18.IsWhole)

/-- The whole scratch read back after its two stores. -/
theorem uAll_read (v : View sig .tc .vmem S512x2048 .bf16) (x0 : Vec F S8x64x2048 .f32) (x1 : Vec F S8x6x2048 .f32) :
    v.readCov (uPieces x0 x1) (Rect.unit (s := S512x2048) ![0, 0] S512x2048.size inb_S512x2048_S512x2048_0_0).toLoadRect = uAll x0 x1 := by
  rw [View.readCov_eq_canon']
  exact View.ld_unit_lit inb_S512x2048_S512x2048_0_0 (View.canon (uPieces x0 x1)) (by decide)

set_option maxHeartbeats 1000000 in
/-- The run of the body at the first point: the scratch, the first query tile and the gates' logarithms are stored. -/
theorem run_A (hc0 : cond0_0 i) (hc1 : ¬cond0_1 i) (hc2 : ¬cond0_2 i) (hc3 : ¬cond0_3 i) (hc4 : ¬cond0_4 i) (hc5 : ¬cond0_5 i) (hc6 : ¬cond0_6 i) (x0 : Vec F S8x64x2048 .f32) (x1 : Vec F S8x6x2048 .f32) (x2 : Vec F S2048x512 .bf16) (x4 : Vec F S16x2048 .bf16) (x5 : Vec F S8x1 .f32) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg7 fullShare x4 ∗ owns (c : Thread nD τ) arg8 fullShare x5 ∗ (∃ d, owns (c : Thread nD τ) arg9 fullShare d) ∗ (∃ d, owns (c : Thread nD τ) arg17 fullShare d) ∗ (∃ d, owns (c : Thread nD τ) arg18 fullShare d)
        ∗ (iprop(owns (c : Thread nD τ) arg3 fullShare x0 ∗ owns (c : Thread nD τ) arg4 fullShare x1 ∗ owns (c : Thread nD τ) arg5 fullShare x2 ∗ owns (c : Thread nD τ) arg7 fullShare x4 ∗ owns (c : Thread nD τ) arg8 fullShare x5 ∗ owns (c : Thread nD τ) arg9 fullShare (qFirst x0 x1 x2) ∗ owns (c : Thread nD τ) arg17 fullShare (k0_pay12 x4 (uAll x0 x1) x5) ∗ owns (c : Thread nD τ) arg18 fullShare (uAll x0 x1)) -∗ K ⟨⟩))
      ⊢ wp frame (wpE (defs₀ (F := F)) Variants.none c none) E (cc0_in_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_in_proj_eq_skeleton]; unfold cc0_in_proj_skel
  simp only [k0_part3_eq_skeleton, k0_part1_eq_skeleton, k0_part2_eq_skeleton, k0_part4_eq_skeleton, k0_part5_eq_skeleton]
  unfold owns
  iintro ⟨⟨%f0, %hf0, H0⟩, ⟨%f1, %hf1, H1⟩, ⟨%f2, %hf2, H2⟩, ⟨%f4, %hf4, H4⟩, ⟨%f5, %hf5, H5⟩, ⟨%d6, %f6, -, H6⟩, ⟨%d14, %f14, -, H14⟩, ⟨%ds, %fs, -, HS⟩, Hk⟩
  obtain rfl := harg3.eq_unread hf0; obtain rfl := harg4.eq_unread hf1; obtain rfl := harg5.eq_unread hf2; obtain rfl := harg7.eq_unread hf4; obtain rfl := harg8.eq_unread hf5
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    refine (View.read_writes_eq_canon _ _ _ ?_).trans ?_
    · exact View.cover_of_tiledL _ S4x64x512.size (by sl_kernel_rfl)
    unfold qFirst qPieces
    frame_out
  isplitl [H14]
  · iexists _; isplitr; swap; · iexact H14
    ipureintro
    rw [View.read_writes_eq_canon _ _ _ (View.cover_of_tiledL _ S1x8x512.size (by sl_kernel_rfl)), ← uAll_read arg18.view]
    unfold uPieces
    frame_out
  iexists _; isplitr; swap; · iexact HS
  ipureintro
  refine (View.read_writes_eq_canon _ _ _ ?_).trans ?_
  · exact View.cover_of_tiledL _ S256x2048.size (by sl_kernel_rfl)
  unfold uAll uPieces
  frame_out

end Cert.Kernel5Ideal.In

end
-- ==== Proof.InS.SoundA.lean ====
/- The body at the points of one kind. -/
module

public import proofs.«01_k».proof.Proof.InS.Data
public import proofs.«01_k».proof.Proof.InS.RunA

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option maxHeartbeats 4000000 in
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_zero m c _ _ h, PhiA0_eq]
  obtain rfl : t = p0 := Fin.ext h
  have hv : p0.val = 0 := rfl
  rw [leaves0_0, leaves0_1, leaves0_2, leaves0_3, leaves0_4, leaves0_5, live_6_A m c, live_14 m c]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, H7, H8, H9, H10, H11, H12, H13, ⟨%d14, H14⟩⟩
  iapply (run_A c (grid0.coords p0) _ _ _ _ _ _ _ _ _ _ _ _ _ _ _ _ _ _ _ _ _ _ _ _ _ _ _ _ _ _ _ _ ((hcond0_0 p0).mpr (by omega)) (fun h => by have := (hcond0_1 p0).mp h; omega) (fun h => by have := (hcond0_2 p0).mp h; omega) (fun h => by have := (hcond0_3 p0).mp h; omega) (fun h => by have := (hcond0_4 p0).mp h; omega) (fun h => by have := (hcond0_5 p0).mp h; omega) (fun h => by have := (hcond0_6 p0).mp h; omega) (iblk m c 0 p0) (iblk m c 1 p0) (iblk m c 2 p0) (iblk m c 4 p0) (iblk m c 5 p0) Set.univ _)
  isplitl [H0]; · iexact H0
  isplitl [H1]; · iexact H1
  isplitl [H2]; · iexact H2
  isplitl [H4]; · iexact H4
  isplitl [H5]; · iexact H5
  isplitl [H6]; · iexists _; iexact H6
  isplitl [H14]; · iexists _; iexact H14
  isplitl [HS]; · iexact HS
  iintro ⟨H0, H1, H2, H4, H5, H6, H14, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (keep_7 m c p0 (by omega)); iexact H7
  isplitl [H8]; · iapply (keep_8 m c p0 (by omega)); iexact H8
  isplitl [H9]; · iapply (keep_9 m c p0 (by omega)); iexact H9
  isplitl [H10]; · iapply (keep_10 m c p0 (by omega)); iexact H10
  isplitl [H11]; · iapply (keep_11 m c p0 (by omega)); iexact H11
  isplitl [H12]; · iapply (keep_12 m c p0 (by omega)); iexact H12
  isplitl [H13]; · iapply (keep_13 m c p0 (by omega)); iexact H13
  iexact H14

end Cert.Kernel5Ideal.In

end
-- ==== Proof.InS.RunB.lean ====
/- The run of the body at the points of one kind: the tile of one output stored. -/
module

public import proofs.«01_k».proof.Proof.InS.Base

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg3 : Memref sig .tc .vmem S8x64x2048 .f32) (harg3 : arg3.IsWhole) (arg4 : Memref sig .tc .vmem S8x6x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S16x2048 .bf16) (harg7 : arg7.IsWhole) (arg8 : Memref sig .tc .vmem S8x1 .f32) (harg8 : arg8.IsWhole) (arg9 : Memref sig .tc .vmem S8x64x512 .bf16) (harg9 : arg9.IsWhole) (arg10 : Memref sig .tc .vmem S8x64x512 .f32) (harg10 : arg10.IsWhole) (arg11 : Memref sig .tc .vmem S8x64x512 .f32) (harg11 : arg11.IsWhole) (arg12 : Memref sig .tc .vmem S8x64x512 .bf16) (harg12 : arg12.IsWhole) (arg13 : Memref sig .tc .vmem S8x64x512 .bf16) (harg13 : arg13.IsWhole) (arg14 : Memref sig .tc .vmem S8x64x512 .bf16) (harg14 : arg14.IsWhole) (arg15 : Memref sig .tc .vmem S8x64x512 .f32) (harg15 : arg15.IsWhole) (arg16 : Memref sig .tc .vmem S8x64x512 .f32) (harg16 : arg16.IsWhole) (arg17 : Memref sig .tc .vmem S1x8x512 .f32) (harg17 : arg17.IsWhole) (arg18 : Memref sig .tc .vmem S512x2048 .bf16) (harg18 : arg18.IsWhole)

set_option maxHeartbeats 1000000 in
/-- The run of the body where the condition numbered 1 alone of the first seven holds: the product of the scratch and the tile is stored, the rest is kept. -/
theorem run_B (hc0 : ¬cond0_0 i) (hc1 : cond0_1 i) (hc2 : ¬cond0_2 i) (hc3 : ¬cond0_3 i) (hc4 : ¬cond0_4 i) (hc5 : ¬cond0_5 i) (hc6 : ¬cond0_6 i) (x : Vec F S2048x512 .bf16) (u : Vec F S512x2048 .bf16) (E : Set ℕ) (K : PUnit → sProp (MT nD τ sig Unit (Elt F) ℕ (UR sig nD τ) ℕ)) :
    iprop(owns (c : Thread nD τ) arg5 fullShare x ∗ owns (c : Thread nD τ) arg18 fullShare u ∗ (∃ d, owns (c : Thread nD τ) arg9 fullShare d)
        ∗ (iprop(owns (c : Thread nD τ) arg5 fullShare x ∗ owns (c : Thread nD τ) arg18 fullShare u ∗ owns (c : Thread nD τ) arg9 fullShare (k0_pay13 u x)) -∗ K ⟨⟩))
      ⊢ wp frame (wpE (defs₀ (F := F)) Variants.none c none) E (cc0_in_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_in_proj_eq_skeleton]; unfold cc0_in_proj_skel
  simp only [k0_part3_eq_skeleton, k0_part4_eq_skeleton, k0_part5_eq_skeleton]
  unfold owns
  iintro ⟨⟨%f0, %hf0, H0⟩, ⟨%fs, %hfs, HS⟩, ⟨%d6, %f6, -, H6⟩, Hk⟩
  obtain rfl := harg5.eq_unread hf0; obtain rfl := harg18.eq_unread hfs
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg5.read_unread _
    iexact H0
  isplitl [HS]
  · iexists _; isplitr; · ipureintro; exact harg18.read_unread _
    iexact HS
  iexists _; isplitr; swap; · iexact H6
  ipureintro
  rw [View.read_writes_eq_canon _ _ _ (View.cover_of_tiledL _ S8x64x512.size (by sl_kernel_rfl))]
  frame_out

end Cert.Kernel5Ideal.In

end
-- ==== Proof.InS.SoundB.lean ====
/- The body at the points of one kind. -/
module

public import proofs.«01_k».proof.Proof.InS.Data
public import proofs.«01_k».proof.Proof.InS.RunB

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option maxHeartbeats 4000000 in
theorem sound_B (c : Dev nD) (t : Fin cfg0.N) (h : t.val = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_pos m c _ _ (by omega)]
  obtain rfl : t = p1 := Fin.ext h
  have hv : p1.val = 1 := rfl
  rw [leaves0_0, leaves0_1, leaves0_2, leaves0_3, leaves0_4, leaves0_5, live_6_B m c]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, H7, H8, H9, H10, H11, H12, H13, H14⟩
  iapply (run_B c (grid0.coords p1) _ _ _ _ _ _ _ _ _ _ _ _ _ _ _ _ _ _ _ _ _ _ _ _ _ _ _ _ _ _ _ _ (fun h => by have := (hcond0_0 p1).mp h; omega) ((hcond0_1 p1).mpr (by omega)) (fun h => by have := (hcond0_2 p1).mp h; omega) (fun h => by have := (hcond0_3 p1).mp h; omega) (fun h => by have := (hcond0_4 p1).mp h; omega) (fun h => by have := (hcond0_5 p1).mp h; omega) (fun h => by have := (hcond0_6 p1).mp h; omega) (iblk m c 2 p1) (uAt m c) Set.univ _)
  isplitl [H2]; · iexact H2
  isplitl [HS]; · iexact HS
  isplitl [H6]; · iexists _; iexact H6
  iintro ⟨H2, HS, H6⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (keep_7 m c p1 (by omega)); iexact H7
  isplitl [H8]; · iapply (keep_8 m c p1 (by omega)); iexact H8
  isplitl [H9]; · iapply (keep_9 m c p1 (by omega)); iexact H9
  isplitl [H10]; · iapply (keep_10 m c p1 (by omega)); iexact H10
  isplitl [H11]; · iapply (keep_11 m c p1 (by omega)); iexact H11
  isplitl [H12]; · iapply (keep_12 m c p1 (by omega)); iexact H12
  isplitl [H13]; · iapply (keep_13 m c p1 (by omega)); iexact H13
  iapply (keep_14 m c p1 (by omega)); iexact H14

end Cert.Kernel5Ideal.In

end
-- ==== Proof.InS.RunC.lean ====
/- The run of the body at the points of one kind: the tile of one output stored. -/
module

public import proofs.«01_k».proof.Proof.InS.Base

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg3 : Memref sig .tc .vmem S8x64x2048 .f32) (harg3 : arg3.IsWhole) (arg4 : Memref sig .tc .vmem S8x6x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S16x2048 .bf16) (harg7 : arg7.IsWhole) (arg8 : Memref sig .tc .vmem S8x1 .f32) (harg8 : arg8.IsWhole) (arg9 : Memref sig .tc .vmem S8x64x512 .bf16) (harg9 : arg9.IsWhole) (arg10 : Memref sig .tc .vmem S8x64x512 .f32) (harg10 : arg10.IsWhole) (arg11 : Memref sig .tc .vmem S8x64x512 .f32) (harg11 : arg11.IsWhole) (arg12 : Memref sig .tc .vmem S8x64x512 .bf16) (harg12 : arg12.IsWhole) (arg13 : Memref sig .tc .vmem S8x64x512 .bf16) (harg13 : arg13.IsWhole) (arg14 : Memref sig .tc .vmem S8x64x512 .bf16) (harg14 : arg14.IsWhole) (arg15 : Memref sig .tc .vmem S8x64x512 .f32) (harg15 : arg15.IsWhole) (arg16 : Memref sig .tc .vmem S8x64x512 .f32) (harg16 : arg16.IsWhole) (arg17 : Memref sig .tc .vmem S1x8x512 .f32) (harg17 : arg17.IsWhole) (arg18 : Memref sig .tc .vmem S512x2048 .bf16) (harg18 : arg18.IsWhole)

set_option maxHeartbeats 1000000 in
/-- The run of the body where the condition numbered 2 alone of the first seven holds: the product of the scratch and the tile is stored, the rest is kept. -/
theorem run_C (hc0 : ¬cond0_0 i) (hc1 : ¬cond0_1 i) (hc2 : cond0_2 i) (hc3 : ¬cond0_3 i) (hc4 : ¬cond0_4 i) (hc5 : ¬cond0_5 i) (hc6 : ¬cond0_6 i) (x : Vec F S2048x512 .bf16) (u : Vec F S512x2048 .bf16) (E : Set ℕ) (K : PUnit → sProp (MT nD τ sig Unit (Elt F) ℕ (UR sig nD τ) ℕ)) :
    iprop(owns (c : Thread nD τ) arg5 fullShare x ∗ owns (c : Thread nD τ) arg18 fullShare u ∗ (∃ d, owns (c : Thread nD τ) arg10 fullShare d)
        ∗ (iprop(owns (c : Thread nD τ) arg5 fullShare x ∗ owns (c : Thread nD τ) arg18 fullShare u ∗ owns (c : Thread nD τ) arg10 fullShare (k0_pay14 u x)) -∗ K ⟨⟩))
      ⊢ wp frame (wpE (defs₀ (F := F)) Variants.none c none) E (cc0_in_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_in_proj_eq_skeleton]; unfold cc0_in_proj_skel
  simp only [k0_part3_eq_skeleton, k0_part4_eq_skeleton, k0_part5_eq_skeleton]
  unfold owns
  iintro ⟨⟨%f0, %hf0, H0⟩, ⟨%fs, %hfs, HS⟩, ⟨%d7, %f7, -, H7⟩, Hk⟩
  obtain rfl := harg5.eq_unread hf0; obtain rfl := harg18.eq_unread hfs
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg5.read_unread _
    iexact H0
  isplitl [HS]
  · iexists _; isplitr; · ipureintro; exact harg18.read_unread _
    iexact HS
  iexists _; isplitr; swap; · iexact H7
  ipureintro
  rw [View.read_writes_eq_canon _ _ _ (View.cover_of_tiledL _ S8x64x512.size (by sl_kernel_rfl))]
  frame_out

end Cert.Kernel5Ideal.In

end
-- ==== Proof.InS.SoundC.lean ====
/- The body at the points of one kind. -/
module

public import proofs.«01_k».proof.Proof.InS.Data
public import proofs.«01_k».proof.Proof.InS.RunC

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option maxHeartbeats 4000000 in
theorem sound_C (c : Dev nD) (t : Fin cfg0.N) (h : 2 ≤ t.val ∧ t.val ≤ 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_pos m c _ _ (by omega)]
  rw [leaves0_0, leaves0_1, leaves0_2, leaves0_3, leaves0_4, leaves0_5, live_7 m c t h]
  iintro ⟨⟨HS, Hg⟩, Ho, ⟨%d0, H0⟩, ⟨%d1, H1⟩, ⟨%d2, H2⟩, ⟨%d3, H3⟩, ⟨%d4, H4⟩, ⟨%d5, H5⟩, H6, ⟨%d7, H7⟩, H8, H9, H10, H11, H12, H13, H14⟩
  iapply (run_C c (grid0.coords t) _ _ _ _ _ _ _ _ _ _ _ _ _ _ _ _ _ _ _ _ _ _ _ _ _ _ _ _ _ _ _ _ (fun h => by have := (hcond0_0 t).mp h; omega) (fun h => by have := (hcond0_1 t).mp h; omega) ((hcond0_2 t).mpr (by omega)) (fun h => by have := (hcond0_3 t).mp h; omega) (fun h => by have := (hcond0_4 t).mp h; omega) (fun h => by have := (hcond0_5 t).mp h; omega) (fun h => by have := (hcond0_6 t).mp h; omega) (iblk m c 2 t) (uAt m c) Set.univ _)
  isplitl [H2]; · iexact H2
  isplitl [HS]; · iexact HS
  isplitl [H7]; · iexists _; iexact H7
  iintro ⟨H2, HS, H7⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (keep_6 m c t (by omega)); iexact H6
  isplitl [H7]; · iexact H7
  isplitl [H8]; · iapply (keep_8 m c t (by omega)); iexact H8
  isplitl [H9]; · iapply (keep_9 m c t (by omega)); iexact H9
  isplitl [H10]; · iapply (keep_10 m c t (by omega)); iexact H10
  isplitl [H11]; · iapply (keep_11 m c t (by omega)); iexact H11
  isplitl [H12]; · iapply (keep_12 m c t (by omega)); iexact H12
  isplitl [H13]; · iapply (keep_13 m c t (by omega)); iexact H13
  iapply (keep_14 m c t (by omega)); iexact H14

end Cert.Kernel5Ideal.In

end
-- ==== Proof.InS.RunD.lean ====
/- The run of the body at the points of one kind: the tile of one output stored. -/
module

public import proofs.«01_k».proof.Proof.InS.Base

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg3 : Memref sig .tc .vmem S8x64x2048 .f32) (harg3 : arg3.IsWhole) (arg4 : Memref sig .tc .vmem S8x6x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S16x2048 .bf16) (harg7 : arg7.IsWhole) (arg8 : Memref sig .tc .vmem S8x1 .f32) (harg8 : arg8.IsWhole) (arg9 : Memref sig .tc .vmem S8x64x512 .bf16) (harg9 : arg9.IsWhole) (arg10 : Memref sig .tc .vmem S8x64x512 .f32) (harg10 : arg10.IsWhole) (arg11 : Memref sig .tc .vmem S8x64x512 .f32) (harg11 : arg11.IsWhole) (arg12 : Memref sig .tc .vmem S8x64x512 .bf16) (harg12 : arg12.IsWhole) (arg13 : Memref sig .tc .vmem S8x64x512 .bf16) (harg13 : arg13.IsWhole) (arg14 : Memref sig .tc .vmem S8x64x512 .bf16) (harg14 : arg14.IsWhole) (arg15 : Memref sig .tc .vmem S8x64x512 .f32) (harg15 : arg15.IsWhole) (arg16 : Memref sig .tc .vmem S8x64x512 .f32) (harg16 : arg16.IsWhole) (arg17 : Memref sig .tc .vmem S1x8x512 .f32) (harg17 : arg17.IsWhole) (arg18 : Memref sig .tc .vmem S512x2048 .bf16) (harg18 : arg18.IsWhole)

set_option maxHeartbeats 1000000 in
/-- The run of the body where the condition numbered 3 alone of the first seven holds: the product of the scratch and the tile is stored, the rest is kept. -/
theorem run_D (hc0 : ¬cond0_0 i) (hc1 : ¬cond0_1 i) (hc2 : ¬cond0_2 i) (hc3 : cond0_3 i) (hc4 : ¬cond0_4 i) (hc5 : ¬cond0_5 i) (hc6 : ¬cond0_6 i) (x : Vec F S2048x512 .bf16) (u : Vec F S512x2048 .bf16) (E : Set ℕ) (K : PUnit → sProp (MT nD τ sig Unit (Elt F) ℕ (UR sig nD τ) ℕ)) :
    iprop(owns (c : Thread nD τ) arg5 fullShare x ∗ owns (c : Thread nD τ) arg18 fullShare u ∗ (∃ d, owns (c : Thread nD τ) arg11 fullShare d)
        ∗ (iprop(owns (c : Thread nD τ) arg5 fullShare x ∗ owns (c : Thread nD τ) arg18 fullShare u ∗ owns (c : Thread nD τ) arg11 fullShare (k0_pay15 u x)) -∗ K ⟨⟩))
      ⊢ wp frame (wpE (defs₀ (F := F)) Variants.none c none) E (cc0_in_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_in_proj_eq_skeleton]; unfold cc0_in_proj_skel
  simp only [k0_part3_eq_skeleton, k0_part4_eq_skeleton, k0_part5_eq_skeleton]
  unfold owns
  iintro ⟨⟨%f0, %hf0, H0⟩, ⟨%fs, %hfs, HS⟩, ⟨%d8, %f8, -, H8⟩, Hk⟩
  obtain rfl := harg5.eq_unread hf0; obtain rfl := harg18.eq_unread hfs
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg5.read_unread _
    iexact H0
  isplitl [HS]
  · iexists _; isplitr; · ipureintro; exact harg18.read_unread _
    iexact HS
  iexists _; isplitr; swap; · iexact H8
  ipureintro
  rw [View.read_writes_eq_canon _ _ _ (View.cover_of_tiledL _ S8x64x512.size (by sl_kernel_rfl))]
  frame_out

end Cert.Kernel5Ideal.In

end
-- ==== Proof.InS.SoundD.lean ====
/- The body at the points of one kind. -/
module

public import proofs.«01_k».proof.Proof.InS.Data
public import proofs.«01_k».proof.Proof.InS.RunD

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option maxHeartbeats 4000000 in
theorem sound_D (c : Dev nD) (t : Fin cfg0.N) (h : 4 ≤ t.val ∧ t.val ≤ 5) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_pos m c _ _ (by omega)]
  rw [leaves0_0, leaves0_1, leaves0_2, leaves0_3, leaves0_4, leaves0_5, live_8 m c t h]
  iintro ⟨⟨HS, Hg⟩, Ho, ⟨%d0, H0⟩, ⟨%d1, H1⟩, ⟨%d2, H2⟩, ⟨%d3, H3⟩, ⟨%d4, H4⟩, ⟨%d5, H5⟩, H6, H7, ⟨%d8, H8⟩, H9, H10, H11, H12, H13, H14⟩
  iapply (run_D c (grid0.coords t) _ _ _ _ _ _ _ _ _ _ _ _ _ _ _ _ _ _ _ _ _ _ _ _ _ _ _ _ _ _ _ _ (fun h => by have := (hcond0_0 t).mp h; omega) (fun h => by have := (hcond0_1 t).mp h; omega) (fun h => by have := (hcond0_2 t).mp h; omega) ((hcond0_3 t).mpr (by omega)) (fun h => by have := (hcond0_4 t).mp h; omega) (fun h => by have := (hcond0_5 t).mp h; omega) (fun h => by have := (hcond0_6 t).mp h; omega) (iblk m c 2 t) (uAt m c) Set.univ _)
  isplitl [H2]; · iexact H2
  isplitl [HS]; · iexact HS
  isplitl [H8]; · iexists _; iexact H8
  iintro ⟨H2, HS, H8⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (keep_6 m c t (by omega)); iexact H6
  isplitl [H7]; · iapply (keep_7 m c t (by omega)); iexact H7
  isplitl [H8]; · iexact H8
  isplitl [H9]; · iapply (keep_9 m c t (by omega)); iexact H9
  isplitl [H10]; · iapply (keep_10 m c t (by omega)); iexact H10
  isplitl [H11]; · iapply (keep_11 m c t (by omega)); iexact H11
  isplitl [H12]; · iapply (keep_12 m c t (by omega)); iexact H12
  isplitl [H13]; · iapply (keep_13 m c t (by omega)); iexact H13
  iapply (keep_14 m c t (by omega)); iexact H14

end Cert.Kernel5Ideal.In

end
-- ==== Proof.InS.RunE.lean ====
/- The run of the body at the points of one kind: the tile of one output stored. -/
module

public import proofs.«01_k».proof.Proof.InS.Base

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg3 : Memref sig .tc .vmem S8x64x2048 .f32) (harg3 : arg3.IsWhole) (arg4 : Memref sig .tc .vmem S8x6x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S16x2048 .bf16) (harg7 : arg7.IsWhole) (arg8 : Memref sig .tc .vmem S8x1 .f32) (harg8 : arg8.IsWhole) (arg9 : Memref sig .tc .vmem S8x64x512 .bf16) (harg9 : arg9.IsWhole) (arg10 : Memref sig .tc .vmem S8x64x512 .f32) (harg10 : arg10.IsWhole) (arg11 : Memref sig .tc .vmem S8x64x512 .f32) (harg11 : arg11.IsWhole) (arg12 : Memref sig .tc .vmem S8x64x512 .bf16) (harg12 : arg12.IsWhole) (arg13 : Memref sig .tc .vmem S8x64x512 .bf16) (harg13 : arg13.IsWhole) (arg14 : Memref sig .tc .vmem S8x64x512 .bf16) (harg14 : arg14.IsWhole) (arg15 : Memref sig .tc .vmem S8x64x512 .f32) (harg15 : arg15.IsWhole) (arg16 : Memref sig .tc .vmem S8x64x512 .f32) (harg16 : arg16.IsWhole) (arg17 : Memref sig .tc .vmem S1x8x512 .f32) (harg17 : arg17.IsWhole) (arg18 : Memref sig .tc .vmem S512x2048 .bf16) (harg18 : arg18.IsWhole)

set_option maxHeartbeats 1000000 in
/-- The run of the body where the condition numbered 4 alone of the first seven holds: the product of the scratch and the tile is stored, the rest is kept. -/
theorem run_E (hc0 : ¬cond0_0 i) (hc1 : ¬cond0_1 i) (hc2 : ¬cond0_2 i) (hc3 : ¬cond0_3 i) (hc4 : cond0_4 i) (hc5 : ¬cond0_5 i) (hc6 : ¬cond0_6 i) (x : Vec F S2048x512 .bf16) (u : Vec F S512x2048 .bf16) (E : Set ℕ) (K : PUnit → sProp (MT nD τ sig Unit (Elt F) ℕ (UR sig nD τ) ℕ)) :
    iprop(owns (c : Thread nD τ) arg6 fullShare x ∗ owns (c : Thread nD τ) arg18 fullShare u ∗ (∃ d, owns (c : Thread nD τ) arg12 fullShare d)
        ∗ (iprop(owns (c : Thread nD τ) arg6 fullShare x ∗ owns (c : Thread nD τ) arg18 fullShare u ∗ owns (c : Thread nD τ) arg12 fullShare (k0_pay16 u x)) -∗ K ⟨⟩))
      ⊢ wp frame (wpE (defs₀ (F := F)) Variants.none c none) E (cc0_in_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_in_proj_eq_skeleton]; unfold cc0_in_proj_skel
  simp only [k0_part3_eq_skeleton, k0_part4_eq_skeleton, k0_part5_eq_skeleton]
  unfold owns
  iintro ⟨⟨%f0, %hf0, H0⟩, ⟨%fs, %hfs, HS⟩, ⟨%d9, %f9, -, H9⟩, Hk⟩
  obtain rfl := harg6.eq_unread hf0; obtain rfl := harg18.eq_unread hfs
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg6.read_unread _
    iexact H0
  isplitl [HS]
  · iexists _; isplitr; · ipureintro; exact harg18.read_unread _
    iexact HS
  iexists _; isplitr; swap; · iexact H9
  ipureintro
  rw [View.read_writes_eq_canon _ _ _ (View.cover_of_tiledL _ S8x64x512.size (by sl_kernel_rfl))]
  frame_out

end Cert.Kernel5Ideal.In

end
-- ==== Proof.InS.SoundE.lean ====
/- The body at the points of one kind. -/
module

public import proofs.«01_k».proof.Proof.InS.Data
public import proofs.«01_k».proof.Proof.InS.RunE

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option maxHeartbeats 4000000 in
theorem sound_E (c : Dev nD) (t : Fin cfg0.N) (h : 6 ≤ t.val ∧ t.val ≤ 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_pos m c _ _ (by omega)]
  rw [leaves0_0, leaves0_1, leaves0_2, leaves0_3, leaves0_4, leaves0_5, live_9 m c t h]
  iintro ⟨⟨HS, Hg⟩, Ho, ⟨%d0, H0⟩, ⟨%d1, H1⟩, ⟨%d2, H2⟩, ⟨%d3, H3⟩, ⟨%d4, H4⟩, ⟨%d5, H5⟩, H6, H7, H8, ⟨%d9, H9⟩, H10, H11, H12, H13, H14⟩
  iapply (run_E c (grid0.coords t) _ _ _ _ _ _ _ _ _ _ _ _ _ _ _ _ _ _ _ _ _ _ _ _ _ _ _ _ _ _ _ _ (fun h => by have := (hcond0_0 t).mp h; omega) (fun h => by have := (hcond0_1 t).mp h; omega) (fun h => by have := (hcond0_2 t).mp h; omega) (fun h => by have := (hcond0_3 t).mp h; omega) ((hcond0_4 t).mpr (by omega)) (fun h => by have := (hcond0_5 t).mp h; omega) (fun h => by have := (hcond0_6 t).mp h; omega) (iblk m c 3 t) (uAt m c) Set.univ _)
  isplitl [H3]; · iexact H3
  isplitl [HS]; · iexact HS
  isplitl [H9]; · iexists _; iexact H9
  iintro ⟨H3, HS, H9⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (keep_6 m c t (by omega)); iexact H6
  isplitl [H7]; · iapply (keep_7 m c t (by omega)); iexact H7
  isplitl [H8]; · iapply (keep_8 m c t (by omega)); iexact H8
  isplitl [H9]; · iexact H9
  isplitl [H10]; · iapply (keep_10 m c t (by omega)); iexact H10
  isplitl [H11]; · iapply (keep_11 m c t (by omega)); iexact H11
  isplitl [H12]; · iapply (keep_12 m c t (by omega)); iexact H12
  isplitl [H13]; · iapply (keep_13 m c t (by omega)); iexact H13
  iapply (keep_14 m c t (by omega)); iexact H14

end Cert.Kernel5Ideal.In

end
-- ==== Proof.InS.RunF.lean ====
/- The run of the body at the points of one kind: the tile of two outputs stored. -/
module

public import proofs.«01_k».proof.Proof.InS.Base

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg3 : Memref sig .tc .vmem S8x64x2048 .f32) (harg3 : arg3.IsWhole) (arg4 : Memref sig .tc .vmem S8x6x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S16x2048 .bf16) (harg7 : arg7.IsWhole) (arg8 : Memref sig .tc .vmem S8x1 .f32) (harg8 : arg8.IsWhole) (arg9 : Memref sig .tc .vmem S8x64x512 .bf16) (harg9 : arg9.IsWhole) (arg10 : Memref sig .tc .vmem S8x64x512 .f32) (harg10 : arg10.IsWhole) (arg11 : Memref sig .tc .vmem S8x64x512 .f32) (harg11 : arg11.IsWhole) (arg12 : Memref sig .tc .vmem S8x64x512 .bf16) (harg12 : arg12.IsWhole) (arg13 : Memref sig .tc .vmem S8x64x512 .bf16) (harg13 : arg13.IsWhole) (arg14 : Memref sig .tc .vmem S8x64x512 .bf16) (harg14 : arg14.IsWhole) (arg15 : Memref sig .tc .vmem S8x64x512 .f32) (harg15 : arg15.IsWhole) (arg16 : Memref sig .tc .vmem S8x64x512 .f32) (harg16 : arg16.IsWhole) (arg17 : Memref sig .tc .vmem S1x8x512 .f32) (harg17 : arg17.IsWhole) (arg18 : Memref sig .tc .vmem S512x2048 .bf16) (harg18 : arg18.IsWhole)

set_option maxHeartbeats 1000000 in
/-- The run of the body where the condition numbered 5 alone of the first seven holds: the product of the scratch and the tile is stored, the rest is kept. -/
theorem run_F (hc0 : ¬cond0_0 i) (hc1 : ¬cond0_1 i) (hc2 : ¬cond0_2 i) (hc3 : ¬cond0_3 i) (hc4 : ¬cond0_4 i) (hc5 : cond0_5 i) (hc6 : ¬cond0_6 i) (hc7 : cond0_7 i) (x : Vec F S2048x512 .bf16) (u : Vec F S512x2048 .bf16) (E : Set ℕ) (K : PUnit → sProp (MT nD τ sig Unit (Elt F) ℕ (UR sig nD τ) ℕ)) :
    iprop(owns (c : Thread nD τ) arg6 fullShare x ∗ owns (c : Thread nD τ) arg18 fullShare u ∗ (∃ d, owns (c : Thread nD τ) arg13 fullShare d) ∗ (∃ d, owns (c : Thread nD τ) arg15 fullShare d)
        ∗ (iprop(owns (c : Thread nD τ) arg6 fullShare x ∗ owns (c : Thread nD τ) arg18 fullShare u ∗ owns (c : Thread nD τ) arg13 fullShare (k0_pay18 u x) ∗ owns (c : Thread nD τ) arg15 fullShare (k0_pay19 u x)) -∗ K ⟨⟩))
      ⊢ wp frame (wpE (defs₀ (F := F)) Variants.none c none) E (cc0_in_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_in_proj_eq_skeleton]; unfold cc0_in_proj_skel
  simp only [k0_part3_eq_skeleton, k0_part4_eq_skeleton, k0_part5_eq_skeleton]
  unfold owns
  iintro ⟨⟨%f0, %hf0, H0⟩, ⟨%fs, %hfs, HS⟩, ⟨%d10, %f10, -, H10⟩, ⟨%d12, %f12, -, H12⟩, Hk⟩
  obtain rfl := harg6.eq_unread hf0; obtain rfl := harg18.eq_unread hfs
  sl_exec (disch := first | sl_exact hc0 | sl_exact hc1 | sl_exact hc2 | sl_exact hc3 | sl_exact hc4 | sl_exact hc5 | sl_exact hc6 | sl_exact hc7)
  sl_step
  iapply Hk
  isplitl [H0]
  · iexists _; isplitr; · ipureintro; exact harg6.read_unread _
    iexact H0
  isplitl [HS]
  · iexists _; isplitr; · ipureintro; exact harg18.read_unread _
    iexact HS
  isplitl [H10]
  · iexists _; isplitr; swap; · iexact H10
    ipureintro
    rw [View.read_writes_eq_canon _ _ _ (View.cover_of_tiledL _ S8x64x512.size (by sl_kernel_rfl))]
    frame_out
  iexists _; isplitr; swap; · iexact H12
  ipureintro
  rw [View.read_writes_eq_canon _ _ _ (View.cover_of_tiledL _ S8x64x512.size (by sl_kernel_rfl))]
  frame_out

end Cert.Kernel5Ideal.In

end
-- ==== Proof.InS.SoundF.lean ====
/- The body at the points of one kind. -/
module

public import proofs.«01_k».proof.Proof.InS.Data
public import proofs.«01_k».proof.Proof.InS.RunF

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option maxHeartbeats 4000000 in
theorem sound_F (c : Dev nD) (t : Fin cfg0.N) (h : 8 ≤ t.val ∧ t.val ≤ 9) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_pos m c _ _ (by omega)]
  rw [leaves0_0, leaves0_1, leaves0_2, leaves0_3, leaves0_4, leaves0_5, live_10 m c t h, live_12 m c t h]
  iintro ⟨⟨HS, Hg⟩, Ho, ⟨%d0, H0⟩, ⟨%d1, H1⟩, ⟨%d2, H2⟩, ⟨%d3, H3⟩, ⟨%d4, H4⟩, ⟨%d5, H5⟩, H6, H7, H8, H9, ⟨%d10, H10⟩, H11, ⟨%d12, H12⟩, H13, H14⟩
  iapply (run_F c (grid0.coords t) _ _ _ _ _ _ _ _ _ _ _ _ _ _ _ _ _ _ _ _ _ _ _ _ _ _ _ _ _ _ _ _ (fun h => by have := (hcond0_0 t).mp h; omega) (fun h => by have := (hcond0_1 t).mp h; omega) (fun h => by have := (hcond0_2 t).mp h; omega) (fun h => by have := (hcond0_3 t).mp h; omega) (fun h => by have := (hcond0_4 t).mp h; omega) ((hcond0_5 t).mpr (by omega)) (fun h => by have := (hcond0_6 t).mp h; omega) (hcond0_7 t) (iblk m c 3 t) (uAt m c) Set.univ _)
  isplitl [H3]; · iexact H3
  isplitl [HS]; · iexact HS
  isplitl [H10]; · iexists _; iexact H10
  isplitl [H12]; · iexists _; iexact H12
  iintro ⟨H3, HS, H10, H12⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (keep_6 m c t (by omega)); iexact H6
  isplitl [H7]; · iapply (keep_7 m c t (by omega)); iexact H7
  isplitl [H8]; · iapply (keep_8 m c t (by omega)); iexact H8
  isplitl [H9]; · iapply (keep_9 m c t (by omega)); iexact H9
  isplitl [H10]; · iexact H10
  isplitl [H11]; · iapply (keep_11 m c t (by omega)); iexact H11
  isplitl [H12]; · iexact H12
  isplitl [H13]; · iapply (keep_13 m c t (by omega)); iexact H13
  iapply (keep_14 m c t (by omega)); iexact H14

end Cert.Kernel5Ideal.In

end
-- ==== Proof.InS.RunG.lean ====
/- The run of the body at the points of one kind: the tile of two outputs stored. -/
module

public import proofs.«01_k».proof.Proof.InS.Base

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg3 : Memref sig .tc .vmem S8x64x2048 .f32) (harg3 : arg3.IsWhole) (arg4 : Memref sig .tc .vmem S8x6x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S16x2048 .bf16) (harg7 : arg7.IsWhole) (arg8 : Memref sig .tc .vmem S8x1 .f32) (harg8 : arg8.IsWhole) (arg9 : Memref sig .tc .vmem S8x64x512 .bf16) (harg9 : arg9.IsWhole) (arg10 : Memref sig .tc .vmem S8x64x512 .f32) (harg10 : arg10.IsWhole) (arg11 : Memref sig .tc .vmem S8x64x512 .f32) (harg11 : arg11.IsWhole) (arg12 : Memref sig .tc .vmem S8x64x512 .bf16) (harg12 : arg12.IsWhole) (arg13 : Memref sig .tc .vmem S8x64x512 .bf16) (harg13 : arg13.IsWhole) (arg14 : Memref sig .tc .vmem S8x64x512 .bf16) (harg14 : arg14.IsWhole) (arg15 : Memref sig .tc .vmem S8x64x512 .f32) (harg15 : arg15.IsWhole) (arg16 : Memref sig .tc .vmem S8x64x512 .f32) (harg16 : arg16.IsWhole) (arg17 : Memref sig .tc .vmem S1x8x512 .f32) (harg17 : arg17.IsWhole) (arg18 : Memref sig .tc .vmem S512x2048 .bf16) (harg18 : arg18.IsWhole)

set_option maxHeartbeats 1000000 in
/-- The run of the body where the condition numbered 6 alone of the first seven holds: the product of the scratch and the tile is stored, the rest is kept. -/
theorem run_G (hc0 : ¬cond0_0 i) (hc1 : ¬cond0_1 i) (hc2 : ¬cond0_2 i) (hc3 : ¬cond0_3 i) (hc4 : ¬cond0_4 i) (hc5 : ¬cond0_5 i) (hc6 : cond0_6 i) (hc8 : cond0_8 i) (x : Vec F S2048x512 .bf16) (u : Vec F S512x2048 .bf16) (E : Set ℕ) (K : PUnit → sProp (MT nD τ sig Unit (Elt F) ℕ (UR sig nD τ) ℕ)) :
    iprop(owns (c : Thread nD τ) arg6 fullShare x ∗ owns (c : Thread nD τ) arg18 fullShare u ∗ (∃ d, owns (c : Thread nD τ) arg14 fullShare d) ∗ (∃ d, owns (c : Thread nD τ) arg16 fullShare d)
        ∗ (iprop(owns (c : Thread nD τ) arg6 fullShare x ∗ owns (c : Thread nD τ) arg18 fullShare u ∗ owns (c : Thread nD τ) arg14 fullShare (k0_pay2 u x) ∗ owns (c : Thread nD τ) arg16 fullShare (k0_pay3 u x)) -∗ K ⟨⟩))
      ⊢ wp frame (wpE (defs₀ (F := F)) Variants.none c none) E (cc0_in_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_in_proj_eq_skeleton]; unfold cc0_in_proj_skel
  simp only [k0_part3_eq_skeleton, k0_part4_eq_skeleton, k0_part5_eq_skeleton]
  unfold owns
  iintro ⟨⟨%f0, %hf0, H0⟩, ⟨%fs, %hfs, HS⟩, ⟨%d11, %f11, -, H11⟩, ⟨%d13, %f13, -, H13⟩, Hk⟩
  obtain rfl := harg6.eq_unread hf0; obtain rfl := harg18.eq_unread hfs
  sl_exec (disch := first | sl_exact hc0 | sl_exact hc1 | sl_exact hc2 | sl_exact hc3 | sl_exact hc4 | sl_exact hc5 | sl_exact hc6 | sl_exact hc8)
  sl_step
  iapply Hk
  isplitl [H0]
  · iexists _; isplitr; · ipureintro; exact harg6.read_unread _
    iexact H0
  isplitl [HS]
  · iexists _; isplitr; · ipureintro; exact harg18.read_unread _
    iexact HS
  isplitl [H11]
  · iexists _; isplitr; swap; · iexact H11
    ipureintro
    rw [View.read_writes_eq_canon _ _ _ (View.cover_of_tiledL _ S8x64x512.size (by sl_kernel_rfl))]
    frame_out
  iexists _; isplitr; swap; · iexact H13
  ipureintro
  rw [View.read_writes_eq_canon _ _ _ (View.cover_of_tiledL _ S8x64x512.size (by sl_kernel_rfl))]
  frame_out

end Cert.Kernel5Ideal.In

end
-- ==== Proof.InS.SoundG.lean ====
/- The body at the points of one kind. -/
module

public import proofs.«01_k».proof.Proof.InS.Data
public import proofs.«01_k».proof.Proof.InS.RunG

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option maxHeartbeats 4000000 in
theorem sound_G (c : Dev nD) (t : Fin cfg0.N) (h : 10 ≤ t.val ∧ t.val ≤ 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_pos m c _ _ (by omega)]
  rw [leaves0_0, leaves0_1, leaves0_2, leaves0_3, leaves0_4, leaves0_5, live_11 m c t h, live_13 m c t h]
  iintro ⟨⟨HS, Hg⟩, Ho, ⟨%d0, H0⟩, ⟨%d1, H1⟩, ⟨%d2, H2⟩, ⟨%d3, H3⟩, ⟨%d4, H4⟩, ⟨%d5, H5⟩, H6, H7, H8, H9, H10, ⟨%d11, H11⟩, H12, ⟨%d13, H13⟩, H14⟩
  iapply (run_G c (grid0.coords t) _ _ _ _ _ _ _ _ _ _ _ _ _ _ _ _ _ _ _ _ _ _ _ _ _ _ _ _ _ _ _ _ (fun h => by have := (hcond0_0 t).mp h; omega) (fun h => by have := (hcond0_1 t).mp h; omega) (fun h => by have := (hcond0_2 t).mp h; omega) (fun h => by have := (hcond0_3 t).mp h; omega) (fun h => by have := (hcond0_4 t).mp h; omega) (fun h => by have := (hcond0_5 t).mp h; omega) ((hcond0_6 t).mpr (by omega)) (hcond0_8 t) (iblk m c 3 t) (uAt m c) Set.univ _)
  isplitl [H3]; · iexact H3
  isplitl [HS]; · iexact HS
  isplitl [H11]; · iexists _; iexact H11
  isplitl [H13]; · iexists _; iexact H13
  iintro ⟨H3, HS, H11, H13⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (keep_6 m c t (by omega)); iexact H6
  isplitl [H7]; · iapply (keep_7 m c t (by omega)); iexact H7
  isplitl [H8]; · iapply (keep_8 m c t (by omega)); iexact H8
  isplitl [H9]; · iapply (keep_9 m c t (by omega)); iexact H9
  isplitl [H10]; · iapply (keep_10 m c t (by omega)); iexact H10
  isplitl [H11]; · iexact H11
  isplitl [H12]; · iapply (keep_12 m c t (by omega)); iexact H12
  isplitl [H13]; · iexact H13
  iapply (keep_14 m c t (by omega)); iexact H14

end Cert.Kernel5Ideal.In

end
-- ==== Proof.InS.Frame.lean ====
/- The frame of the kernel: it ends, its arguments unchanged and its outputs at what the proof data computes. -/
module

public import proofs.«01_k».proof.Proof.InS.SoundA
public import proofs.«01_k».proof.Proof.InS.SoundB
public import proofs.«01_k».proof.Proof.InS.SoundC
public import proofs.«01_k».proof.Proof.InS.SoundD
public import proofs.«01_k».proof.Proof.InS.SoundE
public import proofs.«01_k».proof.Proof.InS.SoundF
public import proofs.«01_k».proof.Proof.InS.SoundG
public import Idealize.ShloMosaic.Lib.Claim

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  have hN : t.val < 12 := lt_of_lt_of_eq t.isLt (show cfg0.N = 12 from N_0)
  by_cases h0 : t.val = 0
  · exact sound_A m c t h0
  by_cases h1 : t.val = 1
  · exact sound_B m c t h1
  by_cases h2 : t.val ≤ 3
  · exact sound_C m c t ⟨by omega, h2⟩
  by_cases h3 : t.val ≤ 5
  · exact sound_D m c t ⟨by omega, h3⟩
  by_cases h4 : t.val ≤ 7
  · exact sound_E m c t ⟨by omega, h4⟩
  by_cases h5 : t.val ≤ 9
  · exact sound_F m c t ⟨by omega, h5⟩
  exact sound_G m c t ⟨by omega, by omega⟩

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 12 := N_0; omega)

set_option backward.isDefEq.respectTransparency.types false in
/-- The run, every counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: every array at what the proof data computes. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel5Ideal.In

end
-- ==== Proof.InS.Point.lean ====
module

public import proofs.«01_k».proof.Proof.InS.Frame
public import proofs.«01_k».proof.Proof.Norm
public import Idealize.ShloMosaic.Lib.Pipeline.ReadBack

@[expose] public section

set_option maxRecDepth 16384

noncomputable section

namespace Cert.Kernel5Ideal.In

open Cert.Kernel5Ideal Cert.Kernel5Ideal.Gen Idealize.ShloMosaic Idealize.ShloMosaic.TcCoe Idealize.SL.Sem
open Cert.Layer

variable (X0 : Vec Ideal S8x64x2048 .f32) (X1 : Vec Ideal S8x6x2048 .f32) (X : Vec Ideal S2048x512 .bf16) (U : Vec Ideal S512x2048 .bf16)

/-- Row `r` of batch `b` of the modulated norm of a block. -/
def bu (b : Fin 8) (r : Fin 64) (d : Fin 2048) : EReal := modRow (fun d => X0 (ix3 b r d)) (fun d => X1 (ix3 b 1 d)) (fun d => X1 (ix3 b 0 d)) d

/-- The scratch's row of row `r` of batch `b`. -/
def flat (b : Fin 8) (r : Fin 64) : Fin 512 := ⟨b.val * 64 + r.val, by omega⟩

/-- One element of the product of a row and a tile of weights. -/
def tp (u : Fin 2048 → EReal) (k : Fin 512) : EReal := ∑ e, u e * X (ix2 e k)

/-- The queries' scale. -/
def qs : EReal := Ideal.ofBits FTy.f32 0x3E0293EE#32

/-- The logarithm of the sigmoid, as `-(max (-z) 0 + log (1 + exp (-|-z|)))`. -/
def lsig (z : EReal) : EReal := -(max (-z) 0 + Ideal.log1p (Ideal.exp (-(FloatOps.absf (F := Ideal) (φ := .f32) (-z)))))

set_option maxHeartbeats 4000000 in
/-- The modulated norm kept in the scratch. -/
theorem uAll_eq (y : S512x2048.Idx) (b : Fin 8) (r : Fin 64) (e : (y 0).val = b.val * 64 + r.val) : uAll X0 X1 y = bu X0 X1 b r (y 1) := by
  unfold uAll uPieces
  canon_tiles x h
  case piece0 =>
    have hb : 4 + (x 0).val / 64 < 8 := by omega
    have hr : (x 0).val % 64 < 64 := by omega
    have eb : b = ⟨4 + (x 0).val / 64, hb⟩ := Fin.ext (by simp only; omega)
    have er : r = ⟨(x 0).val % 64, hr⟩ := Fin.ext (by simp only; omega)
    have e1 : y 1 = x 1 := Fin.ext h1
    rw [eb, er, e1]
    idx_vars x
    pointwise [k0_pay4, k0_pay5, k0_pay8, k0_pay9, bu, modRow, lnorm, mean, variance]
  case piece1 =>
    have hb : (x 0).val / 64 < 8 := by omega
    have hr : (x 0).val % 64 < 64 := by omega
    have eb : b = ⟨(x 0).val / 64, hb⟩ := Fin.ext (by simp only; omega)
    have er : r = ⟨(x 0).val % 64, hr⟩ := Fin.ext (by simp only; omega)
    have e1 : y 1 = x 1 := Fin.ext h1
    rw [eb, er, e1]
    idx_vars x
    pointwise [k0_pay4, k0_pay5, k0_pay8, k0_pay9, bu, modRow, lnorm, mean, variance]

set_option maxHeartbeats 4000000 in
/-- The first query tile. -/
theorem qFirst_eq (y : S8x64x512.Idx) : qFirst X0 X1 X y = tp X (bu X0 X1 (y 0) (y 1)) (y 2) * qs := by
  unfold qFirst qPieces
  canon_tiles x h
  case piece0 =>
    have e0 : y 0 = ⟨4 + (x 0).val, by omega⟩ := Fin.ext h0
    have e1 : y 1 = x 1 := Fin.ext h1
    have e2 : y 2 = x 2 := Fin.ext h2
    rw [e0, e1, e2]
    idx_vars x
    pointwise [k0_pay6, k0_pay7, k0_pay8, k0_pay4, k0_pay10, k0_pay11, tp, qs, bu, modRow, lnorm, mean, variance]
  case piece1 =>
    have e0 : y 0 = ⟨(x 0).val, by omega⟩ := Fin.ext h0
    have e1 : y 1 = x 1 := Fin.ext h1
    have e2 : y 2 = x 2 := Fin.ext h2
    rw [e0, e1, e2]
    idx_vars x
    pointwise [k0_pay6, k0_pay7, k0_pay8, k0_pay4, k0_pay10, k0_pay11, tp, qs, bu, modRow, lnorm, mean, variance]

theorem pay13 (y : S8x64x512.Idx) : (k0_pay13 U X y : EReal) = tp X (fun e => U (ix2 (flat (y 0) (y 1)) e)) (y 2) * qs := by
  idx_vars y
  pointwise [k0_pay13, tp, qs, flat]

theorem pay14 (y : S8x64x512.Idx) : (k0_pay14 U X y : EReal) = tp X (fun e => U (ix2 (flat (y 0) (y 1)) e)) (y 2) := by
  idx_vars y
  pointwise [k0_pay14, tp, flat]

theorem pay15 (y : S8x64x512.Idx) : (k0_pay15 U X y : EReal) = tp X (fun e => U (ix2 (flat (y 0) (y 1)) e)) (y 2) := by
  idx_vars y
  pointwise [k0_pay15, tp, flat]

theorem pay16 (y : S8x64x512.Idx) : (k0_pay16 U X y : EReal) = tp X (fun e => U (ix2 (flat (y 0) (y 1)) e)) (y 2) * qs := by
  idx_vars y
  pointwise [k0_pay16, tp, qs, flat]

theorem pay18 (y : S8x64x512.Idx) : (k0_pay18 U X y : EReal) = tp X (fun e => U (ix2 (flat (y 0) (y 1)) e)) (y 2) := by
  idx_vars y
  pointwise [k0_pay17, k0_pay18, tp, flat]

theorem pay19 (y : S8x64x512.Idx) : (k0_pay19 U X y : EReal) = tp X (fun e => U (ix2 (flat (y 0) (y 1)) e)) (y 2) := by
  idx_vars y
  pointwise [k0_pay17, k0_pay19, tp, flat]

theorem pay2 (y : S8x64x512.Idx) : (k0_pay2 U X y : EReal) = tp X (fun e => U (ix2 (flat (y 0) (y 1)) e)) (y 2) := by
  idx_vars y
  pointwise [k0_pay1, k0_pay2, tp, flat]

theorem pay3 (y : S8x64x512.Idx) : (k0_pay3 U X y : EReal) = tp X (fun e => U (ix2 (flat (y 0) (y 1)) e)) (y 2) := by
  idx_vars y
  pointwise [k0_pay1, k0_pay3, tp, flat]

theorem pay12 (W : Vec Ideal S16x2048 .bf16) (B : Vec Ideal S8x1 .f32) (y : S1x8x512.Idx) :
    (k0_pay12 W U B y : EReal) = lsig ((∑ e, W (ix2 ⟨(y 1).val, lt_of_lt_of_le (y 1).isLt (by decide)⟩ e) * U (ix2 (y 2) e)) + B (ix2 (y 1) 0)) := by
  idx_vars y
  pointwise [k0_pay12]
  simp only [ne_eq, not_true, if_false, lsig, zero_sub]

end Cert.Kernel5Ideal.In

end
-- ==== Proof.InS.Final.lean ====
module

public import Idealize.ShloMosaic.Lib.KernelVsHost
public import proofs.«01_k».proof.Proof.InS.Point

@[expose] public section

set_option maxRecDepth 16384

noncomputable section

namespace Cert.Kernel5Ideal.In

open Cert.Kernel5Ideal Cert.Kernel5Ideal.Gen Idealize.ShloMosaic Idealize.ShloMosaic.TcCoe Idealize.SL.Sem
open Idealize.ShloMosaic.Pipeline (Dat)
open Cert.Layer

section Args
variable (a0 : S8x64x2048.Idx → EReal) (a1 : S8x12288.Idx → EReal) (a2 : S2048x6152.Idx → EReal) (a3 : S8.Idx → EReal)

/-- The modulated norm of one row of the input. -/
def urow (b : Fin 8) (s : Fin 64) : Fin 2048 → EReal :=
  modRow (fun d => a0 (ix3 b s d)) (fun d => a1 (ix2 b ⟨2048 + d.val, by omega⟩)) (fun d => a1 (ix2 b ⟨d.val, by omega⟩))

/-- One element of the projection. -/
def proj (b : Fin 8) (s : Fin 64) (j : Fin 6152) : EReal := ∑ e, urow a0 a1 b s e * a2 (ix2 e j)

/-- Result 0 at index `i`, from the arguments. -/
def o6 (i : S8x64x1024.Idx) : EReal := proj a0 a1 a2 (i 0) (i 1) ⟨0 + (i 2).val, lt_of_lt_of_le (Nat.add_lt_add_left (i 2).isLt 0) (by decide)⟩ * qs

/-- Result 1 at index `i`, from the arguments. -/
def o7 (i : S8x64x1024.Idx) : EReal := proj a0 a1 a2 (i 0) (i 1) ⟨1024 + (i 2).val, lt_of_lt_of_le (Nat.add_lt_add_left (i 2).isLt 1024) (by decide)⟩

/-- Result 2 at index `i`, from the arguments. -/
def o8 (i : S8x64x1024.Idx) : EReal := proj a0 a1 a2 (i 0) (i 1) ⟨2048 + (i 2).val, lt_of_lt_of_le (Nat.add_lt_add_left (i 2).isLt 2048) (by decide)⟩

/-- Result 3 at index `i`, from the arguments. -/
def o9 (i : S8x64x1024.Idx) : EReal := proj a0 a1 a2 (i 0) (i 1) ⟨3080 + (i 2).val, lt_of_lt_of_le (Nat.add_lt_add_left (i 2).isLt 3080) (by decide)⟩ * qs

/-- Result 4 at index `i`, from the arguments. -/
def o10 (i : S8x64x1024.Idx) : EReal := proj a0 a1 a2 (i 0) (i 1) ⟨4104 + (i 2).val, lt_of_lt_of_le (Nat.add_lt_add_left (i 2).isLt 4104) (by decide)⟩

/-- Result 5 at index `i`, from the arguments. -/
def o11 (i : S8x64x1024.Idx) : EReal := proj a0 a1 a2 (i 0) (i 1) ⟨5128 + (i 2).val, lt_of_lt_of_le (Nat.add_lt_add_left (i 2).isLt 5128) (by decide)⟩

/-- Result 6 at index `i`, from the arguments. -/
def o12 (i : S8x64x1024.Idx) : EReal := proj a0 a1 a2 (i 0) (i 1) ⟨4104 + (i 2).val, lt_of_lt_of_le (Nat.add_lt_add_left (i 2).isLt 4104) (by decide)⟩

/-- Result 7 at index `i`, from the arguments. -/
def o13 (i : S8x64x1024.Idx) : EReal := proj a0 a1 a2 (i 0) (i 1) ⟨5128 + (i 2).val, lt_of_lt_of_le (Nat.add_lt_add_left (i 2).isLt 5128) (by decide)⟩

/-- The gates' logarithms at index `i`, from the arguments. -/
def o14 (i : S1x8x512.Idx) : EReal :=
  lsig (proj a0 a1 a2 ⟨(i 2).val / 64, Nat.div_lt_of_lt_mul (lt_of_lt_of_le (i 2).isLt (by decide))⟩ ⟨(i 2).val % 64, Nat.mod_lt _ (by decide)⟩
    ⟨3072 + (i 1).val, lt_of_lt_of_le (Nat.add_lt_add_left (i 1).isLt 3072) (by decide)⟩ + a3 (ix1 (i 1)))
end Args

variable (m : (ℓ : Loc nD τ sig) → Buf (Elt Ideal) ℓ)

/-- Argument arrays of device `c`. -/
abbrev A0 (c : Dev nD) : S8x64x2048.Idx → EReal := m ((c.tc : Thread nD τ).loc main_arg0)
/-- The modulation. -/
abbrev A1' (c : Dev nD) : S8x12288.Idx → EReal := m ((c.tc : Thread nD τ).loc main_arg1)
/-- The projection's weights. -/
abbrev A2' (c : Dev nD) : S2048x6152.Idx → EReal := m ((c.tc : Thread nD τ).loc main_arg2)
/-- The gates' biases. -/
abbrev A3 (c : Dev nD) : S8.Idx → EReal := m ((c.tc : Thread nD τ).loc main_arg3)

/-- The blocks' indices at a grid point. -/
theorem idx : ∀ t : Fin cfg0.N, win0_0.index t = ![0, 0, 0] ∧ win0_1.index t = ![0, 0, 0]
    ∧ win0_2.index t = ![0, min t.val 5] ∧ win0_3.index t = ![0, t.val - 6] ∧ win0_4.index t = ![0, 0] ∧ win0_5.index t = ![0, 0]
    ∧ win0_6.index t = ![0, 0, max 0 (min 1 t.val) - 0]
    ∧ win0_7.index t = ![0, 0, max 2 (min 3 t.val) - 2]
    ∧ win0_8.index t = ![0, 0, max 4 (min 5 t.val) - 4]
    ∧ win0_9.index t = ![0, 0, max 6 (min 7 t.val) - 6]
    ∧ win0_10.index t = ![0, 0, max 8 (min 9 t.val) - 8]
    ∧ win0_11.index t = ![0, 0, max 10 (min 11 t.val) - 10]
    ∧ win0_12.index t = ![0, 0, max 8 (min 9 t.val) - 8]
    ∧ win0_13.index t = ![0, 0, max 10 (min 11 t.val) - 10]
    ∧ win0_14.index t = ![0, 0, 0] :=
  (by decide +kernel : ∀ t : Fin grid0.N, _)

/-- The block of the input, at an index. -/
theorem w0 (c : Dev nD) (t : Fin cfg0.N) (b : Fin 8) (r : Fin 64) (d : Fin 2048) : (iblk m c 0 t (ix3 b r d) : EReal) = A0 m c (ix3 b r d) := by
  blk_point [iblk, V, idx t]

/-- The block of the modulation, at an index. -/
theorem w1 (c : Dev nD) (t : Fin cfg0.N) (b : Fin 8) (e : Fin 6) (d : Fin 2048) : (iblk m c 1 t (ix3 b e d) : EReal) = A1' m c (ix2 b ⟨e.val * 2048 + d.val, by omega⟩) := by
  blk_simp [iblk, idx t]; simp only [V, hostOps0, hostOps0_1, hostOps0_2, List.flatten_cons, List.flatten_nil, List.append_nil, List.cons_append, List.nil_append]; entry_read; pointwise; blk_ext [idx t]

/-- The block of the first weights, at an index. -/
theorem w2 (c : Dev nD) (t : Fin cfg0.N) (h : t.val ≤ 5) (d : Fin 2048) (k : Fin 512) : (iblk m c 2 t (ix2 d k) : EReal) = A2' m c (ix2 d ⟨512 * t.val + k.val, by omega⟩) := by
  blk_simp [iblk, idx t]; simp only [V, hostOps0, hostOps0_1, hostOps0_2, List.flatten_cons, List.flatten_nil, List.append_nil, List.cons_append, List.nil_append]; entry_read; pointwise; blk_ext [idx t]

/-- The block of the last weights, at an index. -/
theorem w3 (c : Dev nD) (t : Fin cfg0.N) (h : 6 ≤ t.val) (h' : t.val < 12) (d : Fin 2048) (k : Fin 512) : (iblk m c 3 t (ix2 d k) : EReal) = A2' m c (ix2 d ⟨512 * t.val + 8 + k.val, by omega⟩) := by
  blk_simp [iblk, idx t]; simp only [V, hostOps0, hostOps0_1, hostOps0_2, List.flatten_cons, List.flatten_nil, List.append_nil, List.cons_append, List.nil_append]; entry_read; pointwise; blk_ext [idx t]

/-- The block of the gates' weights, at an index. -/
theorem w4 (c : Dev nD) (t : Fin cfg0.N) (h : Fin 8) (d : Fin 2048) : (iblk m c 4 t (ix2 ⟨h.val, by omega⟩ d) : EReal) = A2' m c (ix2 d ⟨3072 + h.val, by omega⟩) := by
  have e : (((cfg0.win 4).blk t).view.emb (ix2 ⟨h.val, by omega⟩ d) : S16x2048.Idx) = ix2 ⟨h.val, by omega⟩ d := by blk_ext [idx t]
  blk_simp [iblk, idx t]
  simp only [V, hostOps0, hostOps0_1, hostOps0_2, List.flatten_cons, List.flatten_nil, List.append_nil, List.cons_append, List.nil_append]
  entry_read
  show (pad S16x2048 ![0, 0] ![8, 0] ![0, 0] (transpose S8x2048 [1, 0] (extractStridedSlice S2048x8 ![0, 3072] (A2' m c) slices_S2048x6152_S2048x8_0_3072) transposes_S2048x8_S8x2048_1_0)
    (sitofp (F := Ideal) .f32 (constantI S_ 32 0#32)) pads_S8x2048_S16x2048_080_000 h_S_) (((cfg0.win 4).blk t).view.emb (ix2 ⟨h.val, by omega⟩ d) : S16x2048.Idx) = _
  rw [e]
  refine (pad_apply_of_inside _ _ _ _ _ _ _ _ (ix2 h d : S8x2048.Idx) ?_).trans ?_
  · intro a
    match a with
    | ⟨0, _⟩ => show h.val = 0 + h.val * (0 + 1); omega
    | ⟨1, _⟩ => show d.val = 0 + d.val * (0 + 1); omega
  · pointwise

/-- The block of the gates' biases, at an index. -/
theorem w5 (c : Dev nD) (t : Fin cfg0.N) (h : Fin 8) : (iblk m c 5 t (ix2 h 0) : EReal) = A3 m c (ix1 h) := by
  blk_simp [iblk, idx t]; simp only [V, hostOps0, hostOps0_1, hostOps0_2, List.flatten_cons, List.flatten_nil, List.append_nil, List.cons_append, List.nil_append]; entry_read; pointwise; blk_ext [idx t]

/-- The block's modulated norm is the input's. -/
theorem bu_eq (c : Dev nD) (t : Fin cfg0.N) (b : Fin 8) (r : Fin 64) :
    bu (iblk m c 0 t) (iblk m c 1 t) b r = urow (A0 m c) (A1' m c) b r := by
  funext d
  have e1 : ∀ d : Fin 2048, (iblk m c 1 t (ix3 b 1 d) : EReal) = A1' m c (ix2 b ⟨2048 + d.val, by omega⟩) := fun d =>
    (w1 m c t b 1 d).trans (congrArg (fun j => A1' m c (ix2 b j)) (Fin.ext (by simp)))
  have e0 : ∀ d : Fin 2048, (iblk m c 1 t (ix3 b 0 d) : EReal) = A1' m c (ix2 b ⟨d.val, by omega⟩) := fun d =>
    (w1 m c t b 0 d).trans (congrArg (fun j => A1' m c (ix2 b j)) (Fin.ext (by simp)))
  have e := w0 m c t b r
  simp only [bu, urow, e, e0, e1]

/-- The scratch holds the modulated norm. -/
theorem u_eq (c : Dev nD) (b : Fin 8) (r : Fin 64) : (fun e => uAt m c (ix2 (flat b r) e) : Fin 2048 → EReal) = urow (A0 m c) (A1' m c) b r := by
  funext e
  exact (uAll_eq _ _ (ix2 (flat b r) e) b r rfl).trans (congrFun (bu_eq m c p0 b r) e)

/-- A tile of the product with the first weights. -/
theorem tp2 (c : Dev nD) (t : Fin cfg0.N) (h : t.val ≤ 5) (b : Fin 8) (r : Fin 64) (k : Fin 512) :
    tp (iblk m c 2 t) (urow (A0 m c) (A1' m c) b r) k = proj (A0 m c) (A1' m c) (A2' m c) b r ⟨512 * t.val + k.val, by omega⟩ := by
  have e := fun d => w2 m c t h d k
  simp only [tp, proj, e]

/-- A tile of the product with the last weights. -/
theorem tp3 (c : Dev nD) (t : Fin cfg0.N) (h : 6 ≤ t.val) (h' : t.val < 12) (b : Fin 8) (r : Fin 64) (k : Fin 512) :
    tp (iblk m c 3 t) (urow (A0 m c) (A1' m c) b r) k = proj (A0 m c) (A1' m c) (A2' m c) b r ⟨512 * t.val + 8 + k.val, by omega⟩ := by
  have e := fun d => w3 m c t h h' d k
  simp only [tp, proj, e]

theorem lst_val (lo hi : ℕ) (h : lo ≤ hi ∧ hi < 12) (t : Fin cfg0.N) : (lst lo hi h t).val = max lo (min hi t.val) := rfl

/-- Result 0 at device `c`'s arguments. -/
abbrev r6 (c : Dev nD) : S8x64x1024.Idx → EReal := o6 (A0 m c) (A1' m c) (A2' m c)
/-- Result 1 at device `c`'s arguments. -/
abbrev r7 (c : Dev nD) : S8x64x1024.Idx → EReal := o7 (A0 m c) (A1' m c) (A2' m c)
/-- Result 2 at device `c`'s arguments. -/
abbrev r8 (c : Dev nD) : S8x64x1024.Idx → EReal := o8 (A0 m c) (A1' m c) (A2' m c)
/-- Result 3 at device `c`'s arguments. -/
abbrev r9 (c : Dev nD) : S8x64x1024.Idx → EReal := o9 (A0 m c) (A1' m c) (A2' m c)
/-- Result 4 at device `c`'s arguments. -/
abbrev r10 (c : Dev nD) : S8x64x1024.Idx → EReal := o10 (A0 m c) (A1' m c) (A2' m c)
/-- Result 5 at device `c`'s arguments. -/
abbrev r11 (c : Dev nD) : S8x64x1024.Idx → EReal := o11 (A0 m c) (A1' m c) (A2' m c)
/-- Result 6 at device `c`'s arguments. -/
abbrev r12 (c : Dev nD) : S8x64x1024.Idx → EReal := o12 (A0 m c) (A1' m c) (A2' m c)
/-- Result 7 at device `c`'s arguments. -/
abbrev r13 (c : Dev nD) : S8x64x1024.Idx → EReal := o13 (A0 m c) (A1' m c) (A2' m c)
/-- Result 8 at device `c`'s arguments. -/
abbrev r14 (c : Dev nD) : S1x8x512.Idx → EReal := o14 (A0 m c) (A1' m c) (A2' m c) (A3 m c)

/-- Where output block 0 lies in its result. -/
theorem e6 (t : Fin cfg0.N) (y : S8x64x512.Idx) : (((cfg0.win 6).blk t).view.emb y : S8x64x1024.Idx) = ix3 (y 0) (y 1) ⟨512 * (max 0 (min 1 t.val) - 0) + (y 2).val, by have := (y 2).isLt; have h : S8x64x512.size 2 = 512 := rfl; omega⟩ := by
  blk_ext [idx t]

/-- The tile that is written back is the result's. -/
theorem at6 (c : Dev nD) (t : Fin cfg0.N) (y : S8x64x512.Idx) : ((if t.val = 0 then qFirst (iblk m c 0 p0) (iblk m c 1 p0) (iblk m c 2 p0) else k0_pay13 (uAt m c) (iblk m c 2 p1) : Vec Ideal S8x64x512 .bf16) y : EReal) = r6 m c (((cfg0.win 6).blk t).view.emb y) := by
  idx_vars y
  split
  · next h =>
    have h1 : tp (iblk m c 2 p0) (bu (iblk m c 0 p0) (iblk m c 1 p0) y0 y1) y2 = proj (A0 m c) (A1' m c) (A2' m c) y0 y1 ⟨0 + (512 * (max 0 (min 1 t.val) - 0) + y2.val), by omega⟩ := by
      rw [bu_eq, tp2 m c p0 (by show (0 : ℕ) ≤ 5; decide)]
      refine congrArg (proj (A0 m c) (A1' m c) (A2' m c) y0 y1) (Fin.ext ?_)
      show 512 * 0 + y2.val = 0 + (512 * (max 0 (min 1 t.val) - 0) + y2.val)
      omega
    exact ((qFirst_eq _ _ _ (ix3 y0 y1 y2)).trans (congrArg (· * qs) h1)).trans (congrArg (r6 m c) (e6 t (ix3 y0 y1 y2))).symm
  · next h =>
    have h1 : tp (iblk m c 2 p1) ((fun e => uAt m c (ix2 (flat y0 y1) e))) y2 = proj (A0 m c) (A1' m c) (A2' m c) y0 y1 ⟨0 + (512 * (max 0 (min 1 t.val) - 0) + y2.val), by omega⟩ := by
      rw [u_eq, tp2 m c p1 (by show (1 : ℕ) ≤ 5; decide)]
      refine congrArg (proj (A0 m c) (A1' m c) (A2' m c) y0 y1) (Fin.ext ?_)
      show 512 * 1 + y2.val = 0 + (512 * (max 0 (min 1 t.val) - 0) + y2.val)
      omega
    exact ((pay13 _ _ (ix3 y0 y1 y2)).trans (congrArg (· * qs) h1)).trans (congrArg (r6 m c) (e6 t (ix3 y0 y1 y2))).symm

/-- Result array 0 of the kernel. -/
theorem final6 (c : Dev nD) : (dats m 0 c).arrAt 6 cfg0.N = r6 m c :=
  (dats m 0 c).arrAt_eq_of_covers 6 _ (by decide +kernel) fun t hf y => by
    blk_simp; rw [after0_6]; exact at6 m c t y

/-- Where output block 1 lies in its result. -/
theorem e7 (t : Fin cfg0.N) (y : S8x64x512.Idx) : (((cfg0.win 7).blk t).view.emb y : S8x64x1024.Idx) = ix3 (y 0) (y 1) ⟨512 * (max 2 (min 3 t.val) - 2) + (y 2).val, by have := (y 2).isLt; have h : S8x64x512.size 2 = 512 := rfl; omega⟩ := by
  blk_ext [idx t]

/-- The tile that is written back is the result's. -/
theorem at7 (c : Dev nD) (t : Fin cfg0.N) (y : S8x64x512.Idx) : (k0_pay14 (uAt m c) (iblk m c 2 (lst 2 3 (by decide) t)) y : EReal) = r7 m c (((cfg0.win 7).blk t).view.emb y) := by
  idx_vars y
  have h1 : tp (iblk m c 2 (lst 2 3 (by decide) t)) (fun e => uAt m c (ix2 (flat y0 y1) e)) y2 = proj (A0 m c) (A1' m c) (A2' m c) y0 y1 ⟨1024 + (512 * (max 2 (min 3 t.val) - 2) + y2.val), by omega⟩ := by
    rw [u_eq, tp2 m c _ (by rw [lst_val]; omega)]
    refine congrArg (proj (A0 m c) (A1' m c) (A2' m c) y0 y1) (Fin.ext ?_)
    show 512 * max 2 (min 3 t.val) + y2.val = 1024 + (512 * (max 2 (min 3 t.val) - 2) + y2.val)
    omega
  exact ((pay14 _ _ (ix3 y0 y1 y2)).trans h1).trans (congrArg (r7 m c) (e7 t (ix3 y0 y1 y2))).symm

/-- Result array 1 of the kernel. -/
theorem final7 (c : Dev nD) : (dats m 0 c).arrAt 7 cfg0.N = r7 m c :=
  (dats m 0 c).arrAt_eq_of_covers 7 _ (by decide +kernel) fun t hf y => by
    blk_simp; rw [after0_7]; exact at7 m c t y

/-- Where output block 2 lies in its result. -/
theorem e8 (t : Fin cfg0.N) (y : S8x64x512.Idx) : (((cfg0.win 8).blk t).view.emb y : S8x64x1024.Idx) = ix3 (y 0) (y 1) ⟨512 * (max 4 (min 5 t.val) - 4) + (y 2).val, by have := (y 2).isLt; have h : S8x64x512.size 2 = 512 := rfl; omega⟩ := by
  blk_ext [idx t]

/-- The tile that is written back is the result's. -/
theorem at8 (c : Dev nD) (t : Fin cfg0.N) (y : S8x64x512.Idx) : (k0_pay15 (uAt m c) (iblk m c 2 (lst 4 5 (by decide) t)) y : EReal) = r8 m c (((cfg0.win 8).blk t).view.emb y) := by
  idx_vars y
  have h1 : tp (iblk m c 2 (lst 4 5 (by decide) t)) (fun e => uAt m c (ix2 (flat y0 y1) e)) y2 = proj (A0 m c) (A1' m c) (A2' m c) y0 y1 ⟨2048 + (512 * (max 4 (min 5 t.val) - 4) + y2.val), by omega⟩ := by
    rw [u_eq, tp2 m c _ (by rw [lst_val]; omega)]
    refine congrArg (proj (A0 m c) (A1' m c) (A2' m c) y0 y1) (Fin.ext ?_)
    show 512 * max 4 (min 5 t.val) + y2.val = 2048 + (512 * (max 4 (min 5 t.val) - 4) + y2.val)
    omega
  exact ((pay15 _ _ (ix3 y0 y1 y2)).trans h1).trans (congrArg (r8 m c) (e8 t (ix3 y0 y1 y2))).symm

/-- Result array 2 of the kernel. -/
theorem final8 (c : Dev nD) : (dats m 0 c).arrAt 8 cfg0.N = r8 m c :=
  (dats m 0 c).arrAt_eq_of_covers 8 _ (by decide +kernel) fun t hf y => by
    blk_simp; rw [after0_8]; exact at8 m c t y

/-- Where output block 3 lies in its result. -/
theorem e9 (t : Fin cfg0.N) (y : S8x64x512.Idx) : (((cfg0.win 9).blk t).view.emb y : S8x64x1024.Idx) = ix3 (y 0) (y 1) ⟨512 * (max 6 (min 7 t.val) - 6) + (y 2).val, by have := (y 2).isLt; have h : S8x64x512.size 2 = 512 := rfl; omega⟩ := by
  blk_ext [idx t]

/-- The tile that is written back is the result's. -/
theorem at9 (c : Dev nD) (t : Fin cfg0.N) (y : S8x64x512.Idx) : (k0_pay16 (uAt m c) (iblk m c 3 (lst 6 7 (by decide) t)) y : EReal) = r9 m c (((cfg0.win 9).blk t).view.emb y) := by
  idx_vars y
  have h1 : tp (iblk m c 3 (lst 6 7 (by decide) t)) (fun e => uAt m c (ix2 (flat y0 y1) e)) y2 = proj (A0 m c) (A1' m c) (A2' m c) y0 y1 ⟨3080 + (512 * (max 6 (min 7 t.val) - 6) + y2.val), by omega⟩ := by
    rw [u_eq, tp3 m c _ (by rw [lst_val]; omega) (by rw [lst_val]; omega)]
    refine congrArg (proj (A0 m c) (A1' m c) (A2' m c) y0 y1) (Fin.ext ?_)
    show 512 * max 6 (min 7 t.val) + 8 + y2.val = 3080 + (512 * (max 6 (min 7 t.val) - 6) + y2.val)
    omega
  exact ((pay16 _ _ (ix3 y0 y1 y2)).trans (congrArg (· * qs) h1)).trans (congrArg (r9 m c) (e9 t (ix3 y0 y1 y2))).symm

/-- Result array 3 of the kernel. -/
theorem final9 (c : Dev nD) : (dats m 0 c).arrAt 9 cfg0.N = r9 m c :=
  (dats m 0 c).arrAt_eq_of_covers 9 _ (by decide +kernel) fun t hf y => by
    blk_simp; rw [after0_9]; exact at9 m c t y

/-- Where output block 4 lies in its result. -/
theorem e10 (t : Fin cfg0.N) (y : S8x64x512.Idx) : (((cfg0.win 10).blk t).view.emb y : S8x64x1024.Idx) = ix3 (y 0) (y 1) ⟨512 * (max 8 (min 9 t.val) - 8) + (y 2).val, by have := (y 2).isLt; have h : S8x64x512.size 2 = 512 := rfl; omega⟩ := by
  blk_ext [idx t]

/-- The tile that is written back is the result's. -/
theorem at10 (c : Dev nD) (t : Fin cfg0.N) (y : S8x64x512.Idx) : (k0_pay18 (uAt m c) (iblk m c 3 (lst 8 9 (by decide) t)) y : EReal) = r10 m c (((cfg0.win 10).blk t).view.emb y) := by
  idx_vars y
  have h1 : tp (iblk m c 3 (lst 8 9 (by decide) t)) (fun e => uAt m c (ix2 (flat y0 y1) e)) y2 = proj (A0 m c) (A1' m c) (A2' m c) y0 y1 ⟨4104 + (512 * (max 8 (min 9 t.val) - 8) + y2.val), by omega⟩ := by
    rw [u_eq, tp3 m c _ (by rw [lst_val]; omega) (by rw [lst_val]; omega)]
    refine congrArg (proj (A0 m c) (A1' m c) (A2' m c) y0 y1) (Fin.ext ?_)
    show 512 * max 8 (min 9 t.val) + 8 + y2.val = 4104 + (512 * (max 8 (min 9 t.val) - 8) + y2.val)
    omega
  exact ((pay18 _ _ (ix3 y0 y1 y2)).trans h1).trans (congrArg (r10 m c) (e10 t (ix3 y0 y1 y2))).symm

/-- Result array 4 of the kernel. -/
theorem final10 (c : Dev nD) : (dats m 0 c).arrAt 10 cfg0.N = r10 m c :=
  (dats m 0 c).arrAt_eq_of_covers 10 _ (by decide +kernel) fun t hf y => by
    blk_simp; rw [after0_10]; exact at10 m c t y

/-- Where output block 5 lies in its result. -/
theorem e11 (t : Fin cfg0.N) (y : S8x64x512.Idx) : (((cfg0.win 11).blk t).view.emb y : S8x64x1024.Idx) = ix3 (y 0) (y 1) ⟨512 * (max 10 (min 11 t.val) - 10) + (y 2).val, by have := (y 2).isLt; have h : S8x64x512.size 2 = 512 := rfl; omega⟩ := by
  blk_ext [idx t]

/-- The tile that is written back is the result's. -/
theorem at11 (c : Dev nD) (t : Fin cfg0.N) (y : S8x64x512.Idx) : (k0_pay2 (uAt m c) (iblk m c 3 (lst 10 11 (by decide) t)) y : EReal) = r11 m c (((cfg0.win 11).blk t).view.emb y) := by
  idx_vars y
  have h1 : tp (iblk m c 3 (lst 10 11 (by decide) t)) (fun e => uAt m c (ix2 (flat y0 y1) e)) y2 = proj (A0 m c) (A1' m c) (A2' m c) y0 y1 ⟨5128 + (512 * (max 10 (min 11 t.val) - 10) + y2.val), by omega⟩ := by
    rw [u_eq, tp3 m c _ (by rw [lst_val]; omega) (by rw [lst_val]; omega)]
    refine congrArg (proj (A0 m c) (A1' m c) (A2' m c) y0 y1) (Fin.ext ?_)
    show 512 * max 10 (min 11 t.val) + 8 + y2.val = 5128 + (512 * (max 10 (min 11 t.val) - 10) + y2.val)
    omega
  exact ((pay2 _ _ (ix3 y0 y1 y2)).trans h1).trans (congrArg (r11 m c) (e11 t (ix3 y0 y1 y2))).symm

/-- Result array 5 of the kernel. -/
theorem final11 (c : Dev nD) : (dats m 0 c).arrAt 11 cfg0.N = r11 m c :=
  (dats m 0 c).arrAt_eq_of_covers 11 _ (by decide +kernel) fun t hf y => by
    blk_simp; rw [after0_11]; exact at11 m c t y

/-- Where output block 6 lies in its result. -/
theorem e12 (t : Fin cfg0.N) (y : S8x64x512.Idx) : (((cfg0.win 12).blk t).view.emb y : S8x64x1024.Idx) = ix3 (y 0) (y 1) ⟨512 * (max 8 (min 9 t.val) - 8) + (y 2).val, by have := (y 2).isLt; have h : S8x64x512.size 2 = 512 := rfl; omega⟩ := by
  blk_ext [idx t]

/-- The tile that is written back is the result's. -/
theorem at12 (c : Dev nD) (t : Fin cfg0.N) (y : S8x64x512.Idx) : (k0_pay19 (uAt m c) (iblk m c 3 (lst 8 9 (by decide) t)) y : EReal) = r12 m c (((cfg0.win 12).blk t).view.emb y) := by
  idx_vars y
  have h1 : tp (iblk m c 3 (lst 8 9 (by decide) t)) (fun e => uAt m c (ix2 (flat y0 y1) e)) y2 = proj (A0 m c) (A1' m c) (A2' m c) y0 y1 ⟨4104 + (512 * (max 8 (min 9 t.val) - 8) + y2.val), by omega⟩ := by
    rw [u_eq, tp3 m c _ (by rw [lst_val]; omega) (by rw [lst_val]; omega)]
    refine congrArg (proj (A0 m c) (A1' m c) (A2' m c) y0 y1) (Fin.ext ?_)
    show 512 * max 8 (min 9 t.val) + 8 + y2.val = 4104 + (512 * (max 8 (min 9 t.val) - 8) + y2.val)
    omega
  exact ((pay19 _ _ (ix3 y0 y1 y2)).trans h1).trans (congrArg (r12 m c) (e12 t (ix3 y0 y1 y2))).symm

/-- Result array 6 of the kernel. -/
theorem final12 (c : Dev nD) : (dats m 0 c).arrAt 12 cfg0.N = r12 m c :=
  (dats m 0 c).arrAt_eq_of_covers 12 _ (by decide +kernel) fun t hf y => by
    blk_simp; rw [after0_12]; exact at12 m c t y

/-- Where output block 7 lies in its result. -/
theorem e13 (t : Fin cfg0.N) (y : S8x64x512.Idx) : (((cfg0.win 13).blk t).view.emb y : S8x64x1024.Idx) = ix3 (y 0) (y 1) ⟨512 * (max 10 (min 11 t.val) - 10) + (y 2).val, by have := (y 2).isLt; have h : S8x64x512.size 2 = 512 := rfl; omega⟩ := by
  blk_ext [idx t]

/-- The tile that is written back is the result's. -/
theorem at13 (c : Dev nD) (t : Fin cfg0.N) (y : S8x64x512.Idx) : (k0_pay3 (uAt m c) (iblk m c 3 (lst 10 11 (by decide) t)) y : EReal) = r13 m c (((cfg0.win 13).blk t).view.emb y) := by
  idx_vars y
  have h1 : tp (iblk m c 3 (lst 10 11 (by decide) t)) (fun e => uAt m c (ix2 (flat y0 y1) e)) y2 = proj (A0 m c) (A1' m c) (A2' m c) y0 y1 ⟨5128 + (512 * (max 10 (min 11 t.val) - 10) + y2.val), by omega⟩ := by
    rw [u_eq, tp3 m c _ (by rw [lst_val]; omega) (by rw [lst_val]; omega)]
    refine congrArg (proj (A0 m c) (A1' m c) (A2' m c) y0 y1) (Fin.ext ?_)
    show 512 * max 10 (min 11 t.val) + 8 + y2.val = 5128 + (512 * (max 10 (min 11 t.val) - 10) + y2.val)
    omega
  exact ((pay3 _ _ (ix3 y0 y1 y2)).trans h1).trans (congrArg (r13 m c) (e13 t (ix3 y0 y1 y2))).symm

/-- Result array 7 of the kernel. -/
theorem final13 (c : Dev nD) : (dats m 0 c).arrAt 13 cfg0.N = r13 m c :=
  (dats m 0 c).arrAt_eq_of_covers 13 _ (by decide +kernel) fun t hf y => by
    blk_simp; rw [after0_13]; exact at13 m c t y

theorem e14 (t : Fin cfg0.N) (y : S1x8x512.Idx) : (((cfg0.win 14).blk t).view.emb y : S1x8x512.Idx) = ix3 (y 0) (y 1) (y 2) := by
  blk_ext [idx t]

/-- The gates' logarithms. -/
theorem at14 (c : Dev nD) (t : Fin cfg0.N) (y : S1x8x512.Idx) : (k0_pay12 (iblk m c 4 p0) (uAt m c) (iblk m c 5 p0) y : EReal) = r14 m c (((cfg0.win 14).blk t).view.emb y) := by
  rw [e14 t y]
  idx_vars y
  refine (pay12 _ _ _ _).trans ?_
  have hb : y2.val / 64 < 8 := by omega
  have hr : y2.val % 64 < 64 := by omega
  have hf : y2 = flat ⟨y2.val / 64, hb⟩ ⟨y2.val % 64, hr⟩ := Fin.ext (by simp only [flat]; omega)
  have hu : ∀ e, (uAt m c (ix2 y2 e) : EReal) = urow (A0 m c) (A1' m c) ⟨y2.val / 64, hb⟩ ⟨y2.val % 64, hr⟩ e := fun e =>
    (congrArg (fun q => (uAt m c (ix2 q e) : EReal)) hf).trans (congrFun (u_eq m c _ _) e)
  refine congrArg lsig (congrArg₂ (· + ·) ?_ (w5 m c p0 y1))
  refine Finset.sum_congr rfl fun e _ => ?_
  rw [mul_comm]
  exact congrArg₂ (· * ·) (hu e) (w4 m c p0 y1 e)

/-- The last result array of the kernel. -/
theorem final14 (c : Dev nD) : (dats m 0 c).arrAt 14 cfg0.N = r14 m c :=
  (dats m 0 c).arrAt_eq_of_covers 14 _ (by decide +kernel) fun t hf y => by
    blk_simp; rw [after0_14]; exact at14 m c t y

end Cert.Kernel5Ideal.In

end
-- ==== Proof.InS.Ref.lean ====
module

public import proofs.«01_k».proof.Proof.Gen.Reference5Ideal.Read
public import proofs.«01_k».proof.Proof.InS.Final

@[expose] public section

set_option maxRecDepth 16384

noncomputable section

namespace Cert.Reference5Ideal.In

open Cert.Reference5Ideal Cert.Reference5Ideal.Gen Cert.Reference5Ideal.Read Idealize.ShloMosaic Idealize.ShloMosaic.TcCoe Idealize.SL.Sem
open Cert.Layer

variable (x0 : (⟨S8x64x2048, .f32⟩ : BufTy).Contents (Elt Ideal)) (x1 : (⟨S8x12288, .f32⟩ : BufTy).Contents (Elt Ideal))
    (x2 : (⟨S2048x6152, .f32⟩ : BufTy).Contents (Elt Ideal)) (x3 : (⟨S8, .f32⟩ : BufTy).Contents (Elt Ideal))

/-- The reference's projection, at an index. -/
theorem ref_proj (i : S8x64x6152.Idx) : (val_main_v36 (F := Ideal) x0 x1 x2 i : EReal) = Cert.Kernel5Ideal.In.proj x0 x1 x2 (i 0) (i 1) (i 2) := by
  idx_vars i
  pointwise [val_main_v0, val_main_v1, val_main_v2, val_main_v3, val_main_v4, val_main_v5, val_main_v6, val_main_v7, val_main_v8, val_main_v9, val_main_v10, val_main_v11, val_main_cst, val_main_v12, val_main_v13, val_main_cst_0, val_main_v14, val_main_v15, val_main_v16, val_main_v17, val_main_v18, val_main_cst_1, val_main_v19, val_main_v20, val_main_cst_2, val_main_v21, val_main_v22, val_main_v23, val_main_v24, val_main_cst_3, val_main_v25, val_main_v26, val_main_v27, val_main_v28, val_main_v29, val_main_cst_4, val_main_v30, val_main_v31, val_main_v32, val_main_v33, val_main_v34, val_main_v35, val_main_v36,
    Cert.Kernel5Ideal.In.proj, Cert.Kernel5Ideal.In.urow, modRow, lnorm, mean, variance]

/-- The reference's result 0 is the kernel's, as a function of the arguments. -/
theorem ref6 : val_main_v50 (F := Ideal) x0 x1 x2 = Cert.Kernel5Ideal.In.o6 x0 x1 x2 := by
  funext i
  have h : (val_main_v37 (F := Ideal) x0 x1 x2 i : EReal) = Cert.Kernel5Ideal.In.proj x0 x1 x2 (i 0) (i 1) ⟨0 + (i 2).val, lt_of_lt_of_le (Nat.add_lt_add_left (i 2).isLt 0) (by decide)⟩ := by
    refine (val_main_v37_apply x0 x1 x2 i).trans ((ref_proj x0 x1 x2 _).trans (congrArg (Cert.Kernel5Ideal.In.proj x0 x1 x2 (i 0) (i 1)) (Fin.ext ?_)))
    show (i 2).val = 0 + (i 2).val; omega
  exact congrArg (· * Cert.Kernel5Ideal.In.qs) h

/-- The reference's result 1 is the kernel's, as a function of the arguments. -/
theorem ref7 : val_main_v38 (F := Ideal) x0 x1 x2 = Cert.Kernel5Ideal.In.o7 x0 x1 x2 := by
  funext i
  have h : (val_main_v38 (F := Ideal) x0 x1 x2 i : EReal) = Cert.Kernel5Ideal.In.proj x0 x1 x2 (i 0) (i 1) ⟨1024 + (i 2).val, lt_of_lt_of_le (Nat.add_lt_add_left (i 2).isLt 1024) (by decide)⟩ := by
    refine (val_main_v38_apply x0 x1 x2 i).trans ((ref_proj x0 x1 x2 _).trans (congrArg (Cert.Kernel5Ideal.In.proj x0 x1 x2 (i 0) (i 1)) (Fin.ext ?_)))
    rfl
  exact h

/-- The reference's result 2 is the kernel's, as a function of the arguments. -/
theorem ref8 : val_main_v39 (F := Ideal) x0 x1 x2 = Cert.Kernel5Ideal.In.o8 x0 x1 x2 := by
  funext i
  have h : (val_main_v39 (F := Ideal) x0 x1 x2 i : EReal) = Cert.Kernel5Ideal.In.proj x0 x1 x2 (i 0) (i 1) ⟨2048 + (i 2).val, lt_of_lt_of_le (Nat.add_lt_add_left (i 2).isLt 2048) (by decide)⟩ := by
    refine (val_main_v39_apply x0 x1 x2 i).trans ((ref_proj x0 x1 x2 _).trans (congrArg (Cert.Kernel5Ideal.In.proj x0 x1 x2 (i 0) (i 1)) (Fin.ext ?_)))
    rfl
  exact h

/-- The reference's result 3 is the kernel's, as a function of the arguments. -/
theorem ref9 : val_main_v53 (F := Ideal) x0 x1 x2 = Cert.Kernel5Ideal.In.o9 x0 x1 x2 := by
  funext i
  have h : (val_main_v41 (F := Ideal) x0 x1 x2 i : EReal) = Cert.Kernel5Ideal.In.proj x0 x1 x2 (i 0) (i 1) ⟨3080 + (i 2).val, lt_of_lt_of_le (Nat.add_lt_add_left (i 2).isLt 3080) (by decide)⟩ := by
    refine (val_main_v41_apply x0 x1 x2 i).trans ((ref_proj x0 x1 x2 _).trans (congrArg (Cert.Kernel5Ideal.In.proj x0 x1 x2 (i 0) (i 1)) (Fin.ext ?_)))
    rfl
  exact congrArg (· * Cert.Kernel5Ideal.In.qs) h

/-- The reference's result 4 is the kernel's, as a function of the arguments. -/
theorem ref10 : val_main_v54 (F := Ideal) x0 x1 x2 = Cert.Kernel5Ideal.In.o10 x0 x1 x2 := by
  funext i
  have h : (val_main_v42 (F := Ideal) x0 x1 x2 i : EReal) = Cert.Kernel5Ideal.In.proj x0 x1 x2 (i 0) (i 1) ⟨4104 + (i 2).val, lt_of_lt_of_le (Nat.add_lt_add_left (i 2).isLt 4104) (by decide)⟩ := by
    refine (val_main_v42_apply x0 x1 x2 i).trans ((ref_proj x0 x1 x2 _).trans (congrArg (Cert.Kernel5Ideal.In.proj x0 x1 x2 (i 0) (i 1)) (Fin.ext ?_)))
    rfl
  exact h

/-- The reference's result 5 is the kernel's, as a function of the arguments. -/
theorem ref11 : val_main_v55 (F := Ideal) x0 x1 x2 = Cert.Kernel5Ideal.In.o11 x0 x1 x2 := by
  funext i
  have h : (val_main_v43 (F := Ideal) x0 x1 x2 i : EReal) = Cert.Kernel5Ideal.In.proj x0 x1 x2 (i 0) (i 1) ⟨5128 + (i 2).val, lt_of_lt_of_le (Nat.add_lt_add_left (i 2).isLt 5128) (by decide)⟩ := by
    refine (val_main_v43_apply x0 x1 x2 i).trans ((ref_proj x0 x1 x2 _).trans (congrArg (Cert.Kernel5Ideal.In.proj x0 x1 x2 (i 0) (i 1)) (Fin.ext ?_)))
    rfl
  exact h

/-- The reference's result 6 is the kernel's, as a function of the arguments. -/
theorem ref12 : val_main_v42 (F := Ideal) x0 x1 x2 = Cert.Kernel5Ideal.In.o12 x0 x1 x2 := by
  funext i
  have h : (val_main_v42 (F := Ideal) x0 x1 x2 i : EReal) = Cert.Kernel5Ideal.In.proj x0 x1 x2 (i 0) (i 1) ⟨4104 + (i 2).val, lt_of_lt_of_le (Nat.add_lt_add_left (i 2).isLt 4104) (by decide)⟩ := by
    refine (val_main_v42_apply x0 x1 x2 i).trans ((ref_proj x0 x1 x2 _).trans (congrArg (Cert.Kernel5Ideal.In.proj x0 x1 x2 (i 0) (i 1)) (Fin.ext ?_)))
    rfl
  exact h

/-- The reference's result 7 is the kernel's, as a function of the arguments. -/
theorem ref13 : val_main_v43 (F := Ideal) x0 x1 x2 = Cert.Kernel5Ideal.In.o13 x0 x1 x2 := by
  funext i
  have h : (val_main_v43 (F := Ideal) x0 x1 x2 i : EReal) = Cert.Kernel5Ideal.In.proj x0 x1 x2 (i 0) (i 1) ⟨5128 + (i 2).val, lt_of_lt_of_le (Nat.add_lt_add_left (i 2).isLt 5128) (by decide)⟩ := by
    refine (val_main_v43_apply x0 x1 x2 i).trans ((ref_proj x0 x1 x2 _).trans (congrArg (Cert.Kernel5Ideal.In.proj x0 x1 x2 (i 0) (i 1)) (Fin.ext ?_)))
    rfl
  exact h

/-- The reference's gates are the kernel's, as a function of the arguments. -/
theorem ref14 : val_main_v57 (F := Ideal) x0 x1 x2 x3 = Cert.Kernel5Ideal.In.o14 x0 x1 x2 x3 := by
  funext i
  idx_vars i
  have hb : i2.val / 64 < 8 := by omega
  have hr : i2.val % 64 < 64 := by omega
  have h : (val_main_v46 (F := Ideal) x0 x1 x2 x3 (ix3 ⟨i2.val / 64, hb⟩ ⟨i2.val % 64, hr⟩ i1) : EReal)
      = Cert.Kernel5Ideal.In.proj x0 x1 x2 ⟨i2.val / 64, hb⟩ ⟨i2.val % 64, hr⟩ ⟨3072 + i1.val, by omega⟩ + x3 (ix1 i1) := by
    pointwise [val_main_v46, val_main_v45, val_main_v44]
    exact congrArg (· + _) ((val_main_v40_apply x0 x1 x2 _).trans (ref_proj x0 x1 x2 _))
  pointwise [val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1, val_main_v47, val_main_v56, val_main_v57]
  generalize val_main_v46 (F := Ideal) x0 x1 x2 x3 = f at h ⊢
  simp only [ne_eq, not_true, if_false]
  exact congrArg Cert.Kernel5Ideal.In.lsig h

end Cert.Reference5Ideal.In

end
-- ==== Proof.InS.Claim.lean ====
module

public import proofs.«01_k».proof.Defs
public import proofs.«01_k».proof.Proof.Gen.Kernel5
public import proofs.«01_k».proof.Proof.Gen.Reference5Ideal
public import proofs.«01_k».proof.Proof.InS.Ref

@[expose] public section

noncomputable section

namespace Cert.Proof

open Idealize.ShloMosaic Idealize.SL.Sem Idealize.ShloMosaic.TcCoe

/-- The input projection on the sample computes its reference's results. -/
theorem algebraic5 : @Cert.algebraic_Kernel5Ideal_Reference5Ideal Cert.Kernel5Ideal.Gen.facts Cert.Reference5Ideal.Gen.facts := by
  intro m g m' g' _ args
  refine ⟨fun c => Cert.Kernel5Ideal.In.r6 m c, fun c => Cert.Kernel5Ideal.In.r7 m c, fun c => Cert.Kernel5Ideal.In.r8 m c, fun c => Cert.Kernel5Ideal.In.r9 m c, fun c => Cert.Kernel5Ideal.In.r10 m c, fun c => Cert.Kernel5Ideal.In.r11 m c, fun c => Cert.Kernel5Ideal.In.r12 m c, fun c => Cert.Kernel5Ideal.In.r13 m c, fun c => Cert.Kernel5Ideal.In.r14 m c, ?_, ?_⟩
  · refine (θ_run Cert.Kernel5Ideal.defs _ _).mono (fun r h c => ?_) (θ_run_and (Cert.Kernel5Ideal.In.run_main m g) (Cert.Kernel5Ideal.In.unchanged m g))
    exact ⟨((h.1 c).1 6).trans (Cert.Kernel5Ideal.In.final6 m c),
      ((h.1 c).1 7).trans (Cert.Kernel5Ideal.In.final7 m c),
      ((h.1 c).1 8).trans (Cert.Kernel5Ideal.In.final8 m c),
      ((h.1 c).1 9).trans (Cert.Kernel5Ideal.In.final9 m c),
      ((h.1 c).1 10).trans (Cert.Kernel5Ideal.In.final10 m c),
      ((h.1 c).1 11).trans (Cert.Kernel5Ideal.In.final11 m c),
      ((h.1 c).1 12).trans (Cert.Kernel5Ideal.In.final12 m c),
      ((h.1 c).1 13).trans (Cert.Kernel5Ideal.In.final13 m c),
      ((h.1 c).1 14).trans (Cert.Kernel5Ideal.In.final14 m c),
      h.2 c⟩
  · refine (θ_run Cert.Reference5Ideal.defs _ _).mono (fun r h c => ?_) (Cert.Reference5Ideal.Value.run m' g')
    obtain ⟨e0, e1, e2, e3⟩ := args c
    obtain ⟨h0, h1, h2, h3, h4, h5, h6, h7, h8, ha⟩ := h c
    refine ⟨h0.trans ?_, h1.trans ?_, h2.trans ?_, h3.trans ?_, h4.trans ?_, h5.trans ?_, h6.trans ?_, h7.trans ?_, h8.trans ?_, ha⟩
    · rw [Cert.Reference5Ideal.Read.val_main_v50_eq, Cert.Reference5Ideal.In.ref6]
      simp only [Cert.Kernel5Ideal.In.r6, Cert.Kernel5Ideal.In.A0, Cert.Kernel5Ideal.In.A1', Cert.Kernel5Ideal.In.A2', e0, e1, e2]
    · rw [Cert.Reference5Ideal.Read.val_main_v38_eq, Cert.Reference5Ideal.In.ref7]
      simp only [Cert.Kernel5Ideal.In.r7, Cert.Kernel5Ideal.In.A0, Cert.Kernel5Ideal.In.A1', Cert.Kernel5Ideal.In.A2', e0, e1, e2]
    · rw [Cert.Reference5Ideal.Read.val_main_v39_eq, Cert.Reference5Ideal.In.ref8]
      simp only [Cert.Kernel5Ideal.In.r8, Cert.Kernel5Ideal.In.A0, Cert.Kernel5Ideal.In.A1', Cert.Kernel5Ideal.In.A2', e0, e1, e2]
    · rw [Cert.Reference5Ideal.Read.val_main_v53_eq, Cert.Reference5Ideal.In.ref9]
      simp only [Cert.Kernel5Ideal.In.r9, Cert.Kernel5Ideal.In.A0, Cert.Kernel5Ideal.In.A1', Cert.Kernel5Ideal.In.A2', e0, e1, e2]
    · rw [Cert.Reference5Ideal.Read.val_main_v54_eq, Cert.Reference5Ideal.In.ref10]
      simp only [Cert.Kernel5Ideal.In.r10, Cert.Kernel5Ideal.In.A0, Cert.Kernel5Ideal.In.A1', Cert.Kernel5Ideal.In.A2', e0, e1, e2]
    · rw [Cert.Reference5Ideal.Read.val_main_v55_eq, Cert.Reference5Ideal.In.ref11]
      simp only [Cert.Kernel5Ideal.In.r11, Cert.Kernel5Ideal.In.A0, Cert.Kernel5Ideal.In.A1', Cert.Kernel5Ideal.In.A2', e0, e1, e2]
    · rw [Cert.Reference5Ideal.Read.val_main_v42_eq, Cert.Reference5Ideal.In.ref12]
      simp only [Cert.Kernel5Ideal.In.r12, Cert.Kernel5Ideal.In.A0, Cert.Kernel5Ideal.In.A1', Cert.Kernel5Ideal.In.A2', e0, e1, e2]
    · rw [Cert.Reference5Ideal.Read.val_main_v43_eq, Cert.Reference5Ideal.In.ref13]
      simp only [Cert.Kernel5Ideal.In.r13, Cert.Kernel5Ideal.In.A0, Cert.Kernel5Ideal.In.A1', Cert.Kernel5Ideal.In.A2', e0, e1, e2]
    · rw [Cert.Reference5Ideal.Read.val_main_v57_eq, Cert.Reference5Ideal.In.ref14]
      simp only [Cert.Kernel5Ideal.In.r14, Cert.Kernel5Ideal.In.A0, Cert.Kernel5Ideal.In.A1', Cert.Kernel5Ideal.In.A2', Cert.Kernel5Ideal.In.A3, e0, e1, e2, e3]

end Cert.Proof

end
-- ==== Proof.Twin.OnTc.lean ====
/- Two body tables of the same bodies are the same. -/
module

public import Idealize.ShloMosaic.Adequacy

@[expose] public section

set_option maxRecDepth 100000
set_option maxHeartbeats 4000000

noncomputable section

namespace Cert.Proof

open Idealize.ShloMosaic Idealize.SL.Sem

/-- Tables whose bodies agree at each label and argument are equal. -/
theorem onTc_congr {nD : ℕ} {τ : Topo} {sig : RefSig} {Val : EltTy → Type} {Λ : Labels}
    (f g : (ℓ : Λ.Label) → Λ.Args ℓ → Prog (TpuEff nD τ sig Val Λ .tc) (Λ.Result ℓ)) (h : ∀ ℓ a, f ℓ a = g ℓ a) : Defs.onTc f = Defs.onTc g :=
  congrArg _ (funext fun ℓ => funext fun a => h ℓ a)

end Cert.Proof

end
-- ==== Proof.Twin.Sample.lean ====
/- The frame of the input projection's kernel on the sample. Its program has the ideal program's text, and the ideal program's run is
   proved over any float values: the frame over the machine's floats is taken from it. -/
module

public import proofs.«01_k».proof.Defs
public import proofs.«01_k».proof.Proof.Gen.Kernel5
public import proofs.«01_k».proof.Proof.InS.Frame
public import proofs.«01_k».proof.Proof.Twin.OnTc

@[expose] public section

set_option maxRecDepth 100000
set_option maxHeartbeats 4000000

noncomputable section

namespace Cert.Proof.Sample

open Idealize.ShloMosaic Idealize.SL.Sem

/-- The two programs' bodies are the same. -/
theorem body_eq : @Cert.Kernel5.cc0_in_proj Bits _ Cert.Kernel5.Gen.facts = @Cert.Kernel5Ideal.cc0_in_proj Bits _ Cert.Kernel5Ideal.Gen.facts := rfl

/-- Their tables of bodies are the same. -/
theorem table_eq : @Cert.Kernel5.defs₀ Bits _ Cert.Kernel5.Gen.facts = @Cert.Kernel5Ideal.defs₀ Bits _ Cert.Kernel5Ideal.Gen.facts := by
  unfold Cert.Kernel5.defs₀ Cert.Kernel5Ideal.defs₀
  rw [body_eq]
  refine onTc_congr _ _ ?_
  intro l a
  match l, a with
  | ⟨0, _⟩, (t, s) => rfl

/-- Their tables with the launch are the same. -/
theorem defs_eq : @Cert.Kernel5.defs Bits _ Cert.Kernel5.Gen.facts = @Cert.Kernel5Ideal.defs Bits _ Cert.Kernel5Ideal.Gen.facts := by
  unfold Cert.Kernel5.defs Cert.Kernel5Ideal.defs
  rw [table_eq]
  rfl

/-- The input projection's kernel on the sample runs without fault and leaves its arguments as they were. -/
theorem frame_kernel5 : @Cert.quiescent_Kernel5 Cert.Kernel5.Gen.facts := fun m ρ _ => by
  rw [defs_eq]
  exact Cert.Kernel5Ideal.In.frame (F := Bits) m ρ

end Cert.Proof.Sample

end
-- ==== Proof.InL.Base.lean ====
/- The conditions of the body, the buffers it works on, and the contents it leaves. -/
module

public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Gen.Kernel6Ideal.Frame
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.Pipeline.TableIdle

@[expose] public section

set_option maxRecDepth 16384

noncomputable section

namespace Cert.Kernel6Ideal.In

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's branch conditions -/

/-- The condition of the body's first branch, and where it holds. -/
abbrev cond0_0 (i : grid0.Coords) : Prop := k0_cond1 i = 1#1
theorem hcond0_0 : ∀ t : Fin cfg0.N, cond0_0 (grid0.coords t) ↔ t.val % 12 = 0 :=
  (fun t => by
    have ht : t.val < 384 := Nat.lt_of_lt_of_eq t.isLt N_0
    have e0 : (grid0.coords t 0).val = t.val / 48 % 8 := Pipeline.Grid.coords_val t 0 (by decide) rfl
    have e1 : (grid0.coords t 1).val = t.val / 12 % 4 := Pipeline.Grid.coords_val t 1 (by decide) rfl
    have e2 : (grid0.coords t 2).val = t.val / 1 % 12 := Pipeline.Grid.coords_val t 2 (by decide) rfl
    simp only [cond0_0, k0_cond1, e0, e1, e2]
    word_cmp
   : ∀ t : Fin grid0.N, cond0_0 (grid0.coords t) ↔ t.val % 12 = 0)

/-- The condition of the body's second branch, and where it holds. -/
abbrev cond0_1 (i : grid0.Coords) : Prop := k0_cond2 i = 1#1
theorem hcond0_1 : ∀ t : Fin cfg0.N, cond0_1 (grid0.coords t) ↔ t.val % 12 = 1 :=
  (by decide +kernel : ∀ t : Fin grid0.N, cond0_1 (grid0.coords t) ↔ t.val % 12 = 1)

/-- The condition of the body's third branch, and where it holds. -/
abbrev cond0_2 (i : grid0.Coords) : Prop := k0_cond3 i = 1#1
theorem hcond0_2 : ∀ t : Fin cfg0.N, cond0_2 (grid0.coords t) ↔ (2 ≤ t.val % 12 ∧ t.val % 12 ≤ 3) :=
  (by decide +kernel : ∀ t : Fin grid0.N, cond0_2 (grid0.coords t) ↔ (2 ≤ t.val % 12 ∧ t.val % 12 ≤ 3))

/-- The condition of the body's fourth branch, and where it holds. -/
abbrev cond0_3 (i : grid0.Coords) : Prop := k0_cond4 i = 1#1
theorem hcond0_3 : ∀ t : Fin cfg0.N, cond0_3 (grid0.coords t) ↔ (4 ≤ t.val % 12 ∧ t.val % 12 ≤ 5) :=
  (by decide +kernel : ∀ t : Fin grid0.N, cond0_3 (grid0.coords t) ↔ (4 ≤ t.val % 12 ∧ t.val % 12 ≤ 5))

/-- The condition of the body's fifth branch, and where it holds. -/
abbrev cond0_4 (i : grid0.Coords) : Prop := k0_cond5 i = 1#1
theorem hcond0_4 : ∀ t : Fin cfg0.N, cond0_4 (grid0.coords t) ↔ (6 ≤ t.val % 12 ∧ t.val % 12 ≤ 7) :=
  (by decide +kernel : ∀ t : Fin grid0.N, cond0_4 (grid0.coords t) ↔ (6 ≤ t.val % 12 ∧ t.val % 12 ≤ 7))

/-- The condition of the body's sixth branch, and where it holds. -/
abbrev cond0_5 (i : grid0.Coords) : Prop := k0_cond6 i = 1#1
theorem hcond0_5 : ∀ t : Fin cfg0.N, cond0_5 (grid0.coords t) ↔ (8 ≤ t.val % 12 ∧ t.val % 12 ≤ 9) :=
  (by decide +kernel : ∀ t : Fin grid0.N, cond0_5 (grid0.coords t) ↔ (8 ≤ t.val % 12 ∧ t.val % 12 ≤ 9))

/-- The condition of the body's seventh branch, and where it holds. -/
abbrev cond0_6 (i : grid0.Coords) : Prop := k0_cond8 i = 1#1
theorem hcond0_6 : ∀ t : Fin cfg0.N, cond0_6 (grid0.coords t) ↔ 10 ≤ t.val % 12 :=
  (by decide +kernel : ∀ t : Fin grid0.N, cond0_6 (grid0.coords t) ↔ 10 ≤ t.val % 12)

/-- The condition of the body's eighth branch, and where it holds. -/
abbrev cond0_7 (i : grid0.Coords) : Prop := k0_cond7 i = 1#1
theorem hcond0_7 : ∀ t : Fin cfg0.N, cond0_7 (grid0.coords t) ↔ t.val / 12 % 4 = 3 :=
  (fun t => by
    have ht : t.val < 384 := Nat.lt_of_lt_of_eq t.isLt N_0
    have e0 : (grid0.coords t 0).val = t.val / 48 % 8 := Pipeline.Grid.coords_val t 0 (by decide) rfl
    have e1 : (grid0.coords t 1).val = t.val / 12 % 4 := Pipeline.Grid.coords_val t 1 (by decide) rfl
    have e2 : (grid0.coords t 2).val = t.val / 1 % 12 := Pipeline.Grid.coords_val t 2 (by decide) rfl
    simp only [cond0_7, k0_cond7, e0, e1, e2]
    word_cmp
   : ∀ t : Fin grid0.N, cond0_7 (grid0.coords t) ↔ t.val / 12 % 4 = 3)

/-- The condition of the body's ninth branch, and where it holds. -/
abbrev cond0_8 (i : grid0.Coords) : Prop := k0_cond9 i = 1#1
theorem hcond0_8 : ∀ t : Fin cfg0.N, cond0_8 (grid0.coords t) ↔ t.val / 12 % 4 = 3 :=
  (fun t => by
    have ht : t.val < 384 := Nat.lt_of_lt_of_eq t.isLt N_0
    have e0 : (grid0.coords t 0).val = t.val / 48 % 8 := Pipeline.Grid.coords_val t 0 (by decide) rfl
    have e1 : (grid0.coords t 1).val = t.val / 12 % 4 := Pipeline.Grid.coords_val t 1 (by decide) rfl
    have e2 : (grid0.coords t 2).val = t.val / 1 % 12 := Pipeline.Grid.coords_val t 2 (by decide) rfl
    simp only [cond0_8, k0_cond9, e0, e1, e2]
    word_cmp
   : ∀ t : Fin grid0.N, cond0_8 (grid0.coords t) ↔ t.val / 12 % 4 = 3)

/-! ## The buffers -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
abbrev ms0_0 (t : Fin cfg0.N) : Memref sig .tc .vmem S1x1024x2048 .f32 := win0_0.stage (cfg0.slots t 0)
abbrev ms0_1 (t : Fin cfg0.N) : Memref sig .tc .vmem S1x6x2048 .f32 := win0_1.stage (cfg0.slots t 1)
abbrev ms0_2 (t : Fin cfg0.N) : Memref sig .tc .vmem S2048x512 .bf16 := win0_2.stage (cfg0.slots t 2)
abbrev ms0_3 (t : Fin cfg0.N) : Memref sig .tc .vmem S2048x512 .bf16 := win0_3.stage (cfg0.slots t 3)
abbrev ms0_4 (t : Fin cfg0.N) : Memref sig .tc .vmem S16x2048 .bf16 := win0_4.stage (cfg0.slots t 4)
abbrev ms0_5 (t : Fin cfg0.N) : Memref sig .tc .vmem S8x1 .f32 := win0_5.stage (cfg0.slots t 5)
abbrev ms0_6 (t : Fin cfg0.N) : Memref sig .tc .vmem S1x1024x512 .bf16 := win0_6.stage (cfg0.slots t 6)
abbrev ms0_7 (t : Fin cfg0.N) : Memref sig .tc .vmem S1x1024x512 .f32 := win0_7.stage (cfg0.slots t 7)
abbrev ms0_8 (t : Fin cfg0.N) : Memref sig .tc .vmem S1x1024x512 .f32 := win0_8.stage (cfg0.slots t 8)
abbrev ms0_9 (t : Fin cfg0.N) : Memref sig .tc .vmem S1x1024x512 .bf16 := win0_9.stage (cfg0.slots t 9)
abbrev ms0_10 (t : Fin cfg0.N) : Memref sig .tc .vmem S1x1024x512 .bf16 := win0_10.stage (cfg0.slots t 10)
abbrev ms0_11 (t : Fin cfg0.N) : Memref sig .tc .vmem S1x1024x512 .bf16 := win0_11.stage (cfg0.slots t 11)
abbrev ms0_12 (t : Fin cfg0.N) : Memref sig .tc .vmem S1x512x512 .f32 := win0_12.stage (cfg0.slots t 12)
abbrev ms0_13 (t : Fin cfg0.N) : Memref sig .tc .vmem S1x512x512 .f32 := win0_13.stage (cfg0.slots t 13)
abbrev ms0_14 (t : Fin cfg0.N) : Memref sig .tc .vmem S1x8x1024 .f32 := win0_14.stage (cfg0.slots t 14)
/-- The scratch. -/
abbrev scM0_0 : Memref sig .tc .vmem S1024x2048 .bf16 := Memref.whole cc0_scratch0

/-- What a grid point is handed and gives back beside the windows: the scratch, at some contents. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

/-! ## What the first point of a row block leaves -/

section Pieces
variable (x0 : Vec F S1x1024x2048 .f32) (x1 : Vec F S1x6x2048 .f32) (x2 : Vec F S2048x512 .bf16)

/-- The scale and the shift. -/
abbrev sc : Vec F S1x1x2048 .f32 := View.ld x1 (Rect.unit (s := S1x6x2048) ![0, 1, 0] S1x1x2048.size inb_S1x6x2048_S1x1x2048_0_1_0)
abbrev sf : Vec F S1x1x2048 .f32 := View.ld x1 (Rect.unit (s := S1x6x2048) ![0, 0, 0] S1x1x2048.size inb_S1x6x2048_S1x1x2048_0_0_0)

/-- The four stores of the modulated norm into the scratch, last first. -/
def uPieces : List (View.Piece (Elt F) S1024x2048 .bf16) :=
  [⟨Rect.unit (s := S1024x2048) ![768, 0] S256x2048.size inb_S1024x2048_S256x2048_768_0,
      k0_pay17 (k0_pay15 (View.ld x0 (Rect.unit (s := S1x1024x2048) ![0, 768, 0] S1x256x2048.size inb_S1x1024x2048_S1x256x2048_0_768_0)) (sc x1) (sf x1))⟩,
    ⟨Rect.unit (s := S1024x2048) ![512, 0] S256x2048.size inb_S1024x2048_S256x2048_512_0,
      k0_pay13 (k0_pay12 (View.ld x0 (Rect.unit (s := S1x1024x2048) ![0, 512, 0] S1x256x2048.size inb_S1x1024x2048_S1x256x2048_0_512_0)) (sc x1) (sf x1))⟩,
    ⟨Rect.unit (s := S1024x2048) ![256, 0] S256x2048.size inb_S1024x2048_S256x2048_256_0,
      k0_pay9 (View.ld x0 (Rect.unit (s := S1x1024x2048) ![0, 256, 0] S1x256x2048.size inb_S1x1024x2048_S1x256x2048_0_256_0)) (sc x1) (sf x1)⟩,
    ⟨Rect.unit (s := S1024x2048) ![0, 0] S256x2048.size inb_S1024x2048_S256x2048_0_0,
      k0_pay5 (View.ld x0 (Rect.unit (s := S1x1024x2048) ![0, 0, 0] S1x256x2048.size inb_S1x1024x2048_S1x256x2048_0_0_0)) (sc x1) (sf x1)⟩]

/-- The scratch after the first point of a row block. -/
def uAll : Vec F S1024x2048 .bf16 := View.canon (uPieces x0 x1)

/-- The four stores of the first query tile, last first. -/
def qPieces : List (View.Piece (Elt F) S1x1024x512 .bf16) :=
  [⟨Rect.unit (s := S1x1024x512) ![0, 768, 0] S1x256x512.size inb_S1x1024x512_S1x256x512_0_768_0,
      k0_pay18 (k0_pay15 (View.ld x0 (Rect.unit (s := S1x1024x2048) ![0, 768, 0] S1x256x2048.size inb_S1x1024x2048_S1x256x2048_0_768_0)) (sc x1) (sf x1)) x2⟩,
    ⟨Rect.unit (s := S1x1024x512) ![0, 512, 0] S1x256x512.size inb_S1x1024x512_S1x256x512_0_512_0,
      k0_pay14 (k0_pay12 (View.ld x0 (Rect.unit (s := S1x1024x2048) ![0, 512, 0] S1x256x2048.size inb_S1x1024x2048_S1x256x2048_0_512_0)) (sc x1) (sf x1)) x2⟩,
    ⟨Rect.unit (s := S1x1024x512) ![0, 256, 0] S1x256x512.size inb_S1x1024x512_S1x256x512_0_256_0,
      k0_pay11 (k0_pay8 (View.ld x0 (Rect.unit (s := S1x1024x2048) ![0, 256, 0] S1x256x2048.size inb_S1x1024x2048_S1x256x2048_0_256_0)) (sc x1) (sf x1)) (k0_pay10 x2)⟩,
    ⟨Rect.unit (s := S1x1024x512) ![0, 0, 0] S1x256x512.size inb_S1x1024x512_S1x256x512_0_0_0,
      k0_pay7 (k0_pay6 (View.ld x0 (Rect.unit (s := S1x1024x2048) ![0, 0, 0] S1x256x2048.size inb_S1x1024x2048_S1x256x2048_0_0_0)) (sc x1) (sf x1) x2)⟩]

/-- The first query tile. -/
def qFirst : Vec F S1x1024x512 .bf16 := View.canon (qPieces x0 x1 x2)
end Pieces

/-- The gates' logarithms of a row block. -/
def gates (x4 : Vec F S16x2048 .bf16) (u : Vec F S1024x2048 .bf16) (x5 : Vec F S8x1 .f32) : Vec F S1x8x1024 .f32 := k0_pay20 (k0_pay19 x4 u x5) (Scalar.ofBits .f32 0x00000000#32)

end Cert.Kernel6Ideal.In

end
-- ==== Proof.InL.Data.lean ====
/- The proof data: what each buffer holds after each point, and the outputs carried through the points that do not store them. -/
module

public import proofs.«01_k».proof.Proof.InL.Base

@[expose] public section

set_option maxRecDepth 16384

noncomputable section

namespace Cert.Kernel6Ideal.In

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The last point at or before `t` among those from `lo` to `hi` of its row block (`lo` before them). -/
def lst (lo hi : ℕ) (h : lo ≤ hi ∧ hi < 12) (t : Fin cfg0.N) : Fin cfg0.N :=
  ⟨12 * (t.val / 12) + max lo (min hi (t.val % 12)), by have hN : cfg0.N = 384 := N_0; have := t.isLt; omega⟩

theorem lst_self (lo hi : ℕ) (h : lo ≤ hi ∧ hi < 12) (t : Fin cfg0.N) (hl : lo ≤ t.val % 12) (hh : t.val % 12 ≤ hi) : lst lo hi h t = t :=
  Fin.ext (by show 12 * (t.val / 12) + max lo (min hi (t.val % 12)) = t.val; omega)

theorem lst_pred (lo hi : ℕ) (h : lo ≤ hi ∧ hi < 12) (t t' : Fin cfg0.N) (ht : t'.val = t.val - 1) (hh : hi < t.val % 12) : lst lo hi h t' = lst lo hi h t :=
  Fin.ext (by show 12 * (t'.val / 12) + max lo (min hi (t'.val % 12)) = 12 * (t.val / 12) + max lo (min hi (t.val % 12)); omega)

/-- The scratch after point `t`: the modulated norm of the row block. -/
def uAt (c : Dev nD) (t : Fin cfg0.N) : Vec F S1024x2048 .bf16 := uAll (iblk m c 0 (lst 0 0 (by decide) t)) (iblk m c 1 (lst 0 0 (by decide) t))

theorem uAt_pred (c : Dev nD) (t t' : Fin cfg0.N) (ht : t'.val = t.val - 1) (hh : 0 < t.val % 12) : uAt m c t' = uAt m c t := by
  unfold uAt; rw [lst_pred 0 0 _ t t' ht hh]

theorem uAt_first (c : Dev nD) (t : Fin cfg0.N) (h : t.val % 12 = 0) : uAt m c t = uAll (iblk m c 0 t) (iblk m c 1 t) := by
  unfold uAt; rw [lst_self 0 0 _ t (by omega) (by omega)]

/-- The invariant before point `n`: the scratch at anything before the first point, at the modulated norm of the last point's row block afterwards. -/
def PhiS (c : Dev nD) : (n : ℕ) → n ≤ cfg0.N → sProp (MT nD τ sig Unit (Elt F) ℕ (UR sig nD τ) ℕ)
  | 0, _ => Pipeline.ΦA spec0 c
  | n + 1, h => iprop(owns (c : Thread nD τ) scM0_0 fullShare (uAt m c ⟨n, h⟩) ∗ (∃ r, prngReg c r))

theorem PhiS_succ (c : Dev nD) (t : Fin cfg0.N) :
    PhiS m c (t.val + 1) t.isLt = iprop(owns (c : Thread nD τ) scM0_0 fullShare (uAt m c t) ∗ (∃ r, prngReg c r)) := rfl

theorem PhiS_mid (c : Dev nD) (t : Fin cfg0.N) (h : t.val ≤ cfg0.N) (hz : 0 < t.val % 12) :
    PhiS m c t.val h = iprop(owns (c : Thread nD τ) scM0_0 fullShare (uAt m c t) ∗ (∃ r, prngReg c r)) := by
  obtain ⟨n, hn⟩ := t
  cases n with
  | zero => exact absurd hz (Nat.lt_irrefl 0)
  | succ n => rw [← uAt_pred m c ⟨n + 1, hn⟩ ⟨n, by omega⟩ rfl hz]; rfl

theorem PhiS_any (c : Dev nD) (n : ℕ) (h : n ≤ cfg0.N) :
    PhiS m c n h ⊢ iprop(iprop((∃ d, owns (c : Thread nD τ) scM0_0 fullShare d)) ∗ (∃ r, prngReg c r)) := by
  cases n with
  | zero => rw [← PhiA0_eq]; exact Idealize.SL.BI.Entails.refl _
  | succ n =>
    show iprop(owns (c : Thread nD τ) scM0_0 fullShare (uAt m c ⟨n, h⟩) ∗ (∃ r, prngReg c r)) ⊢ _
    iintro ⟨HS, Hg⟩
    isplitl [HS]
    · iexists _; iexact HS
    iexact Hg

/-- The proof data: the arrays as the region finds them, each input's buffer at its block, each output's at its last stored tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (if t.val % 12 = 0 then qFirst (iblk m c 0 t) (iblk m c 1 t) (iblk m c 2 t) else k0_pay21 (uAt m c t) (iblk m c 2 (lst 1 1 (by decide) t)))
    | ⟨7, _⟩ => k0_pay22 (uAt m c t) (iblk m c 2 (lst 2 3 (by decide) t))
    | ⟨8, _⟩ => k0_pay23 (uAt m c t) (iblk m c 2 (lst 4 5 (by decide) t))
    | ⟨9, _⟩ => k0_pay24 (uAt m c t) (iblk m c 3 (lst 6 7 (by decide) t))
    | ⟨10, _⟩ => k0_pay26 (uAt m c t) (iblk m c 3 (lst 8 9 (by decide) t))
    | ⟨11, _⟩ => k0_pay2 (uAt m c t) (iblk m c 3 (lst 10 11 (by decide) t))
    | ⟨12, _⟩ => k0_pay27 (uAt m c t) (iblk m c 3 (lst 8 9 (by decide) t))
    | ⟨13, _⟩ => k0_pay3 (uAt m c t) (iblk m c 3 (lst 10 11 (by decide) t))
    | ⟨14, _⟩ => gates (iblk m c 4 (lst 0 0 (by decide) t)) (uAt m c t) (iblk m c 5 (lst 0 0 (by decide) t))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (if t.val % 12 = 0 then qFirst (iblk m c 0 t) (iblk m c 1 t) (iblk m c 2 t) else k0_pay21 (uAt m c t) (iblk m c 2 (lst 1 1 (by decide) t))) := by dsimp only [dats]
theorem after0_7 (c : Dev nD) (t : Fin cfg0.N) : (dats m 0 c).after 7 t = k0_pay22 (uAt m c t) (iblk m c 2 (lst 2 3 (by decide) t)) := by dsimp only [dats]
theorem after0_8 (c : Dev nD) (t : Fin cfg0.N) : (dats m 0 c).after 8 t = k0_pay23 (uAt m c t) (iblk m c 2 (lst 4 5 (by decide) t)) := by dsimp only [dats]
theorem after0_9 (c : Dev nD) (t : Fin cfg0.N) : (dats m 0 c).after 9 t = k0_pay24 (uAt m c t) (iblk m c 3 (lst 6 7 (by decide) t)) := by dsimp only [dats]
theorem after0_10 (c : Dev nD) (t : Fin cfg0.N) : (dats m 0 c).after 10 t = k0_pay26 (uAt m c t) (iblk m c 3 (lst 8 9 (by decide) t)) := by dsimp only [dats]
theorem after0_11 (c : Dev nD) (t : Fin cfg0.N) : (dats m 0 c).after 11 t = k0_pay2 (uAt m c t) (iblk m c 3 (lst 10 11 (by decide) t)) := by dsimp only [dats]
theorem after0_12 (c : Dev nD) (t : Fin cfg0.N) : (dats m 0 c).after 12 t = k0_pay27 (uAt m c t) (iblk m c 3 (lst 8 9 (by decide) t)) := by dsimp only [dats]
theorem after0_13 (c : Dev nD) (t : Fin cfg0.N) : (dats m 0 c).after 13 t = k0_pay3 (uAt m c t) (iblk m c 3 (lst 10 11 (by decide) t)) := by dsimp only [dats]
theorem after0_14 (c : Dev nD) (t : Fin cfg0.N) : (dats m 0 c).after 14 t = gates (iblk m c 4 (lst 0 0 (by decide) t)) (uAt m c t) (iblk m c 5 (lst 0 0 (by decide) t)) := by dsimp only [dats]

theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]

/-- When output `w` is idle, written back and fresh, its block stored from `lo` to `hi` in the row blocks where `p` holds. -/
def Sched (w : Fin cfg0.W) (lo hi : ℕ) (p : ℕ → Bool) : Prop := ∀ t : Fin cfg0.N,
  (cfg0.idle w (cfg0.grid.coords t) = true → cfg0.fresh w t.val = false → hi < t.val % 12)
    ∧ (cfg0.idle w (cfg0.grid.coords t) = true → (cfg0.win w).flush t = true → cfg0.fresh w t.val = false ∧ t.val ≠ 0)
    ∧ (cfg0.idle w (cfg0.grid.coords t) = false ↔ lo ≤ t.val % 12 ∧ t.val % 12 ≤ hi ∧ p (t.val / 12 % 4) = true)

instance (w : Fin cfg0.W) (lo hi : ℕ) (p : ℕ → Bool) : Decidable (Sched w lo hi p) := by unfold Sched; infer_instance

/-- A point that does not store an output leaves its buffer as it finds it. -/
theorem keep_of (c : Dev nD) (w : Fin cfg0.W) (hw : (cfg0.win w).isOut = true) (hc : ∀ (i : cfg0.grid.Coords) a, (cfg0.win w).clip i a = none)
    (lo hi : ℕ) (p : ℕ → Bool) (hs : Sched w lo hi p)
    (carry : ∀ t : Fin cfg0.N, t.val ≠ 0 → hi < t.val % 12 → (dats m 0 c).after w t = (dats m 0 c).after w ⟨t.val - 1, by omega⟩)
    (t : Fin cfg0.N) (h : ¬(lo ≤ t.val % 12 ∧ t.val % 12 ≤ hi ∧ p (t.val / 12 % 4) = true)) :
    (iprop(∃ d, owns (c : Thread nD τ) ((cfg0.win w).stage (cfg0.slots t w)) fullShare ((dats m 0 c).before w t d)) : sProp (MT nD τ sig Unit (Elt F) ℕ (UR sig nD τ) ℕ)) ⊢ (dats m 0 c).leavesExact w t := by
  have hi : cfg0.idle w (cfg0.grid.coords t) = true := by
    cases e : cfg0.idle w (cfg0.grid.coords t)
    · exact absurd ((hs t).2.2.mp e) h
    · rfl
  have carry' := fun (t : Fin cfg0.N) (h0 : t.val ≠ 0) hi hf => carry t h0 ((hs t).1 hi hf)
  cases hfl : (cfg0.win w).flush t
  · rw [Dat.leavesExact_idle _ w t hi hfl]
    try exact Idealize.SL.BI.Entails.refl _
  · obtain ⟨hfr, h0⟩ := (hs t).2.1 hi hfl
    have e : ∀ d, (dats m 0 c).before w t d = (dats m 0 c).after w t := fun d => by
      rw [Dat.before_out_traj _ w hw hc carry' t.val t rfl d, if_neg (by rw [hfr]; exact Bool.false_ne_true)]
      exact (carry' t h0 hi hfr).symm
    unfold Dat.leavesExact; rw [hi, hfl]
    simp only [e]
    iintro ⟨%d, H⟩; iexact H

/-- A point that stores an output leaves it at the proof data's contents. -/
theorem live_of (c : Dev nD) (w : Fin cfg0.W) (lo hi : ℕ) (p : ℕ → Bool) (hs : Sched w lo hi p) (t : Fin cfg0.N)
    (h : lo ≤ t.val % 12 ∧ t.val % 12 ≤ hi ∧ p (t.val / 12 % 4) = true) :
    (dats m 0 c).leavesExact w t = owns (c : Thread nD τ) ((cfg0.win w).stage (cfg0.slots t w)) fullShare ((dats m 0 c).after w t) := by
  unfold Dat.leavesExact; rw [(hs t).2.2.mpr h]

theorem sched_6 : Sched 6 0 1 (fun _ => true) := by decide +kernel

theorem keep_6 (c : Dev nD) (t : Fin cfg0.N) (h : ¬(0 ≤ t.val % 12 ∧ t.val % 12 ≤ 1)) :
    (iprop(∃ d, owns (c : Thread nD τ) (ms0_6 t) fullShare ((dats m 0 c).before 6 t d)) : sProp (MT nD τ sig Unit (Elt F) ℕ (UR sig nD τ) ℕ)) ⊢ (dats m 0 c).leavesExact 6 t :=
  keep_of m c 6 rfl (fun _ _ => rfl) 0 1 _ sched_6 (fun t h0 hh => by
    rw [after0_6, after0_6, if_neg (by omega), if_neg (by show ¬((t.val - 1) % 12 = 0); omega), lst_pred 1 1 _ t ⟨t.val - 1, by omega⟩ rfl hh, uAt_pred m c t ⟨t.val - 1, by omega⟩ rfl (by omega)]) t (fun k => h ⟨k.1, k.2.1⟩)

theorem live_6_A (c : Dev nD) (t : Fin cfg0.N) (h : t.val % 12 = 0) : (dats m 0 c).leavesExact 6 t = owns (c : Thread nD τ) (ms0_6 t) fullShare (qFirst (iblk m c 0 t) (iblk m c 1 t) (iblk m c 2 t)) :=
  (live_of m c 6 0 1 _ sched_6 t ⟨by omega, by omega, rfl⟩).trans (by rw [after0_6, if_pos h])

theorem live_6_B (c : Dev nD) (t : Fin cfg0.N) (h : t.val % 12 = 1) : (dats m 0 c).leavesExact 6 t = owns (c : Thread nD τ) (ms0_6 t) fullShare (k0_pay21 (uAt m c t) (iblk m c 2 t)) :=
  (live_of m c 6 0 1 _ sched_6 t ⟨by omega, by omega, rfl⟩).trans (by rw [after0_6, if_neg (by omega), lst_self 1 1 _ t (by omega) (by omega)])

theorem sched_7 : Sched 7 2 3 (fun _ => true) := by decide +kernel

theorem keep_7 (c : Dev nD) (t : Fin cfg0.N) (h : ¬(2 ≤ t.val % 12 ∧ t.val % 12 ≤ 3)) :
    (iprop(∃ d, owns (c : Thread nD τ) (ms0_7 t) fullShare ((dats m 0 c).before 7 t d)) : sProp (MT nD τ sig Unit (Elt F) ℕ (UR sig nD τ) ℕ)) ⊢ (dats m 0 c).leavesExact 7 t :=
  keep_of m c 7 rfl (fun _ _ => rfl) 2 3 _ sched_7 (fun t h0 hh => by
    rw [after0_7, after0_7, lst_pred 2 3 _ t ⟨t.val - 1, by omega⟩ rfl hh, uAt_pred m c t ⟨t.val - 1, by omega⟩ rfl (by omega)]) t (fun k => h ⟨k.1, k.2.1⟩)

theorem live_7 (c : Dev nD) (t : Fin cfg0.N) (h : 2 ≤ t.val % 12 ∧ t.val % 12 ≤ 3) : (dats m 0 c).leavesExact 7 t = owns (c : Thread nD τ) (ms0_7 t) fullShare (k0_pay22 (uAt m c t) (iblk m c 2 t)) :=
  (live_of m c 7 2 3 _ sched_7 t ⟨h.1, h.2, rfl⟩).trans (by rw [after0_7, lst_self 2 3 _ t h.1 h.2])

theorem sched_8 : Sched 8 4 5 (fun _ => true) := by decide +kernel

theorem keep_8 (c : Dev nD) (t : Fin cfg0.N) (h : ¬(4 ≤ t.val % 12 ∧ t.val % 12 ≤ 5)) :
    (iprop(∃ d, owns (c : Thread nD τ) (ms0_8 t) fullShare ((dats m 0 c).before 8 t d)) : sProp (MT nD τ sig Unit (Elt F) ℕ (UR sig nD τ) ℕ)) ⊢ (dats m 0 c).leavesExact 8 t :=
  keep_of m c 8 rfl (fun _ _ => rfl) 4 5 _ sched_8 (fun t h0 hh => by
    rw [after0_8, after0_8, lst_pred 4 5 _ t ⟨t.val - 1, by omega⟩ rfl hh, uAt_pred m c t ⟨t.val - 1, by omega⟩ rfl (by omega)]) t (fun k => h ⟨k.1, k.2.1⟩)

theorem live_8 (c : Dev nD) (t : Fin cfg0.N) (h : 4 ≤ t.val % 12 ∧ t.val % 12 ≤ 5) : (dats m 0 c).leavesExact 8 t = owns (c : Thread nD τ) (ms0_8 t) fullShare (k0_pay23 (uAt m c t) (iblk m c 2 t)) :=
  (live_of m c 8 4 5 _ sched_8 t ⟨h.1, h.2, rfl⟩).trans (by rw [after0_8, lst_self 4 5 _ t h.1 h.2])

theorem sched_9 : Sched 9 6 7 (fun _ => true) := by decide +kernel

theorem keep_9 (c : Dev nD) (t : Fin cfg0.N) (h : ¬(6 ≤ t.val % 12 ∧ t.val % 12 ≤ 7)) :
    (iprop(∃ d, owns (c : Thread nD τ) (ms0_9 t) fullShare ((dats m 0 c).before 9 t d)) : sProp (MT nD τ sig Unit (Elt F) ℕ (UR sig nD τ) ℕ)) ⊢ (dats m 0 c).leavesExact 9 t :=
  keep_of m c 9 rfl (fun _ _ => rfl) 6 7 _ sched_9 (fun t h0 hh => by
    rw [after0_9, after0_9, lst_pred 6 7 _ t ⟨t.val - 1, by omega⟩ rfl hh, uAt_pred m c t ⟨t.val - 1, by omega⟩ rfl (by omega)]) t (fun k => h ⟨k.1, k.2.1⟩)

theorem live_9 (c : Dev nD) (t : Fin cfg0.N) (h : 6 ≤ t.val % 12 ∧ t.val % 12 ≤ 7) : (dats m 0 c).leavesExact 9 t = owns (c : Thread nD τ) (ms0_9 t) fullShare (k0_pay24 (uAt m c t) (iblk m c 3 t)) :=
  (live_of m c 9 6 7 _ sched_9 t ⟨h.1, h.2, rfl⟩).trans (by rw [after0_9, lst_self 6 7 _ t h.1 h.2])

theorem sched_10 : Sched 10 8 9 (fun _ => true) := by decide +kernel

theorem keep_10 (c : Dev nD) (t : Fin cfg0.N) (h : ¬(8 ≤ t.val % 12 ∧ t.val % 12 ≤ 9)) :
    (iprop(∃ d, owns (c : Thread nD τ) (ms0_10 t) fullShare ((dats m 0 c).before 10 t d)) : sProp (MT nD τ sig Unit (Elt F) ℕ (UR sig nD τ) ℕ)) ⊢ (dats m 0 c).leavesExact 10 t :=
  keep_of m c 10 rfl (fun _ _ => rfl) 8 9 _ sched_10 (fun t h0 hh => by
    rw [after0_10, after0_10, lst_pred 8 9 _ t ⟨t.val - 1, by omega⟩ rfl hh, uAt_pred m c t ⟨t.val - 1, by omega⟩ rfl (by omega)]) t (fun k => h ⟨k.1, k.2.1⟩)

theorem live_10 (c : Dev nD) (t : Fin cfg0.N) (h : 8 ≤ t.val % 12 ∧ t.val % 12 ≤ 9) : (dats m 0 c).leavesExact 10 t = owns (c : Thread nD τ) (ms0_10 t) fullShare (k0_pay26 (uAt m c t) (iblk m c 3 t)) :=
  (live_of m c 10 8 9 _ sched_10 t ⟨h.1, h.2, rfl⟩).trans (by rw [after0_10, lst_self 8 9 _ t h.1 h.2])

theorem sched_11 : Sched 11 10 11 (fun _ => true) := by decide +kernel

theorem keep_11 (c : Dev nD) (t : Fin cfg0.N) (h : ¬(10 ≤ t.val % 12 ∧ t.val % 12 ≤ 11)) :
    (iprop(∃ d, owns (c : Thread nD τ) (ms0_11 t) fullShare ((dats m 0 c).before 11 t d)) : sProp (MT nD τ sig Unit (Elt F) ℕ (UR sig nD τ) ℕ)) ⊢ (dats m 0 c).leavesExact 11 t :=
  keep_of m c 11 rfl (fun _ _ => rfl) 10 11 _ sched_11 (fun t h0 hh => by
    rw [after0_11, after0_11, lst_pred 10 11 _ t ⟨t.val - 1, by omega⟩ rfl hh, uAt_pred m c t ⟨t.val - 1, by omega⟩ rfl (by omega)]) t (fun k => h ⟨k.1, k.2.1⟩)

theorem live_11 (c : Dev nD) (t : Fin cfg0.N) (h : 10 ≤ t.val % 12 ∧ t.val % 12 ≤ 11) : (dats m 0 c).leavesExact 11 t = owns (c : Thread nD τ) (ms0_11 t) fullShare (k0_pay2 (uAt m c t) (iblk m c 3 t)) :=
  (live_of m c 11 10 11 _ sched_11 t ⟨h.1, h.2, rfl⟩).trans (by rw [after0_11, lst_self 10 11 _ t h.1 h.2])

theorem sched_12 : Sched 12 8 9 (fun i => i == 3) := by decide +kernel

theorem keep_12 (c : Dev nD) (t : Fin cfg0.N) (h : ¬(8 ≤ t.val % 12 ∧ t.val % 12 ≤ 9 ∧ t.val / 12 % 4 = 3)) :
    (iprop(∃ d, owns (c : Thread nD τ) (ms0_12 t) fullShare ((dats m 0 c).before 12 t d)) : sProp (MT nD τ sig Unit (Elt F) ℕ (UR sig nD τ) ℕ)) ⊢ (dats m 0 c).leavesExact 12 t :=
  keep_of m c 12 rfl (fun _ _ => rfl) 8 9 _ sched_12 (fun t h0 hh => by
    rw [after0_12, after0_12, lst_pred 8 9 _ t ⟨t.val - 1, by omega⟩ rfl hh, uAt_pred m c t ⟨t.val - 1, by omega⟩ rfl (by omega)]) t (fun k => h ⟨k.1, k.2.1, of_decide_eq_true k.2.2⟩)

theorem live_12 (c : Dev nD) (t : Fin cfg0.N) (h : 8 ≤ t.val % 12 ∧ t.val % 12 ≤ 9 ∧ t.val / 12 % 4 = 3) : (dats m 0 c).leavesExact 12 t = owns (c : Thread nD τ) (ms0_12 t) fullShare (k0_pay27 (uAt m c t) (iblk m c 3 t)) :=
  (live_of m c 12 8 9 _ sched_12 t ⟨h.1, h.2.1, (by rw [h.2.2]; rfl)⟩).trans (by rw [after0_12, lst_self 8 9 _ t h.1 h.2.1])

theorem sched_13 : Sched 13 10 11 (fun i => i == 3) := by decide +kernel

theorem keep_13 (c : Dev nD) (t : Fin cfg0.N) (h : ¬(10 ≤ t.val % 12 ∧ t.val % 12 ≤ 11 ∧ t.val / 12 % 4 = 3)) :
    (iprop(∃ d, owns (c : Thread nD τ) (ms0_13 t) fullShare ((dats m 0 c).before 13 t d)) : sProp (MT nD τ sig Unit (Elt F) ℕ (UR sig nD τ) ℕ)) ⊢ (dats m 0 c).leavesExact 13 t :=
  keep_of m c 13 rfl (fun _ _ => rfl) 10 11 _ sched_13 (fun t h0 hh => by
    rw [after0_13, after0_13, lst_pred 10 11 _ t ⟨t.val - 1, by omega⟩ rfl hh, uAt_pred m c t ⟨t.val - 1, by omega⟩ rfl (by omega)]) t (fun k => h ⟨k.1, k.2.1, of_decide_eq_true k.2.2⟩)

theorem live_13 (c : Dev nD) (t : Fin cfg0.N) (h : 10 ≤ t.val % 12 ∧ t.val % 12 ≤ 11 ∧ t.val / 12 % 4 = 3) : (dats m 0 c).leavesExact 13 t = owns (c : Thread nD τ) (ms0_13 t) fullShare (k0_pay3 (uAt m c t) (iblk m c 3 t)) :=
  (live_of m c 13 10 11 _ sched_13 t ⟨h.1, h.2.1, (by rw [h.2.2]; rfl)⟩).trans (by rw [after0_13, lst_self 10 11 _ t h.1 h.2.1])

theorem sched_14 : Sched 14 0 0 (fun _ => true) := by decide +kernel

theorem keep_14 (c : Dev nD) (t : Fin cfg0.N) (h : ¬(0 ≤ t.val % 12 ∧ t.val % 12 ≤ 0)) :
    (iprop(∃ d, owns (c : Thread nD τ) (ms0_14 t) fullShare ((dats m 0 c).before 14 t d)) : sProp (MT nD τ sig Unit (Elt F) ℕ (UR sig nD τ) ℕ)) ⊢ (dats m 0 c).leavesExact 14 t :=
  keep_of m c 14 rfl (fun _ _ => rfl) 0 0 _ sched_14 (fun t h0 hh => by
    rw [after0_14, after0_14, lst_pred 0 0 _ t ⟨t.val - 1, by omega⟩ rfl hh, uAt_pred m c t ⟨t.val - 1, by omega⟩ rfl (by omega)]) t (fun k => h ⟨k.1, k.2.1⟩)

theorem live_14 (c : Dev nD) (t : Fin cfg0.N) (h : t.val % 12 = 0) : (dats m 0 c).leavesExact 14 t = owns (c : Thread nD τ) (ms0_14 t) fullShare (gates (iblk m c 4 t) (uAll (iblk m c 0 t) (iblk m c 1 t)) (iblk m c 5 t)) :=
  (live_of m c 14 0 0 _ sched_14 t ⟨by omega, by omega, rfl⟩).trans (by rw [after0_14, uAt_first m c t h, lst_self 0 0 _ t (by omega) (by omega)])

/-- What the body is called with at point `t`, the scratch and the generator's register apart, -/
def pre' (c : Dev nD) (t : Fin cfg0.N) : sProp (MT nD τ sig Unit (Elt F) ℕ (UR sig nD τ) ℕ) :=
  iprop((dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- with them, -/
def bodyPre (c : Dev nD) (t : Fin cfg0.N) : sProp (MT nD τ sig Unit (Elt F) ℕ (UR sig nD τ) ℕ) := iprop((dats m 0 c).Φ t.castSucc ∗ pre' m c t)

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

end Cert.Kernel6Ideal.In

end
-- ==== Proof.InL.RunA.lean ====
/- The run of the body at the first point of a row block. -/
module

public import proofs.«01_k».proof.Proof.InL.Base

@[expose] public section

set_option maxRecDepth 16384

noncomputable section

namespace Cert.Kernel6Ideal.In

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg3 : Memref sig .tc .vmem S1x1024x2048 .f32) (harg3 : arg3.IsWhole) (arg4 : Memref sig .tc .vmem S1x6x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S16x2048 .bf16) (harg7 : arg7.IsWhole) (arg8 : Memref sig .tc .vmem S8x1 .f32) (harg8 : arg8.IsWhole) (arg9 : Memref sig .tc .vmem S1x1024x512 .bf16) (harg9 : arg9.IsWhole) (arg10 : Memref sig .tc .vmem S1x1024x512 .f32) (harg10 : arg10.IsWhole) (arg11 : Memref sig .tc .vmem S1x1024x512 .f32) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x8x1024 .f32) (harg17 : arg17.IsWhole) (arg18 : Memref sig .tc .vmem S1024x2048 .bf16) (harg18 : arg18.IsWhole)

/-- The whole scratch read back after its four stores. -/
theorem uAll_read (v : View sig .tc .vmem S1024x2048 .bf16) (x0 : Vec F S1x1024x2048 .f32) (x1 : Vec F S1x6x2048 .f32) :
    v.readCov (uPieces x0 x1) (Rect.unit (s := S1024x2048) ![0, 0] S1024x2048.size inb_S1024x2048_S1024x2048_0_0).toLoadRect = uAll x0 x1 := by
  rw [View.readCov_eq_canon']
  exact View.ld_unit_lit inb_S1024x2048_S1024x2048_0_0 (View.canon (uPieces x0 x1)) (by decide)

set_option maxHeartbeats 2000000 in
/-- The run at the first point of a row block: the scratch, the first query tile and the gates' logarithms are stored. -/
theorem run_A (hc0 : cond0_0 i) (hc1 : ¬cond0_1 i) (hc2 : ¬cond0_2 i) (hc3 : ¬cond0_3 i) (hc4 : ¬cond0_4 i) (hc5 : ¬cond0_5 i) (hc6 : ¬cond0_6 i) (x0 : Vec F S1x1024x2048 .f32) (x1 : Vec F S1x6x2048 .f32) (x2 : Vec F S2048x512 .bf16) (x4 : Vec F S16x2048 .bf16) (x5 : Vec F S8x1 .f32) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg7 fullShare x4 ∗ owns (c : Thread nD τ) arg8 fullShare x5 ∗ (∃ d, owns (c : Thread nD τ) arg9 fullShare d) ∗ (∃ d, owns (c : Thread nD τ) arg17 fullShare d) ∗ (∃ d, owns (c : Thread nD τ) arg18 fullShare d)
        ∗ (iprop(owns (c : Thread nD τ) arg3 fullShare x0 ∗ owns (c : Thread nD τ) arg4 fullShare x1 ∗ owns (c : Thread nD τ) arg5 fullShare x2 ∗ owns (c : Thread nD τ) arg7 fullShare x4 ∗ owns (c : Thread nD τ) arg8 fullShare x5 ∗ owns (c : Thread nD τ) arg9 fullShare (qFirst x0 x1 x2) ∗ owns (c : Thread nD τ) arg17 fullShare (gates x4 (uAll x0 x1) x5) ∗ owns (c : Thread nD τ) arg18 fullShare (uAll x0 x1)) -∗ K ⟨⟩))
      ⊢ wp frame (wpE (defs₀ (F := F)) Variants.none c none) E (cc0_in_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_in_proj_eq_skeleton]; unfold cc0_in_proj_skel
  simp only [k0_part6_eq_skeleton, k0_part1_eq_skeleton, k0_part2_eq_skeleton, k0_part3_eq_skeleton, k0_part4_eq_skeleton, k0_part5_eq_skeleton, k0_part7_eq_skeleton, k0_part8_eq_skeleton]
  unfold owns
  iintro ⟨⟨%f0, %hf0, H0⟩, ⟨%f1, %hf1, H1⟩, ⟨%f2, %hf2, H2⟩, ⟨%f4, %hf4, H4⟩, ⟨%f5, %hf5, H5⟩, ⟨%d6, %f6, -, H6⟩, ⟨%d14, %f14, -, H14⟩, ⟨%ds, %fs, -, HS⟩, Hk⟩
  obtain rfl := harg3.eq_unread hf0; obtain rfl := harg4.eq_unread hf1; obtain rfl := harg5.eq_unread hf2; obtain rfl := harg7.eq_unread hf4; obtain rfl := harg8.eq_unread hf5
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    refine (View.read_writes_eq_canon _ _ _ ?_).trans ?_
    · exact View.cover_of_tiledL _ S1x256x512.size (by sl_kernel_rfl)
    unfold qFirst qPieces
    frame_out
  isplitl [H14]
  · iexists _; isplitr; swap; · iexact H14
    ipureintro
    rw [View.read_writes_eq_canon _ _ _ (View.cover_of_tiledL _ S1x8x1024.size (by sl_kernel_rfl)), ← uAll_read arg18.view]
    unfold gates uPieces
    frame_out
  iexists _; isplitr; swap; · iexact HS
  ipureintro
  refine (View.read_writes_eq_canon _ _ _ ?_).trans ?_
  · exact View.cover_of_tiledL _ S256x2048.size (by sl_kernel_rfl)
  unfold uAll uPieces
  frame_out

end Cert.Kernel6Ideal.In

end
-- ==== Proof.InL.SoundA.lean ====
/- The body at the points of the kinds run in `RunA`. -/
module

public import proofs.«01_k».proof.Proof.InL.Data
public import proofs.«01_k».proof.Proof.InL.RunA

@[expose] public section

set_option maxRecDepth 16384

noncomputable section

namespace Cert.Kernel6Ideal.In

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option maxHeartbeats 4000000 in
theorem sound_A (c : Dev nD) (t : Fin cfg0.N) (h : t.val % 12 = 0) :
    bodyPre m c t ⊢ wp frame (wpE (defs₀ (F := F)) Variants.none c none) Set.univ (bodyAt0 t) (fun _ => bodyPost m c t) := by
  unfold bodyPre
  rw [PhiS_castSucc m c t]
  refine (show iprop(PhiS m c t.val (Nat.le_of_lt t.isLt) ∗ pre' m c t) ⊢ iprop(iprop(iprop((∃ d, owns (c : Thread nD τ) scM0_0 fullShare d)) ∗ (∃ r, prngReg c r)) ∗ pre' m c t) from sep_mono_l (PhiS_any m c t.val _)).trans ?_
  unfold pre' bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, live_6_A m c t h, live_14 m c t h, uAt_first m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, H7, H8, H9, H10, H11, H12, H13, ⟨%d14, H14⟩⟩
  iapply (run_A c (grid0.coords t) _ _ _ _ _ _ _ _ _ _ _ _ _ _ _ _ _ _ _ _ _ _ _ _ _ _ _ _ _ _ _ _ ((hcond0_0 t).mpr (by omega)) (fun h => by have := (hcond0_1 t).mp h; omega) (fun h => by have := (hcond0_2 t).mp h; omega) (fun h => by have := (hcond0_3 t).mp h; omega) (fun h => by have := (hcond0_4 t).mp h; omega) (fun h => by have := (hcond0_5 t).mp h; omega) (fun h => by have := (hcond0_6 t).mp h; omega) (iblk m c 0 t) (iblk m c 1 t) (iblk m c 2 t) (iblk m c 4 t) (iblk m c 5 t) Set.univ _)
  isplitl [H0]; · iexact H0
  isplitl [H1]; · iexact H1
  isplitl [H2]; · iexact H2
  isplitl [H4]; · iexact H4
  isplitl [H5]; · iexact H5
  isplitl [H6]; · iexists _; iexact H6
  isplitl [H14]; · iexists _; iexact H14
  isplitl [HS]; · iexact HS
  iintro ⟨H0, H1, H2, H4, H5, H6, H14, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (keep_7 m c t (by omega)); iexact H7
  isplitl [H8]; · iapply (keep_8 m c t (by omega)); iexact H8
  isplitl [H9]; · iapply (keep_9 m c t (by omega)); iexact H9
  isplitl [H10]; · iapply (keep_10 m c t (by omega)); iexact H10
  isplitl [H11]; · iapply (keep_11 m c t (by omega)); iexact H11
  isplitl [H12]; · iapply (keep_12 m c t (by omega)); iexact H12
  isplitl [H13]; · iapply (keep_13 m c t (by omega)); iexact H13
  iexact H14

end Cert.Kernel6Ideal.In

end
-- ==== Proof.InL.RunBC.lean ====
/- The runs of the body at the points of two kinds. -/
module

public import proofs.«01_k».proof.Proof.InL.Base

@[expose] public section

set_option maxRecDepth 16384

noncomputable section

namespace Cert.Kernel6Ideal.In

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg3 : Memref sig .tc .vmem S1x1024x2048 .f32) (harg3 : arg3.IsWhole) (arg4 : Memref sig .tc .vmem S1x6x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S16x2048 .bf16) (harg7 : arg7.IsWhole) (arg8 : Memref sig .tc .vmem S8x1 .f32) (harg8 : arg8.IsWhole) (arg9 : Memref sig .tc .vmem S1x1024x512 .bf16) (harg9 : arg9.IsWhole) (arg10 : Memref sig .tc .vmem S1x1024x512 .f32) (harg10 : arg10.IsWhole) (arg11 : Memref sig .tc .vmem S1x1024x512 .f32) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x8x1024 .f32) (harg17 : arg17.IsWhole) (arg18 : Memref sig .tc .vmem S1024x2048 .bf16) (harg18 : arg18.IsWhole)

set_option maxHeartbeats 1000000 in
/-- Where the second branch runs: the product of the scratch and the tile is stored. -/
theorem run_B (hc0 : ¬cond0_0 i) (hc1 : cond0_1 i) (hc2 : ¬cond0_2 i) (hc3 : ¬cond0_3 i) (hc4 : ¬cond0_4 i) (hc5 : ¬cond0_5 i) (hc6 : ¬cond0_6 i) (x : Vec F S2048x512 .bf16) (u : Vec F S1024x2048 .bf16) (E : Set ℕ) (K : PUnit → sProp (MT nD τ sig Unit (Elt F) ℕ (UR sig nD τ) ℕ)) :
    iprop(owns (c : Thread nD τ) arg5 fullShare x ∗ owns (c : Thread nD τ) arg18 fullShare u ∗ (∃ d, owns (c : Thread nD τ) arg9 fullShare d)
        ∗ (iprop(owns (c : Thread nD τ) arg5 fullShare x ∗ owns (c : Thread nD τ) arg18 fullShare u ∗ owns (c : Thread nD τ) arg9 fullShare (k0_pay21 u x)) -∗ K ⟨⟩))
      ⊢ wp frame (wpE (defs₀ (F := F)) Variants.none c none) E (cc0_in_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_in_proj_eq_skeleton]; unfold cc0_in_proj_skel
  simp only [k0_part6_eq_skeleton, k0_part7_eq_skeleton, k0_part8_eq_skeleton]
  unfold owns
  iintro ⟨⟨%f0, %hf0, H0⟩, ⟨%fs, %hfs, HS⟩, ⟨%d6, %f6, -, H6⟩, Hk⟩
  obtain rfl := harg5.eq_unread hf0; obtain rfl := harg18.eq_unread hfs
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg5.read_unread _
    iexact H0
  isplitl [HS]
  · iexists _; isplitr; · ipureintro; exact harg18.read_unread _
    iexact HS
  iexists _; isplitr; swap; · iexact H6
  ipureintro
  rw [View.read_writes_eq_canon _ _ _ (View.cover_of_tiledL _ S1x1024x512.size (by sl_kernel_rfl))]
  frame_out

set_option maxHeartbeats 1000000 in
/-- Where the third branch runs: the product of the scratch and the tile is stored. -/
theorem run_C (hc0 : ¬cond0_0 i) (hc1 : ¬cond0_1 i) (hc2 : cond0_2 i) (hc3 : ¬cond0_3 i) (hc4 : ¬cond0_4 i) (hc5 : ¬cond0_5 i) (hc6 : ¬cond0_6 i) (x : Vec F S2048x512 .bf16) (u : Vec F S1024x2048 .bf16) (E : Set ℕ) (K : PUnit → sProp (MT nD τ sig Unit (Elt F) ℕ (UR sig nD τ) ℕ)) :
    iprop(owns (c : Thread nD τ) arg5 fullShare x ∗ owns (c : Thread nD τ) arg18 fullShare u ∗ (∃ d, owns (c : Thread nD τ) arg10 fullShare d)
        ∗ (iprop(owns (c : Thread nD τ) arg5 fullShare x ∗ owns (c : Thread nD τ) arg18 fullShare u ∗ owns (c : Thread nD τ) arg10 fullShare (k0_pay22 u x)) -∗ K ⟨⟩))
      ⊢ wp frame (wpE (defs₀ (F := F)) Variants.none c none) E (cc0_in_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_in_proj_eq_skeleton]; unfold cc0_in_proj_skel
  simp only [k0_part6_eq_skeleton, k0_part7_eq_skeleton, k0_part8_eq_skeleton]
  unfold owns
  iintro ⟨⟨%f0, %hf0, H0⟩, ⟨%fs, %hfs, HS⟩, ⟨%d7, %f7, -, H7⟩, Hk⟩
  obtain rfl := harg5.eq_unread hf0; obtain rfl := harg18.eq_unread hfs
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg5.read_unread _
    iexact H0
  isplitl [HS]
  · iexists _; isplitr; · ipureintro; exact harg18.read_unread _
    iexact HS
  iexists _; isplitr; swap; · iexact H7
  ipureintro
  rw [View.read_writes_eq_canon _ _ _ (View.cover_of_tiledL _ S1x1024x512.size (by sl_kernel_rfl))]
  frame_out

end Cert.Kernel6Ideal.In

end
-- ==== Proof.InL.SoundBC.lean ====
/- The body at the points of the kinds run in `RunBC`. -/
module

public import proofs.«01_k».proof.Proof.InL.Data
public import proofs.«01_k».proof.Proof.InL.RunBC

@[expose] public section

set_option maxRecDepth 16384

noncomputable section

namespace Cert.Kernel6Ideal.In

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option maxHeartbeats 4000000 in
theorem sound_B (c : Dev nD) (t : Fin cfg0.N) (h : t.val % 12 = 1) :
    bodyPre m c t ⊢ wp frame (wpE (defs₀ (F := F)) Variants.none c none) Set.univ (bodyAt0 t) (fun _ => bodyPost m c t) := by
  unfold bodyPre
  rw [PhiS_castSucc m c t, PhiS_mid m c t _ (by omega)]
  unfold pre' bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, live_6_B m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, H7, H8, H9, H10, H11, H12, H13, H14⟩
  iapply (run_B c (grid0.coords t) _ _ _ _ _ _ _ _ _ _ _ _ _ _ _ _ _ _ _ _ _ _ _ _ _ _ _ _ _ _ _ _ (fun h => by have := (hcond0_0 t).mp h; omega) ((hcond0_1 t).mpr (by omega)) (fun h => by have := (hcond0_2 t).mp h; omega) (fun h => by have := (hcond0_3 t).mp h; omega) (fun h => by have := (hcond0_4 t).mp h; omega) (fun h => by have := (hcond0_5 t).mp h; omega) (fun h => by have := (hcond0_6 t).mp h; omega) (iblk m c 2 t) (uAt m c t) Set.univ _)
  isplitl [H2]; · iexact H2
  isplitl [HS]; · iexact HS
  isplitl [H6]; · iexists _; iexact H6
  iintro ⟨H2, HS, H6⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (keep_7 m c t (by omega)); iexact H7
  isplitl [H8]; · iapply (keep_8 m c t (by omega)); iexact H8
  isplitl [H9]; · iapply (keep_9 m c t (by omega)); iexact H9
  isplitl [H10]; · iapply (keep_10 m c t (by omega)); iexact H10
  isplitl [H11]; · iapply (keep_11 m c t (by omega)); iexact H11
  isplitl [H12]; · iapply (keep_12 m c t (by omega)); iexact H12
  isplitl [H13]; · iapply (keep_13 m c t (by omega)); iexact H13
  iapply (keep_14 m c t (by omega)); iexact H14

set_option maxHeartbeats 4000000 in
theorem sound_C (c : Dev nD) (t : Fin cfg0.N) (h : 2 ≤ t.val % 12 ∧ t.val % 12 ≤ 3) :
    bodyPre m c t ⊢ wp frame (wpE (defs₀ (F := F)) Variants.none c none) Set.univ (bodyAt0 t) (fun _ => bodyPost m c t) := by
  unfold bodyPre
  rw [PhiS_castSucc m c t, PhiS_mid m c t _ (by omega)]
  unfold pre' bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, live_7 m c t h]
  iintro ⟨⟨HS, Hg⟩, Ho, ⟨%d0, H0⟩, ⟨%d1, H1⟩, ⟨%d2, H2⟩, ⟨%d3, H3⟩, ⟨%d4, H4⟩, ⟨%d5, H5⟩, H6, ⟨%d7, H7⟩, H8, H9, H10, H11, H12, H13, H14⟩
  iapply (run_C c (grid0.coords t) _ _ _ _ _ _ _ _ _ _ _ _ _ _ _ _ _ _ _ _ _ _ _ _ _ _ _ _ _ _ _ _ (fun h => by have := (hcond0_0 t).mp h; omega) (fun h => by have := (hcond0_1 t).mp h; omega) ((hcond0_2 t).mpr (by omega)) (fun h => by have := (hcond0_3 t).mp h; omega) (fun h => by have := (hcond0_4 t).mp h; omega) (fun h => by have := (hcond0_5 t).mp h; omega) (fun h => by have := (hcond0_6 t).mp h; omega) (iblk m c 2 t) (uAt m c t) Set.univ _)
  isplitl [H2]; · iexact H2
  isplitl [HS]; · iexact HS
  isplitl [H7]; · iexists _; iexact H7
  iintro ⟨H2, HS, H7⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (keep_6 m c t (by omega)); iexact H6
  isplitl [H7]; · iexact H7
  isplitl [H8]; · iapply (keep_8 m c t (by omega)); iexact H8
  isplitl [H9]; · iapply (keep_9 m c t (by omega)); iexact H9
  isplitl [H10]; · iapply (keep_10 m c t (by omega)); iexact H10
  isplitl [H11]; · iapply (keep_11 m c t (by omega)); iexact H11
  isplitl [H12]; · iapply (keep_12 m c t (by omega)); iexact H12
  isplitl [H13]; · iapply (keep_13 m c t (by omega)); iexact H13
  iapply (keep_14 m c t (by omega)); iexact H14

end Cert.Kernel6Ideal.In

end
-- ==== Proof.InL.RunDE.lean ====
/- The runs of the body at the points of two kinds. -/
module

public import proofs.«01_k».proof.Proof.InL.Base

@[expose] public section

set_option maxRecDepth 16384

noncomputable section

namespace Cert.Kernel6Ideal.In

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg3 : Memref sig .tc .vmem S1x1024x2048 .f32) (harg3 : arg3.IsWhole) (arg4 : Memref sig .tc .vmem S1x6x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S16x2048 .bf16) (harg7 : arg7.IsWhole) (arg8 : Memref sig .tc .vmem S8x1 .f32) (harg8 : arg8.IsWhole) (arg9 : Memref sig .tc .vmem S1x1024x512 .bf16) (harg9 : arg9.IsWhole) (arg10 : Memref sig .tc .vmem S1x1024x512 .f32) (harg10 : arg10.IsWhole) (arg11 : Memref sig .tc .vmem S1x1024x512 .f32) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x8x1024 .f32) (harg17 : arg17.IsWhole) (arg18 : Memref sig .tc .vmem S1024x2048 .bf16) (harg18 : arg18.IsWhole)

set_option maxHeartbeats 1000000 in
/-- Where the fourth branch runs: the product of the scratch and the tile is stored. -/
theorem run_D (hc0 : ¬cond0_0 i) (hc1 : ¬cond0_1 i) (hc2 : ¬cond0_2 i) (hc3 : cond0_3 i) (hc4 : ¬cond0_4 i) (hc5 : ¬cond0_5 i) (hc6 : ¬cond0_6 i) (x : Vec F S2048x512 .bf16) (u : Vec F S1024x2048 .bf16) (E : Set ℕ) (K : PUnit → sProp (MT nD τ sig Unit (Elt F) ℕ (UR sig nD τ) ℕ)) :
    iprop(owns (c : Thread nD τ) arg5 fullShare x ∗ owns (c : Thread nD τ) arg18 fullShare u ∗ (∃ d, owns (c : Thread nD τ) arg11 fullShare d)
        ∗ (iprop(owns (c : Thread nD τ) arg5 fullShare x ∗ owns (c : Thread nD τ) arg18 fullShare u ∗ owns (c : Thread nD τ) arg11 fullShare (k0_pay23 u x)) -∗ K ⟨⟩))
      ⊢ wp frame (wpE (defs₀ (F := F)) Variants.none c none) E (cc0_in_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_in_proj_eq_skeleton]; unfold cc0_in_proj_skel
  simp only [k0_part6_eq_skeleton, k0_part7_eq_skeleton, k0_part8_eq_skeleton]
  unfold owns
  iintro ⟨⟨%f0, %hf0, H0⟩, ⟨%fs, %hfs, HS⟩, ⟨%d8, %f8, -, H8⟩, Hk⟩
  obtain rfl := harg5.eq_unread hf0; obtain rfl := harg18.eq_unread hfs
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg5.read_unread _
    iexact H0
  isplitl [HS]
  · iexists _; isplitr; · ipureintro; exact harg18.read_unread _
    iexact HS
  iexists _; isplitr; swap; · iexact H8
  ipureintro
  rw [View.read_writes_eq_canon _ _ _ (View.cover_of_tiledL _ S1x1024x512.size (by sl_kernel_rfl))]
  frame_out

set_option maxHeartbeats 1000000 in
/-- Where the fifth branch runs: the product of the scratch and the tile is stored. -/
theorem run_E (hc0 : ¬cond0_0 i) (hc1 : ¬cond0_1 i) (hc2 : ¬cond0_2 i) (hc3 : ¬cond0_3 i) (hc4 : cond0_4 i) (hc5 : ¬cond0_5 i) (hc6 : ¬cond0_6 i) (x : Vec F S2048x512 .bf16) (u : Vec F S1024x2048 .bf16) (E : Set ℕ) (K : PUnit → sProp (MT nD τ sig Unit (Elt F) ℕ (UR sig nD τ) ℕ)) :
    iprop(owns (c : Thread nD τ) arg6 fullShare x ∗ owns (c : Thread nD τ) arg18 fullShare u ∗ (∃ d, owns (c : Thread nD τ) arg12 fullShare d)
        ∗ (iprop(owns (c : Thread nD τ) arg6 fullShare x ∗ owns (c : Thread nD τ) arg18 fullShare u ∗ owns (c : Thread nD τ) arg12 fullShare (k0_pay24 u x)) -∗ K ⟨⟩))
      ⊢ wp frame (wpE (defs₀ (F := F)) Variants.none c none) E (cc0_in_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_in_proj_eq_skeleton]; unfold cc0_in_proj_skel
  simp only [k0_part6_eq_skeleton, k0_part7_eq_skeleton, k0_part8_eq_skeleton]
  unfold owns
  iintro ⟨⟨%f0, %hf0, H0⟩, ⟨%fs, %hfs, HS⟩, ⟨%d9, %f9, -, H9⟩, Hk⟩
  obtain rfl := harg6.eq_unread hf0; obtain rfl := harg18.eq_unread hfs
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg6.read_unread _
    iexact H0
  isplitl [HS]
  · iexists _; isplitr; · ipureintro; exact harg18.read_unread _
    iexact HS
  iexists _; isplitr; swap; · iexact H9
  ipureintro
  rw [View.read_writes_eq_canon _ _ _ (View.cover_of_tiledL _ S1x1024x512.size (by sl_kernel_rfl))]
  frame_out

end Cert.Kernel6Ideal.In

end
-- ==== Proof.InL.SoundDE.lean ====
/- The body at the points of the kinds run in `RunDE`. -/
module

public import proofs.«01_k».proof.Proof.InL.Data
public import proofs.«01_k».proof.Proof.InL.RunDE

@[expose] public section

set_option maxRecDepth 16384

noncomputable section

namespace Cert.Kernel6Ideal.In

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option maxHeartbeats 4000000 in
theorem sound_D (c : Dev nD) (t : Fin cfg0.N) (h : 4 ≤ t.val % 12 ∧ t.val % 12 ≤ 5) :
    bodyPre m c t ⊢ wp frame (wpE (defs₀ (F := F)) Variants.none c none) Set.univ (bodyAt0 t) (fun _ => bodyPost m c t) := by
  unfold bodyPre
  rw [PhiS_castSucc m c t, PhiS_mid m c t _ (by omega)]
  unfold pre' bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, live_8 m c t h]
  iintro ⟨⟨HS, Hg⟩, Ho, ⟨%d0, H0⟩, ⟨%d1, H1⟩, ⟨%d2, H2⟩, ⟨%d3, H3⟩, ⟨%d4, H4⟩, ⟨%d5, H5⟩, H6, H7, ⟨%d8, H8⟩, H9, H10, H11, H12, H13, H14⟩
  iapply (run_D c (grid0.coords t) _ _ _ _ _ _ _ _ _ _ _ _ _ _ _ _ _ _ _ _ _ _ _ _ _ _ _ _ _ _ _ _ (fun h => by have := (hcond0_0 t).mp h; omega) (fun h => by have := (hcond0_1 t).mp h; omega) (fun h => by have := (hcond0_2 t).mp h; omega) ((hcond0_3 t).mpr (by omega)) (fun h => by have := (hcond0_4 t).mp h; omega) (fun h => by have := (hcond0_5 t).mp h; omega) (fun h => by have := (hcond0_6 t).mp h; omega) (iblk m c 2 t) (uAt m c t) Set.univ _)
  isplitl [H2]; · iexact H2
  isplitl [HS]; · iexact HS
  isplitl [H8]; · iexists _; iexact H8
  iintro ⟨H2, HS, H8⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (keep_6 m c t (by omega)); iexact H6
  isplitl [H7]; · iapply (keep_7 m c t (by omega)); iexact H7
  isplitl [H8]; · iexact H8
  isplitl [H9]; · iapply (keep_9 m c t (by omega)); iexact H9
  isplitl [H10]; · iapply (keep_10 m c t (by omega)); iexact H10
  isplitl [H11]; · iapply (keep_11 m c t (by omega)); iexact H11
  isplitl [H12]; · iapply (keep_12 m c t (by omega)); iexact H12
  isplitl [H13]; · iapply (keep_13 m c t (by omega)); iexact H13
  iapply (keep_14 m c t (by omega)); iexact H14

set_option maxHeartbeats 4000000 in
theorem sound_E (c : Dev nD) (t : Fin cfg0.N) (h : 6 ≤ t.val % 12 ∧ t.val % 12 ≤ 7) :
    bodyPre m c t ⊢ wp frame (wpE (defs₀ (F := F)) Variants.none c none) Set.univ (bodyAt0 t) (fun _ => bodyPost m c t) := by
  unfold bodyPre
  rw [PhiS_castSucc m c t, PhiS_mid m c t _ (by omega)]
  unfold pre' bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, live_9 m c t h]
  iintro ⟨⟨HS, Hg⟩, Ho, ⟨%d0, H0⟩, ⟨%d1, H1⟩, ⟨%d2, H2⟩, ⟨%d3, H3⟩, ⟨%d4, H4⟩, ⟨%d5, H5⟩, H6, H7, H8, ⟨%d9, H9⟩, H10, H11, H12, H13, H14⟩
  iapply (run_E c (grid0.coords t) _ _ _ _ _ _ _ _ _ _ _ _ _ _ _ _ _ _ _ _ _ _ _ _ _ _ _ _ _ _ _ _ (fun h => by have := (hcond0_0 t).mp h; omega) (fun h => by have := (hcond0_1 t).mp h; omega) (fun h => by have := (hcond0_2 t).mp h; omega) (fun h => by have := (hcond0_3 t).mp h; omega) ((hcond0_4 t).mpr (by omega)) (fun h => by have := (hcond0_5 t).mp h; omega) (fun h => by have := (hcond0_6 t).mp h; omega) (iblk m c 3 t) (uAt m c t) Set.univ _)
  isplitl [H3]; · iexact H3
  isplitl [HS]; · iexact HS
  isplitl [H9]; · iexists _; iexact H9
  iintro ⟨H3, HS, H9⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (keep_6 m c t (by omega)); iexact H6
  isplitl [H7]; · iapply (keep_7 m c t (by omega)); iexact H7
  isplitl [H8]; · iapply (keep_8 m c t (by omega)); iexact H8
  isplitl [H9]; · iexact H9
  isplitl [H10]; · iapply (keep_10 m c t (by omega)); iexact H10
  isplitl [H11]; · iapply (keep_11 m c t (by omega)); iexact H11
  isplitl [H12]; · iapply (keep_12 m c t (by omega)); iexact H12
  isplitl [H13]; · iapply (keep_13 m c t (by omega)); iexact H13
  iapply (keep_14 m c t (by omega)); iexact H14

end Cert.Kernel6Ideal.In

end
-- ==== Proof.InL.RunFH.lean ====
/- The runs of the body at the points of two kinds. -/
module

public import proofs.«01_k».proof.Proof.InL.Base

@[expose] public section

set_option maxRecDepth 16384

noncomputable section

namespace Cert.Kernel6Ideal.In

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg3 : Memref sig .tc .vmem S1x1024x2048 .f32) (harg3 : arg3.IsWhole) (arg4 : Memref sig .tc .vmem S1x6x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S16x2048 .bf16) (harg7 : arg7.IsWhole) (arg8 : Memref sig .tc .vmem S8x1 .f32) (harg8 : arg8.IsWhole) (arg9 : Memref sig .tc .vmem S1x1024x512 .bf16) (harg9 : arg9.IsWhole) (arg10 : Memref sig .tc .vmem S1x1024x512 .f32) (harg10 : arg10.IsWhole) (arg11 : Memref sig .tc .vmem S1x1024x512 .f32) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x8x1024 .f32) (harg17 : arg17.IsWhole) (arg18 : Memref sig .tc .vmem S1024x2048 .bf16) (harg18 : arg18.IsWhole)

set_option maxHeartbeats 1000000 in
/-- Where the sixth branch runs and its tail: the product of the scratch and the tile is stored. -/
theorem run_F (hc0 : ¬cond0_0 i) (hc1 : ¬cond0_1 i) (hc2 : ¬cond0_2 i) (hc3 : ¬cond0_3 i) (hc4 : ¬cond0_4 i) (hc5 : cond0_5 i) (hc6 : ¬cond0_6 i) (hc7 : cond0_7 i) (x : Vec F S2048x512 .bf16) (u : Vec F S1024x2048 .bf16) (E : Set ℕ) (K : PUnit → sProp (MT nD τ sig Unit (Elt F) ℕ (UR sig nD τ) ℕ)) :
    iprop(owns (c : Thread nD τ) arg6 fullShare x ∗ owns (c : Thread nD τ) arg18 fullShare u ∗ (∃ d, owns (c : Thread nD τ) arg13 fullShare d) ∗ (∃ d, owns (c : Thread nD τ) arg15 fullShare d)
        ∗ (iprop(owns (c : Thread nD τ) arg6 fullShare x ∗ owns (c : Thread nD τ) arg18 fullShare u ∗ owns (c : Thread nD τ) arg13 fullShare (k0_pay26 u x) ∗ owns (c : Thread nD τ) arg15 fullShare (k0_pay27 u x)) -∗ K ⟨⟩))
      ⊢ wp frame (wpE (defs₀ (F := F)) Variants.none c none) E (cc0_in_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_in_proj_eq_skeleton]; unfold cc0_in_proj_skel
  simp only [k0_part6_eq_skeleton, k0_part7_eq_skeleton, k0_part8_eq_skeleton]
  unfold owns
  iintro ⟨⟨%f0, %hf0, H0⟩, ⟨%fs, %hfs, HS⟩, ⟨%d10, %f10, -, H10⟩, ⟨%d12, %f12, -, H12⟩, Hk⟩
  obtain rfl := harg6.eq_unread hf0; obtain rfl := harg18.eq_unread hfs
  sl_exec (disch := first | sl_exact hc0 | sl_exact hc1 | sl_exact hc2 | sl_exact hc3 | sl_exact hc4 | sl_exact hc5 | sl_exact hc6 | sl_exact hc7)
  sl_step
  iapply Hk
  isplitl [H0]
  · iexists _; isplitr; · ipureintro; exact harg6.read_unread _
    iexact H0
  isplitl [HS]
  · iexists _; isplitr; · ipureintro; exact harg18.read_unread _
    iexact HS
  isplitl [H10]
  · iexists _; isplitr; swap; · iexact H10
    ipureintro
    rw [View.read_writes_eq_canon _ _ _ (View.cover_of_tiledL _ S1x1024x512.size (by sl_kernel_rfl))]
    frame_out
  iexists _; isplitr; swap; · iexact H12
  ipureintro
  rw [View.read_writes_eq_canon _ _ _ (View.cover_of_tiledL _ S1x512x512.size (by sl_kernel_rfl))]
  frame_out

set_option maxHeartbeats 1000000 in
/-- Where the sixth branch runs without its tail: the product of the scratch and the tile is stored. -/
theorem run_H (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i) (x : Vec F S2048x512 .bf16) (u : Vec F S1024x2048 .bf16) (E : Set ℕ) (K : PUnit → sProp (MT nD τ sig Unit (Elt F) ℕ (UR sig nD τ) ℕ)) :
    iprop(owns (c : Thread nD τ) arg6 fullShare x ∗ owns (c : Thread nD τ) arg18 fullShare u ∗ (∃ d, owns (c : Thread nD τ) arg13 fullShare d)
        ∗ (iprop(owns (c : Thread nD τ) arg6 fullShare x ∗ owns (c : Thread nD τ) arg18 fullShare u ∗ owns (c : Thread nD τ) arg13 fullShare (k0_pay26 u x)) -∗ K ⟨⟩))
      ⊢ wp frame (wpE (defs₀ (F := F)) Variants.none c none) E (cc0_in_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_in_proj_eq_skeleton]; unfold cc0_in_proj_skel
  simp only [k0_part6_eq_skeleton, k0_part7_eq_skeleton, k0_part8_eq_skeleton]
  unfold owns
  iintro ⟨⟨%f0, %hf0, H0⟩, ⟨%fs, %hfs, HS⟩, ⟨%d10, %f10, -, H10⟩, Hk⟩
  obtain rfl := harg6.eq_unread hf0; obtain rfl := harg18.eq_unread hfs
  sl_exec (disch := first | sl_exact hc0 | sl_exact hc1 | sl_exact hc2 | sl_exact hc3 | sl_exact hc4 | sl_exact hc5 | sl_exact hc6 | sl_exact hc7)
  sl_step
  iapply Hk
  isplitl [H0]
  · iexists _; isplitr; · ipureintro; exact harg6.read_unread _
    iexact H0
  isplitl [HS]
  · iexists _; isplitr; · ipureintro; exact harg18.read_unread _
    iexact HS
  iexists _; isplitr; swap; · iexact H10
  ipureintro
  rw [View.read_writes_eq_canon _ _ _ (View.cover_of_tiledL _ S1x1024x512.size (by sl_kernel_rfl))]
  frame_out

end Cert.Kernel6Ideal.In

end
-- ==== Proof.InL.SoundFH.lean ====
/- The body at the points of the kinds run in `RunFH`. -/
module

public import proofs.«01_k».proof.Proof.InL.Data
public import proofs.«01_k».proof.Proof.InL.RunFH

@[expose] public section

set_option maxRecDepth 16384

noncomputable section

namespace Cert.Kernel6Ideal.In

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option maxHeartbeats 4000000 in
theorem sound_F (c : Dev nD) (t : Fin cfg0.N) (h : 8 ≤ t.val % 12 ∧ t.val % 12 ≤ 9 ∧ t.val / 12 % 4 = 3) :
    bodyPre m c t ⊢ wp frame (wpE (defs₀ (F := F)) Variants.none c none) Set.univ (bodyAt0 t) (fun _ => bodyPost m c t) := by
  unfold bodyPre
  rw [PhiS_castSucc m c t, PhiS_mid m c t _ (by omega)]
  unfold pre' bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, live_10 m c t ⟨h.1, h.2.1⟩, live_12 m c t h]
  iintro ⟨⟨HS, Hg⟩, Ho, ⟨%d0, H0⟩, ⟨%d1, H1⟩, ⟨%d2, H2⟩, ⟨%d3, H3⟩, ⟨%d4, H4⟩, ⟨%d5, H5⟩, H6, H7, H8, H9, ⟨%d10, H10⟩, H11, ⟨%d12, H12⟩, H13, H14⟩
  iapply (run_F c (grid0.coords t) _ _ _ _ _ _ _ _ _ _ _ _ _ _ _ _ _ _ _ _ _ _ _ _ _ _ _ _ _ _ _ _ (fun h => by have := (hcond0_0 t).mp h; omega) (fun h => by have := (hcond0_1 t).mp h; omega) (fun h => by have := (hcond0_2 t).mp h; omega) (fun h => by have := (hcond0_3 t).mp h; omega) (fun h => by have := (hcond0_4 t).mp h; omega) ((hcond0_5 t).mpr (by omega)) (fun h => by have := (hcond0_6 t).mp h; omega) ((hcond0_7 t).mpr h.2.2) (iblk m c 3 t) (uAt m c t) Set.univ _)
  isplitl [H3]; · iexact H3
  isplitl [HS]; · iexact HS
  isplitl [H10]; · iexists _; iexact H10
  isplitl [H12]; · iexists _; iexact H12
  iintro ⟨H3, HS, H10, H12⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (keep_6 m c t (by omega)); iexact H6
  isplitl [H7]; · iapply (keep_7 m c t (by omega)); iexact H7
  isplitl [H8]; · iapply (keep_8 m c t (by omega)); iexact H8
  isplitl [H9]; · iapply (keep_9 m c t (by omega)); iexact H9
  isplitl [H10]; · iexact H10
  isplitl [H11]; · iapply (keep_11 m c t (by omega)); iexact H11
  isplitl [H12]; · iexact H12
  isplitl [H13]; · iapply (keep_13 m c t (by omega)); iexact H13
  iapply (keep_14 m c t (by omega)); iexact H14

set_option maxHeartbeats 4000000 in
theorem sound_H (c : Dev nD) (t : Fin cfg0.N) (h : 8 ≤ t.val % 12 ∧ t.val % 12 ≤ 9 ∧ ¬(t.val / 12 % 4 = 3)) :
    bodyPre m c t ⊢ wp frame (wpE (defs₀ (F := F)) Variants.none c none) Set.univ (bodyAt0 t) (fun _ => bodyPost m c t) := by
  unfold bodyPre
  rw [PhiS_castSucc m c t, PhiS_mid m c t _ (by omega)]
  unfold pre' bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, live_10 m c t ⟨h.1, h.2.1⟩]
  iintro ⟨⟨HS, Hg⟩, Ho, ⟨%d0, H0⟩, ⟨%d1, H1⟩, ⟨%d2, H2⟩, ⟨%d3, H3⟩, ⟨%d4, H4⟩, ⟨%d5, H5⟩, H6, H7, H8, H9, ⟨%d10, H10⟩, H11, H12, H13, H14⟩
  iapply (run_H c (grid0.coords t) _ _ _ _ _ _ _ _ _ _ _ _ _ _ _ _ _ _ _ _ _ _ _ _ _ _ _ _ _ _ _ _ (fun h => by have := (hcond0_0 t).mp h; omega) (fun h => by have := (hcond0_1 t).mp h; omega) (fun h => by have := (hcond0_2 t).mp h; omega) (fun h => by have := (hcond0_3 t).mp h; omega) (fun h => by have := (hcond0_4 t).mp h; omega) ((hcond0_5 t).mpr (by omega)) (fun h => by have := (hcond0_6 t).mp h; omega) (fun h' => h.2.2 ((hcond0_7 t).mp h')) (iblk m c 3 t) (uAt m c t) Set.univ _)
  isplitl [H3]; · iexact H3
  isplitl [HS]; · iexact HS
  isplitl [H10]; · iexists _; iexact H10
  iintro ⟨H3, HS, H10⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (keep_6 m c t (by omega)); iexact H6
  isplitl [H7]; · iapply (keep_7 m c t (by omega)); iexact H7
  isplitl [H8]; · iapply (keep_8 m c t (by omega)); iexact H8
  isplitl [H9]; · iapply (keep_9 m c t (by omega)); iexact H9
  isplitl [H10]; · iexact H10
  isplitl [H11]; · iapply (keep_11 m c t (by omega)); iexact H11
  isplitl [H12]; · iapply (keep_12 m c t (by omega)); iexact H12
  isplitl [H13]; · iapply (keep_13 m c t (by omega)); iexact H13
  iapply (keep_14 m c t (by omega)); iexact H14

end Cert.Kernel6Ideal.In

end
-- ==== Proof.InL.RunGI.lean ====
/- The runs of the body at the points of two kinds. -/
module

public import proofs.«01_k».proof.Proof.InL.Base

@[expose] public section

set_option maxRecDepth 16384

noncomputable section

namespace Cert.Kernel6Ideal.In

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg3 : Memref sig .tc .vmem S1x1024x2048 .f32) (harg3 : arg3.IsWhole) (arg4 : Memref sig .tc .vmem S1x6x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S16x2048 .bf16) (harg7 : arg7.IsWhole) (arg8 : Memref sig .tc .vmem S8x1 .f32) (harg8 : arg8.IsWhole) (arg9 : Memref sig .tc .vmem S1x1024x512 .bf16) (harg9 : arg9.IsWhole) (arg10 : Memref sig .tc .vmem S1x1024x512 .f32) (harg10 : arg10.IsWhole) (arg11 : Memref sig .tc .vmem S1x1024x512 .f32) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x8x1024 .f32) (harg17 : arg17.IsWhole) (arg18 : Memref sig .tc .vmem S1024x2048 .bf16) (harg18 : arg18.IsWhole)

set_option maxHeartbeats 1000000 in
/-- Where the seventh branch runs and its tail: the product of the scratch and the tile is stored. -/
theorem run_G (hc0 : ¬cond0_0 i) (hc1 : ¬cond0_1 i) (hc2 : ¬cond0_2 i) (hc3 : ¬cond0_3 i) (hc4 : ¬cond0_4 i) (hc5 : ¬cond0_5 i) (hc6 : cond0_6 i) (hc8 : cond0_8 i) (x : Vec F S2048x512 .bf16) (u : Vec F S1024x2048 .bf16) (E : Set ℕ) (K : PUnit → sProp (MT nD τ sig Unit (Elt F) ℕ (UR sig nD τ) ℕ)) :
    iprop(owns (c : Thread nD τ) arg6 fullShare x ∗ owns (c : Thread nD τ) arg18 fullShare u ∗ (∃ d, owns (c : Thread nD τ) arg14 fullShare d) ∗ (∃ d, owns (c : Thread nD τ) arg16 fullShare d)
        ∗ (iprop(owns (c : Thread nD τ) arg6 fullShare x ∗ owns (c : Thread nD τ) arg18 fullShare u ∗ owns (c : Thread nD τ) arg14 fullShare (k0_pay2 u x) ∗ owns (c : Thread nD τ) arg16 fullShare (k0_pay3 u x)) -∗ K ⟨⟩))
      ⊢ wp frame (wpE (defs₀ (F := F)) Variants.none c none) E (cc0_in_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_in_proj_eq_skeleton]; unfold cc0_in_proj_skel
  simp only [k0_part6_eq_skeleton, k0_part7_eq_skeleton, k0_part8_eq_skeleton]
  unfold owns
  iintro ⟨⟨%f0, %hf0, H0⟩, ⟨%fs, %hfs, HS⟩, ⟨%d11, %f11, -, H11⟩, ⟨%d13, %f13, -, H13⟩, Hk⟩
  obtain rfl := harg6.eq_unread hf0; obtain rfl := harg18.eq_unread hfs
  sl_exec (disch := first | sl_exact hc0 | sl_exact hc1 | sl_exact hc2 | sl_exact hc3 | sl_exact hc4 | sl_exact hc5 | sl_exact hc6 | sl_exact hc8)
  sl_step
  iapply Hk
  isplitl [H0]
  · iexists _; isplitr; · ipureintro; exact harg6.read_unread _
    iexact H0
  isplitl [HS]
  · iexists _; isplitr; · ipureintro; exact harg18.read_unread _
    iexact HS
  isplitl [H11]
  · iexists _; isplitr; swap; · iexact H11
    ipureintro
    rw [View.read_writes_eq_canon _ _ _ (View.cover_of_tiledL _ S1x1024x512.size (by sl_kernel_rfl))]
    frame_out
  iexists _; isplitr; swap; · iexact H13
  ipureintro
  rw [View.read_writes_eq_canon _ _ _ (View.cover_of_tiledL _ S1x512x512.size (by sl_kernel_rfl))]
  frame_out

set_option maxHeartbeats 1000000 in
/-- Where the seventh branch runs without its tail: the product of the scratch and the tile is stored. -/
theorem run_I (hc0 : ¬cond0_0 i) (hc1 : ¬cond0_1 i) (hc2 : ¬cond0_2 i) (hc3 : ¬cond0_3 i) (hc4 : ¬cond0_4 i) (hc5 : ¬cond0_5 i) (hc6 : cond0_6 i) (hc8 : ¬cond0_8 i) (x : Vec F S2048x512 .bf16) (u : Vec F S1024x2048 .bf16) (E : Set ℕ) (K : PUnit → sProp (MT nD τ sig Unit (Elt F) ℕ (UR sig nD τ) ℕ)) :
    iprop(owns (c : Thread nD τ) arg6 fullShare x ∗ owns (c : Thread nD τ) arg18 fullShare u ∗ (∃ d, owns (c : Thread nD τ) arg14 fullShare d)
        ∗ (iprop(owns (c : Thread nD τ) arg6 fullShare x ∗ owns (c : Thread nD τ) arg18 fullShare u ∗ owns (c : Thread nD τ) arg14 fullShare (k0_pay2 u x)) -∗ K ⟨⟩))
      ⊢ wp frame (wpE (defs₀ (F := F)) Variants.none c none) E (cc0_in_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_in_proj_eq_skeleton]; unfold cc0_in_proj_skel
  simp only [k0_part6_eq_skeleton, k0_part7_eq_skeleton, k0_part8_eq_skeleton]
  unfold owns
  iintro ⟨⟨%f0, %hf0, H0⟩, ⟨%fs, %hfs, HS⟩, ⟨%d11, %f11, -, H11⟩, Hk⟩
  obtain rfl := harg6.eq_unread hf0; obtain rfl := harg18.eq_unread hfs
  sl_exec (disch := first | sl_exact hc0 | sl_exact hc1 | sl_exact hc2 | sl_exact hc3 | sl_exact hc4 | sl_exact hc5 | sl_exact hc6 | sl_exact hc8)
  sl_step
  iapply Hk
  isplitl [H0]
  · iexists _; isplitr; · ipureintro; exact harg6.read_unread _
    iexact H0
  isplitl [HS]
  · iexists _; isplitr; · ipureintro; exact harg18.read_unread _
    iexact HS
  iexists _; isplitr; swap; · iexact H11
  ipureintro
  rw [View.read_writes_eq_canon _ _ _ (View.cover_of_tiledL _ S1x1024x512.size (by sl_kernel_rfl))]
  frame_out

end Cert.Kernel6Ideal.In

end
-- ==== Proof.InL.SoundGI.lean ====
/- The body at the points of the kinds run in `RunGI`. -/
module

public import proofs.«01_k».proof.Proof.InL.Data
public import proofs.«01_k».proof.Proof.InL.RunGI

@[expose] public section

set_option maxRecDepth 16384

noncomputable section

namespace Cert.Kernel6Ideal.In

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option maxHeartbeats 4000000 in
theorem sound_G (c : Dev nD) (t : Fin cfg0.N) (h : 10 ≤ t.val % 12 ∧ t.val % 12 ≤ 11 ∧ t.val / 12 % 4 = 3) :
    bodyPre m c t ⊢ wp frame (wpE (defs₀ (F := F)) Variants.none c none) Set.univ (bodyAt0 t) (fun _ => bodyPost m c t) := by
  unfold bodyPre
  rw [PhiS_castSucc m c t, PhiS_mid m c t _ (by omega)]
  unfold pre' bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, live_11 m c t ⟨h.1, h.2.1⟩, live_13 m c t h]
  iintro ⟨⟨HS, Hg⟩, Ho, ⟨%d0, H0⟩, ⟨%d1, H1⟩, ⟨%d2, H2⟩, ⟨%d3, H3⟩, ⟨%d4, H4⟩, ⟨%d5, H5⟩, H6, H7, H8, H9, H10, ⟨%d11, H11⟩, H12, ⟨%d13, H13⟩, H14⟩
  iapply (run_G c (grid0.coords t) _ _ _ _ _ _ _ _ _ _ _ _ _ _ _ _ _ _ _ _ _ _ _ _ _ _ _ _ _ _ _ _ (fun h => by have := (hcond0_0 t).mp h; omega) (fun h => by have := (hcond0_1 t).mp h; omega) (fun h => by have := (hcond0_2 t).mp h; omega) (fun h => by have := (hcond0_3 t).mp h; omega) (fun h => by have := (hcond0_4 t).mp h; omega) (fun h => by have := (hcond0_5 t).mp h; omega) ((hcond0_6 t).mpr (by omega)) ((hcond0_8 t).mpr h.2.2) (iblk m c 3 t) (uAt m c t) Set.univ _)
  isplitl [H3]; · iexact H3
  isplitl [HS]; · iexact HS
  isplitl [H11]; · iexists _; iexact H11
  isplitl [H13]; · iexists _; iexact H13
  iintro ⟨H3, HS, H11, H13⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (keep_6 m c t (by omega)); iexact H6
  isplitl [H7]; · iapply (keep_7 m c t (by omega)); iexact H7
  isplitl [H8]; · iapply (keep_8 m c t (by omega)); iexact H8
  isplitl [H9]; · iapply (keep_9 m c t (by omega)); iexact H9
  isplitl [H10]; · iapply (keep_10 m c t (by omega)); iexact H10
  isplitl [H11]; · iexact H11
  isplitl [H12]; · iapply (keep_12 m c t (by omega)); iexact H12
  isplitl [H13]; · iexact H13
  iapply (keep_14 m c t (by omega)); iexact H14

set_option maxHeartbeats 4000000 in
theorem sound_I (c : Dev nD) (t : Fin cfg0.N) (h : 10 ≤ t.val % 12 ∧ t.val % 12 ≤ 11 ∧ ¬(t.val / 12 % 4 = 3)) :
    bodyPre m c t ⊢ wp frame (wpE (defs₀ (F := F)) Variants.none c none) Set.univ (bodyAt0 t) (fun _ => bodyPost m c t) := by
  unfold bodyPre
  rw [PhiS_castSucc m c t, PhiS_mid m c t _ (by omega)]
  unfold pre' bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, live_11 m c t ⟨h.1, h.2.1⟩]
  iintro ⟨⟨HS, Hg⟩, Ho, ⟨%d0, H0⟩, ⟨%d1, H1⟩, ⟨%d2, H2⟩, ⟨%d3, H3⟩, ⟨%d4, H4⟩, ⟨%d5, H5⟩, H6, H7, H8, H9, H10, ⟨%d11, H11⟩, H12, H13, H14⟩
  iapply (run_I c (grid0.coords t) _ _ _ _ _ _ _ _ _ _ _ _ _ _ _ _ _ _ _ _ _ _ _ _ _ _ _ _ _ _ _ _ (fun h => by have := (hcond0_0 t).mp h; omega) (fun h => by have := (hcond0_1 t).mp h; omega) (fun h => by have := (hcond0_2 t).mp h; omega) (fun h => by have := (hcond0_3 t).mp h; omega) (fun h => by have := (hcond0_4 t).mp h; omega) (fun h => by have := (hcond0_5 t).mp h; omega) ((hcond0_6 t).mpr (by omega)) (fun h' => h.2.2 ((hcond0_8 t).mp h')) (iblk m c 3 t) (uAt m c t) Set.univ _)
  isplitl [H3]; · iexact H3
  isplitl [HS]; · iexact HS
  isplitl [H11]; · iexists _; iexact H11
  iintro ⟨H3, HS, H11⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (keep_6 m c t (by omega)); iexact H6
  isplitl [H7]; · iapply (keep_7 m c t (by omega)); iexact H7
  isplitl [H8]; · iapply (keep_8 m c t (by omega)); iexact H8
  isplitl [H9]; · iapply (keep_9 m c t (by omega)); iexact H9
  isplitl [H10]; · iapply (keep_10 m c t (by omega)); iexact H10
  isplitl [H11]; · iexact H11
  isplitl [H12]; · iapply (keep_12 m c t (by omega)); iexact H12
  isplitl [H13]; · iapply (keep_13 m c t (by omega)); iexact H13
  iapply (keep_14 m c t (by omega)); iexact H14

end Cert.Kernel6Ideal.In

end
-- ==== Proof.InL.Frame.lean ====
/- The frame of the kernel: it ends, its arguments unchanged and its outputs at what the proof data computes. -/
module

public import proofs.«01_k».proof.Proof.InL.SoundA
public import proofs.«01_k».proof.Proof.InL.SoundBC
public import proofs.«01_k».proof.Proof.InL.SoundDE
public import proofs.«01_k».proof.Proof.InL.SoundFH
public import proofs.«01_k».proof.Proof.InL.SoundGI
public import Idealize.ShloMosaic.Lib.Claim

@[expose] public section

set_option maxRecDepth 16384

noncomputable section

namespace Cert.Kernel6Ideal.In

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases h0 : t.val % 12 = 0
  · exact sound_A m c t h0
  by_cases h1 : t.val % 12 = 1
  · exact sound_B m c t h1
  by_cases h2 : t.val % 12 ≤ 3
  · exact sound_C m c t ⟨by omega, h2⟩
  by_cases h3 : t.val % 12 ≤ 5
  · exact sound_D m c t ⟨by omega, h3⟩
  by_cases h4 : t.val % 12 ≤ 7
  · exact sound_E m c t ⟨by omega, h4⟩
  by_cases h5 : t.val % 12 ≤ 9
  · by_cases h6 : t.val / 12 % 4 = 3
    · exact sound_F m c t ⟨by omega, h5, h6⟩
    · exact sound_H m c t ⟨by omega, h5, h6⟩
  by_cases h6 : t.val / 12 % 4 = 3
  · exact sound_G m c t ⟨by omega, by omega, h6⟩
  · exact sound_I m c t ⟨by omega, by omega, h6⟩

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [PhiA0_eq]; exact PhiS_any m c cfg0.N _

set_option backward.isDefEq.respectTransparency.types false in
/-- The run, every counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: every array at what the proof data computes. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel6Ideal.In

end
-- ==== Proof.InL.Point.lean ====
module

public import proofs.«01_k».proof.Proof.InL.Frame
public import proofs.«01_k».proof.Proof.Norm
public import Idealize.ShloMosaic.Lib.Pipeline.ReadBack

@[expose] public section

set_option maxRecDepth 16384

noncomputable section

namespace Cert.Kernel6Ideal.In

open Cert.Kernel6Ideal Cert.Kernel6Ideal.Gen Idealize.ShloMosaic Idealize.ShloMosaic.TcCoe Idealize.SL.Sem
open Cert.Layer

variable (X0 : Vec Ideal S1x1024x2048 .f32) (X1 : Vec Ideal S1x6x2048 .f32) (X : Vec Ideal S2048x512 .bf16) (U : Vec Ideal S1024x2048 .bf16)

/-- Row `r` of the modulated norm of a block. -/
def bu (r : Fin 1024) (d : Fin 2048) : EReal := modRow (fun d => X0 (ix3 0 r d)) (fun d => X1 (ix3 0 1 d)) (fun d => X1 (ix3 0 0 d)) d

/-- One element of the product of a row and a tile of weights. -/
def tp (u : Fin 2048 → EReal) (k : Fin 512) : EReal := ∑ e, u e * X (ix2 e k)

/-- The queries' scale. -/
def qs : EReal := Ideal.ofBits FTy.f32 0x3E0293EE#32

/-- The logarithm of the sigmoid, as `-(max (-z) 0 + log (1 + exp (-|-z|)))`. -/
def lsig (z : EReal) : EReal := -(max (-z) 0 + Ideal.log1p (Ideal.exp (-(FloatOps.absf (F := Ideal) (φ := .f32) (-z)))))

set_option maxHeartbeats 4000000 in
/-- The modulated norm kept in the scratch. -/
theorem uAll_eq (y : S1024x2048.Idx) : uAll X0 X1 y = bu X0 X1 (y 0) (y 1) := by
  unfold uAll uPieces
  canon_tiles x h
  case piece0 =>
    rw [show y 0 = ⟨768 + (x 0).val, by omega⟩ from Fin.ext h0, show y 1 = x 1 from Fin.ext h1]
    idx_vars x
    pointwise [k0_pay4, k0_pay5, k0_pay8, k0_pay9, k0_pay12, k0_pay13, k0_pay15, k0_pay16, k0_pay17, sc, sf, bu, modRow, lnorm, mean, variance]
  case piece1 =>
    rw [show y 0 = ⟨512 + (x 0).val, by omega⟩ from Fin.ext h0, show y 1 = x 1 from Fin.ext h1]
    idx_vars x
    pointwise [k0_pay4, k0_pay5, k0_pay8, k0_pay9, k0_pay12, k0_pay13, k0_pay15, k0_pay16, k0_pay17, sc, sf, bu, modRow, lnorm, mean, variance]
  case piece2 =>
    rw [show y 0 = ⟨256 + (x 0).val, by omega⟩ from Fin.ext h0, show y 1 = x 1 from Fin.ext h1]
    idx_vars x
    pointwise [k0_pay4, k0_pay5, k0_pay8, k0_pay9, k0_pay12, k0_pay13, k0_pay15, k0_pay16, k0_pay17, sc, sf, bu, modRow, lnorm, mean, variance]
  case piece3 =>
    rw [show y 0 = ⟨(x 0).val, by omega⟩ from Fin.ext h0, show y 1 = x 1 from Fin.ext h1]
    idx_vars x
    pointwise [k0_pay4, k0_pay5, k0_pay8, k0_pay9, k0_pay12, k0_pay13, k0_pay15, k0_pay16, k0_pay17, sc, sf, bu, modRow, lnorm, mean, variance]

set_option maxHeartbeats 4000000 in
/-- The first query tile. -/
theorem qFirst_eq (y : S1x1024x512.Idx) : qFirst X0 X1 X y = tp X (bu X0 X1 (y 1)) (y 2) * qs := by
  unfold qFirst qPieces
  canon_tiles x h
  case piece0 =>
    rw [show y 1 = ⟨768 + (x 1).val, by omega⟩ from Fin.ext h1, show y 2 = x 2 from Fin.ext h2]
    idx_vars x
    pointwise [k0_pay6, k0_pay7, k0_pay10, k0_pay11, k0_pay14, k0_pay18, tp, qs, k0_pay4, k0_pay5, k0_pay8, k0_pay9, k0_pay12, k0_pay13, k0_pay15, k0_pay16, k0_pay17, sc, sf, bu, modRow, lnorm, mean, variance]
  case piece1 =>
    rw [show y 1 = ⟨512 + (x 1).val, by omega⟩ from Fin.ext h1, show y 2 = x 2 from Fin.ext h2]
    idx_vars x
    pointwise [k0_pay6, k0_pay7, k0_pay10, k0_pay11, k0_pay14, k0_pay18, tp, qs, k0_pay4, k0_pay5, k0_pay8, k0_pay9, k0_pay12, k0_pay13, k0_pay15, k0_pay16, k0_pay17, sc, sf, bu, modRow, lnorm, mean, variance]
  case piece2 =>
    rw [show y 1 = ⟨256 + (x 1).val, by omega⟩ from Fin.ext h1, show y 2 = x 2 from Fin.ext h2]
    idx_vars x
    pointwise [k0_pay6, k0_pay7, k0_pay10, k0_pay11, k0_pay14, k0_pay18, tp, qs, k0_pay4, k0_pay5, k0_pay8, k0_pay9, k0_pay12, k0_pay13, k0_pay15, k0_pay16, k0_pay17, sc, sf, bu, modRow, lnorm, mean, variance]
  case piece3 =>
    rw [show y 1 = ⟨(x 1).val, by omega⟩ from Fin.ext h1, show y 2 = x 2 from Fin.ext h2]
    idx_vars x
    pointwise [k0_pay6, k0_pay7, k0_pay10, k0_pay11, k0_pay14, k0_pay18, tp, qs, k0_pay4, k0_pay5, k0_pay8, k0_pay9, k0_pay12, k0_pay13, k0_pay15, k0_pay16, k0_pay17, sc, sf, bu, modRow, lnorm, mean, variance]

theorem pay21 (y : S1x1024x512.Idx) : (k0_pay21 U X y : EReal) = tp X (fun e => U (ix2 (y 1) e)) (y 2) * qs := by
  idx_vars y
  pointwise [k0_pay21, tp, qs]

theorem pay22 (y : S1x1024x512.Idx) : (k0_pay22 U X y : EReal) = tp X (fun e => U (ix2 (y 1) e)) (y 2) := by
  idx_vars y
  pointwise [k0_pay22, tp, qs]

theorem pay23 (y : S1x1024x512.Idx) : (k0_pay23 U X y : EReal) = tp X (fun e => U (ix2 (y 1) e)) (y 2) := by
  idx_vars y
  pointwise [k0_pay23, tp, qs]

theorem pay24 (y : S1x1024x512.Idx) : (k0_pay24 U X y : EReal) = tp X (fun e => U (ix2 (y 1) e)) (y 2) * qs := by
  idx_vars y
  pointwise [k0_pay24, tp, qs]

theorem pay26 (y : S1x1024x512.Idx) : (k0_pay26 U X y : EReal) = tp X (fun e => U (ix2 (y 1) e)) (y 2) := by
  idx_vars y
  pointwise [k0_pay25, k0_pay26, tp, qs]

theorem pay2 (y : S1x1024x512.Idx) : (k0_pay2 U X y : EReal) = tp X (fun e => U (ix2 (y 1) e)) (y 2) := by
  idx_vars y
  pointwise [k0_pay1, k0_pay2, tp, qs]

theorem pay27 (y : S1x512x512.Idx) : (k0_pay27 U X y : EReal) = tp X (fun e => U (ix2 ⟨512 + (y 1).val, Nat.add_lt_add_left (y 1).isLt 512⟩ e)) (y 2) := by
  idx_vars y
  pointwise [k0_pay25, k0_pay27, tp]

theorem pay3 (y : S1x512x512.Idx) : (k0_pay3 U X y : EReal) = tp X (fun e => U (ix2 ⟨512 + (y 1).val, Nat.add_lt_add_left (y 1).isLt 512⟩ e)) (y 2) := by
  idx_vars y
  pointwise [k0_pay1, k0_pay3, tp]

theorem gates_eq (W : Vec Ideal S16x2048 .bf16) (B : Vec Ideal S8x1 .f32) (y : S1x8x1024.Idx) :
    (gates W U B y : EReal) = lsig ((∑ e, W (ix2 ⟨(y 1).val, lt_of_lt_of_le (y 1).isLt (by decide)⟩ e) * U (ix2 (y 2) e)) + B (ix2 (y 1) 0)) := by
  idx_vars y
  pointwise [gates, k0_pay19, k0_pay20]
  simp only [ne_eq, not_true, if_false, lsig, zero_sub]

end Cert.Kernel6Ideal.In

end
-- ==== Proof.InL.Spec.lean ====
module

public import proofs.«01_k».proof.Proof.InL.Point

@[expose] public section

set_option maxRecDepth 16384

noncomputable section

namespace Cert.Kernel6Ideal.In

open Cert.Kernel6Ideal Cert.Kernel6Ideal.Gen Idealize.ShloMosaic Idealize.ShloMosaic.TcCoe Idealize.SL.Sem
open Idealize.ShloMosaic.Pipeline (Dat)
open Cert.Layer

section Args
variable (a0 : S8x4096x2048.Idx → EReal) (a1 : S8x12288.Idx → EReal) (a2 : S2048x6152.Idx → EReal) (a3 : S8.Idx → EReal)

/-- The modulated norm of one row of the input. -/
def urow (b : Fin 8) (s : Fin 4096) : Fin 2048 → EReal :=
  modRow (fun d => a0 (ix3 b s d)) (fun d => a1 (ix2 b ⟨2048 + d.val, by omega⟩)) (fun d => a1 (ix2 b ⟨d.val, by omega⟩))

/-- One element of the projection. -/
def proj (b : Fin 8) (s : Fin 4096) (j : Fin 6152) : EReal := ∑ e, urow a0 a1 b s e * a2 (ix2 e j)

/-- Result 0 at index `i`, from the arguments. -/
def o6 (i : S8x4096x1024.Idx) : EReal := proj a0 a1 a2 (i 0) (i 1) ⟨0 + (i 2).val, lt_of_lt_of_le (Nat.add_lt_add_left (i 2).isLt 0) (by decide)⟩ * qs

/-- Result 1 at index `i`, from the arguments. -/
def o7 (i : S8x4096x1024.Idx) : EReal := proj a0 a1 a2 (i 0) (i 1) ⟨1024 + (i 2).val, lt_of_lt_of_le (Nat.add_lt_add_left (i 2).isLt 1024) (by decide)⟩

/-- Result 2 at index `i`, from the arguments. -/
def o8 (i : S8x4096x1024.Idx) : EReal := proj a0 a1 a2 (i 0) (i 1) ⟨2048 + (i 2).val, lt_of_lt_of_le (Nat.add_lt_add_left (i 2).isLt 2048) (by decide)⟩

/-- Result 3 at index `i`, from the arguments. -/
def o9 (i : S8x4096x1024.Idx) : EReal := proj a0 a1 a2 (i 0) (i 1) ⟨3080 + (i 2).val, lt_of_lt_of_le (Nat.add_lt_add_left (i 2).isLt 3080) (by decide)⟩ * qs

/-- Result 4 at index `i`, from the arguments. -/
def o10 (i : S8x4096x1024.Idx) : EReal := proj a0 a1 a2 (i 0) (i 1) ⟨4104 + (i 2).val, lt_of_lt_of_le (Nat.add_lt_add_left (i 2).isLt 4104) (by decide)⟩

/-- Result 5 at index `i`, from the arguments. -/
def o11 (i : S8x4096x1024.Idx) : EReal := proj a0 a1 a2 (i 0) (i 1) ⟨5128 + (i 2).val, lt_of_lt_of_le (Nat.add_lt_add_left (i 2).isLt 5128) (by decide)⟩

/-- Result 6 at index `i`, from the arguments. -/
def o12 (i : S8x512x1024.Idx) : EReal := proj a0 a1 a2 (i 0) ⟨3584 + (i 1).val, Nat.add_lt_add_left (i 1).isLt 3584⟩ ⟨4104 + (i 2).val, lt_of_lt_of_le (Nat.add_lt_add_left (i 2).isLt 4104) (by decide)⟩

/-- Result 7 at index `i`, from the arguments. -/
def o13 (i : S8x512x1024.Idx) : EReal := proj a0 a1 a2 (i 0) ⟨3584 + (i 1).val, Nat.add_lt_add_left (i 1).isLt 3584⟩ ⟨5128 + (i 2).val, lt_of_lt_of_le (Nat.add_lt_add_left (i 2).isLt 5128) (by decide)⟩

/-- The gates' logarithms at index `i`, from the arguments. -/
def o14 (i : S8x8x4096.Idx) : EReal :=
  lsig (proj a0 a1 a2 (i 0) (i 2) ⟨3072 + (i 1).val, lt_of_lt_of_le (Nat.add_lt_add_left (i 1).isLt 3072) (by decide)⟩ + a3 (ix1 (i 1)))
end Args

variable (m : (ℓ : Loc nD τ sig) → Buf (Elt Ideal) ℓ)

/-- Argument arrays of device `c`. -/
abbrev A0 (c : Dev nD) : S8x4096x2048.Idx → EReal := m ((c.tc : Thread nD τ).loc main_arg0)
/-- The modulation. -/
abbrev A1' (c : Dev nD) : S8x12288.Idx → EReal := m ((c.tc : Thread nD τ).loc main_arg1)
/-- The projection's weights. -/
abbrev A2' (c : Dev nD) : S2048x6152.Idx → EReal := m ((c.tc : Thread nD τ).loc main_arg2)
/-- The gates' biases. -/
abbrev A3 (c : Dev nD) : S8.Idx → EReal := m ((c.tc : Thread nD τ).loc main_arg3)

theorem bt (t : Fin cfg0.N) : t.val / 48 < 8 := by have hN : cfg0.N = 384 := N_0; have := t.isLt; omega
theorem rt (t : Fin cfg0.N) (r : Fin 1024) : 1024 * (t.val / 12 % 4) + r.val < 4096 := by omega

/-- The modulated norm of row `r` of the row block of point `t`. -/
abbrev ut (c : Dev nD) (t : Fin cfg0.N) (r : Fin 1024) : Fin 2048 → EReal := urow (A0 m c) (A1' m c) ⟨t.val / 48, bt t⟩ ⟨1024 * (t.val / 12 % 4) + r.val, rt t r⟩

/-- Result 0 at device `c`'s arguments. -/
abbrev r6 (c : Dev nD) : S8x4096x1024.Idx → EReal := o6 (A0 m c) (A1' m c) (A2' m c)
/-- Result 1 at device `c`'s arguments. -/
abbrev r7 (c : Dev nD) : S8x4096x1024.Idx → EReal := o7 (A0 m c) (A1' m c) (A2' m c)
/-- Result 2 at device `c`'s arguments. -/
abbrev r8 (c : Dev nD) : S8x4096x1024.Idx → EReal := o8 (A0 m c) (A1' m c) (A2' m c)
/-- Result 3 at device `c`'s arguments. -/
abbrev r9 (c : Dev nD) : S8x4096x1024.Idx → EReal := o9 (A0 m c) (A1' m c) (A2' m c)
/-- Result 4 at device `c`'s arguments. -/
abbrev r10 (c : Dev nD) : S8x4096x1024.Idx → EReal := o10 (A0 m c) (A1' m c) (A2' m c)
/-- Result 5 at device `c`'s arguments. -/
abbrev r11 (c : Dev nD) : S8x4096x1024.Idx → EReal := o11 (A0 m c) (A1' m c) (A2' m c)
/-- Result 6 at device `c`'s arguments. -/
abbrev r12 (c : Dev nD) : S8x512x1024.Idx → EReal := o12 (A0 m c) (A1' m c) (A2' m c)
/-- Result 7 at device `c`'s arguments. -/
abbrev r13 (c : Dev nD) : S8x512x1024.Idx → EReal := o13 (A0 m c) (A1' m c) (A2' m c)
/-- Result 8 at device `c`'s arguments. -/
abbrev r14 (c : Dev nD) : S8x8x4096.Idx → EReal := o14 (A0 m c) (A1' m c) (A2' m c) (A3 m c)

end Cert.Kernel6Ideal.In

end
-- ==== Proof.InL.Ref.lean ====
module

public import proofs.«01_k».proof.Proof.Gen.Reference6Ideal.Read
public import proofs.«01_k».proof.Proof.InL.Spec

@[expose] public section

set_option maxRecDepth 16384

noncomputable section

namespace Cert.Reference6Ideal.In

open Cert.Reference6Ideal Cert.Reference6Ideal.Gen Cert.Reference6Ideal.Read Idealize.ShloMosaic Idealize.ShloMosaic.TcCoe Idealize.SL.Sem
open Cert.Layer

variable (x0 : (⟨S8x4096x2048, .f32⟩ : BufTy).Contents (Elt Ideal)) (x1 : (⟨S8x12288, .f32⟩ : BufTy).Contents (Elt Ideal))
    (x2 : (⟨S2048x6152, .f32⟩ : BufTy).Contents (Elt Ideal)) (x3 : (⟨S8, .f32⟩ : BufTy).Contents (Elt Ideal))

/-- The reference's projection, at an index. -/
theorem ref_proj (i : S8x4096x6152.Idx) : (val_main_v36 (F := Ideal) x0 x1 x2 i : EReal) = Cert.Kernel6Ideal.In.proj x0 x1 x2 (i 0) (i 1) (i 2) := by
  idx_vars i
  pointwise [val_main_v0, val_main_v1, val_main_v2, val_main_v3, val_main_v4, val_main_v5, val_main_v6, val_main_v7, val_main_v8, val_main_v9, val_main_v10, val_main_v11, val_main_cst, val_main_v12, val_main_v13, val_main_cst_0, val_main_v14, val_main_v15, val_main_v16, val_main_v17, val_main_v18, val_main_cst_1, val_main_v19, val_main_v20, val_main_cst_2, val_main_v21, val_main_v22, val_main_v23, val_main_v24, val_main_cst_3, val_main_v25, val_main_v26, val_main_v27, val_main_v28, val_main_v29, val_main_cst_4, val_main_v30, val_main_v31, val_main_v32, val_main_v33, val_main_v34, val_main_v35, val_main_v36,
    Cert.Kernel6Ideal.In.proj, Cert.Kernel6Ideal.In.urow, modRow, lnorm, mean, variance]

/-- The reference's result 0 is the kernel's, as a function of the arguments. -/
theorem ref6 : val_main_v50 (F := Ideal) x0 x1 x2 = Cert.Kernel6Ideal.In.o6 x0 x1 x2 := by
  funext i
  have h : (val_main_v37 (F := Ideal) x0 x1 x2 i : EReal) = Cert.Kernel6Ideal.In.proj x0 x1 x2 (i 0) (i 1) ⟨0 + (i 2).val, lt_of_lt_of_le (Nat.add_lt_add_left (i 2).isLt 0) (by decide)⟩ := by
    refine (val_main_v37_apply x0 x1 x2 i).trans ((ref_proj x0 x1 x2 _).trans (congrArg (Cert.Kernel6Ideal.In.proj x0 x1 x2 (i 0) (i 1)) (Fin.ext ?_)))
    show (i 2).val = 0 + (i 2).val; omega
  exact congrArg (· * Cert.Kernel6Ideal.In.qs) h

/-- The reference's result 1 is the kernel's, as a function of the arguments. -/
theorem ref7 : val_main_v38 (F := Ideal) x0 x1 x2 = Cert.Kernel6Ideal.In.o7 x0 x1 x2 := by
  funext i
  have h : (val_main_v38 (F := Ideal) x0 x1 x2 i : EReal) = Cert.Kernel6Ideal.In.proj x0 x1 x2 (i 0) (i 1) ⟨1024 + (i 2).val, lt_of_lt_of_le (Nat.add_lt_add_left (i 2).isLt 1024) (by decide)⟩ := by
    refine (val_main_v38_apply x0 x1 x2 i).trans ((ref_proj x0 x1 x2 _).trans (congrArg (Cert.Kernel6Ideal.In.proj x0 x1 x2 (i 0) (i 1)) (Fin.ext ?_)))
    rfl
  exact h

/-- The reference's result 2 is the kernel's, as a function of the arguments. -/
theorem ref8 : val_main_v39 (F := Ideal) x0 x1 x2 = Cert.Kernel6Ideal.In.o8 x0 x1 x2 := by
  funext i
  have h : (val_main_v39 (F := Ideal) x0 x1 x2 i : EReal) = Cert.Kernel6Ideal.In.proj x0 x1 x2 (i 0) (i 1) ⟨2048 + (i 2).val, lt_of_lt_of_le (Nat.add_lt_add_left (i 2).isLt 2048) (by decide)⟩ := by
    refine (val_main_v39_apply x0 x1 x2 i).trans ((ref_proj x0 x1 x2 _).trans (congrArg (Cert.Kernel6Ideal.In.proj x0 x1 x2 (i 0) (i 1)) (Fin.ext ?_)))
    rfl
  exact h

/-- The reference's result 3 is the kernel's, as a function of the arguments. -/
theorem ref9 : val_main_v53 (F := Ideal) x0 x1 x2 = Cert.Kernel6Ideal.In.o9 x0 x1 x2 := by
  funext i
  have h : (val_main_v41 (F := Ideal) x0 x1 x2 i : EReal) = Cert.Kernel6Ideal.In.proj x0 x1 x2 (i 0) (i 1) ⟨3080 + (i 2).val, lt_of_lt_of_le (Nat.add_lt_add_left (i 2).isLt 3080) (by decide)⟩ := by
    refine (val_main_v41_apply x0 x1 x2 i).trans ((ref_proj x0 x1 x2 _).trans (congrArg (Cert.Kernel6Ideal.In.proj x0 x1 x2 (i 0) (i 1)) (Fin.ext ?_)))
    rfl
  exact congrArg (· * Cert.Kernel6Ideal.In.qs) h

/-- The reference's result 4 is the kernel's, as a function of the arguments. -/
theorem ref10 : val_main_v54 (F := Ideal) x0 x1 x2 = Cert.Kernel6Ideal.In.o10 x0 x1 x2 := by
  funext i
  have h : (val_main_v42 (F := Ideal) x0 x1 x2 i : EReal) = Cert.Kernel6Ideal.In.proj x0 x1 x2 (i 0) (i 1) ⟨4104 + (i 2).val, lt_of_lt_of_le (Nat.add_lt_add_left (i 2).isLt 4104) (by decide)⟩ := by
    refine (val_main_v42_apply x0 x1 x2 i).trans ((ref_proj x0 x1 x2 _).trans (congrArg (Cert.Kernel6Ideal.In.proj x0 x1 x2 (i 0) (i 1)) (Fin.ext ?_)))
    rfl
  exact h

/-- The reference's result 5 is the kernel's, as a function of the arguments. -/
theorem ref11 : val_main_v55 (F := Ideal) x0 x1 x2 = Cert.Kernel6Ideal.In.o11 x0 x1 x2 := by
  funext i
  have h : (val_main_v43 (F := Ideal) x0 x1 x2 i : EReal) = Cert.Kernel6Ideal.In.proj x0 x1 x2 (i 0) (i 1) ⟨5128 + (i 2).val, lt_of_lt_of_le (Nat.add_lt_add_left (i 2).isLt 5128) (by decide)⟩ := by
    refine (val_main_v43_apply x0 x1 x2 i).trans ((ref_proj x0 x1 x2 _).trans (congrArg (Cert.Kernel6Ideal.In.proj x0 x1 x2 (i 0) (i 1)) (Fin.ext ?_)))
    rfl
  exact h

/-- The reference's result 6 is the kernel's, as a function of the arguments. -/
theorem ref12 : val_main_v56 (F := Ideal) x0 x1 x2 = Cert.Kernel6Ideal.In.o12 x0 x1 x2 := by
  funext i
  exact (val_main_v56_apply x0 x1 x2 i).trans ((val_main_v42_apply x0 x1 x2 _).trans (ref_proj x0 x1 x2 _))

/-- The reference's result 7 is the kernel's, as a function of the arguments. -/
theorem ref13 : val_main_v57 (F := Ideal) x0 x1 x2 = Cert.Kernel6Ideal.In.o13 x0 x1 x2 := by
  funext i
  exact (val_main_v57_apply x0 x1 x2 i).trans ((val_main_v43_apply x0 x1 x2 _).trans (ref_proj x0 x1 x2 _))

/-- The reference's gates are the kernel's, as a function of the arguments. -/
theorem ref14 : val_main_v58 (F := Ideal) x0 x1 x2 x3 = Cert.Kernel6Ideal.In.o14 x0 x1 x2 x3 := by
  funext i
  idx_vars i
  have h : (val_main_v46 (F := Ideal) x0 x1 x2 x3 (ix3 i0 i2 i1) : EReal)
      = Cert.Kernel6Ideal.In.proj x0 x1 x2 i0 i2 ⟨3072 + i1.val, by omega⟩ + x3 (ix1 i1) := by
    pointwise [val_main_v46, val_main_v45, val_main_v44]
    exact congrArg (· + _) ((val_main_v40_apply x0 x1 x2 _).trans (ref_proj x0 x1 x2 _))
  pointwise [val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1, val_main_v47, val_main_v58]
  generalize val_main_v46 (F := Ideal) x0 x1 x2 x3 = f at h ⊢
  simp only [ne_eq, not_true, if_false]
  exact congrArg Cert.Kernel6Ideal.In.lsig h

end Cert.Reference6Ideal.In

end
-- ==== Proof.InL.Blk.lean ====
module

public import Idealize.ShloMosaic.Lib.KernelVsHost
public import proofs.«01_k».proof.Proof.InL.Spec

@[expose] public section

set_option maxRecDepth 16384

noncomputable section

namespace Cert.Kernel6Ideal.In

open Cert.Kernel6Ideal Cert.Kernel6Ideal.Gen Idealize.ShloMosaic Idealize.ShloMosaic.TcCoe Idealize.SL.Sem
open Idealize.ShloMosaic.Pipeline (Dat)
open Cert.Layer

variable (m : (ℓ : Loc nD τ sig) → Buf (Elt Ideal) ℓ)

/-- The blocks' indices at a grid point. -/
theorem idx : ∀ t : Fin cfg0.N, win0_0.index t = ![t.val / 48, t.val / 12 % 4, 0] ∧ win0_1.index t = ![t.val / 48, 0, 0]
    ∧ win0_2.index t = ![0, min (t.val % 12) 5] ∧ win0_3.index t = ![0, t.val % 12 - 6] ∧ win0_4.index t = ![0, 0] ∧ win0_5.index t = ![0, 0]
    ∧ win0_6.index t = ![t.val / 48, t.val / 12 % 4, (max 0 (min 1 (t.val % 12)) - 0)]
    ∧ win0_7.index t = ![t.val / 48, t.val / 12 % 4, (max 2 (min 3 (t.val % 12)) - 2)]
    ∧ win0_8.index t = ![t.val / 48, t.val / 12 % 4, (max 4 (min 5 (t.val % 12)) - 4)]
    ∧ win0_9.index t = ![t.val / 48, t.val / 12 % 4, (max 6 (min 7 (t.val % 12)) - 6)]
    ∧ win0_10.index t = ![t.val / 48, t.val / 12 % 4, (max 8 (min 9 (t.val % 12)) - 8)]
    ∧ win0_11.index t = ![t.val / 48, t.val / 12 % 4, (max 10 (min 11 (t.val % 12)) - 10)]
    ∧ win0_12.index t = ![t.val / 48, 0, (max 8 (min 9 (t.val % 12)) - 8) * (t.val / 12 % 4 / 3)]
    ∧ win0_13.index t = ![t.val / 48, 0, (max 10 (min 11 (t.val % 12)) - 10) * (t.val / 12 % 4 / 3)]
    ∧ win0_14.index t = ![t.val / 48, 0, t.val / 12 % 4] :=
  (by decide +kernel : ∀ t : Fin grid0.N, _)

/-- The tails are written back in the last row block only. -/
theorem last : ∀ t : Fin cfg0.N, ((cfg0.win 12).flush t = true → t.val / 12 % 4 = 3) ∧ ((cfg0.win 13).flush t = true → t.val / 12 % 4 = 3) := by
  decide +kernel

/-- The blocks of the inputs, at an index. -/
theorem w0 (c : Dev nD) (t : Fin cfg0.N) (r : Fin 1024) (d : Fin 2048) : (iblk m c 0 t (ix3 0 r d) : EReal) = A0 m c (ix3 ⟨t.val / 48, bt t⟩ ⟨1024 * (t.val / 12 % 4) + r.val, rt t r⟩ d) := by
  blk_point [iblk, V, idx t]

theorem w1 (c : Dev nD) (t : Fin cfg0.N) (e : Fin 6) (d : Fin 2048) : (iblk m c 1 t (ix3 0 e d) : EReal) = A1' m c (ix2 ⟨t.val / 48, bt t⟩ ⟨e.val * 2048 + d.val, by omega⟩) := by
  blk_simp [iblk, idx t]; simp only [V, hostOps0, hostOps0_1, hostOps0_2, List.flatten_cons, List.flatten_nil, List.append_nil, List.cons_append, List.nil_append]; entry_read; pointwise; blk_ext [idx t]

theorem w2 (c : Dev nD) (t : Fin cfg0.N) (h : t.val % 12 ≤ 5) (d : Fin 2048) (k : Fin 512) : (iblk m c 2 t (ix2 d k) : EReal) = A2' m c (ix2 d ⟨512 * (t.val % 12) + k.val, by omega⟩) := by
  blk_simp [iblk, idx t]; simp only [V, hostOps0, hostOps0_1, hostOps0_2, List.flatten_cons, List.flatten_nil, List.append_nil, List.cons_append, List.nil_append]; entry_read; pointwise; blk_ext [idx t]

theorem w3 (c : Dev nD) (t : Fin cfg0.N) (h : 6 ≤ t.val % 12) (d : Fin 2048) (k : Fin 512) : (iblk m c 3 t (ix2 d k) : EReal) = A2' m c (ix2 d ⟨512 * (t.val % 12) + 8 + k.val, by omega⟩) := by
  blk_simp [iblk, idx t]; simp only [V, hostOps0, hostOps0_1, hostOps0_2, List.flatten_cons, List.flatten_nil, List.append_nil, List.cons_append, List.nil_append]; entry_read; pointwise; blk_ext [idx t]

theorem w4 (c : Dev nD) (t : Fin cfg0.N) (h : Fin 8) (d : Fin 2048) : (iblk m c 4 t (ix2 ⟨h.val, by omega⟩ d) : EReal) = A2' m c (ix2 d ⟨3072 + h.val, by omega⟩) := by
  have e : (((cfg0.win 4).blk t).view.emb (ix2 ⟨h.val, by omega⟩ d) : S16x2048.Idx) = ix2 ⟨h.val, by omega⟩ d := by blk_ext [idx t]
  blk_simp [iblk, idx t]
  simp only [V, hostOps0, hostOps0_1, hostOps0_2, List.flatten_cons, List.flatten_nil, List.append_nil, List.cons_append, List.nil_append]
  entry_read
  show (pad S16x2048 ![0, 0] ![8, 0] ![0, 0] (transpose S8x2048 [1, 0] (extractStridedSlice S2048x8 ![0, 3072] (A2' m c) slices_S2048x6152_S2048x8_0_3072) transposes_S2048x8_S8x2048_1_0)
    (sitofp (F := Ideal) .f32 (constantI S_ 32 0#32)) pads_S8x2048_S16x2048_080_000 h_S_) (((cfg0.win 4).blk t).view.emb (ix2 ⟨h.val, by omega⟩ d) : S16x2048.Idx) = _
  rw [e]
  refine (pad_apply_of_inside _ _ _ _ _ _ _ _ (ix2 h d : S8x2048.Idx) ?_).trans ?_
  · intro a
    match a with
    | ⟨0, _⟩ => show h.val = 0 + h.val * (0 + 1); omega
    | ⟨1, _⟩ => show d.val = 0 + d.val * (0 + 1); omega
  · pointwise

theorem w5 (c : Dev nD) (t : Fin cfg0.N) (h : Fin 8) : (iblk m c 5 t (ix2 h 0) : EReal) = A3 m c (ix1 h) := by
  blk_simp [iblk, idx t]; simp only [V, hostOps0, hostOps0_1, hostOps0_2, List.flatten_cons, List.flatten_nil, List.append_nil, List.cons_append, List.nil_append]; entry_read; pointwise; blk_ext [idx t]

/-- The block's modulated norm is the input's. -/
theorem bu_eq (c : Dev nD) (t : Fin cfg0.N) (r : Fin 1024) : bu (iblk m c 0 t) (iblk m c 1 t) r = ut m c t r := by
  funext d
  have e1 : ∀ d : Fin 2048, (iblk m c 1 t (ix3 0 1 d) : EReal) = A1' m c (ix2 ⟨t.val / 48, bt t⟩ ⟨2048 + d.val, by omega⟩) := fun d =>
    (w1 m c t 1 d).trans (congrArg (fun j => A1' m c (ix2 _ j)) (Fin.ext (by simp)))
  have e0 : ∀ d : Fin 2048, (iblk m c 1 t (ix3 0 0 d) : EReal) = A1' m c (ix2 ⟨t.val / 48, bt t⟩ ⟨d.val, by omega⟩) := fun d =>
    (w1 m c t 0 d).trans (congrArg (fun j => A1' m c (ix2 _ j)) (Fin.ext (by simp)))
  have e := w0 m c t r
  simp only [bu, ut, urow, e, e0, e1]

theorem lst_val (lo hi : ℕ) (h : lo ≤ hi ∧ hi < 12) (t : Fin cfg0.N) : (lst lo hi h t).val = 12 * (t.val / 12) + max lo (min hi (t.val % 12)) := rfl

theorem lst_mod (lo hi : ℕ) (h : lo ≤ hi ∧ hi < 12) (t : Fin cfg0.N) : (lst lo hi h t).val % 12 = max lo (min hi (t.val % 12)) := by rw [lst_val]; omega

/-- The scratch holds the modulated norm. -/
theorem u_eq (c : Dev nD) (t : Fin cfg0.N) (r : Fin 1024) : (fun e => uAt m c t (ix2 r e) : Fin 2048 → EReal) = ut m c t r := by
  funext e
  refine (uAll_eq _ _ (ix2 r e)).trans ((congrFun (bu_eq m c _ r) e).trans ?_)
  have h := lst_val 0 0 (by decide) t
  exact congrArg₂ (fun b s => urow (A0 m c) (A1' m c) b s e) (Fin.ext (by simp only [h]; omega)) (Fin.ext (by simp only [h]; omega))

/-- A tile of the product with the first weights. -/
theorem tp2 (c : Dev nD) (t : Fin cfg0.N) (h : t.val % 12 ≤ 5) (b : Fin 8) (r : Fin 4096) (k : Fin 512) :
    tp (iblk m c 2 t) (urow (A0 m c) (A1' m c) b r) k = proj (A0 m c) (A1' m c) (A2' m c) b r ⟨512 * (t.val % 12) + k.val, by omega⟩ := by
  have e := fun d => w2 m c t h d k
  simp only [tp, proj, e]

/-- A tile of the product with the last weights. -/
theorem tp3 (c : Dev nD) (t : Fin cfg0.N) (h : 6 ≤ t.val % 12) (b : Fin 8) (r : Fin 4096) (k : Fin 512) :
    tp (iblk m c 3 t) (urow (A0 m c) (A1' m c) b r) k = proj (A0 m c) (A1' m c) (A2' m c) b r ⟨512 * (t.val % 12) + 8 + k.val, by omega⟩ := by
  have e := fun d => w3 m c t h d k
  simp only [tp, proj, e]

end Cert.Kernel6Ideal.In

end
-- ==== Proof.InL.FinA.lean ====
module

public import proofs.«01_k».proof.Proof.InL.Blk

@[expose] public section

set_option maxRecDepth 16384

noncomputable section

namespace Cert.Kernel6Ideal.In

open Cert.Kernel6Ideal Cert.Kernel6Ideal.Gen Idealize.ShloMosaic Idealize.ShloMosaic.TcCoe Idealize.SL.Sem
open Idealize.ShloMosaic.Pipeline (Dat)
open Cert.Layer

variable (m : (ℓ : Loc nD τ sig) → Buf (Elt Ideal) ℓ)

/-- Where output block 0 lies in its result. -/
theorem e6 (t : Fin cfg0.N) (y : S1x1024x512.Idx) : (((cfg0.win 6).blk t).view.emb y : S8x4096x1024.Idx) = ix3 ⟨t.val / 48, bt t⟩ ⟨1024 * (t.val / 12 % 4) + (y 1).val, rt t (y 1)⟩ ⟨512 * ((max 0 (min 1 (t.val % 12)) - 0)) + (y 2).val, by have := (y 2).isLt; have h : S1x1024x512.size 2 = 512 := rfl; omega⟩ := by
  blk_ext [idx t]

/-- The tile that is written back is the result's. -/
theorem at6 (c : Dev nD) (t : Fin cfg0.N) (y : S1x1024x512.Idx) : ((if t.val % 12 = 0 then qFirst (iblk m c 0 t) (iblk m c 1 t) (iblk m c 2 t) else k0_pay21 (uAt m c t) (iblk m c 2 (lst 1 1 (by decide) t)) : Vec Ideal S1x1024x512 .bf16) y : EReal) = r6 m c (((cfg0.win 6).blk t).view.emb y) := by
  idx_vars y
  split
  · next h =>
    have h1 : tp (iblk m c 2 t) (bu (iblk m c 0 t) (iblk m c 1 t) y1) y2 = proj (A0 m c) (A1' m c) (A2' m c) ⟨t.val / 48, bt t⟩ ⟨1024 * (t.val / 12 % 4) + y1.val, rt t y1⟩ ⟨0 + (512 * ((max 0 (min 1 (t.val % 12)) - 0)) + y2.val), by omega⟩ := by
      rw [bu_eq, tp2 m c t (by omega)]
      refine congrArg (proj (A0 m c) (A1' m c) (A2' m c) ⟨t.val / 48, bt t⟩ ⟨1024 * (t.val / 12 % 4) + y1.val, rt t y1⟩) (Fin.ext ?_)
      simp only [h]; omega
    exact ((qFirst_eq _ _ _ (ix3 y0 y1 y2)).trans (congrArg (· * qs) h1)).trans (congrArg (r6 m c) (e6 t (ix3 y0 y1 y2))).symm
  · next h =>
    have h1 : tp (iblk m c 2 (lst 1 1 (by decide) t)) (fun e => uAt m c t (ix2 y1 e)) y2 = proj (A0 m c) (A1' m c) (A2' m c) ⟨t.val / 48, bt t⟩ ⟨1024 * (t.val / 12 % 4) + y1.val, rt t y1⟩ ⟨0 + (512 * ((max 0 (min 1 (t.val % 12)) - 0)) + y2.val), by omega⟩ := by
      rw [u_eq, tp2 m c _ (by rw [lst_mod]; omega)]
      refine congrArg (proj (A0 m c) (A1' m c) (A2' m c) ⟨t.val / 48, bt t⟩ ⟨1024 * (t.val / 12 % 4) + y1.val, rt t y1⟩) (Fin.ext ?_)
      simp only [lst_mod]; omega
    exact ((pay21 _ _ (ix3 y0 y1 y2)).trans (congrArg (· * qs) h1)).trans (congrArg (r6 m c) (e6 t (ix3 y0 y1 y2))).symm

/-- Result array 0 of the kernel. -/
theorem final6 (c : Dev nD) : (dats m 0 c).arrAt 6 cfg0.N = r6 m c :=
  (dats m 0 c).arrAt_eq_of_covers 6 _ (by decide +kernel) fun t hf y => by
    blk_simp; rw [after0_6]; exact at6 m c t y

/-- Where output block 1 lies in its result. -/
theorem e7 (t : Fin cfg0.N) (y : S1x1024x512.Idx) : (((cfg0.win 7).blk t).view.emb y : S8x4096x1024.Idx) = ix3 ⟨t.val / 48, bt t⟩ ⟨1024 * (t.val / 12 % 4) + (y 1).val, rt t (y 1)⟩ ⟨512 * ((max 2 (min 3 (t.val % 12)) - 2)) + (y 2).val, by have := (y 2).isLt; have h : S1x1024x512.size 2 = 512 := rfl; omega⟩ := by
  blk_ext [idx t]

/-- The tile that is written back is the result's. -/
theorem at7 (c : Dev nD) (t : Fin cfg0.N) (y : S1x1024x512.Idx) : (k0_pay22 (uAt m c t) (iblk m c 2 (lst 2 3 (by decide) t)) y : EReal) = r7 m c (((cfg0.win 7).blk t).view.emb y) := by
  idx_vars y
  have h1 : tp (iblk m c 2 (lst 2 3 (by decide) t)) (fun e => uAt m c t (ix2 y1 e)) y2 = proj (A0 m c) (A1' m c) (A2' m c) ⟨t.val / 48, bt t⟩ ⟨1024 * (t.val / 12 % 4) + y1.val, rt t y1⟩ ⟨1024 + (512 * ((max 2 (min 3 (t.val % 12)) - 2)) + y2.val), by omega⟩ := by
    rw [u_eq, tp2 m c _ (by rw [lst_mod]; omega)]
    refine congrArg (proj (A0 m c) (A1' m c) (A2' m c) ⟨t.val / 48, bt t⟩ ⟨1024 * (t.val / 12 % 4) + y1.val, rt t y1⟩) (Fin.ext ?_)
    simp only [lst_mod]; omega
  exact ((pay22 _ _ (ix3 y0 y1 y2)).trans h1).trans (congrArg (r7 m c) (e7 t (ix3 y0 y1 y2))).symm

/-- Result array 1 of the kernel. -/
theorem final7 (c : Dev nD) : (dats m 0 c).arrAt 7 cfg0.N = r7 m c :=
  (dats m 0 c).arrAt_eq_of_covers 7 _ (by decide +kernel) fun t hf y => by
    blk_simp; rw [after0_7]; exact at7 m c t y

end Cert.Kernel6Ideal.In

end
-- ==== Proof.InL.FinB.lean ====
module

public import proofs.«01_k».proof.Proof.InL.Blk

@[expose] public section

set_option maxRecDepth 16384

noncomputable section

namespace Cert.Kernel6Ideal.In

open Cert.Kernel6Ideal Cert.Kernel6Ideal.Gen Idealize.ShloMosaic Idealize.ShloMosaic.TcCoe Idealize.SL.Sem
open Idealize.ShloMosaic.Pipeline (Dat)
open Cert.Layer

variable (m : (ℓ : Loc nD τ sig) → Buf (Elt Ideal) ℓ)

/-- Where output block 2 lies in its result. -/
theorem e8 (t : Fin cfg0.N) (y : S1x1024x512.Idx) : (((cfg0.win 8).blk t).view.emb y : S8x4096x1024.Idx) = ix3 ⟨t.val / 48, bt t⟩ ⟨1024 * (t.val / 12 % 4) + (y 1).val, rt t (y 1)⟩ ⟨512 * ((max 4 (min 5 (t.val % 12)) - 4)) + (y 2).val, by have := (y 2).isLt; have h : S1x1024x512.size 2 = 512 := rfl; omega⟩ := by
  blk_ext [idx t]

/-- The tile that is written back is the result's. -/
theorem at8 (c : Dev nD) (t : Fin cfg0.N) (y : S1x1024x512.Idx) : (k0_pay23 (uAt m c t) (iblk m c 2 (lst 4 5 (by decide) t)) y : EReal) = r8 m c (((cfg0.win 8).blk t).view.emb y) := by
  idx_vars y
  have h1 : tp (iblk m c 2 (lst 4 5 (by decide) t)) (fun e => uAt m c t (ix2 y1 e)) y2 = proj (A0 m c) (A1' m c) (A2' m c) ⟨t.val / 48, bt t⟩ ⟨1024 * (t.val / 12 % 4) + y1.val, rt t y1⟩ ⟨2048 + (512 * ((max 4 (min 5 (t.val % 12)) - 4)) + y2.val), by omega⟩ := by
    rw [u_eq, tp2 m c _ (by rw [lst_mod]; omega)]
    refine congrArg (proj (A0 m c) (A1' m c) (A2' m c) ⟨t.val / 48, bt t⟩ ⟨1024 * (t.val / 12 % 4) + y1.val, rt t y1⟩) (Fin.ext ?_)
    simp only [lst_mod]; omega
  exact ((pay23 _ _ (ix3 y0 y1 y2)).trans h1).trans (congrArg (r8 m c) (e8 t (ix3 y0 y1 y2))).symm

/-- Result array 2 of the kernel. -/
theorem final8 (c : Dev nD) : (dats m 0 c).arrAt 8 cfg0.N = r8 m c :=
  (dats m 0 c).arrAt_eq_of_covers 8 _ (by decide +kernel) fun t hf y => by
    blk_simp; rw [after0_8]; exact at8 m c t y

/-- Where output block 3 lies in its result. -/
theorem e9 (t : Fin cfg0.N) (y : S1x1024x512.Idx) : (((cfg0.win 9).blk t).view.emb y : S8x4096x1024.Idx) = ix3 ⟨t.val / 48, bt t⟩ ⟨1024 * (t.val / 12 % 4) + (y 1).val, rt t (y 1)⟩ ⟨512 * ((max 6 (min 7 (t.val % 12)) - 6)) + (y 2).val, by have := (y 2).isLt; have h : S1x1024x512.size 2 = 512 := rfl; omega⟩ := by
  blk_ext [idx t]

/-- The tile that is written back is the result's. -/
theorem at9 (c : Dev nD) (t : Fin cfg0.N) (y : S1x1024x512.Idx) : (k0_pay24 (uAt m c t) (iblk m c 3 (lst 6 7 (by decide) t)) y : EReal) = r9 m c (((cfg0.win 9).blk t).view.emb y) := by
  idx_vars y
  have h1 : tp (iblk m c 3 (lst 6 7 (by decide) t)) (fun e => uAt m c t (ix2 y1 e)) y2 = proj (A0 m c) (A1' m c) (A2' m c) ⟨t.val / 48, bt t⟩ ⟨1024 * (t.val / 12 % 4) + y1.val, rt t y1⟩ ⟨3080 + (512 * ((max 6 (min 7 (t.val % 12)) - 6)) + y2.val), by omega⟩ := by
    rw [u_eq, tp3 m c _ (by rw [lst_mod]; omega)]
    refine congrArg (proj (A0 m c) (A1' m c) (A2' m c) ⟨t.val / 48, bt t⟩ ⟨1024 * (t.val / 12 % 4) + y1.val, rt t y1⟩) (Fin.ext ?_)
    simp only [lst_mod]; omega
  exact ((pay24 _ _ (ix3 y0 y1 y2)).trans (congrArg (· * qs) h1)).trans (congrArg (r9 m c) (e9 t (ix3 y0 y1 y2))).symm

/-- Result array 3 of the kernel. -/
theorem final9 (c : Dev nD) : (dats m 0 c).arrAt 9 cfg0.N = r9 m c :=
  (dats m 0 c).arrAt_eq_of_covers 9 _ (by decide +kernel) fun t hf y => by
    blk_simp; rw [after0_9]; exact at9 m c t y

/-- Where output block 4 lies in its result. -/
theorem e10 (t : Fin cfg0.N) (y : S1x1024x512.Idx) : (((cfg0.win 10).blk t).view.emb y : S8x4096x1024.Idx) = ix3 ⟨t.val / 48, bt t⟩ ⟨1024 * (t.val / 12 % 4) + (y 1).val, rt t (y 1)⟩ ⟨512 * ((max 8 (min 9 (t.val % 12)) - 8)) + (y 2).val, by have := (y 2).isLt; have h : S1x1024x512.size 2 = 512 := rfl; omega⟩ := by
  blk_ext [idx t]

/-- The tile that is written back is the result's. -/
theorem at10 (c : Dev nD) (t : Fin cfg0.N) (y : S1x1024x512.Idx) : (k0_pay26 (uAt m c t) (iblk m c 3 (lst 8 9 (by decide) t)) y : EReal) = r10 m c (((cfg0.win 10).blk t).view.emb y) := by
  idx_vars y
  have h1 : tp (iblk m c 3 (lst 8 9 (by decide) t)) (fun e => uAt m c t (ix2 y1 e)) y2 = proj (A0 m c) (A1' m c) (A2' m c) ⟨t.val / 48, bt t⟩ ⟨1024 * (t.val / 12 % 4) + y1.val, rt t y1⟩ ⟨4104 + (512 * ((max 8 (min 9 (t.val % 12)) - 8)) + y2.val), by omega⟩ := by
    rw [u_eq, tp3 m c _ (by rw [lst_mod]; omega)]
    refine congrArg (proj (A0 m c) (A1' m c) (A2' m c) ⟨t.val / 48, bt t⟩ ⟨1024 * (t.val / 12 % 4) + y1.val, rt t y1⟩) (Fin.ext ?_)
    simp only [lst_mod]; omega
  exact ((pay26 _ _ (ix3 y0 y1 y2)).trans h1).trans (congrArg (r10 m c) (e10 t (ix3 y0 y1 y2))).symm

/-- Result array 4 of the kernel. -/
theorem final10 (c : Dev nD) : (dats m 0 c).arrAt 10 cfg0.N = r10 m c :=
  (dats m 0 c).arrAt_eq_of_covers 10 _ (by decide +kernel) fun t hf y => by
    blk_simp; rw [after0_10]; exact at10 m c t y

/-- Where output block 5 lies in its result. -/
theorem e11 (t : Fin cfg0.N) (y : S1x1024x512.Idx) : (((cfg0.win 11).blk t).view.emb y : S8x4096x1024.Idx) = ix3 ⟨t.val / 48, bt t⟩ ⟨1024 * (t.val / 12 % 4) + (y 1).val, rt t (y 1)⟩ ⟨512 * ((max 10 (min 11 (t.val % 12)) - 10)) + (y 2).val, by have := (y 2).isLt; have h : S1x1024x512.size 2 = 512 := rfl; omega⟩ := by
  blk_ext [idx t]

/-- The tile that is written back is the result's. -/
theorem at11 (c : Dev nD) (t : Fin cfg0.N) (y : S1x1024x512.Idx) : (k0_pay2 (uAt m c t) (iblk m c 3 (lst 10 11 (by decide) t)) y : EReal) = r11 m c (((cfg0.win 11).blk t).view.emb y) := by
  idx_vars y
  have h1 : tp (iblk m c 3 (lst 10 11 (by decide) t)) (fun e => uAt m c t (ix2 y1 e)) y2 = proj (A0 m c) (A1' m c) (A2' m c) ⟨t.val / 48, bt t⟩ ⟨1024 * (t.val / 12 % 4) + y1.val, rt t y1⟩ ⟨5128 + (512 * ((max 10 (min 11 (t.val % 12)) - 10)) + y2.val), by omega⟩ := by
    rw [u_eq, tp3 m c _ (by rw [lst_mod]; omega)]
    refine congrArg (proj (A0 m c) (A1' m c) (A2' m c) ⟨t.val / 48, bt t⟩ ⟨1024 * (t.val / 12 % 4) + y1.val, rt t y1⟩) (Fin.ext ?_)
    simp only [lst_mod]; omega
  exact ((pay2 _ _ (ix3 y0 y1 y2)).trans h1).trans (congrArg (r11 m c) (e11 t (ix3 y0 y1 y2))).symm

/-- Result array 5 of the kernel. -/
theorem final11 (c : Dev nD) : (dats m 0 c).arrAt 11 cfg0.N = r11 m c :=
  (dats m 0 c).arrAt_eq_of_covers 11 _ (by decide +kernel) fun t hf y => by
    blk_simp; rw [after0_11]; exact at11 m c t y

end Cert.Kernel6Ideal.In

end
-- ==== Proof.InL.Final.lean ====
module

public import proofs.«01_k».proof.Proof.InL.Blk

@[expose] public section

set_option maxRecDepth 16384

noncomputable section

namespace Cert.Kernel6Ideal.In

open Cert.Kernel6Ideal Cert.Kernel6Ideal.Gen Idealize.ShloMosaic Idealize.ShloMosaic.TcCoe Idealize.SL.Sem
open Idealize.ShloMosaic.Pipeline (Dat)
open Cert.Layer

variable (m : (ℓ : Loc nD τ sig) → Buf (Elt Ideal) ℓ)

/-- Where output block 6 lies in its result. -/
theorem e12 (t : Fin cfg0.N) (y : S1x512x512.Idx) : (((cfg0.win 12).blk t).view.emb y : S8x512x1024.Idx) = ix3 ⟨t.val / 48, bt t⟩ (y 1) ⟨512 * ((max 8 (min 9 (t.val % 12)) - 8) * (t.val / 12 % 4 / 3)) + (y 2).val, by have := (y 2).isLt; have h : S1x512x512.size 2 = 512 := rfl; have h3 : t.val / 12 % 4 / 3 ≤ 1 := (by omega); have := Nat.mul_le_mul (show max 8 (min 9 (t.val % 12)) - 8 ≤ 1 by omega) h3; omega⟩ := by
  blk_ext [idx t]

/-- The tile that is written back is the result's. -/
theorem at12 (c : Dev nD) (t : Fin cfg0.N) (h3 : t.val / 12 % 4 = 3) (y : S1x512x512.Idx) : (k0_pay27 (uAt m c t) (iblk m c 3 (lst 8 9 (by decide) t)) y : EReal) = r12 m c (((cfg0.win 12).blk t).view.emb y) := by
  idx_vars y
  have h1 : tp (iblk m c 3 (lst 8 9 (by decide) t)) (fun e => uAt m c t (ix2 ⟨512 + y1.val, by omega⟩ e)) y2 = proj (A0 m c) (A1' m c) (A2' m c) ⟨t.val / 48, bt t⟩ ⟨3584 + y1.val, by omega⟩ ⟨4104 + (512 * ((max 8 (min 9 (t.val % 12)) - 8) * (t.val / 12 % 4 / 3)) + y2.val), by rw [h3]; omega⟩ := by
    rw [u_eq, tp3 m c _ (by rw [lst_mod]; omega)]
    refine congrArg₂ (proj (A0 m c) (A1' m c) (A2' m c) ⟨t.val / 48, bt t⟩) (Fin.ext ?_) (Fin.ext ?_)
    · simp only [h3]; omega
    · simp only [lst_mod, h3]; omega
  exact ((pay27 _ _ (ix3 y0 y1 y2)).trans h1).trans (congrArg (r12 m c) (e12 t (ix3 y0 y1 y2))).symm

/-- Result array 6 of the kernel. -/
theorem final12 (c : Dev nD) : (dats m 0 c).arrAt 12 cfg0.N = r12 m c :=
  (dats m 0 c).arrAt_eq_of_covers 12 _ (by decide +kernel) fun t hf y => by
    blk_simp; rw [after0_12]; exact at12 m c t ((last t).1 hf) y

/-- Where output block 7 lies in its result. -/
theorem e13 (t : Fin cfg0.N) (y : S1x512x512.Idx) : (((cfg0.win 13).blk t).view.emb y : S8x512x1024.Idx) = ix3 ⟨t.val / 48, bt t⟩ (y 1) ⟨512 * ((max 10 (min 11 (t.val % 12)) - 10) * (t.val / 12 % 4 / 3)) + (y 2).val, by have := (y 2).isLt; have h : S1x512x512.size 2 = 512 := rfl; have h3 : t.val / 12 % 4 / 3 ≤ 1 := (by omega); have := Nat.mul_le_mul (show max 10 (min 11 (t.val % 12)) - 10 ≤ 1 by omega) h3; omega⟩ := by
  blk_ext [idx t]

/-- The tile that is written back is the result's. -/
theorem at13 (c : Dev nD) (t : Fin cfg0.N) (h3 : t.val / 12 % 4 = 3) (y : S1x512x512.Idx) : (k0_pay3 (uAt m c t) (iblk m c 3 (lst 10 11 (by decide) t)) y : EReal) = r13 m c (((cfg0.win 13).blk t).view.emb y) := by
  idx_vars y
  have h1 : tp (iblk m c 3 (lst 10 11 (by decide) t)) (fun e => uAt m c t (ix2 ⟨512 + y1.val, by omega⟩ e)) y2 = proj (A0 m c) (A1' m c) (A2' m c) ⟨t.val / 48, bt t⟩ ⟨3584 + y1.val, by omega⟩ ⟨5128 + (512 * ((max 10 (min 11 (t.val % 12)) - 10) * (t.val / 12 % 4 / 3)) + y2.val), by rw [h3]; omega⟩ := by
    rw [u_eq, tp3 m c _ (by rw [lst_mod]; omega)]
    refine congrArg₂ (proj (A0 m c) (A1' m c) (A2' m c) ⟨t.val / 48, bt t⟩) (Fin.ext ?_) (Fin.ext ?_)
    · simp only [h3]; omega
    · simp only [lst_mod, h3]; omega
  exact ((pay3 _ _ (ix3 y0 y1 y2)).trans h1).trans (congrArg (r13 m c) (e13 t (ix3 y0 y1 y2))).symm

/-- Result array 7 of the kernel. -/
theorem final13 (c : Dev nD) : (dats m 0 c).arrAt 13 cfg0.N = r13 m c :=
  (dats m 0 c).arrAt_eq_of_covers 13 _ (by decide +kernel) fun t hf y => by
    blk_simp; rw [after0_13]; exact at13 m c t ((last t).2 hf) y

theorem e14 (t : Fin cfg0.N) (y : S1x8x1024.Idx) : (((cfg0.win 14).blk t).view.emb y : S8x8x4096.Idx) = ix3 ⟨t.val / 48, bt t⟩ (y 1) ⟨1024 * (t.val / 12 % 4) + (y 2).val, rt t (y 2)⟩ := by
  blk_ext [idx t]

/-- The gates' logarithms. -/
theorem at14 (c : Dev nD) (t : Fin cfg0.N) (y : S1x8x1024.Idx) : (gates (iblk m c 4 (lst 0 0 (by decide) t)) (uAt m c t) (iblk m c 5 (lst 0 0 (by decide) t)) y : EReal) = r14 m c (((cfg0.win 14).blk t).view.emb y) := by
  rw [e14 t y]
  idx_vars y
  refine (gates_eq _ _ _ _).trans ?_
  refine congrArg lsig (congrArg₂ (· + ·) ?_ (w5 m c _ y1))
  refine Finset.sum_congr rfl fun e _ => ?_
  rw [mul_comm]
  exact congrArg₂ (· * ·) (congrFun (u_eq m c t y2) e) (w4 m c _ y1 e)

/-- The last result array of the kernel. -/
theorem final14 (c : Dev nD) : (dats m 0 c).arrAt 14 cfg0.N = r14 m c :=
  (dats m 0 c).arrAt_eq_of_covers 14 _ (by decide +kernel) fun t hf y => by
    blk_simp; rw [after0_14]; exact at14 m c t y

end Cert.Kernel6Ideal.In

end
-- ==== Proof.InL.Claim.lean ====
module

public import proofs.«01_k».proof.Defs
public import proofs.«01_k».proof.Proof.Gen.Kernel6
public import proofs.«01_k».proof.Proof.Gen.Reference6Ideal
public import proofs.«01_k».proof.Proof.InL.Ref
public import proofs.«01_k».proof.Proof.InL.FinA
public import proofs.«01_k».proof.Proof.InL.FinB
public import proofs.«01_k».proof.Proof.InL.Final

@[expose] public section

noncomputable section

namespace Cert.Proof

open Idealize.ShloMosaic Idealize.SL.Sem Idealize.ShloMosaic.TcCoe

/-- The input projection on the prompt computes its reference's results. -/
theorem algebraic6 : @Cert.algebraic_Kernel6Ideal_Reference6Ideal Cert.Kernel6Ideal.Gen.facts Cert.Reference6Ideal.Gen.facts := by
  intro m g m' g' _ args
  refine ⟨fun c => Cert.Kernel6Ideal.In.r6 m c, fun c => Cert.Kernel6Ideal.In.r7 m c, fun c => Cert.Kernel6Ideal.In.r8 m c, fun c => Cert.Kernel6Ideal.In.r9 m c, fun c => Cert.Kernel6Ideal.In.r10 m c, fun c => Cert.Kernel6Ideal.In.r11 m c, fun c => Cert.Kernel6Ideal.In.r12 m c, fun c => Cert.Kernel6Ideal.In.r13 m c, fun c => Cert.Kernel6Ideal.In.r14 m c, ?_, ?_⟩
  · refine (θ_run Cert.Kernel6Ideal.defs _ _).mono (fun r h c => ?_) (θ_run_and (Cert.Kernel6Ideal.In.run_main m g) (Cert.Kernel6Ideal.In.unchanged m g))
    exact ⟨((h.1 c).1 6).trans (Cert.Kernel6Ideal.In.final6 m c),
      ((h.1 c).1 7).trans (Cert.Kernel6Ideal.In.final7 m c),
      ((h.1 c).1 8).trans (Cert.Kernel6Ideal.In.final8 m c),
      ((h.1 c).1 9).trans (Cert.Kernel6Ideal.In.final9 m c),
      ((h.1 c).1 10).trans (Cert.Kernel6Ideal.In.final10 m c),
      ((h.1 c).1 11).trans (Cert.Kernel6Ideal.In.final11 m c),
      ((h.1 c).1 12).trans (Cert.Kernel6Ideal.In.final12 m c),
      ((h.1 c).1 13).trans (Cert.Kernel6Ideal.In.final13 m c),
      ((h.1 c).1 14).trans (Cert.Kernel6Ideal.In.final14 m c),
      h.2 c⟩
  · refine (θ_run Cert.Reference6Ideal.defs _ _).mono (fun r h c => ?_) (Cert.Reference6Ideal.Value.run m' g')
    obtain ⟨e0, e1, e2, e3⟩ := args c
    obtain ⟨h0, h1, h2, h3, h4, h5, h6, h7, h8, ha⟩ := h c
    refine ⟨h0.trans ?_, h1.trans ?_, h2.trans ?_, h3.trans ?_, h4.trans ?_, h5.trans ?_, h6.trans ?_, h7.trans ?_, h8.trans ?_, ha⟩
    · rw [Cert.Reference6Ideal.Read.val_main_v50_eq, Cert.Reference6Ideal.In.ref6]
      simp only [Cert.Kernel6Ideal.In.r6, Cert.Kernel6Ideal.In.A0, Cert.Kernel6Ideal.In.A1', Cert.Kernel6Ideal.In.A2', e0, e1, e2]
    · rw [Cert.Reference6Ideal.Read.val_main_v38_eq, Cert.Reference6Ideal.In.ref7]
      simp only [Cert.Kernel6Ideal.In.r7, Cert.Kernel6Ideal.In.A0, Cert.Kernel6Ideal.In.A1', Cert.Kernel6Ideal.In.A2', e0, e1, e2]
    · rw [Cert.Reference6Ideal.Read.val_main_v39_eq, Cert.Reference6Ideal.In.ref8]
      simp only [Cert.Kernel6Ideal.In.r8, Cert.Kernel6Ideal.In.A0, Cert.Kernel6Ideal.In.A1', Cert.Kernel6Ideal.In.A2', e0, e1, e2]
    · rw [Cert.Reference6Ideal.Read.val_main_v53_eq, Cert.Reference6Ideal.In.ref9]
      simp only [Cert.Kernel6Ideal.In.r9, Cert.Kernel6Ideal.In.A0, Cert.Kernel6Ideal.In.A1', Cert.Kernel6Ideal.In.A2', e0, e1, e2]
    · rw [Cert.Reference6Ideal.Read.val_main_v54_eq, Cert.Reference6Ideal.In.ref10]
      simp only [Cert.Kernel6Ideal.In.r10, Cert.Kernel6Ideal.In.A0, Cert.Kernel6Ideal.In.A1', Cert.Kernel6Ideal.In.A2', e0, e1, e2]
    · rw [Cert.Reference6Ideal.Read.val_main_v55_eq, Cert.Reference6Ideal.In.ref11]
      simp only [Cert.Kernel6Ideal.In.r11, Cert.Kernel6Ideal.In.A0, Cert.Kernel6Ideal.In.A1', Cert.Kernel6Ideal.In.A2', e0, e1, e2]
    · rw [Cert.Reference6Ideal.Read.val_main_v56_eq, Cert.Reference6Ideal.In.ref12]
      simp only [Cert.Kernel6Ideal.In.r12, Cert.Kernel6Ideal.In.A0, Cert.Kernel6Ideal.In.A1', Cert.Kernel6Ideal.In.A2', e0, e1, e2]
    · rw [Cert.Reference6Ideal.Read.val_main_v57_eq, Cert.Reference6Ideal.In.ref13]
      simp only [Cert.Kernel6Ideal.In.r13, Cert.Kernel6Ideal.In.A0, Cert.Kernel6Ideal.In.A1', Cert.Kernel6Ideal.In.A2', e0, e1, e2]
    · rw [Cert.Reference6Ideal.Read.val_main_v58_eq, Cert.Reference6Ideal.In.ref14]
      simp only [Cert.Kernel6Ideal.In.r14, Cert.Kernel6Ideal.In.A0, Cert.Kernel6Ideal.In.A1', Cert.Kernel6Ideal.In.A2', Cert.Kernel6Ideal.In.A3, e0, e1, e2, e3]

end Cert.Proof

end
-- ==== Proof.Twin.Prompt.lean ====
/- The frame of the input projection's kernel on the prompt. Its program has the ideal program's text, and the ideal program's run is
   proved over any float values: the frame over the machine's floats is taken from it. -/
module

public import proofs.«01_k».proof.Defs
public import proofs.«01_k».proof.Proof.Gen.Kernel6
public import proofs.«01_k».proof.Proof.InL.Frame
public import proofs.«01_k».proof.Proof.Twin.OnTc

@[expose] public section

set_option maxRecDepth 100000
set_option maxHeartbeats 4000000

noncomputable section

namespace Cert.Proof.Prompt

open Idealize.ShloMosaic Idealize.SL.Sem

/-- The two programs' bodies are the same. -/
theorem body_eq : @Cert.Kernel6.cc0_in_proj Bits _ Cert.Kernel6.Gen.facts = @Cert.Kernel6Ideal.cc0_in_proj Bits _ Cert.Kernel6Ideal.Gen.facts := rfl

/-- Their tables of bodies are the same. -/
theorem table_eq : @Cert.Kernel6.defs₀ Bits _ Cert.Kernel6.Gen.facts = @Cert.Kernel6Ideal.defs₀ Bits _ Cert.Kernel6Ideal.Gen.facts := by
  unfold Cert.Kernel6.defs₀ Cert.Kernel6Ideal.defs₀
  rw [body_eq]
  refine onTc_congr _ _ ?_
  intro l a
  match l, a with
  | ⟨0, _⟩, (t, s) => rfl

/-- Their tables with the launch are the same. -/
theorem defs_eq : @Cert.Kernel6.defs Bits _ Cert.Kernel6.Gen.facts = @Cert.Kernel6Ideal.defs Bits _ Cert.Kernel6Ideal.Gen.facts := by
  unfold Cert.Kernel6.defs Cert.Kernel6Ideal.defs
  rw [table_eq]
  rfl

/-- The input projection's kernel on the prompt runs without fault and leaves its arguments as they were. -/
theorem frame_kernel6 : @Cert.quiescent_Kernel6 Cert.Kernel6.Gen.facts := fun m ρ _ => by
  rw [defs_eq]
  exact Cert.Kernel6Ideal.In.frame (F := Bits) m ρ

end Cert.Proof.Prompt

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel5
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_scores
public import proofs.«01_k».proof.Proof.Fox.Claim
public import proofs.«01_k».proof.Proof.Mlp.Claim
public import proofs.«01_k».proof.Proof.MlpS.Claim
public import proofs.«01_k».proof.Proof.Out.Claim
public import proofs.«01_k».proof.Proof.InS.Claim
public import proofs.«01_k».proof.Proof.Twin.Sample
public import proofs.«01_k».proof.Proof.InL.Claim
public import proofs.«01_k».proof.Proof.Twin.Prompt
public import proofs.«01_k».proof.Proof.Gen.Kernel6
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import Idealize.ShloMosaic.Adequacy
public import Idealize.ShloMosaic.Init

@[expose] public section

noncomputable section

namespace Cert.Proof

open Idealize.ShloMosaic Idealize.SL.Sem

/-- The attention's reference runs without fault and leaves its arguments as they were. -/
theorem frame_reference : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run m ρ)

/-- The feed-forward block's reference runs without fault and leaves its arguments as they were. -/
theorem frame_reference2 : @Cert.quiescent_Reference2Ideal Cert.Reference2Ideal.Gen.facts := fun m ρ _ =>
  (θ_run Cert.Reference2Ideal.defs _ _).mono (fun r h => ⟨fun c => (h c).2, sem_eq_zero_of_no_sems (by decide) r.2⟩)
    (Cert.Reference2Ideal.Value.run m ρ)

/-- The output projection's reference runs without fault and leaves its arguments as they were. -/
theorem frame_reference3 : @Cert.quiescent_Reference3Ideal Cert.Reference3Ideal.Gen.facts := fun m ρ _ =>
  (θ_run Cert.Reference3Ideal.defs _ _).mono (fun r h => ⟨fun c => (h c).2, sem_eq_zero_of_no_sems (by decide) r.2⟩)
    (Cert.Reference3Ideal.Value.run m ρ)

/-- The reference of the feed-forward block on the sample runs without fault and leaves its arguments as they were. -/
theorem frame_reference4 : @Cert.quiescent_Reference4Ideal Cert.Reference4Ideal.Gen.facts := fun m ρ _ =>
  (θ_run Cert.Reference4Ideal.defs _ _).mono (fun r h => ⟨fun c => (h c).2, sem_eq_zero_of_no_sems (by decide) r.2⟩)
    (Cert.Reference4Ideal.Value.run m ρ)

/-- The reference of the input projection on the sample runs without fault and leaves its arguments as they were. -/
theorem frame_reference5 : @Cert.quiescent_Reference5Ideal Cert.Reference5Ideal.Gen.facts := fun m ρ _ =>
  (θ_run Cert.Reference5Ideal.defs _ _).mono (fun r h => ⟨fun c => (h c).2.2.2.2.2.2.2.2.2, sem_eq_zero_of_no_sems (by decide) r.2⟩)
    (Cert.Reference5Ideal.Value.run m ρ)

/-- The reference of the input projection on the prompt runs without fault and leaves its arguments as they were. -/
theorem frame_reference6 : @Cert.quiescent_Reference6Ideal Cert.Reference6Ideal.Gen.facts := fun m ρ _ =>
  (θ_run Cert.Reference6Ideal.defs _ _).mono (fun r h => ⟨fun c => (h c).2.2.2.2.2.2.2.2.2, sem_eq_zero_of_no_sems (by decide) r.2⟩)
    (Cert.Reference6Ideal.Value.run m ρ)

/-- The attention's mask stands for minus infinity. -/
theorem mask : Cert.preserves_Kernel_KernelIdeal :=
  IdealRules.named_const.statement Cert.KernelIdeal.κ "mask" .f32 0xF149F2CA#32 ⊥ rfl

/-- Everything that the certificate claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite_scores.Gen.facts,
  fun m ρ _ => Cert.Kernel.Gen.frame m ρ, fun m ρ _ => Cert.KernelIdeal.Gen.frame m ρ, fun m ρ _ => Cert.KernelIdeal.Gen.frame m ρ, frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  Sample.frame_kernel5, fun m ρ _ => Cert.Kernel5Ideal.In.frame m ρ, frame_reference5,
  Prompt.frame_kernel6, fun m ρ _ => Cert.Kernel6Ideal.In.frame m ρ, frame_reference6,
  mask, algebraic, trivial, algebraic2, trivial, algebraic3, trivial, algebraic4, trivial, algebraic5, trivial, algebraic6⟩

end Cert.Proof

end
